-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_ffn_last_finite [hPre_ffn_last_finite : Cert.Pre_ffn_last_finite.Facts] (m : (ℓ : Loc Cert.LastIdeal.nD Cert.LastIdeal.τ Cert.LastIdeal.sig) → Buf (Elt Ideal) ℓ) : Prop :=
  ∀ c : Dev Cert.LastIdeal.nD,
    (Cert.Pre_ffn_last_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).1 = (fun _ => 1#1)
    ∧ (Cert.Pre_ffn_last_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).2.1 = (fun _ => 1#1)
    ∧ (Cert.Pre_ffn_last_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5))).2.2 = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_ffn_last_finite [hPre_ffn_last_finite : Cert.Pre_ffn_last_finite.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_ffn_last_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).1 = (fun _ => 1#1)
    ∧ (Cert.Pre_ffn_last_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).2.1 = (fun _ => 1#1)
    ∧ (Cert.Pre_ffn_last_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5))).2.2 = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_ffn_first_finite [hPre_ffn_first_finite : Cert.Pre_ffn_first_finite.Facts] (m : (ℓ : Loc Cert.FirstIdeal.nD Cert.FirstIdeal.τ Cert.FirstIdeal.sig) → Buf (Elt Ideal) ℓ) : Prop :=
  ∀ c : Dev Cert.FirstIdeal.nD,
    (Cert.Pre_ffn_first_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).1 = (fun _ => 1#1)
    ∧ (Cert.Pre_ffn_first_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).2.1 = (fun _ => 1#1)
    ∧ (Cert.Pre_ffn_first_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))).2.2 = (fun _ => 1#1)

def Pre_FirstRefIdeal (m : (ℓ : Loc Cert.FirstRefIdeal.nD Cert.FirstRefIdeal.τ Cert.FirstRefIdeal.sig) → Buf (Elt Ideal) ℓ) : Prop :=
  True

def Pre_FirstRefIdeal_ffn_first_finite [hPre_ffn_first_finite : Cert.Pre_ffn_first_finite.Facts] (m : (ℓ : Loc Cert.FirstRefIdeal.nD Cert.FirstRefIdeal.τ Cert.FirstRefIdeal.sig) → Buf (Elt Ideal) ℓ) : Prop :=
  ∀ c : Dev Cert.FirstRefIdeal.nD,
    (Cert.Pre_ffn_first_finite.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).1 = (fun _ => 1#1)
    ∧ (Cert.Pre_ffn_first_finite.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).2.1 = (fun _ => 1#1)
    ∧ (Cert.Pre_ffn_first_finite.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))).2.2 = (fun _ => 1#1)

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_Cached (m : (ℓ : Loc Cert.Cached.nD Cert.Cached.τ Cert.Cached.sig) → Buf (Elt Bits) ℓ) : Prop :=
  True

def Pre_CachedIdeal (m : (ℓ : Loc Cert.CachedIdeal.nD Cert.CachedIdeal.τ Cert.CachedIdeal.sig) → Buf (Elt Ideal) ℓ) : Prop :=
  True

def Pre_CachedIdeal_cached_finite [hPre_cached_finite : Cert.Pre_cached_finite.Facts] (m : (ℓ : Loc Cert.CachedIdeal.nD Cert.CachedIdeal.τ Cert.CachedIdeal.sig) → Buf (Elt Ideal) ℓ) : Prop :=
  ∀ c : Dev Cert.CachedIdeal.nD,
    (Cert.Pre_cached_finite.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3)) (m ((c.tc : Thread Cert.CachedIdeal.nD Cert.CachedIdeal.τ).loc Cert.CachedIdeal.main_arg4))).1 = (fun _ => 1#1)
    ∧ (Cert.Pre_cached_finite.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3)) (m ((c.tc : Thread Cert.CachedIdeal.nD Cert.CachedIdeal.τ).loc Cert.CachedIdeal.main_arg4))).2.1 = (fun _ => 1#1)
    ∧ (Cert.Pre_cached_finite.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3)) (m ((c.tc : Thread Cert.CachedIdeal.nD Cert.CachedIdeal.τ).loc Cert.CachedIdeal.main_arg4))).2.2.1 = (fun _ => 1#1)
    ∧ (Cert.Pre_cached_finite.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3)) (m ((c.tc : Thread Cert.CachedIdeal.nD Cert.CachedIdeal.τ).loc Cert.CachedIdeal.main_arg4))).2.2.2 = (fun _ => 1#1)

def Pre_CachedRefIdeal (m : (ℓ : Loc Cert.CachedRefIdeal.nD Cert.CachedRefIdeal.τ Cert.CachedRefIdeal.sig) → Buf (Elt Ideal) ℓ) : Prop :=
  True

def Pre_CachedRefIdeal_cached_finite [hPre_cached_finite : Cert.Pre_cached_finite.Facts] (m : (ℓ : Loc Cert.CachedRefIdeal.nD Cert.CachedRefIdeal.τ Cert.CachedRefIdeal.sig) → Buf (Elt Ideal) ℓ) : Prop :=
  ∀ c : Dev Cert.CachedRefIdeal.nD,
    (Cert.Pre_cached_finite.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3)) (m ((c.tc : Thread Cert.CachedRefIdeal.nD Cert.CachedRefIdeal.τ).loc Cert.CachedRefIdeal.main_arg4))).1 = (fun _ => 1#1)
    ∧ (Cert.Pre_cached_finite.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3)) (m ((c.tc : Thread Cert.CachedRefIdeal.nD Cert.CachedRefIdeal.τ).loc Cert.CachedRefIdeal.main_arg4))).2.1 = (fun _ => 1#1)
    ∧ (Cert.Pre_cached_finite.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3)) (m ((c.tc : Thread Cert.CachedRefIdeal.nD Cert.CachedRefIdeal.τ).loc Cert.CachedRefIdeal.main_arg4))).2.2.1 = (fun _ => 1#1)
    ∧ (Cert.Pre_cached_finite.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3)) (m ((c.tc : Thread Cert.CachedRefIdeal.nD Cert.CachedRefIdeal.τ).loc Cert.CachedRefIdeal.main_arg4))).2.2.2 = (fun _ => 1#1)

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextIdeal_ffn_next_finite [hPre_ffn_next_finite : Cert.Pre_ffn_next_finite.Facts] (m : (ℓ : Loc Cert.NextIdeal.nD Cert.NextIdeal.τ Cert.NextIdeal.sig) → Buf (Elt Ideal) ℓ) : Prop :=
  ∀ c : Dev Cert.NextIdeal.nD,
    (Cert.Pre_ffn_next_finite.fn (F := Ideal) (m ((c.tc : Thread Cert.NextIdeal.nD Cert.NextIdeal.τ).loc Cert.NextIdeal.main_arg0)) (m ((c.tc : Thread Cert.NextIdeal.nD Cert.NextIdeal.τ).loc Cert.NextIdeal.main_arg1)) (m ((c.tc : Thread Cert.NextIdeal.nD Cert.NextIdeal.τ).loc Cert.NextIdeal.main_arg2)) (m ((c.tc : Thread Cert.NextIdeal.nD Cert.NextIdeal.τ).loc Cert.NextIdeal.main_arg3)) (m ((c.tc : Thread Cert.NextIdeal.nD Cert.NextIdeal.τ).loc Cert.NextIdeal.main_arg4)) (m ((c.tc : Thread Cert.NextIdeal.nD Cert.NextIdeal.τ).loc Cert.NextIdeal.main_arg5))).1 = (fun _ => 1#1)
    ∧ (Cert.Pre_ffn_next_finite.fn (F := Ideal) (m ((c.tc : Thread Cert.NextIdeal.nD Cert.NextIdeal.τ).loc Cert.NextIdeal.main_arg0)) (m ((c.tc : Thread Cert.NextIdeal.nD Cert.NextIdeal.τ).loc Cert.NextIdeal.main_arg1)) (m ((c.tc : Thread Cert.NextIdeal.nD Cert.NextIdeal.τ).loc Cert.NextIdeal.main_arg2)) (m ((c.tc : Thread Cert.NextIdeal.nD Cert.NextIdeal.τ).loc Cert.NextIdeal.main_arg3)) (m ((c.tc : Thread Cert.NextIdeal.nD Cert.NextIdeal.τ).loc Cert.NextIdeal.main_arg4)) (m ((c.tc : Thread Cert.NextIdeal.nD Cert.NextIdeal.τ).loc Cert.NextIdeal.main_arg5))).2.1 = (fun _ => 1#1)
    ∧ (Cert.Pre_ffn_next_finite.fn (F := Ideal) (m ((c.tc : Thread Cert.NextIdeal.nD Cert.NextIdeal.τ).loc Cert.NextIdeal.main_arg0)) (m ((c.tc : Thread Cert.NextIdeal.nD Cert.NextIdeal.τ).loc Cert.NextIdeal.main_arg1)) (m ((c.tc : Thread Cert.NextIdeal.nD Cert.NextIdeal.τ).loc Cert.NextIdeal.main_arg2)) (m ((c.tc : Thread Cert.NextIdeal.nD Cert.NextIdeal.τ).loc Cert.NextIdeal.main_arg3)) (m ((c.tc : Thread Cert.NextIdeal.nD Cert.NextIdeal.τ).loc Cert.NextIdeal.main_arg4)) (m ((c.tc : Thread Cert.NextIdeal.nD Cert.NextIdeal.τ).loc Cert.NextIdeal.main_arg5))).2.2 = (fun _ => 1#1)

def Pre_NextRefIdeal (m : (ℓ : Loc Cert.NextRefIdeal.nD Cert.NextRefIdeal.τ Cert.NextRefIdeal.sig) → Buf (Elt Ideal) ℓ) : Prop :=
  True

def Pre_NextRefIdeal_ffn_next_finite [hPre_ffn_next_finite : Cert.Pre_ffn_next_finite.Facts] (m : (ℓ : Loc Cert.NextRefIdeal.nD Cert.NextRefIdeal.τ Cert.NextRefIdeal.sig) → Buf (Elt Ideal) ℓ) : Prop :=
  ∀ c : Dev Cert.NextRefIdeal.nD,
    (Cert.Pre_ffn_next_finite.fn (F := Ideal) (m ((c.tc : Thread Cert.NextRefIdeal.nD Cert.NextRefIdeal.τ).loc Cert.NextRefIdeal.main_arg0)) (m ((c.tc : Thread Cert.NextRefIdeal.nD Cert.NextRefIdeal.τ).loc Cert.NextRefIdeal.main_arg1)) (m ((c.tc : Thread Cert.NextRefIdeal.nD Cert.NextRefIdeal.τ).loc Cert.NextRefIdeal.main_arg2)) (m ((c.tc : Thread Cert.NextRefIdeal.nD Cert.NextRefIdeal.τ).loc Cert.NextRefIdeal.main_arg3)) (m ((c.tc : Thread Cert.NextRefIdeal.nD Cert.NextRefIdeal.τ).loc Cert.NextRefIdeal.main_arg4)) (m ((c.tc : Thread Cert.NextRefIdeal.nD Cert.NextRefIdeal.τ).loc Cert.NextRefIdeal.main_arg5))).1 = (fun _ => 1#1)
    ∧ (Cert.Pre_ffn_next_finite.fn (F := Ideal) (m ((c.tc : Thread Cert.NextRefIdeal.nD Cert.NextRefIdeal.τ).loc Cert.NextRefIdeal.main_arg0)) (m ((c.tc : Thread Cert.NextRefIdeal.nD Cert.NextRefIdeal.τ).loc Cert.NextRefIdeal.main_arg1)) (m ((c.tc : Thread Cert.NextRefIdeal.nD Cert.NextRefIdeal.τ).loc Cert.NextRefIdeal.main_arg2)) (m ((c.tc : Thread Cert.NextRefIdeal.nD Cert.NextRefIdeal.τ).loc Cert.NextRefIdeal.main_arg3)) (m ((c.tc : Thread Cert.NextRefIdeal.nD Cert.NextRefIdeal.τ).loc Cert.NextRefIdeal.main_arg4)) (m ((c.tc : Thread Cert.NextRefIdeal.nD Cert.NextRefIdeal.τ).loc Cert.NextRefIdeal.main_arg5))).2.1 = (fun _ => 1#1)
    ∧ (Cert.Pre_ffn_next_finite.fn (F := Ideal) (m ((c.tc : Thread Cert.NextRefIdeal.nD Cert.NextRefIdeal.τ).loc Cert.NextRefIdeal.main_arg0)) (m ((c.tc : Thread Cert.NextRefIdeal.nD Cert.NextRefIdeal.τ).loc Cert.NextRefIdeal.main_arg1)) (m ((c.tc : Thread Cert.NextRefIdeal.nD Cert.NextRefIdeal.τ).loc Cert.NextRefIdeal.main_arg2)) (m ((c.tc : Thread Cert.NextRefIdeal.nD Cert.NextRefIdeal.τ).loc Cert.NextRefIdeal.main_arg3)) (m ((c.tc : Thread Cert.NextRefIdeal.nD Cert.NextRefIdeal.τ).loc Cert.NextRefIdeal.main_arg4)) (m ((c.tc : Thread Cert.NextRefIdeal.nD Cert.NextRefIdeal.τ).loc Cert.NextRefIdeal.main_arg5))).2.2 = (fun _ => 1#1)

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateIdeal_state_finite [hPre_state_finite : Cert.Pre_state_finite.Facts] (m : (ℓ : Loc Cert.StateIdeal.nD Cert.StateIdeal.τ Cert.StateIdeal.sig) → Buf (Elt Ideal) ℓ) : Prop :=
  ∀ c : Dev Cert.StateIdeal.nD,
    (Cert.Pre_state_finite.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2)) (m ((c.tc : Thread Cert.StateIdeal.nD Cert.StateIdeal.τ).loc Cert.StateIdeal.main_arg3))) = (fun _ => 1#1)

def Pre_StateRefIdeal (m : (ℓ : Loc Cert.StateRefIdeal.nD Cert.StateRefIdeal.τ Cert.StateRefIdeal.sig) → Buf (Elt Ideal) ℓ) : Prop :=
  True

def Pre_StateRefIdeal_state_finite [hPre_state_finite : Cert.Pre_state_finite.Facts] (m : (ℓ : Loc Cert.StateRefIdeal.nD Cert.StateRefIdeal.τ Cert.StateRefIdeal.sig) → Buf (Elt Ideal) ℓ) : Prop :=
  ∀ c : Dev Cert.StateRefIdeal.nD,
    (Cert.Pre_state_finite.fn (F := Ideal) (m ((c.tc : Thread Cert.StateRefIdeal.nD Cert.StateRefIdeal.τ).loc Cert.StateRefIdeal.main_arg0)) (m ((c.tc : Thread Cert.StateRefIdeal.nD Cert.StateRefIdeal.τ).loc Cert.StateRefIdeal.main_arg1)) (m ((c.tc : Thread Cert.StateRefIdeal.nD Cert.StateRefIdeal.τ).loc Cert.StateRefIdeal.main_arg2)) (m ((c.tc : Thread Cert.StateRefIdeal.nD Cert.StateRefIdeal.τ).loc Cert.StateRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastIdeal_pre_ffn_last_finite [hLastIdeal : Cert.LastIdeal.Facts] [hPre_ffn_last_finite : Cert.Pre_ffn_last_finite.Facts] : Prop :=
  ∀ (m : (ℓ : Loc Cert.LastIdeal.nD Cert.LastIdeal.τ Cert.LastIdeal.sig) → Buf (Elt Ideal) ℓ) (g : Dev Cert.LastIdeal.nD → PrngReg), Pre_LastIdeal_ffn_last_finite m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_LastRefIdeal_pre_ffn_last_finite [hLastRefIdeal : Cert.LastRefIdeal.Facts] [hPre_ffn_last_finite : Cert.Pre_ffn_last_finite.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_ffn_last_finite m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstIdeal_pre_ffn_first_finite [hFirstIdeal : Cert.FirstIdeal.Facts] [hPre_ffn_first_finite : Cert.Pre_ffn_first_finite.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_ffn_first_finite m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_FirstRefIdeal_pre_ffn_first_finite [hFirstRefIdeal : Cert.FirstRefIdeal.Facts] [hPre_ffn_first_finite : Cert.Pre_ffn_first_finite.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal_ffn_first_finite m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_Cached [hCached : Cert.Cached.Facts] : Prop :=
  ∀ (m : (ℓ : Loc Cert.Cached.nD Cert.Cached.τ Cert.Cached.sig) → Buf (Elt Bits) ℓ) (g : Dev Cert.Cached.nD → PrngReg), Pre_Cached m →
    θ_run (Cert.Cached.defs (F := Bits)) (onTc (τ := Cert.Cached.τ) (Cert.Cached.main (F := Bits))) ⟨m, fun _ => 0, g⟩ (fun r => (∀ c : Dev Cert.Cached.nD,
      r.2.mem ((c.tc : Thread Cert.Cached.nD Cert.Cached.τ).loc Cert.Cached.main_arg0) = m ((c.tc : Thread Cert.Cached.nD Cert.Cached.τ).loc Cert.Cached.main_arg0)
      ∧ r.2.mem ((c.tc : Thread Cert.Cached.nD Cert.Cached.τ).loc Cert.Cached.main_arg1) = m ((c.tc : Thread Cert.Cached.nD Cert.Cached.τ).loc Cert.Cached.main_arg1)
      ∧ r.2.mem ((c.tc : Thread Cert.Cached.nD Cert.Cached.τ).loc Cert.Cached.main_arg2) = m ((c.tc : Thread Cert.Cached.nD Cert.Cached.τ).loc Cert.Cached.main_arg2)
      ∧ r.2.mem ((c.tc : Thread Cert.Cached.nD Cert.Cached.τ).loc Cert.Cached.main_arg3) = m ((c.tc : Thread Cert.Cached.nD Cert.Cached.τ).loc Cert.Cached.main_arg3)
      ∧ r.2.mem ((c.tc : Thread Cert.Cached.nD Cert.Cached.τ).loc Cert.Cached.main_arg4) = m ((c.tc : Thread Cert.Cached.nD Cert.Cached.τ).loc Cert.Cached.main_arg4))
      ∧ r.2.sem = fun _ => 0)

def quiescent_CachedIdeal [hCachedIdeal : Cert.CachedIdeal.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
      ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3)
      ∧ r.2.mem ((c.tc : Thread Cert.CachedIdeal.nD Cert.CachedIdeal.τ).loc Cert.CachedIdeal.main_arg4) = m ((c.tc : Thread Cert.CachedIdeal.nD Cert.CachedIdeal.τ).loc Cert.CachedIdeal.main_arg4))
      ∧ r.2.sem = fun _ => 0)

def quiescent_CachedIdeal_pre_cached_finite [hCachedIdeal : Cert.CachedIdeal.Facts] [hPre_cached_finite : Cert.Pre_cached_finite.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal_cached_finite m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
      ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3)
      ∧ r.2.mem ((c.tc : Thread Cert.CachedIdeal.nD Cert.CachedIdeal.τ).loc Cert.CachedIdeal.main_arg4) = m ((c.tc : Thread Cert.CachedIdeal.nD Cert.CachedIdeal.τ).loc Cert.CachedIdeal.main_arg4))
      ∧ r.2.sem = fun _ => 0)

def quiescent_CachedRefIdeal [hCachedRefIdeal : Cert.CachedRefIdeal.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2)
      ∧ r.2.mem ((c.tc : Thread Cert.CachedRefIdeal.nD Cert.CachedRefIdeal.τ).loc Cert.CachedRefIdeal.main_arg3) = m ((c.tc : Thread Cert.CachedRefIdeal.nD Cert.CachedRefIdeal.τ).loc Cert.CachedRefIdeal.main_arg3)
      ∧ r.2.mem ((c.tc : Thread Cert.CachedRefIdeal.nD Cert.CachedRefIdeal.τ).loc Cert.CachedRefIdeal.main_arg4) = m ((c.tc : Thread Cert.CachedRefIdeal.nD Cert.CachedRefIdeal.τ).loc Cert.CachedRefIdeal.main_arg4))
      ∧ r.2.sem = fun _ => 0)

def quiescent_CachedRefIdeal_pre_cached_finite [hCachedRefIdeal : Cert.CachedRefIdeal.Facts] [hPre_cached_finite : Cert.Pre_cached_finite.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal_cached_finite m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2)
      ∧ r.2.mem ((c.tc : Thread Cert.CachedRefIdeal.nD Cert.CachedRefIdeal.τ).loc Cert.CachedRefIdeal.main_arg3) = m ((c.tc : Thread Cert.CachedRefIdeal.nD Cert.CachedRefIdeal.τ).loc Cert.CachedRefIdeal.main_arg3)
      ∧ r.2.mem ((c.tc : Thread Cert.CachedRefIdeal.nD Cert.CachedRefIdeal.τ).loc Cert.CachedRefIdeal.main_arg4) = m ((c.tc : Thread Cert.CachedRefIdeal.nD Cert.CachedRefIdeal.τ).loc Cert.CachedRefIdeal.main_arg4))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ r.2.sem = fun _ => 0)

def quiescent_NextIdeal_pre_ffn_next_finite [hNextIdeal : Cert.NextIdeal.Facts] [hPre_ffn_next_finite : Cert.Pre_ffn_next_finite.Facts] : Prop :=
  ∀ (m : (ℓ : Loc Cert.NextIdeal.nD Cert.NextIdeal.τ Cert.NextIdeal.sig) → Buf (Elt Ideal) ℓ) (g : Dev Cert.NextIdeal.nD → PrngReg), Pre_NextIdeal_ffn_next_finite m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5))
      ∧ r.2.sem = fun _ => 0)

def quiescent_NextRefIdeal_pre_ffn_next_finite [hNextRefIdeal : Cert.NextRefIdeal.Facts] [hPre_ffn_next_finite : Cert.Pre_ffn_next_finite.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal_ffn_next_finite m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2)
      ∧ r.2.mem ((c.tc : Thread Cert.State.nD Cert.State.τ).loc Cert.State.main_arg3) = m ((c.tc : Thread Cert.State.nD Cert.State.τ).loc Cert.State.main_arg3))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ r.2.sem = fun _ => 0)

def quiescent_StateIdeal_pre_state_finite [hStateIdeal : Cert.StateIdeal.Facts] [hPre_state_finite : Cert.Pre_state_finite.Facts] : Prop :=
  ∀ (m : (ℓ : Loc Cert.StateIdeal.nD Cert.StateIdeal.τ Cert.StateIdeal.sig) → Buf (Elt Ideal) ℓ) (g : Dev Cert.StateIdeal.nD → PrngReg), Pre_StateIdeal_state_finite m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3))
      ∧ r.2.sem = fun _ => 0)

def quiescent_StateRefIdeal_pre_state_finite [hStateRefIdeal : Cert.StateRefIdeal.Facts] [hPre_state_finite : Cert.Pre_state_finite.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal_state_finite m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2)
      ∧ r.2.mem ((c.tc : Thread Cert.StateRefIdeal.nD Cert.StateRefIdeal.τ).loc Cert.StateRefIdeal.main_arg3) = m ((c.tc : Thread Cert.StateRefIdeal.nD Cert.StateRefIdeal.τ).loc Cert.StateRefIdeal.main_arg3))
      ∧ r.2.sem = fun _ => 0)

def preserves_Attn_AttnIdeal : Prop :=
  IdealRules.named_const.Statement Cert.AttnIdeal.κ "mask" .f32 0xF149F2CA#32 ⊥
  ∧ IdealRules.named_const.Statement Cert.AttnIdeal.κ "scale_log2e" .f32 0x3DD53B95#32 (((Real.sqrt 192)⁻¹ * (Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Last_LastIdeal : Prop :=
  True

def algebraic_LastIdeal_LastRefIdeal_pre_ffn_last_finite [hLastIdeal : Cert.LastIdeal.Facts] [hLastRefIdeal : Cert.LastRefIdeal.Facts] [hPre_ffn_last_finite : Cert.Pre_ffn_last_finite.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_ffn_last_finite m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v41) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5))

def preserves_First_FirstIdeal : Prop :=
  True

def algebraic_FirstIdeal_FirstRefIdeal_pre_ffn_first_finite [hFirstIdeal : Cert.FirstIdeal.Facts] [hFirstRefIdeal : Cert.FirstRefIdeal.Facts] [hPre_ffn_first_finite : Cert.Pre_ffn_first_finite.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal_ffn_first_finite m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v4)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v4) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v28) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v4)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v4) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v17) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)) →
    ∃ (v0 : (c : Dev Cert.OutOddIdeal.nD) → Buf (Elt Ideal) ((c.tc : Thread Cert.OutOddIdeal.nD Cert.OutOddIdeal.τ).loc Cert.OutOddIdeal.main_v3)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v3) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v4) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v5)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v5) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v6) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_Cached_CachedIdeal : Prop :=
  IdealRules.named_const.Statement Cert.CachedIdeal.κ "scale_log2e" .f32 0x3DD53B95#32 (((Real.sqrt 192)⁻¹ * (Real.log 2)⁻¹ : ℝ) : EReal)

def algebraic_CachedIdeal_CachedRefIdeal_pre_cached_finite [hCachedIdeal : Cert.CachedIdeal.Facts] [hCachedRefIdeal : Cert.CachedRefIdeal.Facts] [hPre_cached_finite : Cert.Pre_cached_finite.Facts] : Prop :=
  ∀ (m : (ℓ : Loc Cert.CachedIdeal.nD Cert.CachedIdeal.τ Cert.CachedIdeal.sig) → Buf (Elt Ideal) ℓ) (g : Dev Cert.CachedIdeal.nD → PrngReg)
    (m' : (ℓ : Loc Cert.CachedRefIdeal.nD Cert.CachedRefIdeal.τ Cert.CachedRefIdeal.sig) → Buf (Elt Ideal) ℓ) (g' : Dev Cert.CachedRefIdeal.nD → PrngReg), Pre_CachedIdeal_cached_finite m →
    (∀ c : Dev Cert.CachedIdeal.nD,
      m' ((c.tc : Thread Cert.CachedRefIdeal.nD Cert.CachedRefIdeal.τ).loc Cert.CachedRefIdeal.main_arg0) = m ((c.tc : Thread Cert.CachedIdeal.nD Cert.CachedIdeal.τ).loc Cert.CachedIdeal.main_arg0)
      ∧ m' ((c.tc : Thread Cert.CachedRefIdeal.nD Cert.CachedRefIdeal.τ).loc Cert.CachedRefIdeal.main_arg1) = m ((c.tc : Thread Cert.CachedIdeal.nD Cert.CachedIdeal.τ).loc Cert.CachedIdeal.main_arg1)
      ∧ m' ((c.tc : Thread Cert.CachedRefIdeal.nD Cert.CachedRefIdeal.τ).loc Cert.CachedRefIdeal.main_arg2) = m ((c.tc : Thread Cert.CachedIdeal.nD Cert.CachedIdeal.τ).loc Cert.CachedIdeal.main_arg2)
      ∧ m' ((c.tc : Thread Cert.CachedRefIdeal.nD Cert.CachedRefIdeal.τ).loc Cert.CachedRefIdeal.main_arg3) = m ((c.tc : Thread Cert.CachedIdeal.nD Cert.CachedIdeal.τ).loc Cert.CachedIdeal.main_arg3)
      ∧ m' ((c.tc : Thread Cert.CachedRefIdeal.nD Cert.CachedRefIdeal.τ).loc Cert.CachedRefIdeal.main_arg4) = m ((c.tc : Thread Cert.CachedIdeal.nD Cert.CachedIdeal.τ).loc Cert.CachedIdeal.main_arg4)) →
    ∃ (v0 : (c : Dev Cert.CachedIdeal.nD) → Buf (Elt Ideal) ((c.tc : Thread Cert.CachedIdeal.nD Cert.CachedIdeal.τ).loc Cert.CachedIdeal.main_v4)),
      θ_run (Cert.CachedIdeal.defs (F := Ideal)) (onTc (τ := Cert.CachedIdeal.τ) (Cert.CachedIdeal.main (F := Ideal))) ⟨m, fun _ => 0, g⟩ (fun r => ∀ c : Dev Cert.CachedIdeal.nD,
          r.2.mem ((c.tc : Thread Cert.CachedIdeal.nD Cert.CachedIdeal.τ).loc Cert.CachedIdeal.main_v4) = v0 c
          ∧ r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
          ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
          ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
          ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3)
          ∧ r.2.mem ((c.tc : Thread Cert.CachedIdeal.nD Cert.CachedIdeal.τ).loc Cert.CachedIdeal.main_arg4) = m ((c.tc : Thread Cert.CachedIdeal.nD Cert.CachedIdeal.τ).loc Cert.CachedIdeal.main_arg4))
      ∧ θ_run (Cert.CachedRefIdeal.defs (F := Ideal)) (onTc (τ := Cert.CachedRefIdeal.τ) (Cert.CachedRefIdeal.main (F := Ideal))) ⟨m', fun _ => 0, g'⟩ (fun r => ∀ c : Dev Cert.CachedRefIdeal.nD,
          r.2.mem ((c.tc : Thread Cert.CachedRefIdeal.nD Cert.CachedRefIdeal.τ).loc Cert.CachedRefIdeal.main_v36) = v0 c
          ∧ r.2.mem ((c.tc : Thread Cert.CachedRefIdeal.nD Cert.CachedRefIdeal.τ).loc Cert.CachedRefIdeal.main_arg0) = m' ((c.tc : Thread Cert.CachedRefIdeal.nD Cert.CachedRefIdeal.τ).loc Cert.CachedRefIdeal.main_arg0)
          ∧ r.2.mem ((c.tc : Thread Cert.CachedRefIdeal.nD Cert.CachedRefIdeal.τ).loc Cert.CachedRefIdeal.main_arg1) = m' ((c.tc : Thread Cert.CachedRefIdeal.nD Cert.CachedRefIdeal.τ).loc Cert.CachedRefIdeal.main_arg1)
          ∧ r.2.mem ((c.tc : Thread Cert.CachedRefIdeal.nD Cert.CachedRefIdeal.τ).loc Cert.CachedRefIdeal.main_arg2) = m' ((c.tc : Thread Cert.CachedRefIdeal.nD Cert.CachedRefIdeal.τ).loc Cert.CachedRefIdeal.main_arg2)
          ∧ r.2.mem ((c.tc : Thread Cert.CachedRefIdeal.nD Cert.CachedRefIdeal.τ).loc Cert.CachedRefIdeal.main_arg3) = m' ((c.tc : Thread Cert.CachedRefIdeal.nD Cert.CachedRefIdeal.τ).loc Cert.CachedRefIdeal.main_arg3)
          ∧ r.2.mem ((c.tc : Thread Cert.CachedRefIdeal.nD Cert.CachedRefIdeal.τ).loc Cert.CachedRefIdeal.main_arg4) = m' ((c.tc : Thread Cert.CachedRefIdeal.nD Cert.CachedRefIdeal.τ).loc Cert.CachedRefIdeal.main_arg4))

def preserves_Next_NextIdeal : Prop :=
  True

def algebraic_NextIdeal_NextRefIdeal_pre_ffn_next_finite [hNextIdeal : Cert.NextIdeal.Facts] [hNextRefIdeal : Cert.NextRefIdeal.Facts] [hPre_ffn_next_finite : Cert.Pre_ffn_next_finite.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal_ffn_next_finite m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)) →
    ∃ (v0 : (c : Dev Cert.NextIdeal.nD) → Buf (Elt Ideal) ((c.tc : Thread Cert.NextIdeal.nD Cert.NextIdeal.τ).loc Cert.NextIdeal.main_v5)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v5) = v0 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v41) = v0 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5))

def preserves_State_StateIdeal : Prop :=
  IdealRules.named_const.Statement Cert.StateIdeal.κ "log2e" .f32 0x3FB8AA3B#32 (((Real.log 2)⁻¹ : ℝ) : EReal)

def algebraic_StateIdeal_StateRefIdeal_pre_state_finite [hStateIdeal : Cert.StateIdeal.Facts] [hStateRefIdeal : Cert.StateRefIdeal.Facts] [hPre_state_finite : Cert.Pre_state_finite.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal_state_finite m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)
      ∧ m' ((c.tc : Thread Cert.StateRefIdeal.nD Cert.StateRefIdeal.τ).loc Cert.StateRefIdeal.main_arg3) = m ((c.tc : Thread Cert.StateIdeal.nD Cert.StateIdeal.τ).loc Cert.StateIdeal.main_arg3)) →
    ∃ (v0 : (c : Dev Cert.StateIdeal.nD) → Buf (Elt Ideal) ((c.tc : Thread Cert.StateIdeal.nD Cert.StateIdeal.τ).loc Cert.StateIdeal.main_v6_1)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v6_1) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v70) = v0 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2)
          ∧ r.2.mem ((c.tc : Thread Cert.StateRefIdeal.nD Cert.StateRefIdeal.τ).loc Cert.StateRefIdeal.main_arg3) = m' ((c.tc : Thread Cert.StateRefIdeal.nD Cert.StateRefIdeal.τ).loc Cert.StateRefIdeal.main_arg3))

def Claim : Prop :=
  ∃ (hAttn : Cert.Attn.Facts) (hAttnIdeal : Cert.AttnIdeal.Facts) (hAttnRefIdeal : Cert.AttnRefIdeal.Facts) (hLast : Cert.Last.Facts) (hLastIdeal : Cert.LastIdeal.Facts) (hLastRefIdeal : Cert.LastRefIdeal.Facts) (hFirst : Cert.First.Facts) (hFirstIdeal : Cert.FirstIdeal.Facts) (hFirstRefIdeal : Cert.FirstRefIdeal.Facts) (hInOdd : Cert.InOdd.Facts) (hInOddIdeal : Cert.InOddIdeal.Facts) (hInOddRefIdeal : Cert.InOddRefIdeal.Facts) (hOutOdd : Cert.OutOdd.Facts) (hOutOddIdeal : Cert.OutOddIdeal.Facts) (hOutOddRefIdeal : Cert.OutOddRefIdeal.Facts) (hOutEven : Cert.OutEven.Facts) (hOutEvenIdeal : Cert.OutEvenIdeal.Facts) (hOutEvenRefIdeal : Cert.OutEvenRefIdeal.Facts) (hCached : Cert.Cached.Facts) (hCachedIdeal : Cert.CachedIdeal.Facts) (hCachedRefIdeal : Cert.CachedRefIdeal.Facts) (hNext : Cert.Next.Facts) (hNextIdeal : Cert.NextIdeal.Facts) (hNextRefIdeal : Cert.NextRefIdeal.Facts) (hState : Cert.State.Facts) (hStateIdeal : Cert.StateIdeal.Facts) (hStateRefIdeal : Cert.StateRefIdeal.Facts) (hPre_attn_finite : Cert.Pre_attn_finite.Facts) (hPre_ffn_last_finite : Cert.Pre_ffn_last_finite.Facts) (hPre_ffn_first_finite : Cert.Pre_ffn_first_finite.Facts) (hPre_cached_finite : Cert.Pre_cached_finite.Facts) (hPre_ffn_next_finite : Cert.Pre_ffn_next_finite.Facts) (hPre_state_finite : Cert.Pre_state_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Last (hLast := hLast)
    ∧ quiescent_LastIdeal (hLastIdeal := hLastIdeal)
    ∧ quiescent_LastIdeal_pre_ffn_last_finite (hLastIdeal := hLastIdeal) (hPre_ffn_last_finite := hPre_ffn_last_finite)
    ∧ quiescent_LastRefIdeal (hLastRefIdeal := hLastRefIdeal)
    ∧ quiescent_LastRefIdeal_pre_ffn_last_finite (hLastRefIdeal := hLastRefIdeal) (hPre_ffn_last_finite := hPre_ffn_last_finite)
    ∧ quiescent_First (hFirst := hFirst)
    ∧ quiescent_FirstIdeal (hFirstIdeal := hFirstIdeal)
    ∧ quiescent_FirstIdeal_pre_ffn_first_finite (hFirstIdeal := hFirstIdeal) (hPre_ffn_first_finite := hPre_ffn_first_finite)
    ∧ quiescent_FirstRefIdeal (hFirstRefIdeal := hFirstRefIdeal)
    ∧ quiescent_FirstRefIdeal_pre_ffn_first_finite (hFirstRefIdeal := hFirstRefIdeal) (hPre_ffn_first_finite := hPre_ffn_first_finite)
    ∧ quiescent_InOdd (hInOdd := hInOdd)
    ∧ quiescent_InOddIdeal (hInOddIdeal := hInOddIdeal)
    ∧ quiescent_InOddRefIdeal (hInOddRefIdeal := hInOddRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_Cached (hCached := hCached)
    ∧ quiescent_CachedIdeal (hCachedIdeal := hCachedIdeal)
    ∧ quiescent_CachedIdeal_pre_cached_finite (hCachedIdeal := hCachedIdeal) (hPre_cached_finite := hPre_cached_finite)
    ∧ quiescent_CachedRefIdeal (hCachedRefIdeal := hCachedRefIdeal)
    ∧ quiescent_CachedRefIdeal_pre_cached_finite (hCachedRefIdeal := hCachedRefIdeal) (hPre_cached_finite := hPre_cached_finite)
    ∧ quiescent_Next (hNext := hNext)
    ∧ quiescent_NextIdeal (hNextIdeal := hNextIdeal)
    ∧ quiescent_NextIdeal_pre_ffn_next_finite (hNextIdeal := hNextIdeal) (hPre_ffn_next_finite := hPre_ffn_next_finite)
    ∧ quiescent_NextRefIdeal (hNextRefIdeal := hNextRefIdeal)
    ∧ quiescent_NextRefIdeal_pre_ffn_next_finite (hNextRefIdeal := hNextRefIdeal) (hPre_ffn_next_finite := hPre_ffn_next_finite)
    ∧ quiescent_State (hState := hState)
    ∧ quiescent_StateIdeal (hStateIdeal := hStateIdeal)
    ∧ quiescent_StateIdeal_pre_state_finite (hStateIdeal := hStateIdeal) (hPre_state_finite := hPre_state_finite)
    ∧ quiescent_StateRefIdeal (hStateRefIdeal := hStateRefIdeal)
    ∧ quiescent_StateRefIdeal_pre_state_finite (hStateRefIdeal := hStateRefIdeal) (hPre_state_finite := hPre_state_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Last_LastIdeal
    ∧ algebraic_LastIdeal_LastRefIdeal_pre_ffn_last_finite (hLastIdeal := hLastIdeal) (hLastRefIdeal := hLastRefIdeal) (hPre_ffn_last_finite := hPre_ffn_last_finite)
    ∧ preserves_First_FirstIdeal
    ∧ algebraic_FirstIdeal_FirstRefIdeal_pre_ffn_first_finite (hFirstIdeal := hFirstIdeal) (hFirstRefIdeal := hFirstRefIdeal) (hPre_ffn_first_finite := hPre_ffn_first_finite)
    ∧ preserves_InOdd_InOddIdeal
    ∧ algebraic_InOddIdeal_InOddRefIdeal (hInOddIdeal := hInOddIdeal) (hInOddRefIdeal := hInOddRefIdeal)
    ∧ preserves_OutOdd_OutOddIdeal
    ∧ algebraic_OutOddIdeal_OutOddRefIdeal (hOutOddIdeal := hOutOddIdeal) (hOutOddRefIdeal := hOutOddRefIdeal)
    ∧ preserves_OutEven_OutEvenIdeal
    ∧ algebraic_OutEvenIdeal_OutEvenRefIdeal (hOutEvenIdeal := hOutEvenIdeal) (hOutEvenRefIdeal := hOutEvenRefIdeal)
    ∧ preserves_Cached_CachedIdeal
    ∧ algebraic_CachedIdeal_CachedRefIdeal_pre_cached_finite (hCachedIdeal := hCachedIdeal) (hCachedRefIdeal := hCachedRefIdeal) (hPre_cached_finite := hPre_cached_finite)
    ∧ preserves_Next_NextIdeal
    ∧ algebraic_NextIdeal_NextRefIdeal_pre_ffn_next_finite (hNextIdeal := hNextIdeal) (hNextRefIdeal := hNextRefIdeal) (hPre_ffn_next_finite := hPre_ffn_next_finite)
    ∧ preserves_State_StateIdeal
    ∧ algebraic_StateIdeal_StateRefIdeal_pre_state_finite (hStateIdeal := hStateIdeal) (hStateRefIdeal := hStateRefIdeal) (hPre_state_finite := hPre_state_finite)
-- ==== Pre_attn_finite.lean ====
abbrev S16x8x2048x576 : Shape := ⟨4, ![16, 8, 2048, 576]⟩
abbrev S16x2048x576 : Shape := ⟨3, ![16, 2048, 576]⟩
abbrev S512x2048 : Shape := ⟨2, ![512, 2048]⟩
abbrev S_ : Shape := ⟨0, ![]⟩

class Facts : Prop where
  bitsLt_bf16_f32 : FTy.bits .bf16 < FTy.bits .f32
  bcast_S_S16x8x2048x576 : S_.BroadcastsInDim S16x8x2048x576 (![] : Fin 0 → Fin S16x8x2048x576.rank)
  bcast_S_S16x2048x576 : S_.BroadcastsInDim S16x2048x576 (![] : Fin 0 → Fin S16x2048x576.rank)

variable [Facts]

def fn {F : FTy → Type} [FloatOps F] (main_arg0 : FVec F S16x8x2048x576 .bf16) (main_arg1 : FVec F S16x2048x576 .bf16) (main_arg2 : FVec F S512x2048 .f32) : IVec S16x8x2048x576 1 × IVec S16x2048x576 1 :=
  let main_v0 : FVec F S16x8x2048x576 .f32 := (extf .f32 · bitsLt_bf16_f32) main_arg0
  let main_v1 : FVec F S16x8x2048x576 .f32 := Host.absf main_v0
  let main_cst : FVec F S_ .f32 := constant S_ .f32 0x7F800000#32
  let main_v2 : FVec F S16x8x2048x576 .f32 := broadcastInDim S16x8x2048x576 ![] bcast_S_S16x8x2048x576 main_cst
  let main_v3 : IVec S16x8x2048x576 1 := cmpf .olt main_v1 main_v2
  let main_v4 : FVec F S16x2048x576 .f32 := (extf .f32 · bitsLt_bf16_f32) main_arg1
  let main_v5 : FVec F S16x2048x576 .f32 := Host.absf main_v4
  let main_cst_0 : FVec F S_ .f32 := constant S_ .f32 0x7F800000#32
  let main_v6 : FVec F S16x2048x576 .f32 := broadcastInDim S16x2048x576 ![] bcast_S_S16x2048x576 main_cst_0
  let main_v7 : IVec S16x2048x576 1 := cmpf .olt main_v5 main_v6
  (main_v3, main_v7)
-- ==== Pre_cached_finite.lean ====
abbrev S8x8x64x576 : Shape := ⟨4, ![8, 8, 64, 576]⟩
abbrev S8x64x576 : Shape := ⟨3, ![8, 64, 576]⟩
abbrev S2x8x4096x512 : Shape := ⟨4, ![2, 8, 4096, 512]⟩
abbrev S2x8x4096x64 : Shape := ⟨4, ![2, 8, 4096, 64]⟩
abbrev S512x2048 : Shape := ⟨2, ![512, 2048]⟩
abbrev S_ : Shape := ⟨0, ![]⟩

class Facts : Prop where
  bitsLt_bf16_f32 : FTy.bits .bf16 < FTy.bits .f32
  bcast_S_S8x8x64x576 : S_.BroadcastsInDim S8x8x64x576 (![] : Fin 0 → Fin S8x8x64x576.rank)
  bcast_S_S8x64x576 : S_.BroadcastsInDim S8x64x576 (![] : Fin 0 → Fin S8x64x576.rank)
  bcast_S_S2x8x4096x512 : S_.BroadcastsInDim S2x8x4096x512 (![] : Fin 0 → Fin S2x8x4096x512.rank)
  bcast_S_S2x8x4096x64 : S_.BroadcastsInDim S2x8x4096x64 (![] : Fin 0 → Fin S2x8x4096x64.rank)

variable [Facts]

def fn {F : FTy → Type} [FloatOps F] (main_arg0 : FVec F S8x8x64x576 .bf16) (main_arg1 : FVec F S8x64x576 .bf16) (main_arg2 : FVec F S2x8x4096x512 .f32) (main_arg3 : FVec F S2x8x4096x64 .f32) (main_arg4 : FVec F S512x2048 .f32) : IVec S8x8x64x576 1 × IVec S8x64x576 1 × IVec S2x8x4096x512 1 × IVec S2x8x4096x64 1 :=
  let main_v0 : FVec F S8x8x64x576 .f32 := (extf .f32 · bitsLt_bf16_f32) main_arg0
  let main_v1 : FVec F S8x8x64x576 .f32 := Host.absf main_v0
  let main_cst : FVec F S_ .f32 := constant S_ .f32 0x7F800000#32
  let main_v2 : FVec F S8x8x64x576 .f32 := broadcastInDim S8x8x64x576 ![] bcast_S_S8x8x64x576 main_cst
  let main_v3 : IVec S8x8x64x576 1 := cmpf .olt main_v1 main_v2
  let main_v4 : FVec F S8x64x576 .f32 := (extf .f32 · bitsLt_bf16_f32) main_arg1
  let main_v5 : FVec F S8x64x576 .f32 := Host.absf main_v4
  let main_cst_0 : FVec F S_ .f32 := constant S_ .f32 0x7F800000#32
  let main_v6 : FVec F S8x64x576 .f32 := broadcastInDim S8x64x576 ![] bcast_S_S8x64x576 main_cst_0
  let main_v7 : IVec S8x64x576 1 := cmpf .olt main_v5 main_v6
  let main_v8 : FVec F S2x8x4096x512 .f32 := Host.absf main_arg2
  let main_cst_1 : FVec F S_ .f32 := constant S_ .f32 0x7F800000#32
  let main_v9 : FVec F S2x8x4096x512 .f32 := broadcastInDim S2x8x4096x512 ![] bcast_S_S2x8x4096x512 main_cst_1
  let main_v10 : IVec S2x8x4096x512 1 := cmpf .olt main_v8 main_v9
  let main_v11 : FVec F S2x8x4096x64 .f32 := Host.absf main_arg3
  let main_cst_2 : FVec F S_ .f32 := constant S_ .f32 0x7F800000#32
  let main_v12 : FVec F S2x8x4096x64 .f32 := broadcastInDim S2x8x4096x64 ![] bcast_S_S2x8x4096x64 main_cst_2
  let main_v13 : IVec S2x8x4096x64 1 := cmpf .olt main_v11 main_v12
  (main_v3, main_v7, main_v10, main_v13)
-- ==== Pre_ffn_first_finite.lean ====
abbrev S32768x2048 : Shape := ⟨2, ![32768, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S_ : Shape := ⟨0, ![]⟩

class Facts : Prop where
  bcast_S_S32768x2048 : S_.BroadcastsInDim S32768x2048 (![] : Fin 0 → Fin S32768x2048.rank)
  bcast_S_S4x2048 : S_.BroadcastsInDim S4x2048 (![] : Fin 0 → Fin S4x2048.rank)
  bcast_S_S4x2048x5632 : S_.BroadcastsInDim S4x2048x5632 (![] : Fin 0 → Fin S4x2048x5632.rank)

variable [Facts]

def fn {F : FTy → Type} [FloatOps F] (main_arg0 : FVec F S32768x2048 .f32) (main_arg1 : FVec F S4x2048 .f32) (main_arg2 : FVec F S4x2048x5632 .f32) (main_arg3 : FVec F S4x2048x5632 .f32) (main_arg4 : FVec F S4x5632x2048 .f32) : IVec S32768x2048 1 × IVec S4x2048 1 × IVec S4x2048x5632 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_v3 : FVec F S4x2048 .f32 := Host.absf main_arg1
  let main_cst_0 : FVec F S_ .f32 := constant S_ .f32 0x7F800000#32
  let main_v4 : FVec F S4x2048 .f32 := broadcastInDim S4x2048 ![] bcast_S_S4x2048 main_cst_0
  let main_v5 : IVec S4x2048 1 := cmpf .olt main_v3 main_v4
  let main_v6 : FVec F S4x2048x5632 .f32 := Host.absf main_arg2
  let main_cst_1 : FVec F S_ .f32 := constant S_ .f32 0x7F800000#32
  let main_v7 : FVec F S4x2048x5632 .f32 := broadcastInDim S4x2048x5632 ![] bcast_S_S4x2048x5632 main_cst_1
  let main_v8 : IVec S4x2048x5632 1 := cmpf .olt main_v6 main_v7
  (main_v2, main_v5, main_v8)
-- ==== Pre_ffn_last_finite.lean ====
abbrev S32768x2048 : Shape := ⟨2, ![32768, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  bcast_S_S4x2048 : S_.BroadcastsInDim S4x2048 (![] : Fin 0 → Fin S4x2048.rank)
  bcast_S_S4x2048x5632 : S_.BroadcastsInDim S4x2048x5632 (![] : Fin 0 → Fin S4x2048x5632.rank)

variable [Facts]

def fn {F : FTy → Type} [FloatOps F] (main_arg0 : FVec F S32768x2048 .f32) (main_arg1 : FVec F S4x2048 .f32) (main_arg2 : FVec F S4x2048x5632 .f32) (main_arg3 : FVec F S4x2048x5632 .f32) (main_arg4 : FVec F S4x5632x2048 .f32) (main_arg5 : FVec F S2048 .f32) : IVec S32768x2048 1 × IVec S4x2048 1 × IVec S4x2048x5632 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_v3 : FVec F S4x2048 .f32 := Host.absf main_arg1
  let main_cst_0 : FVec F S_ .f32 := constant S_ .f32 0x7F800000#32
  let main_v4 : FVec F S4x2048 .f32 := broadcastInDim S4x2048 ![] bcast_S_S4x2048 main_cst_0
  let main_v5 : IVec S4x2048 1 := cmpf .olt main_v3 main_v4
  let main_v6 : FVec F S4x2048x5632 .f32 := Host.absf main_arg2
  let main_cst_1 : FVec F S_ .f32 := constant S_ .f32 0x7F800000#32
  let main_v7 : FVec F S4x2048x5632 .f32 := broadcastInDim S4x2048x5632 ![] bcast_S_S4x2048x5632 main_cst_1
  let main_v8 : IVec S4x2048x5632 1 := cmpf .olt main_v6 main_v7
  (main_v2, main_v5, main_v8)
-- ==== Pre_ffn_next_finite.lean ====
abbrev S512x2048 : Shape := ⟨2, ![512, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  bcast_S_S4x2048 : S_.BroadcastsInDim S4x2048 (![] : Fin 0 → Fin S4x2048.rank)
  bcast_S_S4x2048x5632 : S_.BroadcastsInDim S4x2048x5632 (![] : Fin 0 → Fin S4x2048x5632.rank)

variable [Facts]

def fn {F : FTy → Type} [FloatOps F] (main_arg0 : FVec F S512x2048 .f32) (main_arg1 : FVec F S4x2048 .f32) (main_arg2 : FVec F S4x2048x5632 .f32) (main_arg3 : FVec F S4x2048x5632 .f32) (main_arg4 : FVec F S4x5632x2048 .f32) (main_arg5 : FVec F S2048 .f32) : IVec S512x2048 1 × IVec S4x2048 1 × IVec S4x2048x5632 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_v3 : FVec F S4x2048 .f32 := Host.absf main_arg1
  let main_cst_0 : FVec F S_ .f32 := constant S_ .f32 0x7F800000#32
  let main_v4 : FVec F S4x2048 .f32 := broadcastInDim S4x2048 ![] bcast_S_S4x2048 main_cst_0
  let main_v5 : IVec S4x2048 1 := cmpf .olt main_v3 main_v4
  let main_v6 : FVec F S4x2048x5632 .f32 := Host.absf main_arg2
  let main_cst_1 : FVec F S_ .f32 := constant S_ .f32 0x7F800000#32
  let main_v7 : FVec F S4x2048x5632 .f32 := broadcastInDim S4x2048x5632 ![] bcast_S_S4x2048x5632 main_cst_1
  let main_v8 : IVec S4x2048x5632 1 := cmpf .olt main_v6 main_v7
  (main_v2, main_v5, main_v8)
-- ==== Pre_state_finite.lean ====
abbrev S8x64x8192 : Shape := ⟨3, ![8, 64, 8192]⟩
abbrev S2x2048 : Shape := ⟨2, ![2, 2048]⟩
abbrev S2x128 : Shape := ⟨2, ![2, 128]⟩
abbrev S2x8x16x128x128 : Shape := ⟨5, ![2, 8, 16, 128, 128]⟩
abbrev S_ : Shape := ⟨0, ![]⟩

class Facts : Prop where
  bcast_S_S2x2048 : S_.BroadcastsInDim S2x2048 (![] : Fin 0 → Fin S2x2048.rank)

variable [Facts]

def fn {F : FTy → Type} [FloatOps F] (main_arg0 : FVec F S8x64x8192 .f32) (main_arg1 : FVec F S2x2048 .f32) (main_arg2 : FVec F S2x128 .f32) (main_arg3 : FVec F S2x8x16x128x128 .f32) : IVec S2x2048 1 :=
  let main_v0 : FVec F S2x2048 .f32 := Host.absf main_arg1
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  main_v2
-- ==== Attn.lean ====
abbrev S16x8x2048x576 : Shape := ⟨4, ![16, 8, 2048, 576]⟩
abbrev S16x2048x576 : Shape := ⟨3, ![16, 2048, 576]⟩
abbrev S512x2048 : Shape := ⟨2, ![512, 2048]⟩
abbrev S512x8x256 : Shape := ⟨3, ![512, 8, 256]⟩
abbrev S512x8x128 : Shape := ⟨3, ![512, 8, 128]⟩
abbrev S8x512x128 : Shape := ⟨3, ![8, 512, 128]⟩
abbrev S16x2048x1024 : Shape := ⟨3, ![16, 2048, 1024]⟩
abbrev S1x8x128x576 : Shape := ⟨4, ![1, 8, 128, 576]⟩
abbrev S1x2048x576 : Shape := ⟨3, ![1, 2048, 576]⟩
abbrev S1x128x1024 : Shape := ⟨3, ![1, 128, 1024]⟩
abbrev S8x128x576 : Shape := ⟨3, ![8, 128, 576]⟩
abbrev S1024x576 : Shape := ⟨2, ![1024, 576]⟩
abbrev S1024x1 : Shape := ⟨2, ![1024, 1]⟩
abbrev S1x256x576 : Shape := ⟨3, ![1, 256, 576]⟩
abbrev S256x576 : Shape := ⟨2, ![256, 576]⟩
abbrev S1024x256 : Shape := ⟨2, ![1024, 256]⟩
abbrev S1x256 : Shape := ⟨2, ![1, 256]⟩
abbrev S1024 : Shape := ⟨1, ![1024]⟩
abbrev S1x256x512 : Shape := ⟨3, ![1, 256, 512]⟩
abbrev S256x512 : Shape := ⟨2, ![256, 512]⟩
abbrev S1024x512 : Shape := ⟨2, ![1024, 512]⟩
abbrev S128x512 : Shape := ⟨2, ![128, 512]⟩
abbrev S1x512x128 : Shape := ⟨3, ![1, 512, 128]⟩
abbrev S512x128 : Shape := ⟨2, ![512, 128]⟩
abbrev S128x128 : Shape := ⟨2, ![128, 128]⟩
abbrev S1x128x128 : Shape := ⟨3, ![1, 128, 128]⟩
abbrev S1x512x576 : Shape := ⟨3, ![1, 512, 576]⟩
abbrev S512x576 : Shape := ⟨2, ![512, 576]⟩
abbrev S1x512 : Shape := ⟨2, ![1, 512]⟩
abbrev S1x512x512 : Shape := ⟨3, ![1, 512, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S16x8x2048x576, .bf16⟩
  | .hbm, ⟨1, _⟩ => ⟨S16x2048x576, .bf16⟩
  | .hbm, ⟨2, _⟩ => ⟨S512x2048, .f32⟩
  | .hbm, ⟨3, _⟩ => ⟨S512x8x256, .f32⟩
  | .hbm, ⟨4, _⟩ => ⟨S512x8x128, .f32⟩
  | .hbm, ⟨5, _⟩ => ⟨S8x512x128, .f32⟩
  | .hbm, ⟨6, _⟩ => ⟨S8x512x128, .bf16⟩
  | .hbm, ⟨7, _⟩ => ⟨S16x2048x1024, .bf16⟩
  | .local _ .vmem, ⟨0, _⟩ => ⟨S1x8x128x576, .bf16⟩
  | .local _ .vmem, ⟨1, _⟩ => ⟨S1x8x128x576, .bf16⟩
  | .local _ .vmem, ⟨2, _⟩ => ⟨S1x2048x576, .bf16⟩
  | .local _ .vmem, ⟨3, _⟩ => ⟨S1x2048x576, .bf16⟩
  | .local _ .vmem, ⟨4, _⟩ => ⟨S8x512x128, .bf16⟩
  | .local _ .vmem, ⟨5, _⟩ => ⟨S1x128x1024, .bf16⟩
  | .local _ .vmem, ⟨6, _⟩ => ⟨S1x128x1024, .bf16⟩
  | _, _ => ⟨S16x8x2048x576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c0_i32_18 : BitVec 32 := 0#32
  let v57 : BitVec 1 := Scalar.cmpi .eq v54 c0_i32_18
  let c512_i32_17 : BitVec 32 := 512#32
  let v55 : BitVec 32 := Scalar.remsi v37 c512_i32_17
  let c256_i32 : BitVec 32 := 256#32
  let v56 : BitVec 1 := Scalar.cmpi .sge v55 c256_i32
  let v_true : BitVec 1 := 1#1
  let v58 : BitVec 1 := Scalar.xori v56 v_true
  let v59 : BitVec 1 := Scalar.andi v57 v58
  let v60 : BitVec 32 := Scalar.extui v59
  let c0_i32_19 : BitVec 32 := 0#32
  let v61 : BitVec 1 := Scalar.cmpi .ne v60 c0_i32_19
  v61

def k0_cond2 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c0_i32_20 : BitVec 32 := 0#32
  let v62 : BitVec 1 := Scalar.cmpi .eq v54 c0_i32_20
  let c512_i32_17 : BitVec 32 := 512#32
  let v55 : BitVec 32 := Scalar.remsi v37 c512_i32_17
  let c256_i32 : BitVec 32 := 256#32
  let v56 : BitVec 1 := Scalar.cmpi .sge v55 c256_i32
  let v63 : BitVec 1 := Scalar.andi v62 v56
  let v64 : BitVec 32 := Scalar.extui v63
  let c0_i32_21 : BitVec 32 := 0#32
  let v65 : BitVec 1 := Scalar.cmpi .ne v64 c0_i32_21
  v65

def k0_cond3 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c1_i32_22 : BitVec 32 := 1#32
  let v66 : BitVec 1 := Scalar.cmpi .eq v54 c1_i32_22
  let c512_i32_17 : BitVec 32 := 512#32
  let v55 : BitVec 32 := Scalar.remsi v37 c512_i32_17
  let c256_i32 : BitVec 32 := 256#32
  let v56 : BitVec 1 := Scalar.cmpi .sge v55 c256_i32
  let true_23 : BitVec 1 := 1#1
  let v67 : BitVec 1 := Scalar.xori v56 true_23
  let v68 : BitVec 1 := Scalar.andi v66 v67
  let v69 : BitVec 32 := Scalar.extui v68
  let c0_i32_24 : BitVec 32 := 0#32
  let v70 : BitVec 1 := Scalar.cmpi .ne v69 c0_i32_24
  v70

def k0_cond4 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c1_i32_25 : BitVec 32 := 1#32
  let v71 : BitVec 1 := Scalar.cmpi .eq v54 c1_i32_25
  let c512_i32_17 : BitVec 32 := 512#32
  let v55 : BitVec 32 := Scalar.remsi v37 c512_i32_17
  let c256_i32 : BitVec 32 := 256#32
  let v56 : BitVec 1 := Scalar.cmpi .sge v55 c256_i32
  let v72 : BitVec 1 := Scalar.andi v71 v56
  let v73 : BitVec 32 := Scalar.extui v72
  let c0_i32_26 : BitVec 32 := 0#32
  let v74 : BitVec 1 := Scalar.cmpi .ne v73 c0_i32_26
  v74

def k0_cond5 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c2_i32 : BitVec 32 := 2#32
  let v75 : BitVec 1 := Scalar.cmpi .eq v54 c2_i32
  let c512_i32_17 : BitVec 32 := 512#32
  let v55 : BitVec 32 := Scalar.remsi v37 c512_i32_17
  let c256_i32 : BitVec 32 := 256#32
  let v56 : BitVec 1 := Scalar.cmpi .sge v55 c256_i32
  let true_27 : BitVec 1 := 1#1
  let v76 : BitVec 1 := Scalar.xori v56 true_27
  let v77 : BitVec 1 := Scalar.andi v75 v76
  let v78 : BitVec 32 := Scalar.extui v77
  let c0_i32_28 : BitVec 32 := 0#32
  let v79 : BitVec 1 := Scalar.cmpi .ne v78 c0_i32_28
  v79

def k0_cond6 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c2_i32_29 : BitVec 32 := 2#32
  let v80 : BitVec 1 := Scalar.cmpi .eq v54 c2_i32_29
  let c512_i32_17 : BitVec 32 := 512#32
  let v55 : BitVec 32 := Scalar.remsi v37 c512_i32_17
  let c256_i32 : BitVec 32 := 256#32
  let v56 : BitVec 1 := Scalar.cmpi .sge v55 c256_i32
  let v81 : BitVec 1 := Scalar.andi v80 v56
  let v82 : BitVec 32 := Scalar.extui v81
  let c0_i32_30 : BitVec 32 := 0#32
  let v83 : BitVec 1 := Scalar.cmpi .ne v82 c0_i32_30
  v83

def k0_cond7 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c3_i32 : BitVec 32 := 3#32
  let v84 : BitVec 1 := Scalar.cmpi .eq v54 c3_i32
  let c512_i32_17 : BitVec 32 := 512#32
  let v55 : BitVec 32 := Scalar.remsi v37 c512_i32_17
  let c256_i32 : BitVec 32 := 256#32
  let v56 : BitVec 1 := Scalar.cmpi .sge v55 c256_i32
  let true_31 : BitVec 1 := 1#1
  let v85 : BitVec 1 := Scalar.xori v56 true_31
  let v86 : BitVec 1 := Scalar.andi v84 v85
  let v87 : BitVec 32 := Scalar.extui v86
  let c0_i32_32 : BitVec 32 := 0#32
  let v88 : BitVec 1 := Scalar.cmpi .ne v87 c0_i32_32
  v88

def k0_cond8 (i : grid0.Coords) : BitVec 1 :=
  let arg1 : BitVec 32 := BitVec.ofNat 32 (i 1).val
  let c128_i32_10 : BitVec 32 := 128#32
  let v37 : BitVec 32 := Scalar.muli arg1 c128_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c512_i32 : BitVec 32 := 512#32
  let c0_i32_13 : BitVec 32 := 0#32
  let v44 : BitVec 1 := Scalar.cmpi .sgt c512_i32 c0_i32_13
  let v45 : BitVec 32 := Scalar.extui v44
  let c0_i32_14 : BitVec 32 := 0#32
  let v46 : BitVec 1 := Scalar.cmpi .slt c512_i32 c0_i32_14
  let v47 : BitVec 32 := Scalar.extui v46
  let v48 : BitVec 32 := Scalar.subi v45 v47
  let v49 : BitVec 1 := Scalar.cmpi .ne v43 v48
  let v50 : BitVec 32 := Scalar.remsi v37 c512_i32
  let c0_i32_15 : BitVec 32 := 0#32
  let v51 : BitVec 1 := Scalar.cmpi .ne v50 c0_i32_15
  let v52 : BitVec 1 := Scalar.andi v49 v51
  let v38 : BitVec 32 := Scalar.divsi v37 c512_i32
  let c1_i32_16 : BitVec 32 := 1#32
  let v53 : BitVec 32 := Scalar.subi v38 c1_i32_16
  let v54 : BitVec 32 := Scalar.select v52 v53 v38
  let c3_i32_33 : BitVec 32 := 3#32
  let v89 : BitVec 1 := Scalar.cmpi .eq v54 c3_i32_33
  let c512_i32_17 : BitVec 32 := 512#32
  let v55 : BitVec 32 := Scalar.remsi v37 c512_i32_17
  let c256_i32 : BitVec 32 := 256#32
  let v56 : BitVec 1 := Scalar.cmpi .sge v55 c256_i32
  let v90 : BitVec 1 := Scalar.andi v89 v56
  let v91 : BitVec 32 := Scalar.extui v90
  let c0_i32_34 : BitVec 32 := 0#32
  let v92 : BitVec 1 := Scalar.cmpi .ne v91 c0_i32_34
  v92

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "mask" => some ⊥
  | "scale_log2e" => some (((Real.sqrt 192)⁻¹ * (Real.log 2)⁻¹ : ℝ) : EReal)
  | _ => none
-- ==== AttnRefIdeal.lean ====
abbrev S16x8x2048x576 : Shape := ⟨4, ![16, 8, 2048, 576]⟩
abbrev S16x2048x576 : Shape := ⟨3, ![16, 2048, 576]⟩
abbrev S512x2048 : Shape := ⟨2, ![512, 2048]⟩
abbrev S16x8x2048x512 : Shape := ⟨4, ![16, 8, 2048, 512]⟩
abbrev S16x8x2048x64 : Shape := ⟨4, ![16, 8, 2048, 64]⟩
abbrev S16x2048x512 : Shape := ⟨3, ![16, 2048, 512]⟩
abbrev S16x2048x64 : Shape := ⟨3, ![16, 2048, 64]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x512x8x2048 : Shape := ⟨4, ![16, 512, 8, 2048]⟩
abbrev S16x2048x8x512 : Shape := ⟨4, ![16, 2048, 8, 512]⟩
abbrev S512x8x256 : Shape := ⟨3, ![512, 8, 256]⟩
abbrev S512x8x128 : Shape := ⟨3, ![512, 8, 128]⟩
abbrev S8x128x16x2048 : Shape := ⟨4, ![8, 128, 16, 2048]⟩
abbrev S16x2048x8x128 : Shape := ⟨4, ![16, 2048, 8, 128]⟩
abbrev S16x2048x1024 : Shape := ⟨3, ![16, 2048, 1024]⟩

abbrev nBuf : Space → Nat
  | .hbm => 67
  | .vmem => 0
  | .smem => 0
  | _ => 0

abbrev bufTy : (tb : Table) → Fin (tcTables nBuf tb) → BufTy
  | .hbm, ⟨0, _⟩ => ⟨S16x8x2048x576, .bf16⟩
  | .hbm, ⟨1, _⟩ => ⟨S16x2048x576, .bf16⟩
  | .hbm, ⟨2, _⟩ => ⟨S512x2048, .f32⟩
  | .hbm, ⟨3, _⟩ => ⟨S16x8x2048x576, .f32⟩
  | .hbm, ⟨4, _⟩ => ⟨S16x2048x576, .f32⟩
  | .hbm, ⟨5, _⟩ => ⟨S16x8x2048x512, .f32⟩
  | .hbm, ⟨6, _⟩ => ⟨S16x8x2048x64, .f32⟩
  | .hbm, ⟨7, _⟩ => ⟨S16x2048x512, .f32⟩
  | .hbm, ⟨8, _⟩ => ⟨S16x2048x64, .f32⟩
  | .hbm, ⟨9, _⟩ => ⟨S16x8x2048x2048, .f32⟩
  | .hbm, ⟨10, _⟩ => ⟨S16x8x2048x2048, .f32⟩
  | .hbm, ⟨11, _⟩ => ⟨S16x8x2048x2048, .f32⟩
  | .hbm, ⟨12, _⟩ => ⟨S_, .f32⟩
  | .hbm, ⟨13, _⟩ => ⟨S_, .f32⟩
  | .hbm, ⟨14, _⟩ => ⟨S16x8x2048x2048, .f32⟩
  | .hbm, ⟨15, _⟩ => ⟨S16x8x2048x2048, .f32⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S1x2048, .i32⟩
  | .hbm, ⟨36, _⟩ => ⟨S2048x1, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S16x8x2048x2048, .i1⟩
  | .hbm, ⟨43, _⟩ => ⟨S16x8x2048x2048, .f32⟩
  | .hbm, ⟨44, _⟩ => ⟨S16x8x2048x2048, .f32⟩
  | .hbm, ⟨45, _⟩ => ⟨S_, .f32⟩
  | .hbm, ⟨46, _⟩ => ⟨S16x8x2048, .f32⟩
  | .hbm, ⟨47, _⟩ => ⟨S_, .f32⟩
  | .hbm, ⟨48, _⟩ => ⟨S16x8x2048, .f32⟩
  | .hbm, ⟨49, _⟩ => ⟨S16x8x2048, .f32⟩
  | .hbm, ⟨50, _⟩ => ⟨S16x8x2048x1, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S_, .f32⟩
  | .hbm, ⟨55, _⟩ => ⟨S16x8x2048, .f32⟩
  | .hbm, ⟨56, _⟩ => ⟨S16x8x2048x1, .f32⟩
  | .hbm, ⟨57, _⟩ => ⟨S16x8x2048x2048, .f32⟩
  | .hbm, ⟨58, _⟩ => ⟨S16x8x2048x2048, .f32⟩
  | .hbm, ⟨59, _⟩ => ⟨S16x512x8x2048, .f32⟩
  | .hbm, ⟨60, _⟩ => ⟨S16x2048x8x512, .f32⟩
  | .hbm, ⟨61, _⟩ => ⟨S512x8x256, .f32⟩
  | .hbm, ⟨62, _⟩ => ⟨S512x8x128, .f32⟩
  | .hbm, ⟨63, _⟩ => ⟨S8x128x16x2048, .f32⟩
  | .hbm, ⟨64, _⟩ => ⟨S16x2048x8x128, .f32⟩
  | .hbm, ⟨65, _⟩ => ⟨S16x2048x1024, .f32⟩
  | .hbm, ⟨66, _⟩ => ⟨S16x2048x1024, .bf16⟩
  | _, _ => ⟨S16x8x2048x576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Last.lean ====
abbrev S32768x2048 : Shape := ⟨2, ![32768, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S4x1x2048 : Shape := ⟨3, ![4, 1, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S4x1x2048, .f32⟩
  | .hbm, ⟨10, _⟩ => ⟨S1x2048, .f32⟩
  | .hbm, ⟨11, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c8_i32 : BitVec 32 := 8#32
  let v29 : BitVec 32 := Scalar.addi c0_i32_20 c8_i32
  let c1_i32 : BitVec 32 := 1#32
  ⟨c0_i32_20, v29, c1_i32⟩
def k0_mult1 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c128_i32 : BitVec 32 := 128#32
  let v30 : BitVec 32 := Scalar.muli arg10 c128_i32
  v30
def k0_off1 (k0_t1 : Fin k0_t1_loop.trips) : Fin 2 → Nat :=
  let c0_i32_20 : BitVec 32 := 0#32
  let c1_i32 : BitVec 32 := 1#32
  let arg10 : BitVec 32 := Scf.iv c0_i32_20 c1_i32 k0_t1
  let c128_i32 : BitVec 32 := 128#32
  let v30 : BitVec 32 := Scalar.muli arg10 c128_i32
  let v31 : BitVec 32 := v30
  let v32 : Index := Scalar.indexCast v31
  let c0_22 : Index := 0#32
  ![v32.toNat, 0]
def k0_mult2 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c128_i32_29 : BitVec 32 := 128#32
  let v49 : BitVec 32 := Scalar.muli arg10 c128_i32_29
  v49
def k0_mult3 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c128_i32_31 : BitVec 32 := 128#32
  let v55 : BitVec 32 := Scalar.muli arg10 c128_i32_31
  v55
def k0_cond2 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_19 : BitVec 32 := 0#32
  let v28 : BitVec 1 := Scalar.cmpi .ne v27 c0_i32_19
  v28

@[reducible] def k0_t2_loop : Scf.Loop 32 :=
  let c0_i32_20 : BitVec 32 := 0#32
  let c8_i32 : BitVec 32 := 8#32
  let v29 : BitVec 32 := Scalar.addi c0_i32_20 c8_i32
  let c1_i32 : BitVec 32 := 1#32
  ⟨c0_i32_20, v29, c1_i32⟩
def k0_mult4 (k0_t2 : Fin k0_t2_loop.trips) : BitVec 32 :=
  let c0_i32_20 : BitVec 32 := 0#32
  let c1_i32 : BitVec 32 := 1#32
  let arg10 : BitVec 32 := Scf.iv c0_i32_20 c1_i32 k0_t2
  let c128_i32 : BitVec 32 := 128#32
  let v30 : BitVec 32 := Scalar.muli arg10 c128_i32
  v30
def k0_off2 (k0_t2 : Fin k0_t2_loop.trips) : Fin 2 → Nat :=
  let c0_i32_20 : BitVec 32 := 0#32
  let c1_i32 : BitVec 32 := 1#32
  let arg10 : BitVec 32 := Scf.iv c0_i32_20 c1_i32 k0_t2
  let c128_i32 : BitVec 32 := 128#32
  let v30 : BitVec 32 := Scalar.muli arg10 c128_i32
  let v31 : BitVec 32 := v30
  let v32 : Index := Scalar.indexCast v31
  let c0_22 : Index := 0#32
  ![v32.toNat, 0]
def k0_mult5 (k0_t2 : Fin k0_t2_loop.trips) : BitVec 32 :=
  let c0_i32_20 : BitVec 32 := 0#32
  let c1_i32 : BitVec 32 := 1#32
  let arg10 : BitVec 32 := Scf.iv c0_i32_20 c1_i32 k0_t2
  let c128_i32_28 : BitVec 32 := 128#32
  let v49 : BitVec 32 := Scalar.muli arg10 c128_i32_28
  v49
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== LastRefIdeal.lean ====
abbrev S32768x2048 : Shape := ⟨2, ![32768, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S32768x5632 : Shape := ⟨2, ![32768, 5632]⟩

abbrev nBuf : Space → Nat
  | .hbm => 63
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S_, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S32768x5632, .f32⟩
  | .hbm, ⟨41, _⟩ => ⟨S32768x5632, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x2048, .f32⟩
  | .hbm, ⟨59, _⟩ => ⟨S32768x2048, .f32⟩
  | .hbm, ⟨60, _⟩ => ⟨S1x2048, .f32⟩
  | .hbm, ⟨61, _⟩ => ⟨S32768x2048, .f32⟩
  | .hbm, ⟨62, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== First.lean ====
abbrev S32768x2048 : Shape := ⟨2, ![32768, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S4x1x2048 : Shape := ⟨3, ![4, 1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x2048x5632, .bf16⟩
  | .hbm, ⟨6, _⟩ => ⟨S4x2048x5632, .bf16⟩
  | .hbm, ⟨7, _⟩ => ⟨S4x5632x2048, .bf16⟩
  | .hbm, ⟨8, _⟩ => ⟨S4x1x2048, .f32⟩
  | .hbm, ⟨9, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c8_i32 : BitVec 32 := 8#32
  let v26 : BitVec 32 := Scalar.addi c0_i32_19 c8_i32
  let c1_i32 : BitVec 32 := 1#32
  ⟨c0_i32_19, v26, c1_i32⟩
def k0_mult1 (k0_t1 : Fin k0_t1_loop.trips) : BitVec 32 :=
  let c0_i32_19 : BitVec 32 := 0#32
  let c1_i32 : BitVec 32 := 1#32
  let arg9 : BitVec 32 := Scf.iv c0_i32_19 c1_i32 k0_t1
  let c128_i32 : BitVec 32 := 128#32
  let v27 : BitVec 32 := Scalar.muli arg9 c128_i32
  v27
def k0_off1 (k0_t1 : Fin k0_t1_loop.trips) : Fin 2 → Nat :=
  let c0_i32_19 : BitVec 32 := 0#32
  let c1_i32 : BitVec 32 := 1#32
  let arg9 : BitVec 32 := Scf.iv c0_i32_19 c1_i32 k0_t1
  let c128_i32 : BitVec 32 := 128#32
  let v27 : BitVec 32 := Scalar.muli arg9 c128_i32
  let v28 : BitVec 32 := v27
  let v29 : Index := Scalar.indexCast v28
  let c0_21 : Index := 0#32
  ![v29.toNat, 0]
def k0_mult2 (k0_t1 : Fin k0_t1_loop.trips) : BitVec 32 :=
  let c0_i32_19 : BitVec 32 := 0#32
  let c1_i32 : BitVec 32 := 1#32
  let arg9 : BitVec 32 := Scf.iv c0_i32_19 c1_i32 k0_t1
  let c128_i32_28 : BitVec 32 := 128#32
  let v46 : BitVec 32 := Scalar.muli arg9 c128_i32_28
  v46
def k0_mult3 (k0_t1 : Fin k0_t1_loop.trips) : BitVec 32 :=
  let c0_i32_19 : BitVec 32 := 0#32
  let c1_i32 : BitVec 32 := 1#32
  let arg9 : BitVec 32 := Scf.iv c0_i32_19 c1_i32 k0_t1
  let c128_i32_30 : BitVec 32 := 128#32
  let v52 : BitVec 32 := Scalar.muli arg9 c128_i32_30
  v52
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FirstRefIdeal.lean ====
abbrev S32768x2048 : Shape := ⟨2, ![32768, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S32768x5632 : Shape := ⟨2, ![32768, 5632]⟩

abbrev nBuf : Space → Nat
  | .hbm => 46
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S_, .f32⟩
  | .hbm, ⟨36, _⟩ => ⟨S32768x5632, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S32768x5632, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== InOdd.lean ====
abbrev S32768x2048 : Shape := ⟨2, ![32768, 2048]⟩
abbrev S4x2048 : Shape := ⟨2, ![4, 2048]⟩
abbrev S2x2048x8192 : Shape := ⟨3, ![2, 2048, 8192]⟩
abbrev S1x2048 : Shape := ⟨2, ![1, 2048]⟩
abbrev S2048 : Shape := ⟨1, ![2048]⟩
abbrev S32768x8192 : Shape := ⟨2, ![32768, 8192]⟩
abbrev S1024x2048 : Shape := ⟨2, ![1024, 2048]⟩
abbrev S1x2048x2048 : Shape := ⟨3, ![1, 2048, 2048]⟩
abbrev S128x2048 : Shape := ⟨2, ![128, 2048]⟩
abbrev S128 : Shape := ⟨1, ![128]⟩
abbrev S128x1 : Shape := ⟨2, ![128, 1]⟩
abbrev S2048x2048 : Shape := ⟨2, ![2048, 2048]⟩

abbrev nBuf : Space → Nat
  | .hbm => 8
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S2x2048x8192, .f32⟩
  | .hbm, ⟨3, _⟩ => ⟨S1x2048, .f32⟩
  | .hbm, ⟨4, _⟩ => ⟨S2048, .f32⟩
  | .hbm, ⟨5, _⟩ => ⟨S2x2048x8192, .bf16⟩
  | .hbm, ⟨6, _⟩ => ⟨S1x2048, .f32⟩
  | .hbm, ⟨7, _⟩ => ⟨S32768x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32 : BitVec 32 := 8#32
  let v8 : BitVec 32 := Scalar.addi c0_i32_7 c8_i32
  let c1_i32 : BitVec 32 := 1#32
  ⟨c0_i32_7, v8, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c128_i32 : BitVec 32 := 128#32
  let v9 : BitVec 32 := Scalar.muli arg7 c128_i32
  v9
def k0_off1 (k0_t1 : Fin k0_t1_loop.trips) : Fin 2 → Nat :=
  let c0_i32_7 : BitVec 32 := 0#32
  let c1_i32 : BitVec 32 := 1#32
  let arg7 : BitVec 32 := Scf.iv c0_i32_7 c1_i32 k0_t1
  let c128_i32 : BitVec 32 := 128#32
  let v9 : BitVec 32 := Scalar.muli arg7 c128_i32
  let v10 : BitVec 32 := v9
  let v11 : Index := Scalar.indexCast v10
  let c0_9 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InOddRefIdeal.lean ====
abbrev S32768x2048 : Shape := ⟨2, ![32768, 2048]⟩
abbrev S4x2048 : Shape := ⟨2, ![4, 2048]⟩
abbrev S2x2048x8192 : Shape := ⟨3, ![2, 2048, 8192]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x8192 : Shape := ⟨3, ![1, 2048, 8192]⟩
abbrev S2048x8192 : Shape := ⟨2, ![2048, 8192]⟩
abbrev S32768x8192 : Shape := ⟨2, ![32768, 8192]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S2x2048x8192, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x8192, .f32⟩
  | .hbm, ⟨22, _⟩ => ⟨S2048x8192, .f32⟩
  | .hbm, ⟨23, _⟩ => ⟨S32768x8192, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OutOdd.lean ====
abbrev S32768x2048 : Shape := ⟨2, ![32768, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S2x2048x2048, .bf16⟩
  | .hbm, ⟨4, _⟩ => ⟨S1x2048x2048, .bf16⟩
  | .hbm, ⟨5, _⟩ => ⟨S2048x2048, .bf16⟩
  | .hbm, ⟨6, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutOddRefIdeal.lean ====
abbrev S32768x2048 : Shape := ⟨2, ![32768, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S32768x2048, .f32⟩
  | .hbm, ⟨4, _⟩ => ⟨S1x2048x2048, .f32⟩
  | .hbm, ⟨5, _⟩ => ⟨S2048x2048, .f32⟩
  | .hbm, ⟨6, _⟩ => ⟨S32768x2048, .f32⟩
  | .hbm, ⟨7, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutEven.lean ====
abbrev S32768x1024 : Shape := ⟨2, ![32768, 1024]⟩
abbrev S2x2048x2048 : Shape := ⟨3, ![2, 2048, 2048]⟩
abbrev S32768x2048 : Shape := ⟨2, ![32768, 2048]⟩
abbrev S1x2048x2048 : Shape := ⟨3, ![1, 2048, 2048]⟩
abbrev S2048x2048 : Shape := ⟨2, ![2048, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 10
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2x2048x2048, .f32⟩
  | .hbm, ⟨3, _⟩ => ⟨S32768x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutEvenRefIdeal.lean ====
abbrev S32768x1024 : Shape := ⟨2, ![32768, 1024]⟩
abbrev S2x2048x2048 : Shape := ⟨3, ![2, 2048, 2048]⟩
abbrev S32768x2048 : Shape := ⟨2, ![32768, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2x2048x2048, .f32⟩
  | .hbm, ⟨3, _⟩ => ⟨S32768x2048, .f32⟩
  | .hbm, ⟨4, _⟩ => ⟨S32768x1024, .f32⟩
  | .hbm, ⟨5, _⟩ => ⟨S32768x1024, .f32⟩
  | .hbm, ⟨6, _⟩ => ⟨S32768x2048, .f32⟩
  | .hbm, ⟨7, _⟩ => ⟨S1x2048x2048, .f32⟩
  | .hbm, ⟨8, _⟩ => ⟨S2048x2048, .f32⟩
  | .hbm, ⟨9, _⟩ => ⟨S32768x2048, .f32⟩
  | .hbm, ⟨10, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Cached.lean ====
abbrev S8x8x64x576 : Shape := ⟨4, ![8, 8, 64, 576]⟩
abbrev S8x64x576 : Shape := ⟨3, ![8, 64, 576]⟩
abbrev S2x8x4096x512 : Shape := ⟨4, ![2, 8, 4096, 512]⟩
abbrev S2x8x4096x64 : Shape := ⟨4, ![2, 8, 4096, 64]⟩
abbrev S512x2048 : Shape := ⟨2, ![512, 2048]⟩
abbrev S512x8x256 : Shape := ⟨3, ![512, 8, 256]⟩
abbrev S512x8x128 : Shape := ⟨3, ![512, 8, 128]⟩
abbrev S8x512x128 : Shape := ⟨3, ![8, 512, 128]⟩
abbrev S8x64x1024 : Shape := ⟨3, ![8, 64, 1024]⟩
abbrev S1x8x64x576 : Shape := ⟨4, ![1, 8, 64, 576]⟩
abbrev S1x64x576 : Shape := ⟨3, ![1, 64, 576]⟩
abbrev S1x1x4096x512 : Shape := ⟨4, ![1, 1, 4096, 512]⟩
abbrev S1x1x4096x64 : Shape := ⟨4, ![1, 1, 4096, 64]⟩
abbrev S1x64x1024 : Shape := ⟨3, ![1, 64, 1024]⟩
abbrev S512x576 : Shape := ⟨2, ![512, 576]⟩
abbrev S512x512 : Shape := ⟨2, ![512, 512]⟩
abbrev S512x64 : Shape := ⟨2, ![512, 64]⟩
abbrev S1x1x512x512 : Shape := ⟨4, ![1, 1, 512, 512]⟩
abbrev S1x1x512x64 : Shape := ⟨4, ![1, 1, 512, 64]⟩
abbrev S512 : Shape := ⟨1, ![512]⟩
abbrev S512x1 : Shape := ⟨2, ![512, 1]⟩
abbrev S64x576 : Shape := ⟨2, ![64, 576]⟩
abbrev S1x64x512 : Shape := ⟨3, ![1, 64, 512]⟩
abbrev S64x512 : Shape := ⟨2, ![64, 512]⟩
abbrev S1x512x128 : Shape := ⟨3, ![1, 512, 128]⟩
abbrev S512x128 : Shape := ⟨2, ![512, 128]⟩
abbrev S64x128 : Shape := ⟨2, ![64, 128]⟩
abbrev S1x64x128 : Shape := ⟨3, ![1, 64, 128]⟩

abbrev nBuf : Space → Nat
  | .hbm => 10
  | .vmem => 11
  | .smem => 0
  | _ => 0

abbrev bufTy : (tb : Table) → Fin (tcTables nBuf tb) → BufTy
  | .hbm, ⟨0, _⟩ => ⟨S8x8x64x576, .bf16⟩
  | .hbm, ⟨1, _⟩ => ⟨S8x64x576, .bf16⟩
  | .hbm, ⟨2, _⟩ => ⟨S2x8x4096x512, .f32⟩
  | .hbm, ⟨3, _⟩ => ⟨S2x8x4096x64, .f32⟩
  | .hbm, ⟨4, _⟩ => ⟨S512x2048, .f32⟩
  | .hbm, ⟨5, _⟩ => ⟨S512x8x256, .f32⟩
  | .hbm, ⟨6, _⟩ => ⟨S512x8x128, .f32⟩
  | .hbm, ⟨7, _⟩ => ⟨S8x512x128, .f32⟩
  | .hbm, ⟨8, _⟩ => ⟨S8x512x128, .bf16⟩
  | .hbm, ⟨9, _⟩ => ⟨S8x64x1024, .bf16⟩
  | .local _ .vmem, ⟨0, _⟩ => ⟨S1x8x64x576, .bf16⟩
  | .local _ .vmem, ⟨1, _⟩ => ⟨S1x8x64x576, .bf16⟩
  | .local _ .vmem, ⟨2, _⟩ => ⟨S1x64x576, .bf16⟩
  | .local _ .vmem, ⟨3, _⟩ => ⟨S1x64x576, .bf16⟩
  | .local _ .vmem, ⟨4, _⟩ => ⟨S1x1x4096x512, .f32⟩
  | .local _ .vmem, ⟨5, _⟩ => ⟨S1x1x4096x512, .f32⟩
  | .local _ .vmem, ⟨6, _⟩ => ⟨S1x1x4096x64, .f32⟩
  | .local _ .vmem, ⟨7, _⟩ => ⟨S1x1x4096x64, .f32⟩
  | .local _ .vmem, ⟨8, _⟩ => ⟨S8x512x128, .bf16⟩
  | .local _ .vmem, ⟨9, _⟩ => ⟨S1x64x1024, .bf16⟩
  | .local _ .vmem, ⟨10, _⟩ => ⟨S1x64x1024, .bf16⟩
  | _, _ => ⟨S8x8x64x576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x64x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CachedIdeal.lean ====
variable {F : FTy → Type} [FloatOps F] [Named F]
def κ : String → Option EReal := fun
  | "scale_log2e" => some (((Real.sqrt 192)⁻¹ * (Real.log 2)⁻¹ : ℝ) : EReal)
  | _ => none
-- ==== CachedRefIdeal.lean ====
abbrev S8x8x64x576 : Shape := ⟨4, ![8, 8, 64, 576]⟩
abbrev S8x64x576 : Shape := ⟨3, ![8, 64, 576]⟩
abbrev S2x8x4096x512 : Shape := ⟨4, ![2, 8, 4096, 512]⟩
abbrev S2x8x4096x64 : Shape := ⟨4, ![2, 8, 4096, 64]⟩
abbrev S512x2048 : Shape := ⟨2, ![512, 2048]⟩
abbrev S8x8x64x512 : Shape := ⟨4, ![8, 8, 64, 512]⟩
abbrev S8x8x64x64 : Shape := ⟨4, ![8, 8, 64, 64]⟩
abbrev S1x8x4096x512 : Shape := ⟨4, ![1, 8, 4096, 512]⟩
abbrev S8x4096x512 : Shape := ⟨3, ![8, 4096, 512]⟩
abbrev S8x64x512 : Shape := ⟨3, ![8, 64, 512]⟩
abbrev S8x4160x512 : Shape := ⟨3, ![8, 4160, 512]⟩
abbrev S1x8x4096x64 : Shape := ⟨4, ![1, 8, 4096, 64]⟩
abbrev S8x4096x64 : Shape := ⟨3, ![8, 4096, 64]⟩
abbrev S8x64x64 : Shape := ⟨3, ![8, 64, 64]⟩
abbrev S8x4160x64 : Shape := ⟨3, ![8, 4160, 64]⟩
abbrev S8x8x64x4160 : Shape := ⟨4, ![8, 8, 64, 4160]⟩
abbrev S_ : Shape := ⟨0, ![]⟩
abbrev S8x8x64 : Shape := ⟨3, ![8, 8, 64]⟩
abbrev S8x8x64x1 : Shape := ⟨4, ![8, 8, 64, 1]⟩
abbrev S8x512x8x64 : Shape := ⟨4, ![8, 512, 8, 64]⟩
abbrev S8x64x8x512 : Shape := ⟨4, ![8, 64, 8, 512]⟩
abbrev S512x8x256 : Shape := ⟨3, ![512, 8, 256]⟩
abbrev S512x8x128 : Shape := ⟨3, ![512, 8, 128]⟩
abbrev S8x128x8x64 : Shape := ⟨4, ![8, 128, 8, 64]⟩
abbrev S8x64x8x128 : Shape := ⟨4, ![8, 64, 8, 128]⟩
abbrev S8x64x1024 : Shape := ⟨3, ![8, 64, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x8x64x576, .bf16⟩
  | .hbm, ⟨1, _⟩ => ⟨S8x64x576, .bf16⟩
  | .hbm, ⟨2, _⟩ => ⟨S2x8x4096x512, .f32⟩
  | .hbm, ⟨3, _⟩ => ⟨S2x8x4096x64, .f32⟩
  | .hbm, ⟨4, _⟩ => ⟨S512x2048, .f32⟩
  | .hbm, ⟨5, _⟩ => ⟨S8x8x64x576, .f32⟩
  | .hbm, ⟨6, _⟩ => ⟨S8x64x576, .f32⟩
  | .hbm, ⟨7, _⟩ => ⟨S8x8x64x512, .f32⟩
  | .hbm, ⟨8, _⟩ => ⟨S8x8x64x64, .f32⟩
  | .hbm, ⟨9, _⟩ => ⟨S1x8x4096x512, .f32⟩
  | .hbm, ⟨10, _⟩ => ⟨S8x4096x512, .f32⟩
  | .hbm, ⟨11, _⟩ => ⟨S8x64x512, .f32⟩
  | .hbm, ⟨12, _⟩ => ⟨S8x4160x512, .f32⟩
  | .hbm, ⟨13, _⟩ => ⟨S1x8x4096x64, .f32⟩
  | .hbm, ⟨14, _⟩ => ⟨S8x4096x64, .f32⟩
  | .hbm, ⟨15, _⟩ => ⟨S8x64x64, .f32⟩
  | .hbm, ⟨16, _⟩ => ⟨S8x4160x64, .f32⟩
  | .hbm, ⟨17, _⟩ => ⟨S8x8x64x4160, .f32⟩
  | .hbm, ⟨18, _⟩ => ⟨S8x8x64x4160, .f32⟩
  | .hbm, ⟨19, _⟩ => ⟨S8x8x64x4160, .f32⟩
  | .hbm, ⟨20, _⟩ => ⟨S_, .f32⟩
  | .hbm, ⟨21, _⟩ => ⟨S_, .f32⟩
  | .hbm, ⟨22, _⟩ => ⟨S8x8x64x4160, .f32⟩
  | .hbm, ⟨23, _⟩ => ⟨S8x8x64x4160, .f32⟩
  | .hbm, ⟨24, _⟩ => ⟨S_, .f32⟩
  | .hbm, ⟨25, _⟩ => ⟨S8x8x64, .f32⟩
  | .hbm, ⟨26, _⟩ => ⟨S_, .f32⟩
  | .hbm, ⟨27, _⟩ => ⟨S8x8x64, .f32⟩
  | .hbm, ⟨28, _⟩ => ⟨S8x8x64, .f32⟩
  | .hbm, ⟨29, _⟩ => ⟨S8x8x64x1, .f32⟩
  | .hbm, ⟨30, _⟩ => ⟨S8x8x64x4160, .f32⟩
  | .hbm, ⟨31, _⟩ => ⟨S8x8x64x4160, .f32⟩
  | .hbm, ⟨32, _⟩ => ⟨S8x8x64x4160, .f32⟩
  | .hbm, ⟨33, _⟩ => ⟨S_, .f32⟩
  | .hbm, ⟨34, _⟩ => ⟨S8x8x64, .f32⟩
  | .hbm, ⟨35, _⟩ => ⟨S8x8x64x1, .f32⟩
  | .hbm, ⟨36, _⟩ => ⟨S8x8x64x4160, .f32⟩
  | .hbm, ⟨37, _⟩ => ⟨S8x8x64x4160, .f32⟩
  | .hbm, ⟨38, _⟩ => ⟨S8x512x8x64, .f32⟩
  | .hbm, ⟨39, _⟩ => ⟨S8x64x8x512, .f32⟩
  | .hbm, ⟨40, _⟩ => ⟨S512x8x256, .f32⟩
  | .hbm, ⟨41, _⟩ => ⟨S512x8x128, .f32⟩
  | .hbm, ⟨42, _⟩ => ⟨S8x128x8x64, .f32⟩
  | .hbm, ⟨43, _⟩ => ⟨S8x64x8x128, .f32⟩
  | .hbm, ⟨44, _⟩ => ⟨S8x64x1024, .f32⟩
  | .hbm, ⟨45, _⟩ => ⟨S8x64x1024, .bf16⟩
  | _, _ => ⟨S8x8x64x576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Next.lean ====
abbrev S512x2048 : Shape := ⟨2, ![512, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S4x1x2048 : Shape := ⟨3, ![4, 1, 2048]⟩
abbrev S1x2048 : Shape := ⟨2, ![1, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S512x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S4x1x2048, .f32⟩
  | .hbm, ⟨10, _⟩ => ⟨S1x2048, .f32⟩
  | .hbm, ⟨11, _⟩ => ⟨S512x2048, .f32⟩
  | .local _ .vmem, ⟨0, _⟩ => ⟨S512x2048, .f32⟩
  | .local _ .vmem, ⟨1, _⟩ => ⟨S1x1x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c4_i32 : BitVec 32 := 4#32
  let v29 : BitVec 32 := Scalar.addi c0_i32_20 c4_i32
  let c1_i32 : BitVec 32 := 1#32
  ⟨c0_i32_20, v29, c1_i32⟩
def k0_mult1 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c128_i32 : BitVec 32 := 128#32
  let v30 : BitVec 32 := Scalar.muli arg10 c128_i32
  v30
def k0_off1 (k0_t1 : Fin k0_t1_loop.trips) : Fin 2 → Nat :=
  let c0_i32_20 : BitVec 32 := 0#32
  let c1_i32 : BitVec 32 := 1#32
  let arg10 : BitVec 32 := Scf.iv c0_i32_20 c1_i32 k0_t1
  let c128_i32 : BitVec 32 := 128#32
  let v30 : BitVec 32 := Scalar.muli arg10 c128_i32
  let v31 : BitVec 32 := v30
  let v32 : Index := Scalar.indexCast v31
  let c0_22 : Index := 0#32
  ![v32.toNat, 0]
def k0_mult2 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c128_i32_29 : BitVec 32 := 128#32
  let v49 : BitVec 32 := Scalar.muli arg10 c128_i32_29
  v49
def k0_mult3 (k0_t1 : Fin k0_t1_loop.trips) : BitVec 32 :=
  let c0_i32_20 : BitVec 32 := 0#32
  let c1_i32 : BitVec 32 := 1#32
  let arg10 : BitVec 32 := Scf.iv c0_i32_20 c1_i32 k0_t1
  let c128_i32_31 : BitVec 32 := 128#32
  let v55 : BitVec 32 := Scalar.muli arg10 c128_i32_31
  v55
def k0_cond2 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_19 : BitVec 32 := 0#32
  let v28 : BitVec 1 := Scalar.cmpi .ne v27 c0_i32_19
  v28

@[reducible] def k0_t2_loop : Scf.Loop 32 :=
  let c0_i32_20 : BitVec 32 := 0#32
  let c4_i32 : BitVec 32 := 4#32
  let v29 : BitVec 32 := Scalar.addi c0_i32_20 c4_i32
  let c1_i32 : BitVec 32 := 1#32
  ⟨c0_i32_20, v29, c1_i32⟩
def k0_mult4 (k0_t2 : Fin k0_t2_loop.trips) : BitVec 32 :=
  let c0_i32_20 : BitVec 32 := 0#32
  let c1_i32 : BitVec 32 := 1#32
  let arg10 : BitVec 32 := Scf.iv c0_i32_20 c1_i32 k0_t2
  let c128_i32 : BitVec 32 := 128#32
  let v30 : BitVec 32 := Scalar.muli arg10 c128_i32
  v30
def k0_off2 (k0_t2 : Fin k0_t2_loop.trips) : Fin 2 → Nat :=
  let c0_i32_20 : BitVec 32 := 0#32
  let c1_i32 : BitVec 32 := 1#32
  let arg10 : BitVec 32 := Scf.iv c0_i32_20 c1_i32 k0_t2
  let c128_i32 : BitVec 32 := 128#32
  let v30 : BitVec 32 := Scalar.muli arg10 c128_i32
  let v31 : BitVec 32 := v30
  let v32 : Index := Scalar.indexCast v31
  let c0_22 : Index := 0#32
  ![v32.toNat, 0]
def k0_mult5 (k0_t2 : Fin k0_t2_loop.trips) : BitVec 32 :=
  let c0_i32_20 : BitVec 32 := 0#32
  let c1_i32 : BitVec 32 := 1#32
  let arg10 : BitVec 32 := Scf.iv c0_i32_20 c1_i32 k0_t2
  let c128_i32_28 : BitVec 32 := 128#32
  let v49 : BitVec 32 := Scalar.muli arg10 c128_i32_28
  v49
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== NextRefIdeal.lean ====
abbrev S512x2048 : Shape := ⟨2, ![512, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S512 : Shape := ⟨1, ![512]⟩
abbrev S512x1 : Shape := ⟨2, ![512, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S512x5632 : Shape := ⟨2, ![512, 5632]⟩

abbrev nBuf : Space → Nat
  | .hbm => 63
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S512x2048, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x2048, .f32⟩
  | .hbm, ⟨20, _⟩ => ⟨S512x2048, .f32⟩
  | .hbm, ⟨21, _⟩ => ⟨S1x2048, .f32⟩
  | .hbm, ⟨22, _⟩ => ⟨S512x2048, .f32⟩
  | .hbm, ⟨23, _⟩ => ⟨S512x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S512x5632, .f32⟩
  | .hbm, ⟨31, _⟩ => ⟨S512x5632, .f32⟩
  | .hbm, ⟨32, _⟩ => ⟨S512x5632, .f32⟩
  | .hbm, ⟨33, _⟩ => ⟨S_, .f32⟩
  | .hbm, ⟨34, _⟩ => ⟨S512x5632, .f32⟩
  | .hbm, ⟨35, _⟩ => ⟨S512x5632, .f32⟩
  | .hbm, ⟨36, _⟩ => ⟨S_, .f32⟩
  | .hbm, ⟨37, _⟩ => ⟨S512x5632, .f32⟩
  | .hbm, ⟨38, _⟩ => ⟨S512x5632, .f32⟩
  | .hbm, ⟨39, _⟩ => ⟨S512x5632, .f32⟩
  | .hbm, ⟨40, _⟩ => ⟨S512x5632, .f32⟩
  | .hbm, ⟨41, _⟩ => ⟨S512x5632, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S512x2048, .f32⟩
  | .hbm, ⟨48, _⟩ => ⟨S_, .f32⟩
  | .hbm, ⟨49, _⟩ => ⟨S512, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x1, .f32⟩
  | .hbm, ⟨58, _⟩ => ⟨S512x2048, .f32⟩
  | .hbm, ⟨59, _⟩ => ⟨S512x2048, .f32⟩
  | .hbm, ⟨60, _⟩ => ⟨S1x2048, .f32⟩
  | .hbm, ⟨61, _⟩ => ⟨S512x2048, .f32⟩
  | .hbm, ⟨62, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== State.lean ====
abbrev S8x64x8192 : Shape := ⟨3, ![8, 64, 8192]⟩
abbrev S2x2048 : Shape := ⟨2, ![2, 2048]⟩
abbrev S2x128 : Shape := ⟨2, ![2, 128]⟩
abbrev S2x8x16x128x128 : Shape := ⟨5, ![2, 8, 16, 128, 128]⟩
abbrev S5x64x64 : Shape := ⟨3, ![5, 64, 64]⟩
abbrev S1x128 : Shape := ⟨2, ![1, 128]⟩
abbrev S128 : Shape := ⟨1, ![128]⟩
abbrev S1x8x16x128x128 : Shape := ⟨5, ![1, 8, 16, 128, 128]⟩
abbrev S8x16x128x128 : Shape := ⟨4, ![8, 16, 128, 128]⟩
abbrev S8x64x2048 : Shape := ⟨3, ![8, 64, 2048]⟩
abbrev S1x64x2048 : Shape := ⟨3, ![1, 64, 2048]⟩
abbrev S1x16x128x128 : Shape := ⟨4, ![1, 16, 128, 128]⟩
abbrev S1x2048 : Shape := ⟨2, ![1, 2048]⟩
abbrev S64x1 : Shape := ⟨2, ![64, 1]⟩
abbrev S1x1x128x128 : Shape := ⟨4, ![1, 1, 128, 128]⟩
abbrev S128x128 : Shape := ⟨2, ![128, 128]⟩
abbrev S64x2048 : Shape := ⟨2, ![64, 2048]⟩
abbrev S8x1 : Shape := ⟨2, ![8, 1]⟩
abbrev S8x2048 : Shape := ⟨2, ![8, 2048]⟩
abbrev S56x2048 : Shape := ⟨2, ![56, 2048]⟩
abbrev S16x2048 : Shape := ⟨2, ![16, 2048]⟩
abbrev S48x2048 : Shape := ⟨2, ![48, 2048]⟩
abbrev S32x2048 : Shape := ⟨2, ![32, 2048]⟩
abbrev S8x8x2048 : Shape := ⟨3, ![8, 8, 2048]⟩
abbrev S8x1x2048 : Shape := ⟨3, ![8, 1, 2048]⟩
abbrev S64x128 : Shape := ⟨2, ![64, 128]⟩
abbrev S64x64 : Shape := ⟨2, ![64, 64]⟩
abbrev S8x64 : Shape := ⟨2, ![8, 64]⟩
abbrev S1x8x64 : Shape := ⟨3, ![1, 8, 64]⟩
abbrev S64 : Shape := ⟨1, ![64]⟩
abbrev S1x64x128 : Shape := ⟨3, ![1, 64, 128]⟩

abbrev nBuf : Space → Nat
  | .hbm => 13
  | .vmem => 17
  | .smem => 0
  | _ => 0

abbrev bufTy : (tb : Table) → Fin (tcTables nBuf tb) → BufTy
  | .hbm, ⟨0, _⟩ => ⟨S8x64x8192, .f32⟩
  | .hbm, ⟨1, _⟩ => ⟨S2x2048, .f32⟩
  | .hbm, ⟨2, _⟩ => ⟨S2x128, .f32⟩
  | .hbm, ⟨3, _⟩ => ⟨S2x8x16x128x128, .f32⟩
  | .hbm, ⟨4, _⟩ => ⟨S5x64x64, .f32⟩
  | .hbm, ⟨5, _⟩ => ⟨S1x128, .f32⟩
  | .hbm, ⟨6, _⟩ => ⟨S128, .f32⟩
  | .hbm, ⟨7, _⟩ => ⟨S1x8x16x128x128, .f32⟩
  | .hbm, ⟨8, _⟩ => ⟨S8x16x128x128, .f32⟩
  | .hbm, ⟨9, _⟩ => ⟨S8x16x128x128, .f32⟩
  | .hbm, ⟨10, _⟩ => ⟨S1x128, .f32⟩
  | .hbm, ⟨11, _⟩ => ⟨S8x64x2048, .bf16⟩
  | .hbm, ⟨12, _⟩ => ⟨S8x16x128x128, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S2x2048, .f32⟩
  | .local _ .vmem, ⟨9, _⟩ => ⟨S1x128, .f32⟩
  | .local _ .vmem, ⟨10, _⟩ => ⟨S1x16x128x128, .f32⟩
  | .local _ .vmem, ⟨11, _⟩ => ⟨S1x16x128x128, .f32⟩
  | .local _ .vmem, ⟨12, _⟩ => ⟨S5x64x64, .f32⟩
  | .local _ .vmem, ⟨13, _⟩ => ⟨S1x64x2048, .bf16⟩
  | .local _ .vmem, ⟨14, _⟩ => ⟨S1x64x2048, .bf16⟩
  | .local _ .vmem, ⟨15, _⟩ => ⟨S1x16x128x128, .f32⟩
  | .local _ .vmem, ⟨16, _⟩ => ⟨S1x16x128x128, .f32⟩
  | _, _ => ⟨S8x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 1], ![false, false]⟩

def k0_mult1 : BitVec 32 :=
  let c0_i32_55 : BitVec 32 := 0#32
  c0_i32_55
def k0_mult2 : BitVec 32 :=
  let c0_i32_88 : BitVec 32 := 0#32
  c0_i32_88
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S5x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== StateIdeal.lean ====
variable {F : FTy → Type} [FloatOps F] [Named F]
def κ : String → Option EReal := fun
  | "log2e" => some (((Real.log 2)⁻¹ : ℝ) : EReal)
  | _ => none
-- ==== StateRefIdeal.lean ====
abbrev S8x64x8192 : Shape := ⟨3, ![8, 64, 8192]⟩
abbrev S2x2048 : Shape := ⟨2, ![2, 2048]⟩
abbrev S2x128 : Shape := ⟨2, ![2, 128]⟩
abbrev S2x8x16x128x128 : Shape := ⟨5, ![2, 8, 16, 128, 128]⟩
abbrev S_ : Shape := ⟨0, ![]⟩
abbrev S2048 : Shape := ⟨1, ![2048]⟩
abbrev S1x2048 : Shape := ⟨2, ![1, 2048]⟩
abbrev S8x64x2048 : Shape := ⟨3, ![8, 64, 2048]⟩
abbrev S1x1x2048 : Shape := ⟨3, ![1, 1, 2048]⟩
abbrev S8x64x16x128 : Shape := ⟨4, ![8, 64, 16, 128]⟩
abbrev S8x16x64x128 : Shape := ⟨4, ![8, 16, 64, 128]⟩
abbrev S8x16x1x128 : Shape := ⟨4, ![8, 16, 1, 128]⟩
abbrev S8x16x128 : Shape := ⟨3, ![8, 16, 128]⟩
abbrev S8x16x128x1 : Shape := ⟨4, ![8, 16, 128, 1]⟩
abbrev S1x8x16x128x128 : Shape := ⟨5, ![1, 8, 16, 128, 128]⟩
abbrev S8x16x128x128 : Shape := ⟨4, ![8, 16, 128, 128]⟩

abbrev nBuf : Space → Nat
  | .hbm => 88
  | .vmem => 0
  | .smem => 0
  | _ => 0

abbrev bufTy : (tb : Table) → Fin (tcTables nBuf tb) → BufTy
  | .hbm, ⟨0, _⟩ => ⟨S8x64x8192, .f32⟩
  | .hbm, ⟨1, _⟩ => ⟨S2x2048, .f32⟩
  | .hbm, ⟨2, _⟩ => ⟨S2x128, .f32⟩
  | .hbm, ⟨3, _⟩ => ⟨S2x8x16x128x128, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2x2048, .f32⟩
  | .hbm, ⟨25, _⟩ => ⟨S2x2048, .f32⟩
  | .hbm, ⟨26, _⟩ => ⟨S1x2048, .f32⟩
  | .hbm, ⟨27, _⟩ => ⟨S2048, .f32⟩
  | .hbm, ⟨28, _⟩ => ⟨S8x64x2048, .f32⟩
  | .hbm, ⟨29, _⟩ => ⟨S8x64x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S8x64x2048, .f32⟩
  | .hbm, ⟨34, _⟩ => ⟨S8x64x2048, .f32⟩
  | .hbm, ⟨35, _⟩ => ⟨S_, .f32⟩
  | .hbm, ⟨36, _⟩ => ⟨S8x64x2048, .f32⟩
  | .hbm, ⟨37, _⟩ => ⟨S8x64x2048, .f32⟩
  | .hbm, ⟨38, _⟩ => ⟨S_, .f32⟩
  | .hbm, ⟨39, _⟩ => ⟨S8x64x2048, .f32⟩
  | .hbm, ⟨40, _⟩ => ⟨S8x64x2048, .f32⟩
  | .hbm, ⟨41, _⟩ => ⟨S1x1x2048, .f32⟩
  | .hbm, ⟨42, _⟩ => ⟨S8x64x2048, .f32⟩
  | .hbm, ⟨43, _⟩ => ⟨S8x64x2048, .f32⟩
  | .hbm, ⟨44, _⟩ => ⟨S1x1x2048, .f32⟩
  | .hbm, ⟨45, _⟩ => ⟨S8x64x2048, .f32⟩
  | .hbm, ⟨46, _⟩ => ⟨S8x64x2048, .f32⟩
  | .hbm, ⟨47, _⟩ => ⟨S8x64x2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S8x64x2048, .f32⟩
  | .hbm, ⟨52, _⟩ => ⟨S8x64x2048, .f32⟩
  | .hbm, ⟨53, _⟩ => ⟨S8x64x2048, .f32⟩
  | .hbm, ⟨54, _⟩ => ⟨S_, .f32⟩
  | .hbm, ⟨55, _⟩ => ⟨S8x64x2048, .f32⟩
  | .hbm, ⟨56, _⟩ => ⟨S8x64x2048, .f32⟩
  | .hbm, ⟨57, _⟩ => ⟨S_, .f32⟩
  | .hbm, ⟨58, _⟩ => ⟨S8x64x2048, .f32⟩
  | .hbm, ⟨59, _⟩ => ⟨S8x64x2048, .f32⟩
  | .hbm, ⟨60, _⟩ => ⟨S1x1x2048, .f32⟩
  | .hbm, ⟨61, _⟩ => ⟨S8x64x2048, .f32⟩
  | .hbm, ⟨62, _⟩ => ⟨S8x64x2048, .f32⟩
  | .hbm, ⟨63, _⟩ => ⟨S8x64x16x128, .f32⟩
  | .hbm, ⟨64, _⟩ => ⟨S8x16x64x128, .f32⟩
  | .hbm, ⟨65, _⟩ => ⟨S8x64x16x128, .f32⟩
  | .hbm, ⟨66, _⟩ => ⟨S8x16x64x128, .f32⟩
  | .hbm, ⟨67, _⟩ => ⟨S8x64x16x128, .f32⟩
  | .hbm, ⟨68, _⟩ => ⟨S8x16x64x128, .f32⟩
  | .hbm, ⟨69, _⟩ => ⟨S_, .f32⟩
  | .hbm, ⟨70, _⟩ => ⟨S_, .f32⟩
  | .hbm, ⟨71, _⟩ => ⟨S8x16x64x128, .f32⟩
  | .hbm, ⟨72, _⟩ => ⟨S8x16x1x128, .f32⟩
  | .hbm, ⟨73, _⟩ => ⟨S8x16x128, .f32⟩
  | .hbm, ⟨74, _⟩ => ⟨S8x16x128, .f32⟩
  | .hbm, ⟨75, _⟩ => ⟨S8x16x128x1, .f32⟩
  | .hbm, ⟨76, _⟩ => ⟨S1x8x16x128x128, .f32⟩
  | .hbm, ⟨77, _⟩ => ⟨S8x16x128x128, .f32⟩
  | .hbm, ⟨78, _⟩ => ⟨S8x16x128x128, .f32⟩
  | .hbm, ⟨79, _⟩ => ⟨S8x16x128x128, .f32⟩
  | .hbm, ⟨80, _⟩ => ⟨S8x16x1x128, .f32⟩
  | .hbm, ⟨81, _⟩ => ⟨S8x16x64x128, .f32⟩
  | .hbm, ⟨82, _⟩ => ⟨S8x16x64x128, .f32⟩
  | .hbm, ⟨83, _⟩ => ⟨S8x16x64x128, .f32⟩
  | .hbm, ⟨84, _⟩ => ⟨S8x16x64x128, .f32⟩
  | .hbm, ⟨85, _⟩ => ⟨S8x16x128x128, .f32⟩
  | .hbm, ⟨86, _⟩ => ⟨S8x16x128x128, .f32⟩
  | .hbm, ⟨87, _⟩ => ⟨S8x16x128x128, .f32⟩
  | _, _ => ⟨S8x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_call0_cst : Ref sig .tc := ⟨.hbm, 69, rfl⟩
abbrev main_call1_call0_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Proof.Softmax.lean ====
module

public import Idealize.ShloMosaic.PureOps.Ideal.Laws
public import Mathlib.Analysis.SpecialFunctions.Pow.Real

/-!
The arithmetic of a softmax that is taken tile by tile, for one row and one column of the values, over the extended
reals. Nothing here mentions a program.
-/

@[expose] public section

noncomputable section

open Idealize.ShloMosaic

namespace Cert.Softmax

/-- The weight of a key with score `x` before normalisation: `2 ^ (x * c)`, and 0 for a masked key. -/
def wt (c : ℝ) (x : EReal) : ℝ := if x = ⊥ then 0 else Real.rpow 2 (x.toReal * c)

/-- A weight is not negative. -/
theorem wt_nonneg (c : ℝ) (x : EReal) : 0 ≤ wt c x := by
  unfold wt
  split
  · exact le_rfl
  · exact Real.rpow_nonneg (by norm_num) _

/-- A key that is not masked has a positive weight. -/
theorem wt_pos (c : ℝ) {x : EReal} (h : x ≠ ⊥) : 0 < wt c x := by
  unfold wt
  rw [if_neg h]
  exact Real.rpow_pos_of_pos (by norm_num) _

/-- The coercion of the reals into the extended reals commutes with a finite sum. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The exponential of a score less a real reference is the weight, rescaled by the reference. -/
theorem exp2_sub {c : ℝ} (hc : 0 < c) {x : EReal} (hx : x ≠ ⊤) (M : ℝ) :
    Ideal.exp2 ((x - (M : EReal)) * (c : EReal)) = ((Real.rpow 2 (-(M * c)) * wt c x : ℝ) : EReal) := by
  induction x using EReal.rec with
  | bot =>
    rw [EReal.bot_sub, EReal.bot_mul_coe_of_pos hc, Ideal.exp2_bot]
    simp [wt]
  | top => exact absurd rfl hx
  | coe x =>
    rw [← EReal.coe_sub, ← EReal.coe_mul, Ideal.exp2_coe]
    congr 1
    unfold wt
    rw [if_neg (EReal.coe_ne_bot x), EReal.toReal_coe]
    have h := Real.rpow_add (by norm_num : (0 : ℝ) < 2) (-(M * c)) (x * c)
    rw [show (x - M) * c = -(M * c) + x * c by ring]
    exact h

/-- The greatest of a tile's scores. -/
def top {n : ℕ} (s : Fin n → EReal) : EReal := Finset.univ.fold max ⊥ s

/-- The greatest of scores none of which is infinite is not infinite. -/
theorem top_ne_top {n : ℕ} (s : Fin n → EReal) (h : ∀ k, s k ≠ ⊤) : top s ≠ ⊤ := by
  unfold top
  refine ne_of_lt (Finset.fold_max_lt _ |>.2 ⟨bot_lt_top, fun k _ => lt_top_iff_ne_top.2 (h k)⟩)

/-- The greatest of scores one of which is not masked is not masked. -/
theorem top_ne_bot {n : ℕ} (s : Fin n → EReal) (k : Fin n) (h : s k ≠ ⊥) : top s ≠ ⊥ := by
  unfold top
  refine ne_of_gt (lt_of_lt_of_le (bot_lt_iff_ne_bot.2 h) ?_)
  exact (Finset.le_fold_max _).2 (Or.inr ⟨k, Finset.mem_univ k, le_rfl⟩)

/-- What the running maximum `m`, the running sum `l` and the running value `a` are after the first `N` keys: the sum
and the value of the weights, rescaled by one real reference. -/
def Inv (c : ℝ) (S : ℕ → EReal) (V : ℕ → ℝ) (N : ℕ) (m l a : EReal) : Prop :=
  ∃ M : ℝ, m = (M : EReal) ∧
    l = ((Real.rpow 2 (-(M * c)) * ∑ k ∈ Finset.range N, wt c (S k) : ℝ) : EReal) ∧
    a = ((Real.rpow 2 (-(M * c)) * ∑ k ∈ Finset.range N, wt c (S k) * V k : ℝ) : EReal)

/-- The sum of a tile's rescaled weights. -/
theorem tile_sum {c : ℝ} (hc : 0 < c) {n : ℕ} (s : Fin n → EReal) (S : ℕ → EReal) (N : ℕ)
    (hs : ∀ k : Fin n, s k = S (N + k)) (hS : ∀ k, S k ≠ ⊤) (M : ℝ) :
    ∑ k : Fin n, Ideal.exp2 ((s k - (M : EReal)) * (c : EReal))
      = ((Real.rpow 2 (-(M * c)) * ∑ k ∈ Finset.range n, wt c (S (N + k)) : ℝ) : EReal) := by
  rw [Finset.mul_sum, coe_sum, Finset.sum_range]
  refine Finset.sum_congr rfl fun k _ => ?_
  rw [hs k, exp2_sub hc (hS _)]

/-- The sum of a tile's rescaled weights times its values. -/
theorem tile_value {c : ℝ} (hc : 0 < c) {n : ℕ} (s v : Fin n → EReal) (S : ℕ → EReal) (V : ℕ → ℝ) (N : ℕ)
    (hs : ∀ k : Fin n, s k = S (N + k)) (hv : ∀ k : Fin n, v k = (V (N + k) : EReal)) (hS : ∀ k, S k ≠ ⊤) (M : ℝ) :
    ∑ k : Fin n, Ideal.exp2 ((s k - (M : EReal)) * (c : EReal)) * v k
      = ((Real.rpow 2 (-(M * c)) * ∑ k ∈ Finset.range n, wt c (S (N + k)) * V (N + k) : ℝ) : EReal) := by
  rw [Finset.mul_sum, coe_sum, Finset.sum_range]
  refine Finset.sum_congr rfl fun k _ => ?_
  rw [hs k, exp2_sub hc (hS _), hv k, ← EReal.coe_mul]
  congr 1
  ring

/-- The first tile. -/
theorem Inv.start {c : ℝ} (hc : 0 < c) {n : ℕ} (s v : Fin n → EReal) (S : ℕ → EReal) (V : ℕ → ℝ)
    (hs : ∀ k : Fin n, s k = S k) (hv : ∀ k : Fin n, v k = (V k : EReal)) (hS : ∀ k, S k ≠ ⊤)
    (h0 : 0 < n) (hb : S 0 ≠ ⊥) :
    Inv c S V n (top s) (∑ k : Fin n, Ideal.exp2 ((s k - top s) * (c : EReal)))
      (∑ k : Fin n, Ideal.exp2 ((s k - top s) * (c : EReal)) * v k) := by
  have ht : top s ≠ ⊤ := top_ne_top s fun k => by rw [hs k]; exact hS _
  have hb' : top s ≠ ⊥ := top_ne_bot s ⟨0, h0⟩ (by rw [hs]; exact hb)
  obtain ⟨M, hM⟩ : ∃ M : ℝ, top s = (M : EReal) := ⟨(top s).toReal, (EReal.coe_toReal ht hb').symm⟩
  refine ⟨M, hM, ?_, ?_⟩
  · rw [hM, tile_sum hc s S 0 (fun k => by rw [hs k, Nat.zero_add]) hS M]
    simp only [Nat.zero_add]
  · rw [hM, tile_value hc s v S V 0 (fun k => by rw [hs k, Nat.zero_add]) (fun k => by rw [hv k, Nat.zero_add]) hS M]
    simp only [Nat.zero_add]

/-- A further tile: the sum and the value so far are rescaled to the new reference. -/
theorem Inv.step {c : ℝ} (hc : 0 < c) {n N : ℕ} (s v : Fin n → EReal) (S : ℕ → EReal) (V : ℕ → ℝ) {m l a : EReal}
    (h : Inv c S V N m l a) (hs : ∀ k : Fin n, s k = S (N + k)) (hv : ∀ k : Fin n, v k = (V (N + k) : EReal))
    (hS : ∀ k, S k ≠ ⊤) :
    Inv c S V (N + n) (max m (top s))
      (Ideal.exp2 ((m - max m (top s)) * (c : EReal)) * l
        + ∑ k : Fin n, Ideal.exp2 ((s k - max m (top s)) * (c : EReal)))
      (Ideal.exp2 ((m - max m (top s)) * (c : EReal)) * a
        + ∑ k : Fin n, Ideal.exp2 ((s k - max m (top s)) * (c : EReal)) * v k) := by
  obtain ⟨M, rfl, rfl, rfl⟩ := h
  have ht : top s ≠ ⊤ := top_ne_top s fun k => by rw [hs k]; exact hS _
  have h1 : max (M : EReal) (top s) ≠ ⊤ := by
    rcases max_choice (M : EReal) (top s) with h | h <;> rw [h]
    · exact EReal.coe_ne_top M
    · exact ht
  have h2 : max (M : EReal) (top s) ≠ ⊥ :=
    ne_of_gt (lt_of_lt_of_le (EReal.bot_lt_coe M) (le_max_left _ _))
  obtain ⟨M', hM⟩ : ∃ M' : ℝ, max (M : EReal) (top s) = (M' : EReal) :=
    ⟨(max (M : EReal) (top s)).toReal, (EReal.coe_toReal h1 h2).symm⟩
  have he : Ideal.exp2 (((M : EReal) - (M' : EReal)) * (c : EReal)) = ((Real.rpow 2 ((M - M') * c) : ℝ) : EReal) := by
    rw [← EReal.coe_sub, ← EReal.coe_mul, Ideal.exp2_coe]
  have hr : Real.rpow 2 ((M - M') * c) * Real.rpow 2 (-(M * c)) = Real.rpow 2 (-(M' * c)) := by
    have h := Real.rpow_add (by norm_num : (0 : ℝ) < 2) ((M - M') * c) (-(M * c))
    rw [show -(M' * c) = (M - M') * c + -(M * c) by ring]
    exact h.symm
  refine ⟨M', hM, ?_, ?_⟩
  · rw [hM, he, tile_sum hc s S N hs hS M', ← EReal.coe_mul, ← EReal.coe_add]
    congr 1
    rw [← mul_assoc, hr, Finset.sum_range_add, ← mul_add]
  · rw [hM, he, tile_value hc s v S V N hs hv hS M', ← EReal.coe_mul, ← EReal.coe_add]
    congr 1
    rw [← mul_assoc, hr, Finset.sum_range_add, ← mul_add]

/-- The weights of keys among which the first is not masked have a positive sum. -/
theorem sum_pos (c : ℝ) (S : ℕ → EReal) {N : ℕ} (hN : 0 < N) (hb : S 0 ≠ ⊥) :
    0 < ∑ k ∈ Finset.range N, wt c (S k) :=
  Finset.sum_pos' (fun k _ => wt_nonneg c (S k)) ⟨0, Finset.mem_range.2 hN, wt_pos c hb⟩

/-- The value divided by the sum no longer depends on the reference. -/
theorem Inv.out {c : ℝ} {N : ℕ} {S : ℕ → EReal} {V : ℕ → ℝ} {m l a : EReal}
    (h : Inv c S V N m l a) (hN : 0 < N) (hb : S 0 ≠ ⊥) :
    a * Ideal.div 1 l = (((∑ k ∈ Finset.range N, wt c (S k) * V k) / ∑ k ∈ Finset.range N, wt c (S k) : ℝ) : EReal) := by
  obtain ⟨M, rfl, rfl, rfl⟩ := h
  have hL := sum_pos c S hN hb
  have hE : 0 < Real.rpow 2 (-(M * c)) := Real.rpow_pos_of_pos (by norm_num) _
  rw [Ideal.div_coe (mul_pos hE hL).ne', one_mul, ← EReal.coe_mul]
  congr 1
  field_simp

/-- Keys that are all masked from `N` on add nothing. -/
theorem sum_masked (c : ℝ) (S : ℕ → EReal) (V : ℕ → ℝ) {N K : ℕ} (hNK : N ≤ K) (h : ∀ k, N ≤ k → S k = ⊥) :
    ∑ k ∈ Finset.range K, wt c (S k) * V k = ∑ k ∈ Finset.range N, wt c (S k) * V k := by
  refine (Finset.sum_subset (Finset.range_mono hNK) fun k _ hk => ?_).symm
  rw [h k (by simpa using hk)]
  simp [wt]

/-- The scale of the base-two exponential, against the reference's division by the root of the query's width. -/
theorem wt_eq_exp {r : ℝ} (x : ℝ) (hr : 0 < r) :
    wt (r⁻¹ * (Real.log 2)⁻¹) (x : EReal) = Real.exp (x / r) := by
  unfold wt
  rw [if_neg (EReal.coe_ne_bot x), EReal.toReal_coe]
  show (2 : ℝ) ^ (x * (r⁻¹ * (Real.log 2)⁻¹)) = _
  rw [Real.rpow_def_of_pos (by norm_num)]
  congr 1
  have h2 : Real.log 2 ≠ 0 := (Real.log_pos (by norm_num)).ne'
  field_simp

/-- A softmax taken at once, less any real reference: the sum over the keys of the normalised weights times the
values. -/
theorem whole {n : ℕ} (z : Fin n → EReal) (v : Fin n → EReal) (w V : Fin n → ℝ) (g : ℝ) (hw : 0 < ∑ k, w k) (hg : 0 < g)
    (hz : ∀ k, z k = ((g * w k : ℝ) : EReal)) (hv : ∀ k, v k = (V k : EReal)) :
    ∑ k, v k * Ideal.div (z k) (0 + ∑ j, z j) = (((∑ k, w k * V k) / ∑ k, w k : ℝ) : EReal) := by
  have hs : (0 : EReal) + ∑ j, z j = ((g * ∑ j, w j : ℝ) : EReal) := by
    rw [zero_add, Finset.mul_sum, coe_sum]
    exact Finset.sum_congr rfl fun j _ => hz j
  rw [hs, Finset.sum_div, coe_sum]
  refine Finset.sum_congr rfl fun k _ => ?_
  rw [Ideal.div_coe (mul_pos hg hw).ne', hz, hv, ← EReal.coe_mul, ← EReal.coe_mul]
  congr 1
  field_simp

end Cert.Softmax
-- ==== Proof.Tiles.lean ====
module

public import proofs.«01_k».proof.Proof.Gen.AttnIdeal.Skeleton
public import proofs.«01_k».proof.Proof.Softmax
public import Idealize.ShloMosaic.Lib.Pointwise

/-!
The steps the prompt's attention kernel takes on one block of queries, as functions of whole blocks, and what each does
to one row of scores and one column of values.
-/

@[expose] public section

set_option maxRecDepth 16384

noncomputable section

open Idealize.ShloMosaic Idealize.ShloMosaic.TcCoe Idealize.SL.Sem

namespace Cert.AttnIdeal.Tiles

open Cert.AttnIdeal Cert.AttnIdeal.Gen

/-- The scale of the scores, in the base-two exponential. -/
def cc : ℝ := (Real.sqrt 192)⁻¹ * (Real.log 2)⁻¹

/-- The scale is positive. -/
theorem cc_pos : 0 < cc := by
  unfold cc
  have h1 : 0 < Real.sqrt 192 := Real.sqrt_pos.2 (by norm_num)
  have h2 : 0 < Real.log 2 := Real.log_pos (by norm_num)
  positivity

/-- The named scale denotes that number. -/
theorem named_scale : Named.named (F := Ideal) κ "scale_log2e" (φ := .f32) 0x3DD53B95#32 = ((cc : ℝ) : EReal) :=
  IdealRules.named_const.ideal_named_scalar _ _ _ _ rfl

/-- The named mask denotes minus infinity. -/
theorem named_mask : Named.named (F := Ideal) κ "mask" (φ := .f32) 0xF149F2CA#32 = (⊥ : EReal) :=
  IdealRules.named_const.ideal_named_scalar _ _ _ _ rfl

/-- The scores of 512 keys. -/
def scoreF (q : FVec Ideal S1024x576 .bf16) (k : FVec Ideal S1x512x576 .bf16) : FVec Ideal S1024x512 .f32 :=
  matmul dot_S1024x576_S512x576_S1024x512_1_1_0_0_n_n none q (shapeCast S512x576 k shapeCasts_S1x512x576_S512x576)
    (constant S1024x512 .f32 0x00000000#32)

/-- The scores of 256 keys. -/
def scoreH (q : FVec Ideal S1024x576 .bf16) (k : FVec Ideal S1x256x576 .bf16) : FVec Ideal S1024x256 .f32 :=
  matmul dot_S1024x576_S256x576_S1024x256_1_1_0_0_n_n none q (shapeCast S256x576 k shapeCasts_S1x256x576_S256x576)
    (constant S1024x256 .f32 0x00000000#32)

/-- The scores of 512 keys from key `b` on, the keys at and past the row's limit masked. -/
def maskF (b : BitVec 32) (lim : IVec S1024x1 32) (s : FVec Ideal S1024x512 .f32) : FVec Ideal S1024x512 .f32 :=
  select (cmpi .slt (broadcastTo S1024x512 (addi (broadcast S1x512 b) (iota .tc S1x512 32 [1] iota_S1x512_d1_w32))
      broadcasts_S1x512_S1024x512) (broadcastTo S1024x512 lim broadcasts_S1024x1_S1024x512)) s
    (broadcast S1024x512 (Named.named (F := Ideal) κ "mask" (φ := .f32) 0xF149F2CA#32))

/-- The scores of 256 keys from key `b` on, the keys at and past the row's limit masked. -/
def maskH (b : BitVec 32) (lim : IVec S1024x1 32) (s : FVec Ideal S1024x256 .f32) : FVec Ideal S1024x256 .f32 :=
  select (cmpi .slt (broadcastTo S1024x256 (addi (broadcast S1x256 b) (iota .tc S1x256 32 [1] iota_S1x256_d1_w32))
      broadcasts_S1x256_S1024x256) (broadcastTo S1024x256 lim broadcasts_S1024x1_S1024x256)) s
    (broadcast S1024x256 (Named.named (F := Ideal) κ "mask" (φ := .f32) 0xF149F2CA#32))

/-- The greatest score of each row. -/
def topF (s : FVec Ideal S1024x512 .f32) : FVec Ideal S1024x1 .f32 :=
  shapeCast S1024x1 (multiReduction .maximumf [1] S1024 s 0xFF800000#32 reduces_S1024x512_S1024 (.inl rfl) rfl)
    shapeCasts_S1024_S1024x1

/-- The greatest score of each row. -/
def topH (s : FVec Ideal S1024x256 .f32) : FVec Ideal S1024x1 .f32 :=
  shapeCast S1024x1 (multiReduction .maximumf [1] S1024 s 0xFF800000#32 reduces_S1024x256_S1024 (.inl rfl) rfl)
    shapeCasts_S1024_S1024x1

/-- The exponentials of the scores less the reference `m`. -/
def expF (s : FVec Ideal S1024x512 .f32) (m : FVec Ideal S1024x1 .f32) : FVec Ideal S1024x512 .f32 :=
  exp2 (mulf (subf s (broadcastTo S1024x512 m broadcasts_S1024x1_S1024x512))
    (broadcast S1024x512 (Named.named (F := Ideal) κ "scale_log2e" (φ := .f32) 0x3DD53B95#32)))

/-- The exponentials of the scores less the reference `m`. -/
def expH (s : FVec Ideal S1024x256 .f32) (m : FVec Ideal S1024x1 .f32) : FVec Ideal S1024x256 .f32 :=
  exp2 (mulf (subf s (broadcastTo S1024x256 m broadcasts_S1024x1_S1024x256))
    (broadcast S1024x256 (Named.named (F := Ideal) κ "scale_log2e" (φ := .f32) 0x3DD53B95#32)))

/-- The sum of each row's exponentials. -/
def sumF (p : FVec Ideal S1024x512 .f32) : FVec Ideal S1024x1 .f32 :=
  shapeCast S1024x1 (multiReduction .add [1] S1024 p 0x00000000#32 reduces_S1024x512_S1024 (.inl rfl) rfl)
    shapeCasts_S1024_S1024x1

/-- The sum of each row's exponentials. -/
def sumH (p : FVec Ideal S1024x256 .f32) : FVec Ideal S1024x1 .f32 :=
  shapeCast S1024x1 (multiReduction .add [1] S1024 p 0x00000000#32 reduces_S1024x256_S1024 (.inl rfl) rfl)
    shapeCasts_S1024_S1024x1

/-- The exponentials times the values. -/
def valF (p : FVec Ideal S1024x512 .f32) (v : FVec Ideal S1x512x512 .bf16) : FVec Ideal S1024x512 .f32 :=
  matmul dot_S1024x512_S512x512_S1024x512_1_0_0_1_n_n none (truncf .bf16 p bitsLt_bf16_f32)
    (shapeCast S512x512 v shapeCasts_S1x512x512_S512x512) (constant S1024x512 .f32 0x00000000#32)

/-- The exponentials times the values. -/
def valH (p : FVec Ideal S1024x256 .f32) (v : FVec Ideal S1x256x512 .bf16) : FVec Ideal S1024x512 .f32 :=
  matmul dot_S1024x256_S256x512_S1024x512_1_0_0_1_n_n none (truncf .bf16 p bitsLt_bf16_f32)
    (shapeCast S256x512 v shapeCasts_S1x256x512_S256x512) (constant S1024x512 .f32 0x00000000#32)

/-- What is carried from tile to tile: the reference, the sum of the exponentials, their sum times the values. -/
structure St where
  m : FVec Ideal S1024x1 .f32
  l : FVec Ideal S1024x1 .f32
  a : FVec Ideal S1024x512 .f32

/-- The factor that moves a sum from the reference `m` to the reference `m'`. -/
def alpha (m m' : FVec Ideal S1024x1 .f32) : FVec Ideal S1024x1 .f32 :=
  exp2 (mulf (subf m m') (broadcast S1024x1 (Named.named (F := Ideal) κ "scale_log2e" (φ := .f32) 0x3DD53B95#32)))

/-- After a first tile of 512 keys. -/
def startF (s : FVec Ideal S1024x512 .f32) (v : FVec Ideal S1x512x512 .bf16) : St :=
  ⟨topF s, sumF (expF s (topF s)), valF (expF s (topF s)) v⟩

/-- After a first tile of 256 keys. -/
def startH (s : FVec Ideal S1024x256 .f32) (v : FVec Ideal S1x256x512 .bf16) : St :=
  ⟨topH s, sumH (expH s (topH s)), valH (expH s (topH s)) v⟩

/-- After a further tile of 512 keys. -/
def stepF (x : St) (s : FVec Ideal S1024x512 .f32) (v : FVec Ideal S1x512x512 .bf16) : St :=
  ⟨maximumf x.m (topF s),
    addf (mulf (alpha x.m (maximumf x.m (topF s))) x.l) (sumF (expF s (maximumf x.m (topF s)))),
    addf (mulf (broadcastTo S1024x512 (alpha x.m (maximumf x.m (topF s))) broadcasts_S1024x1_S1024x512) x.a)
      (valF (expF s (maximumf x.m (topF s))) v)⟩

/-- After a further tile of 256 keys. -/
def stepH (x : St) (s : FVec Ideal S1024x256 .f32) (v : FVec Ideal S1x256x512 .bf16) : St :=
  ⟨maximumf x.m (topH s),
    addf (mulf (alpha x.m (maximumf x.m (topH s))) x.l) (sumH (expH s (maximumf x.m (topH s)))),
    addf (mulf (broadcastTo S1024x512 (alpha x.m (maximumf x.m (topH s))) broadcasts_S1024x1_S1024x512) x.a)
      (valH (expH s (maximumf x.m (topH s))) v)⟩

/-- The values divided by the sum. -/
def out (x : St) : FVec Ideal S1024x512 .bf16 :=
  truncf .bf16 (mulf x.a (broadcastTo S1024x512
    (divf (broadcast S1024x1 (Scalar.ofBits (F := Ideal) .f32 0x3F800000#32)) x.l) broadcasts_S1024x1_S1024x512)) bitsLt_bf16_f32

/-- The rows of one head, through that head's slice of the value up-projection. -/
def up (off : Fin 2 → ℕ) (h : S1024x512.Slices off S128x512) (o : FVec Ideal S1024x512 .bf16)
    (w : FVec Ideal S1x512x128 .bf16) : FVec Ideal S1x128x128 .bf16 :=
  shapeCast S1x128x128 (truncf .bf16 (matmul dot_S128x512_S512x128_S128x128_1_0_0_1_n_n none
    (extractStridedSlice S128x512 off o h) (shapeCast S512x128 w shapeCasts_S1x512x128_S512x128)
    (constant S128x128 .f32 0x00000000#32)) bitsLt_bf16_f32) shapeCasts_S128x128_S1x128x128

/-! ## Read at an index -/

theorem scoreF_at (q : FVec Ideal S1024x576 .bf16) (k : FVec Ideal S1x512x576 .bf16) (r : Fin 1024) (j : Fin 512) :
    scoreF q k (ix2 r j) = ∑ e : Fin 576, q (ix2 r e) * k (ix3 0 j e) := by
  pointwise [scoreF]

theorem scoreH_at (q : FVec Ideal S1024x576 .bf16) (k : FVec Ideal S1x256x576 .bf16) (r : Fin 1024) (j : Fin 256) :
    scoreH q k (ix2 r j) = ∑ e : Fin 576, q (ix2 r e) * k (ix3 0 j e) := by
  pointwise [scoreH]

/-- The word a maximum starts from denotes minus infinity. -/
theorem word_bot : Ideal.ofBits FTy.f32 0xFF800000#32 = (⊥ : EReal) := by
  simp [Ideal.ofBits, Ideal.ieee]

theorem topF_at (s : FVec Ideal S1024x512 .f32) (r : Fin 1024) :
    topF s (ix2 r 0) = Softmax.top fun k : Fin 512 => s (ix2 r k) := by
  pointwise [topF, Softmax.top, word_bot]

theorem topH_at (s : FVec Ideal S1024x256 .f32) (r : Fin 1024) :
    topH s (ix2 r 0) = Softmax.top fun k : Fin 256 => s (ix2 r k) := by
  pointwise [topH, Softmax.top, word_bot]

theorem expF_at (s : FVec Ideal S1024x512 .f32) (m : FVec Ideal S1024x1 .f32) (r : Fin 1024) (k : Fin 512) :
    expF s m (ix2 r k) = Ideal.exp2 ((s (ix2 r k) - m (ix2 r 0)) * ((cc : ℝ) : EReal)) := by
  pointwise [expF, named_scale]
  rfl

theorem expH_at (s : FVec Ideal S1024x256 .f32) (m : FVec Ideal S1024x1 .f32) (r : Fin 1024) (k : Fin 256) :
    expH s m (ix2 r k) = Ideal.exp2 ((s (ix2 r k) - m (ix2 r 0)) * ((cc : ℝ) : EReal)) := by
  pointwise [expH, named_scale]
  rfl

theorem alpha_at (m m' : FVec Ideal S1024x1 .f32) (r : Fin 1024) :
    alpha m m' (ix2 r 0) = Ideal.exp2 ((m (ix2 r 0) - m' (ix2 r 0)) * ((cc : ℝ) : EReal)) := by
  pointwise [alpha, named_scale]
  rfl

theorem sumF_at (p : FVec Ideal S1024x512 .f32) (r : Fin 1024) :
    sumF p (ix2 r 0) = ∑ k : Fin 512, p (ix2 r k) := by
  pointwise [sumF]

theorem sumH_at (p : FVec Ideal S1024x256 .f32) (r : Fin 1024) :
    sumH p (ix2 r 0) = ∑ k : Fin 256, p (ix2 r k) := by
  pointwise [sumH]

theorem valF_at (p : FVec Ideal S1024x512 .f32) (v : FVec Ideal S1x512x512 .bf16) (r : Fin 1024) (d : Fin 512) :
    valF p v (ix2 r d) = ∑ k : Fin 512, p (ix2 r k) * v (ix3 0 k d) := by
  pointwise [valF]

theorem valH_at (p : FVec Ideal S1024x256 .f32) (v : FVec Ideal S1x256x512 .bf16) (r : Fin 1024) (d : Fin 512) :
    valH p v (ix2 r d) = ∑ k : Fin 256, p (ix2 r k) * v (ix3 0 k d) := by
  pointwise [valH]

/-- The comparison of a key's position with a row's limit, both below `2^31`, as words. -/
theorem slt_words (a b : ℕ) (ha : a < 4096) (hb : b < 4096) {α : Type} (x y : α) :
    Scalar.select (IntOp.cmpi CmpIPredicate.slt (BitVec.ofNat 32 a) (BitVec.ofNat 32 b)) x y = if a < b then x else y := by
  have h : IntOp.cmpi CmpIPredicate.slt (BitVec.ofNat 32 a) (BitVec.ofNat 32 b) = BitVec.ofBool (decide (a < b)) := by
    show BitVec.ofBool (BitVec.slt (BitVec.ofNat 32 a) (BitVec.ofNat 32 b)) = _
    congr 1
    have w : ∀ n : ℕ, n < 4096 → (BitVec.ofNat 32 n).toInt = n := fun n hn => by
      have e : (BitVec.ofNat 32 n).toNat = n := by rw [BitVec.toNat_ofNat]; omega
      rw [BitVec.toInt_eq_toNat_of_lt (by rw [e]; omega), e]
    rw [BitVec.slt, w a ha, w b hb]
    exact decide_eq_decide.mpr Int.ofNat_lt
  rw [h]
  by_cases hab : a < b
  · rw [if_pos hab, decide_eq_true hab]; rfl
  · rw [if_neg hab, decide_eq_false hab]; rfl

theorem maskF_at (n : ℕ) (hn : n < 2048) (lim : IVec S1024x1 32) (L : Fin 1024 → ℕ)
    (hL : ∀ r, lim (ix2 r 0) = BitVec.ofNat 32 (L r)) (hL' : ∀ r, L r < 4096)
    (s : FVec Ideal S1024x512 .f32) (r : Fin 1024) (k : Fin 512) :
    maskF (BitVec.ofNat 32 n) lim s (ix2 r k) = if n + k.val < L r then s (ix2 r k) else ⊥ := by
  pointwise [maskF, named_mask, hL]
  rw [← slt_words (n + k.val) (L r) (by omega) (hL' r), BitVec.ofNat_add]
  rfl

theorem maskH_at (n : ℕ) (hn : n < 2048) (lim : IVec S1024x1 32) (L : Fin 1024 → ℕ)
    (hL : ∀ r, lim (ix2 r 0) = BitVec.ofNat 32 (L r)) (hL' : ∀ r, L r < 4096)
    (s : FVec Ideal S1024x256 .f32) (r : Fin 1024) (k : Fin 256) :
    maskH (BitVec.ofNat 32 n) lim s (ix2 r k) = if n + k.val < L r then s (ix2 r k) else ⊥ := by
  pointwise [maskH, named_mask, hL]
  rw [← slt_words (n + k.val) (L r) (by omega) (hL' r), BitVec.ofNat_add]
  rfl

theorem out_at (x : St) (r : Fin 1024) (d : Fin 512) :
    out x (ix2 r d) = x.a (ix2 r d) * Ideal.div 1 (x.l (ix2 r 0)) := by
  pointwise [out]

/-! ## Rows -/

/-- The tile-by-tile invariant for every row of the block and every column of the values. -/
def Inv (S : Fin 1024 → ℕ → EReal) (V : Fin 512 → ℕ → ℝ) (N : ℕ) (x : St) : Prop :=
  ∀ (r : Fin 1024) (d : Fin 512),
    Softmax.Inv cc (S r) (V d) N (x.m (ix2 r 0)) (x.l (ix2 r 0)) (x.a (ix2 r d))

variable {S : Fin 1024 → ℕ → EReal} {V : Fin 512 → ℕ → ℝ} {N : ℕ}

theorem startF_inv (hS : ∀ r k, S r k ≠ ⊤) (hb : ∀ r, S r 0 ≠ ⊥) (s : FVec Ideal S1024x512 .f32)
    (v : FVec Ideal S1x512x512 .bf16) (hs : ∀ (r : Fin 1024) (k : Fin 512), s (ix2 r k) = S r k)
    (hv : ∀ (k d : Fin 512), v (ix3 0 k d) = (V d k : EReal)) : Inv S V 512 (startF s v) := by
  intro r d
  have h := Softmax.Inv.start cc_pos (fun k : Fin 512 => s (ix2 r k)) (fun k : Fin 512 => v (ix3 0 k d)) (S r) (V d)
    (fun k => hs r k) (fun k => hv k d) (hS r) (by norm_num) (hb r)
  simp only [startF, topF_at, sumF_at, valF_at, expF_at]
  exact h

theorem startH_inv (hS : ∀ r k, S r k ≠ ⊤) (hb : ∀ r, S r 0 ≠ ⊥) (s : FVec Ideal S1024x256 .f32)
    (v : FVec Ideal S1x256x512 .bf16) (hs : ∀ (r : Fin 1024) (k : Fin 256), s (ix2 r k) = S r k)
    (hv : ∀ (k : Fin 256) (d : Fin 512), v (ix3 0 k d) = (V d k : EReal)) : Inv S V 256 (startH s v) := by
  intro r d
  have h := Softmax.Inv.start cc_pos (fun k : Fin 256 => s (ix2 r k)) (fun k : Fin 256 => v (ix3 0 k d)) (S r) (V d)
    (fun k => hs r k) (fun k => hv k d) (hS r) (by norm_num) (hb r)
  simp only [startH, topH_at, sumH_at, valH_at, expH_at]
  exact h

theorem stepF_inv (hS : ∀ r k, S r k ≠ ⊤) {x : St} (h : Inv S V N x) (s : FVec Ideal S1024x512 .f32)
    (v : FVec Ideal S1x512x512 .bf16) (hs : ∀ (r : Fin 1024) (k : Fin 512), s (ix2 r k) = S r (N + k))
    (hv : ∀ (k d : Fin 512), v (ix3 0 k d) = (V d (N + k) : EReal)) : Inv S V (N + 512) (stepF x s v) := by
  intro r d
  have h := Softmax.Inv.step cc_pos (fun k : Fin 512 => s (ix2 r k)) (fun k : Fin 512 => v (ix3 0 k d)) (S r) (V d)
    (h r d) (fun k => hs r k) (fun k => hv k d) (hS r)
  have e : maximumf x.m (topF s) (ix2 r 0) = max (x.m (ix2 r 0)) (Softmax.top fun k : Fin 512 => s (ix2 r k)) := by
    rw [← topF_at]; rfl
  have e1 : (stepF x s v).l (ix2 r 0) = alpha x.m (maximumf x.m (topF s)) (ix2 r 0) * x.l (ix2 r 0)
      + sumF (expF s (maximumf x.m (topF s))) (ix2 r 0) := rfl
  have e2 : (stepF x s v).a (ix2 r d) = alpha x.m (maximumf x.m (topF s)) (ix2 r 0) * x.a (ix2 r d)
      + valF (expF s (maximumf x.m (topF s))) v (ix2 r d) := by
    pointwise [stepF]
  rw [e1, e2, alpha_at, sumF_at, valF_at, show (stepF x s v).m (ix2 r 0) = maximumf x.m (topF s) (ix2 r 0) from rfl]
  simp only [expF_at, e]
  exact h

theorem stepH_inv (hS : ∀ r k, S r k ≠ ⊤) {x : St} (h : Inv S V N x) (s : FVec Ideal S1024x256 .f32)
    (v : FVec Ideal S1x256x512 .bf16) (hs : ∀ (r : Fin 1024) (k : Fin 256), s (ix2 r k) = S r (N + k))
    (hv : ∀ (k : Fin 256) (d : Fin 512), v (ix3 0 k d) = (V d (N + k) : EReal)) : Inv S V (N + 256) (stepH x s v) := by
  intro r d
  have h := Softmax.Inv.step cc_pos (fun k : Fin 256 => s (ix2 r k)) (fun k : Fin 256 => v (ix3 0 k d)) (S r) (V d)
    (h r d) (fun k => hs r k) (fun k => hv k d) (hS r)
  have e : maximumf x.m (topH s) (ix2 r 0) = max (x.m (ix2 r 0)) (Softmax.top fun k : Fin 256 => s (ix2 r k)) := by
    rw [← topH_at]; rfl
  have e1 : (stepH x s v).l (ix2 r 0) = alpha x.m (maximumf x.m (topH s)) (ix2 r 0) * x.l (ix2 r 0)
      + sumH (expH s (maximumf x.m (topH s))) (ix2 r 0) := rfl
  have e2 : (stepH x s v).a (ix2 r d) = alpha x.m (maximumf x.m (topH s)) (ix2 r 0) * x.a (ix2 r d)
      + valH (expH s (maximumf x.m (topH s))) v (ix2 r d) := by
    pointwise [stepH]
  rw [e1, e2, alpha_at, sumH_at, valH_at, show (stepH x s v).m (ix2 r 0) = maximumf x.m (topH s) (ix2 r 0) from rfl]
  simp only [expH_at, e]
  exact h

/-- What one row and one column end with. -/
theorem out_inv {x : St} (h : Inv S V N x) (hN : 0 < N) (hb : ∀ r, S r 0 ≠ ⊥) (r : Fin 1024) (d : Fin 512) :
    out x (ix2 r d) = (((∑ k ∈ Finset.range N, Softmax.wt cc (S r k) * V d k)
      / ∑ k ∈ Finset.range N, Softmax.wt cc (S r k) : ℝ) : EReal) := by
  rw [out_at, (h r d).out hN (hb r)]

end Cert.AttnIdeal.Tiles
-- ==== Proof.Cases.lean ====
module

public import proofs.«01_k».proof.Proof.Gen.AttnIdeal.Value
public import proofs.«01_k».proof.Proof.Tiles
public import Idealize.ShloMosaic.Lib.Pipeline.ValueKit
public import Idealize.ShloMosaic.Lib.Pointwise

/-! The block a grid point writes, in each of the eight cases of the number of full tiles and the size of the last one:
the tiles of `Tiles.lean` in a row, divided by the sum, each head through its slice of the value up-projection. -/

@[expose] public section

set_option maxRecDepth 16384

noncomputable section

open Idealize.ShloMosaic Idealize.ShloMosaic.TcCoe Idealize.SL.Sem
open Idealize.ShloMosaic.Pipeline (Dat)

namespace Cert.AttnIdeal.Cases

open Cert.AttnIdeal Cert.AttnIdeal.Gen Cert.AttnIdeal.Value Cert.AttnIdeal.Tiles

variable (m : (ℓ : Loc nD τ sig) → Buf (Elt Ideal) ℓ)

/-- One head's rows through its slice of the up-projection, at an index. -/
theorem up_at (off : ℕ) (hs : S1024x512.Slices ![off, 0] S128x512) (o : FVec Ideal S1024x512 .bf16)
    (w : FVec Ideal S1x512x128 .bf16) (r : Fin 128) (e : Fin 128) (h : off + 128 ≤ 1024) :
    up ![off, 0] hs o w (ix3 0 r e) = ∑ d : Fin 512, o (ix2 ⟨off + r.val, by omega⟩ d) * w (ix3 0 d e) := by
  pointwise [up]

/-- The row of the block, of the head and the frame that the index `y` of the result names. -/
def row (y : S1x128x1024.Idx) : Fin 1024 :=
  ⟨(y 2).val / 128 * 128 + (y 1).val, by
    have h1 : (y 1).val < 128 := (y 1).isLt
    have h2 : (y 2).val < 1024 := (y 2).isLt
    omega⟩

/-- The head that the index `y` of the result names. -/
def head (y : S1x128x1024.Idx) : Fin 8 :=
  ⟨(y 2).val / 128, by
    have h2 : (y 2).val < 1024 := (y 2).isLt
    omega⟩

/-- The column of the head. -/
def col (y : S1x128x1024.Idx) : Fin 128 := ⟨(y 2).val % 128, Nat.mod_lt _ (by norm_num)⟩

/-- The rows `o` of the block through the value up-projections `W`, at an index of the result. -/
def through (o : FVec Ideal S1024x512 .bf16) (W : FVec Ideal S8x512x128 .bf16) (y : S1x128x1024.Idx) : EReal :=
  ∑ d : Fin 512, o (ix2 (row y) d) * W (ix3 (head y) d (col y))

/-- One piece of the result: the rows of head `n`, kept at columns `128n` to `128n + 127`. -/
theorem headPiece (n : ℕ) (hn : n < 8) (o : FVec Ideal S1024x512 .bf16) (W : FVec Ideal S8x512x128 .bf16)
    (hs : S1024x512.Slices ![128 * n, 0] S128x512) (hw : ∀ d, ![n, 0, 0] d + S1x512x128.size d ≤ S8x512x128.size d)
    (x : S1x128x128.Idx) (y : S1x128x1024.Idx) (h1 : (y 1).val = (x 1).val) (h2 : (y 2).val = 128 * n + (x 2).val) :
    up ![128 * n, 0] hs o (View.ld (Val := Elt Ideal) (e' := .bf16) W (Rect.unit (s := S8x512x128) ![n, 0, 0] S1x512x128.size hw)) x = through o W y := by
  obtain ⟨x0, x1, x2, rfl⟩ : ∃ a b c, x = ix3 a b c := ⟨x 0, x 1, x 2, by ext d; fin_cases d <;> rfl⟩
  have e0 : x0 = 0 := Subsingleton.elim _ _
  subst e0
  have hx1 : x1.val < 128 := x1.isLt
  have hx2 : x2.val < 128 := x2.isLt
  have k1 : (y 1).val = x1.val := h1
  have k2 : (y 2).val = 128 * n + x2.val := h2
  rw [up_at _ _ _ _ _ _ (by omega)]
  unfold through
  refine Finset.sum_congr rfl fun d _ => ?_
  have er : row y = ⟨128 * n + x1.val, by omega⟩ := Fin.ext (by simp only [row]; omega)
  have eh : head y = ⟨n, hn⟩ := Fin.ext (by simp only [head]; omega)
  have ec : col y = x2 := Fin.ext (by simp only [col]; omega)
  rw [er, eh, ec]
  congr 1
  show W _ = W _
  congr 1
  ext d'
  fin_cases d' <;> simp [Rect.unit, ix3]

/-! ## The payloads, one at a time -/

theorem pay9 (q : FVec Ideal S1024x576 .bf16) (lim : IVec S1024x1 32) (k0 : FVec Ideal S1x256x576 .bf16) (v0 : FVec Ideal S1x256x512 .bf16) :
    k0_pay9 (F := Ideal) q lim k0 v0 = out (startH (maskH 0#32 lim (scoreH q k0)) v0) := rfl

theorem pay16 (q : FVec Ideal S1024x576 .bf16) (lim : IVec S1024x1 32) (k0 : FVec Ideal S1x512x576 .bf16) (v0 : FVec Ideal S1x512x512 .bf16) :
    k0_pay16 (F := Ideal) q lim k0 v0 = out (startF (maskF 0#32 lim (scoreF q k0)) v0) := rfl

theorem pay24 (q : FVec Ideal S1024x576 .bf16) (k0 : FVec Ideal S1x512x576 .bf16) :
    k0_pay24 (F := Ideal) q k0 = (topF (scoreF q k0)) := rfl

theorem pay26 (q : FVec Ideal S1024x576 .bf16) (k0 : FVec Ideal S1x512x576 .bf16) :
    k0_pay26 (F := Ideal) q k0 = sumF (expF (scoreF q k0) (topF (scoreF q k0))) := rfl

theorem pay27 (q : FVec Ideal S1024x576 .bf16) (k0 : FVec Ideal S1x512x576 .bf16) (v0 : FVec Ideal S1x512x512 .bf16) :
    k0_pay27 (F := Ideal) q k0 v0 = valF (expF (scoreF q k0) (topF (scoreF q k0))) v0 := rfl

theorem pay29 (q : FVec Ideal S1024x576 .bf16) (lim : IVec S1024x1 32) (k0 : FVec Ideal S1x512x576 .bf16) (k1 : FVec Ideal S1x256x576 .bf16) :
    k0_pay29 (F := Ideal) q lim k0 k1 = (maximumf (topF (scoreF q k0)) (topH (maskH 512#32 lim (scoreH q k1)))) := rfl

theorem pay31 (q : FVec Ideal S1024x576 .bf16) (lim : IVec S1024x1 32) (k0 : FVec Ideal S1x512x576 .bf16) (k1 : FVec Ideal S1x256x576 .bf16) :
    k0_pay31 (F := Ideal) q lim k0 k1 = sumH (expH (maskH 512#32 lim (scoreH q k1)) (maximumf (topF (scoreF q k0)) (topH (maskH 512#32 lim (scoreH q k1))))) := rfl

theorem pay32 (q : FVec Ideal S1024x576 .bf16) (lim : IVec S1024x1 32) (k0 : FVec Ideal S1x512x576 .bf16) (k1 : FVec Ideal S1x256x576 .bf16) :
    k0_pay32 (F := Ideal) q lim k0 k1 = truncf .bf16 (expH (maskH 512#32 lim (scoreH q k1)) (maximumf (topF (scoreF q k0)) (topH (maskH 512#32 lim (scoreH q k1))))) bitsLt_bf16_f32 := rfl

theorem pay33 (m l : FVec Ideal S1024x1 .f32) (a : FVec Ideal S1024x512 .f32) (s : FVec Ideal S1024x256 .f32) (v : FVec Ideal S1x256x512 .bf16) :
    k0_pay33 (F := Ideal) m l a (maximumf m (topH s)) (sumH (expH s (maximumf m (topH s))))
      (truncf .bf16 (expH s (maximumf m (topH s))) bitsLt_bf16_f32) v = out (stepH ⟨m, l, a⟩ s v) := rfl

theorem pay44 (q : FVec Ideal S1024x576 .bf16) (k0 : FVec Ideal S1x512x576 .bf16) :
    k0_pay44 (F := Ideal) q k0 = (topF (scoreF q k0)) := rfl

theorem pay46 (q : FVec Ideal S1024x576 .bf16) (k0 : FVec Ideal S1x512x576 .bf16) :
    k0_pay46 (F := Ideal) q k0 = sumF (expF (scoreF q k0) (topF (scoreF q k0))) := rfl

theorem pay47 (q : FVec Ideal S1024x576 .bf16) (k0 : FVec Ideal S1x512x576 .bf16) (v0 : FVec Ideal S1x512x512 .bf16) :
    k0_pay47 (F := Ideal) q k0 v0 = valF (expF (scoreF q k0) (topF (scoreF q k0))) v0 := rfl

theorem pay49 (q : FVec Ideal S1024x576 .bf16) (lim : IVec S1024x1 32) (k0 : FVec Ideal S1x512x576 .bf16) (k1 : FVec Ideal S1x512x576 .bf16) :
    k0_pay49 (F := Ideal) q lim k0 k1 = (maximumf (topF (scoreF q k0)) (topF (maskF 512#32 lim (scoreF q k1)))) := rfl

theorem pay51 (q : FVec Ideal S1024x576 .bf16) (lim : IVec S1024x1 32) (k0 : FVec Ideal S1x512x576 .bf16) (k1 : FVec Ideal S1x512x576 .bf16) :
    k0_pay51 (F := Ideal) q lim k0 k1 = sumF (expF (maskF 512#32 lim (scoreF q k1)) (maximumf (topF (scoreF q k0)) (topF (maskF 512#32 lim (scoreF q k1))))) := rfl

theorem pay52 (q : FVec Ideal S1024x576 .bf16) (lim : IVec S1024x1 32) (k0 : FVec Ideal S1x512x576 .bf16) (k1 : FVec Ideal S1x512x576 .bf16) :
    k0_pay52 (F := Ideal) q lim k0 k1 = truncf .bf16 (expF (maskF 512#32 lim (scoreF q k1)) (maximumf (topF (scoreF q k0)) (topF (maskF 512#32 lim (scoreF q k1))))) bitsLt_bf16_f32 := rfl

theorem pay53 (m l : FVec Ideal S1024x1 .f32) (a : FVec Ideal S1024x512 .f32) (s : FVec Ideal S1024x512 .f32) (v : FVec Ideal S1x512x512 .bf16) :
    k0_pay53 (F := Ideal) m l a (maximumf m (topF s)) (sumF (expF s (maximumf m (topF s))))
      (truncf .bf16 (expF s (maximumf m (topF s))) bitsLt_bf16_f32) v = out (stepF ⟨m, l, a⟩ s v) := rfl

theorem pay65 (q : FVec Ideal S1024x576 .bf16) (k0 : FVec Ideal S1x512x576 .bf16) :
    k0_pay65 (F := Ideal) q k0 = (topF (scoreF q k0)) := rfl

theorem pay67 (q : FVec Ideal S1024x576 .bf16) (k0 : FVec Ideal S1x512x576 .bf16) :
    k0_pay67 (F := Ideal) q k0 = sumF (expF (scoreF q k0) (topF (scoreF q k0))) := rfl

theorem pay68 (q : FVec Ideal S1024x576 .bf16) (k0 : FVec Ideal S1x512x576 .bf16) (v0 : FVec Ideal S1x512x512 .bf16) :
    k0_pay68 (F := Ideal) q k0 v0 = valF (expF (scoreF q k0) (topF (scoreF q k0))) v0 := rfl

theorem pay69 (q : FVec Ideal S1024x576 .bf16) (k2 : FVec Ideal S1x256x576 .bf16) :
    k0_pay69 (F := Ideal) q k2 = scoreH q k2 := rfl

theorem pay70 (q : FVec Ideal S1024x576 .bf16) (k0 : FVec Ideal S1x512x576 .bf16) (k1 : FVec Ideal S1x512x576 .bf16) :
    k0_pay70 (F := Ideal) q k0 k1 = (maximumf (topF (scoreF q k0)) (topF (scoreF q k1))) := rfl

theorem pay72 (q : FVec Ideal S1024x576 .bf16) (k0 : FVec Ideal S1x512x576 .bf16) (k1 : FVec Ideal S1x512x576 .bf16) :
    k0_pay72 (F := Ideal) q k0 k1 = sumF (expF (scoreF q k1) (maximumf (topF (scoreF q k0)) (topF (scoreF q k1)))) := rfl

theorem pay73 (q : FVec Ideal S1024x576 .bf16) (k0 : FVec Ideal S1x512x576 .bf16) (k1 : FVec Ideal S1x512x576 .bf16) :
    k0_pay73 (F := Ideal) q k0 k1 = truncf .bf16 (expF (scoreF q k1) (maximumf (topF (scoreF q k0)) (topF (scoreF q k1)))) bitsLt_bf16_f32 := rfl

theorem pay74 (v1 : FVec Ideal S1x512x512 .bf16) :
    k0_pay74 (F := Ideal) v1 = shapeCast S512x512 v1 shapeCasts_S1x512x512_S512x512 := rfl

theorem pay75 (lim : IVec S1024x1 32) (m l : FVec Ideal S1024x1 .f32) (a : FVec Ideal S1024x512 .f32) (s : FVec Ideal S1024x512 .f32) (v : FVec Ideal S1x512x512 .bf16) (s' : FVec Ideal S1024x256 .f32) (v' : FVec Ideal S1x256x512 .bf16) :
    k0_pay75 (F := Ideal) lim m l a s' (maximumf m (topF s)) (sumF (expF s (maximumf m (topF s))))
      (truncf .bf16 (expF s (maximumf m (topF s))) bitsLt_bf16_f32) (shapeCast S512x512 v shapeCasts_S1x512x512_S512x512) v' = out (stepH (stepF ⟨m, l, a⟩ s v) (maskH 1024#32 lim s') v') := rfl

theorem pay88 (q : FVec Ideal S1024x576 .bf16) (k0 : FVec Ideal S1x512x576 .bf16) :
    k0_pay88 (F := Ideal) q k0 = (topF (scoreF q k0)) := rfl

theorem pay90 (q : FVec Ideal S1024x576 .bf16) (k0 : FVec Ideal S1x512x576 .bf16) :
    k0_pay90 (F := Ideal) q k0 = sumF (expF (scoreF q k0) (topF (scoreF q k0))) := rfl

theorem pay91 (q : FVec Ideal S1024x576 .bf16) (k0 : FVec Ideal S1x512x576 .bf16) (v0 : FVec Ideal S1x512x512 .bf16) :
    k0_pay91 (F := Ideal) q k0 v0 = valF (expF (scoreF q k0) (topF (scoreF q k0))) v0 := rfl

theorem pay92 (q : FVec Ideal S1024x576 .bf16) (k2 : FVec Ideal S1x512x576 .bf16) :
    k0_pay92 (F := Ideal) q k2 = scoreF q k2 := rfl

theorem pay93 (q : FVec Ideal S1024x576 .bf16) (k0 : FVec Ideal S1x512x576 .bf16) (k1 : FVec Ideal S1x512x576 .bf16) :
    k0_pay93 (F := Ideal) q k0 k1 = (maximumf (topF (scoreF q k0)) (topF (scoreF q k1))) := rfl

theorem pay95 (q : FVec Ideal S1024x576 .bf16) (k0 : FVec Ideal S1x512x576 .bf16) (k1 : FVec Ideal S1x512x576 .bf16) :
    k0_pay95 (F := Ideal) q k0 k1 = sumF (expF (scoreF q k1) (maximumf (topF (scoreF q k0)) (topF (scoreF q k1)))) := rfl

theorem pay96 (q : FVec Ideal S1024x576 .bf16) (k0 : FVec Ideal S1x512x576 .bf16) (k1 : FVec Ideal S1x512x576 .bf16) :
    k0_pay96 (F := Ideal) q k0 k1 = truncf .bf16 (expF (scoreF q k1) (maximumf (topF (scoreF q k0)) (topF (scoreF q k1)))) bitsLt_bf16_f32 := rfl

theorem pay97 (v1 : FVec Ideal S1x512x512 .bf16) :
    k0_pay97 (F := Ideal) v1 = shapeCast S512x512 v1 shapeCasts_S1x512x512_S512x512 := rfl

theorem pay98 (lim : IVec S1024x1 32) (m l : FVec Ideal S1024x1 .f32) (a : FVec Ideal S1024x512 .f32) (s : FVec Ideal S1024x512 .f32) (v : FVec Ideal S1x512x512 .bf16) (s' : FVec Ideal S1024x512 .f32) (v' : FVec Ideal S1x512x512 .bf16) :
    k0_pay98 (F := Ideal) lim m l a s' (maximumf m (topF s)) (sumF (expF s (maximumf m (topF s))))
      (truncf .bf16 (expF s (maximumf m (topF s))) bitsLt_bf16_f32) (shapeCast S512x512 v shapeCasts_S1x512x512_S512x512) v' = out (stepF (stepF ⟨m, l, a⟩ s v) (maskF 1024#32 lim s') v') := rfl

theorem pay111 (q : FVec Ideal S1024x576 .bf16) (k0 : FVec Ideal S1x512x576 .bf16) :
    k0_pay111 (F := Ideal) q k0 = (topF (scoreF q k0)) := rfl

theorem pay113 (q : FVec Ideal S1024x576 .bf16) (k0 : FVec Ideal S1x512x576 .bf16) :
    k0_pay113 (F := Ideal) q k0 = sumF (expF (scoreF q k0) (topF (scoreF q k0))) := rfl

theorem pay114 (q : FVec Ideal S1024x576 .bf16) (k0 : FVec Ideal S1x512x576 .bf16) (v0 : FVec Ideal S1x512x512 .bf16) :
    k0_pay114 (F := Ideal) q k0 v0 = valF (expF (scoreF q k0) (topF (scoreF q k0))) v0 := rfl

theorem pay115 (q : FVec Ideal S1024x576 .bf16) (k2 : FVec Ideal S1x512x576 .bf16) :
    k0_pay115 (F := Ideal) q k2 = scoreF q k2 := rfl

theorem pay116 (q : FVec Ideal S1024x576 .bf16) (k0 : FVec Ideal S1x512x576 .bf16) (k1 : FVec Ideal S1x512x576 .bf16) :
    k0_pay116 (F := Ideal) q k0 k1 = (maximumf (topF (scoreF q k0)) (topF (scoreF q k1))) := rfl

theorem pay118 (q : FVec Ideal S1024x576 .bf16) (k0 : FVec Ideal S1x512x576 .bf16) (k1 : FVec Ideal S1x512x576 .bf16) :
    k0_pay118 (F := Ideal) q k0 k1 = sumF (expF (scoreF q k1) (maximumf (topF (scoreF q k0)) (topF (scoreF q k1)))) := rfl

theorem pay119 (q : FVec Ideal S1024x576 .bf16) (k0 : FVec Ideal S1x512x576 .bf16) (k1 : FVec Ideal S1x512x576 .bf16) :
    k0_pay119 (F := Ideal) q k0 k1 = truncf .bf16 (expF (scoreF q k1) (maximumf (topF (scoreF q k0)) (topF (scoreF q k1)))) bitsLt_bf16_f32 := rfl

theorem pay120 (v1 : FVec Ideal S1x512x512 .bf16) :
    k0_pay120 (F := Ideal) v1 = shapeCast S512x512 v1 shapeCasts_S1x512x512_S512x512 := rfl

theorem pay122 (m l : FVec Ideal S1024x1 .f32) (a : FVec Ideal S1024x512 .f32) (s s' : FVec Ideal S1024x512 .f32) (v v' : FVec Ideal S1x512x512 .bf16) :
    k0_pay122 (F := Ideal) s' (maximumf m (topF s)) = (stepF (stepF ⟨m, l, a⟩ s v) s' v').m := rfl

theorem pay125 (m l : FVec Ideal S1024x1 .f32) (a : FVec Ideal S1024x512 .f32) (s s' : FVec Ideal S1024x512 .f32) (v v' : FVec Ideal S1x512x512 .bf16) :
    k0_pay125 (F := Ideal) m l s' (maximumf m (topF s)) (sumF (expF s (maximumf m (topF s)))) = (stepF (stepF ⟨m, l, a⟩ s v) s' v').l := rfl

theorem pay126 (m l : FVec Ideal S1024x1 .f32) (a : FVec Ideal S1024x512 .f32) (s s' : FVec Ideal S1024x512 .f32) (v v' : FVec Ideal S1x512x512 .bf16) :
    k0_pay126 (F := Ideal) m a s' (maximumf m (topF s)) (truncf .bf16 (expF s (maximumf m (topF s))) bitsLt_bf16_f32)
      (shapeCast S512x512 v shapeCasts_S1x512x512_S512x512) v' = (stepF (stepF ⟨m, l, a⟩ s v) s' v').a := rfl

theorem pay127 (q : FVec Ideal S1024x576 .bf16) (lim : IVec S1024x1 32) (k3 : FVec Ideal S1x256x576 .bf16) :
    k0_pay127 (F := Ideal) q lim k3 = maskH 1536#32 lim (scoreH q k3) := rfl

theorem pay128 (m l : FVec Ideal S1024x1 .f32) (a : FVec Ideal S1024x512 .f32) (s : FVec Ideal S1024x256 .f32) (v : FVec Ideal S1x256x512 .bf16) :
    k0_pay128 (F := Ideal) m l a s v = out (stepH ⟨m, l, a⟩ s v) := rfl

theorem pay139 (q : FVec Ideal S1024x576 .bf16) (k0 : FVec Ideal S1x512x576 .bf16) :
    k0_pay139 (F := Ideal) q k0 = (topF (scoreF q k0)) := rfl

theorem pay141 (q : FVec Ideal S1024x576 .bf16) (k0 : FVec Ideal S1x512x576 .bf16) :
    k0_pay141 (F := Ideal) q k0 = sumF (expF (scoreF q k0) (topF (scoreF q k0))) := rfl

theorem pay142 (q : FVec Ideal S1024x576 .bf16) (k0 : FVec Ideal S1x512x576 .bf16) (v0 : FVec Ideal S1x512x512 .bf16) :
    k0_pay142 (F := Ideal) q k0 v0 = valF (expF (scoreF q k0) (topF (scoreF q k0))) v0 := rfl

theorem pay143 (q : FVec Ideal S1024x576 .bf16) (k2 : FVec Ideal S1x512x576 .bf16) :
    k0_pay143 (F := Ideal) q k2 = scoreF q k2 := rfl

theorem pay144 (q : FVec Ideal S1024x576 .bf16) (k0 : FVec Ideal S1x512x576 .bf16) (k1 : FVec Ideal S1x512x576 .bf16) :
    k0_pay144 (F := Ideal) q k0 k1 = (maximumf (topF (scoreF q k0)) (topF (scoreF q k1))) := rfl

theorem pay146 (q : FVec Ideal S1024x576 .bf16) (k0 : FVec Ideal S1x512x576 .bf16) (k1 : FVec Ideal S1x512x576 .bf16) :
    k0_pay146 (F := Ideal) q k0 k1 = sumF (expF (scoreF q k1) (maximumf (topF (scoreF q k0)) (topF (scoreF q k1)))) := rfl

theorem pay147 (q : FVec Ideal S1024x576 .bf16) (k0 : FVec Ideal S1x512x576 .bf16) (k1 : FVec Ideal S1x512x576 .bf16) :
    k0_pay147 (F := Ideal) q k0 k1 = truncf .bf16 (expF (scoreF q k1) (maximumf (topF (scoreF q k0)) (topF (scoreF q k1)))) bitsLt_bf16_f32 := rfl

theorem pay148 (v1 : FVec Ideal S1x512x512 .bf16) :
    k0_pay148 (F := Ideal) v1 = shapeCast S512x512 v1 shapeCasts_S1x512x512_S512x512 := rfl

theorem pay150 (m l : FVec Ideal S1024x1 .f32) (a : FVec Ideal S1024x512 .f32) (s s' : FVec Ideal S1024x512 .f32) (v v' : FVec Ideal S1x512x512 .bf16) :
    k0_pay150 (F := Ideal) s' (maximumf m (topF s)) = (stepF (stepF ⟨m, l, a⟩ s v) s' v').m := rfl

theorem pay153 (m l : FVec Ideal S1024x1 .f32) (a : FVec Ideal S1024x512 .f32) (s s' : FVec Ideal S1024x512 .f32) (v v' : FVec Ideal S1x512x512 .bf16) :
    k0_pay153 (F := Ideal) m l s' (maximumf m (topF s)) (sumF (expF s (maximumf m (topF s)))) = (stepF (stepF ⟨m, l, a⟩ s v) s' v').l := rfl

theorem pay154 (m l : FVec Ideal S1024x1 .f32) (a : FVec Ideal S1024x512 .f32) (s s' : FVec Ideal S1024x512 .f32) (v v' : FVec Ideal S1x512x512 .bf16) :
    k0_pay154 (F := Ideal) m a s' (maximumf m (topF s)) (truncf .bf16 (expF s (maximumf m (topF s))) bitsLt_bf16_f32)
      (shapeCast S512x512 v shapeCasts_S1x512x512_S512x512) v' = (stepF (stepF ⟨m, l, a⟩ s v) s' v').a := rfl

theorem pay155 (q : FVec Ideal S1024x576 .bf16) (lim : IVec S1024x1 32) (k3 : FVec Ideal S1x512x576 .bf16) :
    k0_pay155 (F := Ideal) q lim k3 = maskF 1536#32 lim (scoreF q k3) := rfl

theorem pay156 (m l : FVec Ideal S1024x1 .f32) (a : FVec Ideal S1024x512 .f32) (s : FVec Ideal S1024x512 .f32) (v : FVec Ideal S1x512x512 .bf16) :
    k0_pay156 (F := Ideal) m l a s v = out (stepF ⟨m, l, a⟩ s v) := rfl

/-! ## The eight cases -/

/-- The tiles of case A: 0 full tiles, then 256 keys under the mask. -/
def stA (q : FVec Ideal S1024x576 .bf16) (lim : IVec S1024x1 32)  (k0 : FVec Ideal S1x256x576 .bf16) (v0 : FVec Ideal S1x256x512 .bf16) : St :=
  startH (maskH 0#32 lim (scoreH q k0)) v0

theorem rowsA (q : FVec Ideal S1024x576 .bf16) (lim : IVec S1024x1 32)  (k0 : FVec Ideal S1x256x576 .bf16) (v0 : FVec Ideal S1x256x512 .bf16) :
    k0_pay9 q lim k0 v0
      = out (stA q lim k0 v0) := by
  exact pay9 _ _ _ _

/-- Case A on the blocks of a grid point. -/
def atA (c : Dev nD) (t : Fin cfg0.N) : St :=
  stA (k0_pay165 (iblk m c 0 t)) (k0_pay166 (grid0.coords t))
    (View.ld (Val := Elt Ideal) (e' := .bf16) (iblk m c 1 t) (Rect.unit (s := S1x2048x576) ![0, 0, 0] S1x256x576.size inb_S1x2048x576_S1x256x576_0_0_0))
    (View.ld (Val := Elt Ideal) (e' := .bf16) (iblk m c 1 t) (Rect.unit (s := S1x2048x576) ![0, 0, 0] S1x256x512.size inb_S1x2048x576_S1x256x512_0_0_0))

theorem outA (c : Dev nD) (t : Fin cfg0.N) (h0 : t.val % 16 ≤ 1) (h1 : ¬(2 ≤ t.val % 16 ∧ t.val % 16 ≤ 3)) (h2 : ¬(4 ≤ t.val % 16 ∧ t.val % 16 ≤ 5)) (h3 : ¬(6 ≤ t.val % 16 ∧ t.val % 16 ≤ 7)) (h4 : ¬(8 ≤ t.val % 16 ∧ t.val % 16 ≤ 9)) (h5 : ¬(10 ≤ t.val % 16 ∧ t.val % 16 ≤ 11)) (h6 : ¬(12 ≤ t.val % 16 ∧ t.val % 16 ≤ 13)) (h7 : ¬14 ≤ t.val % 16) (y : S1x128x1024.Idx) :
    outsAt0 m c t.val t.isLt y = through (out (atA m c t)) (iblk m c 2 t) y := by
  rw [outsAt0_A m c t h0 h1 h2 h3 h4 h5 h6 h7]
  frame_out
  unfold atA
  rw [← rowsA]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

/-- The tiles of case B: 0 full tiles, then 512 keys under the mask. -/
def stB (q : FVec Ideal S1024x576 .bf16) (lim : IVec S1024x1 32)  (k0 : FVec Ideal S1x512x576 .bf16) (v0 : FVec Ideal S1x512x512 .bf16) : St :=
  startF (maskF 0#32 lim (scoreF q k0)) v0

theorem rowsB (q : FVec Ideal S1024x576 .bf16) (lim : IVec S1024x1 32)  (k0 : FVec Ideal S1x512x576 .bf16) (v0 : FVec Ideal S1x512x512 .bf16) :
    k0_pay16 q lim k0 v0
      = out (stB q lim k0 v0) := by
  exact pay16 _ _ _ _

/-- Case B on the blocks of a grid point. -/
def atB (c : Dev nD) (t : Fin cfg0.N) : St :=
  stB (k0_pay165 (iblk m c 0 t)) (k0_pay166 (grid0.coords t))
    (View.ld (Val := Elt Ideal) (e' := .bf16) (iblk m c 1 t) (Rect.unit (s := S1x2048x576) ![0, 0, 0] S1x512x576.size inb_S1x2048x576_S1x512x576_0_0_0))
    (View.ld (Val := Elt Ideal) (e' := .bf16) (iblk m c 1 t) (Rect.unit (s := S1x2048x576) ![0, 0, 0] S1x512x512.size inb_S1x2048x576_S1x512x512_0_0_0))

theorem outB (c : Dev nD) (t : Fin cfg0.N) (h0 : ¬t.val % 16 ≤ 1) (h1 : (2 ≤ t.val % 16 ∧ t.val % 16 ≤ 3)) (h2 : ¬(4 ≤ t.val % 16 ∧ t.val % 16 ≤ 5)) (h3 : ¬(6 ≤ t.val % 16 ∧ t.val % 16 ≤ 7)) (h4 : ¬(8 ≤ t.val % 16 ∧ t.val % 16 ≤ 9)) (h5 : ¬(10 ≤ t.val % 16 ∧ t.val % 16 ≤ 11)) (h6 : ¬(12 ≤ t.val % 16 ∧ t.val % 16 ≤ 13)) (h7 : ¬14 ≤ t.val % 16) (y : S1x128x1024.Idx) :
    outsAt0 m c t.val t.isLt y = through (out (atB m c t)) (iblk m c 2 t) y := by
  rw [outsAt0_B m c t h0 h1 h2 h3 h4 h5 h6 h7]
  frame_out
  unfold atB
  rw [← rowsB]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

/-- The tiles of case C: 1 full tile, then 256 keys under the mask. -/
def stC (q : FVec Ideal S1024x576 .bf16) (lim : IVec S1024x1 32) (k0 : FVec Ideal S1x512x576 .bf16) (v0 : FVec Ideal S1x512x512 .bf16) (k1 : FVec Ideal S1x256x576 .bf16) (v1 : FVec Ideal S1x256x512 .bf16) : St :=
  stepH (startF (scoreF q k0) v0) (maskH 512#32 lim (scoreH q k1)) v1

theorem rowsC (q : FVec Ideal S1024x576 .bf16) (lim : IVec S1024x1 32) (k0 : FVec Ideal S1x512x576 .bf16) (v0 : FVec Ideal S1x512x512 .bf16) (k1 : FVec Ideal S1x256x576 .bf16) (v1 : FVec Ideal S1x256x512 .bf16) :
    k0_pay33 (k0_pay24 q k0) (k0_pay26 q k0) (k0_pay27 q k0 v0) (k0_pay29 q lim k0 k1) (k0_pay31 q lim k0 k1) (k0_pay32 q lim k0 k1) v1
      = out (stC q lim k0 v0 k1 v1) := by
  rw [pay24, pay26, pay27, pay29, pay31, pay32, pay33]
  rfl

/-- Case C on the blocks of a grid point. -/
def atC (c : Dev nD) (t : Fin cfg0.N) : St :=
  stC (k0_pay165 (iblk m c 0 t)) (k0_pay166 (grid0.coords t))
    (View.ld (Val := Elt Ideal) (e' := .bf16) (iblk m c 1 t) (Rect.unit (s := S1x2048x576) ![0, 0, 0] S1x512x576.size inb_S1x2048x576_S1x512x576_0_0_0))
    (View.ld (Val := Elt Ideal) (e' := .bf16) (iblk m c 1 t) (Rect.unit (s := S1x2048x576) ![0, 0, 0] S1x512x512.size inb_S1x2048x576_S1x512x512_0_0_0))
    (View.ld (Val := Elt Ideal) (e' := .bf16) (iblk m c 1 t) (Rect.unit (s := S1x2048x576) ![0, 512, 0] S1x256x576.size inb_S1x2048x576_S1x256x576_0_512_0))
    (View.ld (Val := Elt Ideal) (e' := .bf16) (iblk m c 1 t) (Rect.unit (s := S1x2048x576) ![0, 512, 0] S1x256x512.size inb_S1x2048x576_S1x256x512_0_512_0))

theorem outC (c : Dev nD) (t : Fin cfg0.N) (h0 : ¬t.val % 16 ≤ 1) (h1 : ¬(2 ≤ t.val % 16 ∧ t.val % 16 ≤ 3)) (h2 : (4 ≤ t.val % 16 ∧ t.val % 16 ≤ 5)) (h3 : ¬(6 ≤ t.val % 16 ∧ t.val % 16 ≤ 7)) (h4 : ¬(8 ≤ t.val % 16 ∧ t.val % 16 ≤ 9)) (h5 : ¬(10 ≤ t.val % 16 ∧ t.val % 16 ≤ 11)) (h6 : ¬(12 ≤ t.val % 16 ∧ t.val % 16 ≤ 13)) (h7 : ¬14 ≤ t.val % 16) (y : S1x128x1024.Idx) :
    outsAt0 m c t.val t.isLt y = through (out (atC m c t)) (iblk m c 2 t) y := by
  rw [outsAt0_C m c t h0 h1 h2 h3 h4 h5 h6 h7]
  frame_out
  unfold atC
  rw [← rowsC]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

/-- The tiles of case D: 1 full tile, then 512 keys under the mask. -/
def stD (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) : St :=
  stepF (startF (scoreF q k0) v0) (maskF 512#32 lim (scoreF q k1)) v1

theorem rowsD (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) :
    k0_pay53 (k0_pay44 q k0) (k0_pay46 q k0) (k0_pay47 q k0 v0) (k0_pay49 q lim k0 k1) (k0_pay51 q lim k0 k1) (k0_pay52 q lim k0 k1) v1
      = out (stD q lim k0 v0 k1 v1) := by
  rw [pay44, pay46, pay47, pay49, pay51, pay52, pay53]
  rfl

/-- Case D on the blocks of a grid point. -/
def atD (c : Dev nD) (t : Fin cfg0.N) : St :=
  stD (k0_pay165 (iblk m c 0 t)) (k0_pay166 (grid0.coords t))
    (View.ld (Val := Elt Ideal) (e' := .bf16) (iblk m c 1 t) (Rect.unit (s := S1x2048x576) ![0, 0, 0] S1x512x576.size inb_S1x2048x576_S1x512x576_0_0_0))
    (View.ld (Val := Elt Ideal) (e' := .bf16) (iblk m c 1 t) (Rect.unit (s := S1x2048x576) ![0, 0, 0] S1x512x512.size inb_S1x2048x576_S1x512x512_0_0_0))
    (View.ld (Val := Elt Ideal) (e' := .bf16) (iblk m c 1 t) (Rect.unit (s := S1x2048x576) ![0, 512, 0] S1x512x576.size inb_S1x2048x576_S1x512x576_0_512_0))
    (View.ld (Val := Elt Ideal) (e' := .bf16) (iblk m c 1 t) (Rect.unit (s := S1x2048x576) ![0, 512, 0] S1x512x512.size inb_S1x2048x576_S1x512x512_0_512_0))

theorem outD (c : Dev nD) (t : Fin cfg0.N) (h0 : ¬t.val % 16 ≤ 1) (h1 : ¬(2 ≤ t.val % 16 ∧ t.val % 16 ≤ 3)) (h2 : ¬(4 ≤ t.val % 16 ∧ t.val % 16 ≤ 5)) (h3 : (6 ≤ t.val % 16 ∧ t.val % 16 ≤ 7)) (h4 : ¬(8 ≤ t.val % 16 ∧ t.val % 16 ≤ 9)) (h5 : ¬(10 ≤ t.val % 16 ∧ t.val % 16 ≤ 11)) (h6 : ¬(12 ≤ t.val % 16 ∧ t.val % 16 ≤ 13)) (h7 : ¬14 ≤ t.val % 16) (y : S1x128x1024.Idx) :
    outsAt0 m c t.val t.isLt y = through (out (atD m c t)) (iblk m c 2 t) y := by
  rw [outsAt0_D m c t h0 h1 h2 h3 h4 h5 h6 h7]
  frame_out
  unfold atD
  rw [← rowsD]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

/-- The tiles of case E: 2 full tiles, then 256 keys under the mask. -/
def stE (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x256x576 .bf16) (v2 : FVec Ideal S1x256x512 .bf16) : St :=
  stepH (stepF (startF (scoreF q k0) v0) (scoreF q k1) v1) (maskH 1024#32 lim (scoreH q k2)) v2

theorem rowsE (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x256x576 .bf16) (v2 : FVec Ideal S1x256x512 .bf16) :
    k0_pay75 lim (k0_pay65 q k0) (k0_pay67 q k0) (k0_pay68 q k0 v0) (k0_pay69 q k2) (k0_pay70 q k0 k1) (k0_pay72 q k0 k1) (k0_pay73 q k0 k1) (k0_pay74 v1) v2
      = out (stE q lim k0 v0 k1 v1 k2 v2) := by
  rw [pay65, pay67, pay68, pay69, pay70, pay72, pay73, pay74, pay75]
  rfl

/-- Case E on the blocks of a grid point. -/
def atE (c : Dev nD) (t : Fin cfg0.N) : St :=
  stE (k0_pay165 (iblk m c 0 t)) (k0_pay166 (grid0.coords t))
    (View.ld (Val := Elt Ideal) (e' := .bf16) (iblk m c 1 t) (Rect.unit (s := S1x2048x576) ![0, 0, 0] S1x512x576.size inb_S1x2048x576_S1x512x576_0_0_0))
    (View.ld (Val := Elt Ideal) (e' := .bf16) (iblk m c 1 t) (Rect.unit (s := S1x2048x576) ![0, 0, 0] S1x512x512.size inb_S1x2048x576_S1x512x512_0_0_0))
    (View.ld (Val := Elt Ideal) (e' := .bf16) (iblk m c 1 t) (Rect.unit (s := S1x2048x576) ![0, 512, 0] S1x512x576.size inb_S1x2048x576_S1x512x576_0_512_0))
    (View.ld (Val := Elt Ideal) (e' := .bf16) (iblk m c 1 t) (Rect.unit (s := S1x2048x576) ![0, 512, 0] S1x512x512.size inb_S1x2048x576_S1x512x512_0_512_0))
    (View.ld (Val := Elt Ideal) (e' := .bf16) (iblk m c 1 t) (Rect.unit (s := S1x2048x576) ![0, 1024, 0] S1x256x576.size inb_S1x2048x576_S1x256x576_0_1024_0))
    (View.ld (Val := Elt Ideal) (e' := .bf16) (iblk m c 1 t) (Rect.unit (s := S1x2048x576) ![0, 1024, 0] S1x256x512.size inb_S1x2048x576_S1x256x512_0_1024_0))

theorem outE (c : Dev nD) (t : Fin cfg0.N) (h0 : ¬t.val % 16 ≤ 1) (h1 : ¬(2 ≤ t.val % 16 ∧ t.val % 16 ≤ 3)) (h2 : ¬(4 ≤ t.val % 16 ∧ t.val % 16 ≤ 5)) (h3 : ¬(6 ≤ t.val % 16 ∧ t.val % 16 ≤ 7)) (h4 : (8 ≤ t.val % 16 ∧ t.val % 16 ≤ 9)) (h5 : ¬(10 ≤ t.val % 16 ∧ t.val % 16 ≤ 11)) (h6 : ¬(12 ≤ t.val % 16 ∧ t.val % 16 ≤ 13)) (h7 : ¬14 ≤ t.val % 16) (y : S1x128x1024.Idx) :
    outsAt0 m c t.val t.isLt y = through (out (atE m c t)) (iblk m c 2 t) y := by
  rw [outsAt0_E m c t h0 h1 h2 h3 h4 h5 h6 h7]
  frame_out
  unfold atE
  rw [← rowsE]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

/-- The tiles of case F: 2 full tiles, then 512 keys under the mask. -/
def stF (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x512x576 .bf16) (v2 : FVec Ideal S1x512x512 .bf16) : St :=
  stepF (stepF (startF (scoreF q k0) v0) (scoreF q k1) v1) (maskF 1024#32 lim (scoreF q k2)) v2

theorem rowsF (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x512x576 .bf16) (v2 : FVec Ideal S1x512x512 .bf16) :
    k0_pay98 lim (k0_pay88 q k0) (k0_pay90 q k0) (k0_pay91 q k0 v0) (k0_pay92 q k2) (k0_pay93 q k0 k1) (k0_pay95 q k0 k1) (k0_pay96 q k0 k1) (k0_pay97 v1) v2
      = out (stF q lim k0 v0 k1 v1 k2 v2) := by
  rw [pay88, pay90, pay91, pay92, pay93, pay95, pay96, pay97, pay98]
  rfl

/-- Case F on the blocks of a grid point. -/
def atF (c : Dev nD) (t : Fin cfg0.N) : St :=
  stF (k0_pay165 (iblk m c 0 t)) (k0_pay166 (grid0.coords t))
    (View.ld (Val := Elt Ideal) (e' := .bf16) (iblk m c 1 t) (Rect.unit (s := S1x2048x576) ![0, 0, 0] S1x512x576.size inb_S1x2048x576_S1x512x576_0_0_0))
    (View.ld (Val := Elt Ideal) (e' := .bf16) (iblk m c 1 t) (Rect.unit (s := S1x2048x576) ![0, 0, 0] S1x512x512.size inb_S1x2048x576_S1x512x512_0_0_0))
    (View.ld (Val := Elt Ideal) (e' := .bf16) (iblk m c 1 t) (Rect.unit (s := S1x2048x576) ![0, 512, 0] S1x512x576.size inb_S1x2048x576_S1x512x576_0_512_0))
    (View.ld (Val := Elt Ideal) (e' := .bf16) (iblk m c 1 t) (Rect.unit (s := S1x2048x576) ![0, 512, 0] S1x512x512.size inb_S1x2048x576_S1x512x512_0_512_0))
    (View.ld (Val := Elt Ideal) (e' := .bf16) (iblk m c 1 t) (Rect.unit (s := S1x2048x576) ![0, 1024, 0] S1x512x576.size inb_S1x2048x576_S1x512x576_0_1024_0))
    (View.ld (Val := Elt Ideal) (e' := .bf16) (iblk m c 1 t) (Rect.unit (s := S1x2048x576) ![0, 1024, 0] S1x512x512.size inb_S1x2048x576_S1x512x512_0_1024_0))

theorem outF (c : Dev nD) (t : Fin cfg0.N) (h0 : ¬t.val % 16 ≤ 1) (h1 : ¬(2 ≤ t.val % 16 ∧ t.val % 16 ≤ 3)) (h2 : ¬(4 ≤ t.val % 16 ∧ t.val % 16 ≤ 5)) (h3 : ¬(6 ≤ t.val % 16 ∧ t.val % 16 ≤ 7)) (h4 : ¬(8 ≤ t.val % 16 ∧ t.val % 16 ≤ 9)) (h5 : (10 ≤ t.val % 16 ∧ t.val % 16 ≤ 11)) (h6 : ¬(12 ≤ t.val % 16 ∧ t.val % 16 ≤ 13)) (h7 : ¬14 ≤ t.val % 16) (y : S1x128x1024.Idx) :
    outsAt0 m c t.val t.isLt y = through (out (atF m c t)) (iblk m c 2 t) y := by
  rw [outsAt0_F m c t h0 h1 h2 h3 h4 h5 h6 h7]
  frame_out
  unfold atF
  rw [← rowsF]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

/-- The tiles of case G: 3 full tiles, then 256 keys under the mask. -/
def stG (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x512x576 .bf16) (v2 : FVec Ideal S1x512x512 .bf16) (k3 : FVec Ideal S1x256x576 .bf16) (v3 : FVec Ideal S1x256x512 .bf16) : St :=
  stepH (stepF (stepF (startF (scoreF q k0) v0) (scoreF q k1) v1) (scoreF q k2) v2) (maskH 1536#32 lim (scoreH q k3)) v3

theorem rowsG (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x512x576 .bf16) (v2 : FVec Ideal S1x512x512 .bf16) (k3 : FVec Ideal S1x256x576 .bf16) (v3 : FVec Ideal S1x256x512 .bf16) :
    k0_pay128 (k0_pay122 (k0_pay115 q k2) (k0_pay116 q k0 k1)) (k0_pay125 (k0_pay111 q k0) (k0_pay113 q k0) (k0_pay115 q k2) (k0_pay116 q k0 k1) (k0_pay118 q k0 k1)) (k0_pay126 (k0_pay111 q k0) (k0_pay114 q k0 v0) (k0_pay115 q k2) (k0_pay116 q k0 k1) (k0_pay119 q k0 k1) (k0_pay120 v1) v2) (k0_pay127 q lim k3) v3
      = out (stG q lim k0 v0 k1 v1 k2 v2 k3 v3) := by
  rw [pay111, pay113, pay114, pay115, pay116, pay118, pay119, pay120, pay127]
  rw [pay122 _ (sumF (expF (scoreF q k0) (topF (scoreF q k0)))) (valF (expF (scoreF q k0) (topF (scoreF q k0))) v0) _ _ v1 v2, pay125 _ _ (valF (expF (scoreF q k0) (topF (scoreF q k0))) v0) _ _ v1 v2, pay126 _ (sumF (expF (scoreF q k0) (topF (scoreF q k0)))), pay128]
  rfl

/-- Case G on the blocks of a grid point. -/
def atG (c : Dev nD) (t : Fin cfg0.N) : St :=
  stG (k0_pay165 (iblk m c 0 t)) (k0_pay166 (grid0.coords t))
    (View.ld (Val := Elt Ideal) (e' := .bf16) (iblk m c 1 t) (Rect.unit (s := S1x2048x576) ![0, 0, 0] S1x512x576.size inb_S1x2048x576_S1x512x576_0_0_0))
    (View.ld (Val := Elt Ideal) (e' := .bf16) (iblk m c 1 t) (Rect.unit (s := S1x2048x576) ![0, 0, 0] S1x512x512.size inb_S1x2048x576_S1x512x512_0_0_0))
    (View.ld (Val := Elt Ideal) (e' := .bf16) (iblk m c 1 t) (Rect.unit (s := S1x2048x576) ![0, 512, 0] S1x512x576.size inb_S1x2048x576_S1x512x576_0_512_0))
    (View.ld (Val := Elt Ideal) (e' := .bf16) (iblk m c 1 t) (Rect.unit (s := S1x2048x576) ![0, 512, 0] S1x512x512.size inb_S1x2048x576_S1x512x512_0_512_0))
    (View.ld (Val := Elt Ideal) (e' := .bf16) (iblk m c 1 t) (Rect.unit (s := S1x2048x576) ![0, 1024, 0] S1x512x576.size inb_S1x2048x576_S1x512x576_0_1024_0))
    (View.ld (Val := Elt Ideal) (e' := .bf16) (iblk m c 1 t) (Rect.unit (s := S1x2048x576) ![0, 1024, 0] S1x512x512.size inb_S1x2048x576_S1x512x512_0_1024_0))
    (View.ld (Val := Elt Ideal) (e' := .bf16) (iblk m c 1 t) (Rect.unit (s := S1x2048x576) ![0, 1536, 0] S1x256x576.size inb_S1x2048x576_S1x256x576_0_1536_0))
    (View.ld (Val := Elt Ideal) (e' := .bf16) (iblk m c 1 t) (Rect.unit (s := S1x2048x576) ![0, 1536, 0] S1x256x512.size inb_S1x2048x576_S1x256x512_0_1536_0))

theorem outG (c : Dev nD) (t : Fin cfg0.N) (h0 : ¬t.val % 16 ≤ 1) (h1 : ¬(2 ≤ t.val % 16 ∧ t.val % 16 ≤ 3)) (h2 : ¬(4 ≤ t.val % 16 ∧ t.val % 16 ≤ 5)) (h3 : ¬(6 ≤ t.val % 16 ∧ t.val % 16 ≤ 7)) (h4 : ¬(8 ≤ t.val % 16 ∧ t.val % 16 ≤ 9)) (h5 : ¬(10 ≤ t.val % 16 ∧ t.val % 16 ≤ 11)) (h6 : (12 ≤ t.val % 16 ∧ t.val % 16 ≤ 13)) (h7 : ¬14 ≤ t.val % 16) (y : S1x128x1024.Idx) :
    outsAt0 m c t.val t.isLt y = through (out (atG m c t)) (iblk m c 2 t) y := by
  rw [outsAt0_G m c t h0 h1 h2 h3 h4 h5 h6 h7]
  frame_out
  unfold atG
  rw [← rowsG]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

/-- The tiles of case H: 3 full tiles, then 512 keys under the mask. -/
def stH (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x512x576 .bf16) (v2 : FVec Ideal S1x512x512 .bf16) (k3 : FVec Ideal S1x512x576 .bf16) (v3 : FVec Ideal S1x512x512 .bf16) : St :=
  stepF (stepF (stepF (startF (scoreF q k0) v0) (scoreF q k1) v1) (scoreF q k2) v2) (maskF 1536#32 lim (scoreF q k3)) v3

theorem rowsH (q : FVec Ideal S1024x576 .bf16) (lim : IVec S1024x1 32) (k0 : FVec Ideal S1x512x576 .bf16) (v0 : FVec Ideal S1x512x512 .bf16) (k1 : FVec Ideal S1x512x576 .bf16) (v1 : FVec Ideal S1x512x512 .bf16) (k2 : FVec Ideal S1x512x576 .bf16) (v2 : FVec Ideal S1x512x512 .bf16) (k3 : FVec Ideal S1x512x576 .bf16) (v3 : FVec Ideal S1x512x512 .bf16) :
    k0_pay156 (k0_pay150 (k0_pay143 q k2) (k0_pay144 q k0 k1)) (k0_pay153 (k0_pay139 q k0) (k0_pay141 q k0) (k0_pay143 q k2) (k0_pay144 q k0 k1) (k0_pay146 q k0 k1)) (k0_pay154 (k0_pay139 q k0) (k0_pay142 q k0 v0) (k0_pay143 q k2) (k0_pay144 q k0 k1) (k0_pay147 q k0 k1) (k0_pay148 v1) v2) (k0_pay155 q lim k3) v3
      = out (stH q lim k0 v0 k1 v1 k2 v2 k3 v3) := by
  rw [pay139, pay141, pay142, pay143, pay144, pay146, pay147, pay148, pay155]
  rw [pay150 _ (sumF (expF (scoreF q k0) (topF (scoreF q k0)))) (valF (expF (scoreF q k0) (topF (scoreF q k0))) v0) _ _ v1 v2, pay153 _ _ (valF (expF (scoreF q k0) (topF (scoreF q k0))) v0) _ _ v1 v2, pay154 _ (sumF (expF (scoreF q k0) (topF (scoreF q k0)))), pay156]
  rfl

/-- Case H on the blocks of a grid point. -/
def atH (c : Dev nD) (t : Fin cfg0.N) : St :=
  stH (k0_pay165 (iblk m c 0 t)) (k0_pay166 (grid0.coords t))
    (View.ld (Val := Elt Ideal) (e' := .bf16) (iblk m c 1 t) (Rect.unit (s := S1x2048x576) ![0, 0, 0] S1x512x576.size inb_S1x2048x576_S1x512x576_0_0_0))
    (View.ld (Val := Elt Ideal) (e' := .bf16) (iblk m c 1 t) (Rect.unit (s := S1x2048x576) ![0, 0, 0] S1x512x512.size inb_S1x2048x576_S1x512x512_0_0_0))
    (View.ld (Val := Elt Ideal) (e' := .bf16) (iblk m c 1 t) (Rect.unit (s := S1x2048x576) ![0, 512, 0] S1x512x576.size inb_S1x2048x576_S1x512x576_0_512_0))
    (View.ld (Val := Elt Ideal) (e' := .bf16) (iblk m c 1 t) (Rect.unit (s := S1x2048x576) ![0, 512, 0] S1x512x512.size inb_S1x2048x576_S1x512x512_0_512_0))
    (View.ld (Val := Elt Ideal) (e' := .bf16) (iblk m c 1 t) (Rect.unit (s := S1x2048x576) ![0, 1024, 0] S1x512x576.size inb_S1x2048x576_S1x512x576_0_1024_0))
    (View.ld (Val := Elt Ideal) (e' := .bf16) (iblk m c 1 t) (Rect.unit (s := S1x2048x576) ![0, 1024, 0] S1x512x512.size inb_S1x2048x576_S1x512x512_0_1024_0))
    (View.ld (Val := Elt Ideal) (e' := .bf16) (iblk m c 1 t) (Rect.unit (s := S1x2048x576) ![0, 1536, 0] S1x512x576.size inb_S1x2048x576_S1x512x576_0_1536_0))
    (View.ld (Val := Elt Ideal) (e' := .bf16) (iblk m c 1 t) (Rect.unit (s := S1x2048x576) ![0, 1536, 0] S1x512x512.size inb_S1x2048x576_S1x512x512_0_1536_0))

theorem outH (c : Dev nD) (t : Fin cfg0.N) (h0 : ¬t.val % 16 ≤ 1) (h1 : ¬(2 ≤ t.val % 16 ∧ t.val % 16 ≤ 3)) (h2 : ¬(4 ≤ t.val % 16 ∧ t.val % 16 ≤ 5)) (h3 : ¬(6 ≤ t.val % 16 ∧ t.val % 16 ≤ 7)) (h4 : ¬(8 ≤ t.val % 16 ∧ t.val % 16 ≤ 9)) (h5 : ¬(10 ≤ t.val % 16 ∧ t.val % 16 ≤ 11)) (h6 : ¬(12 ≤ t.val % 16 ∧ t.val % 16 ≤ 13)) (h7 : 14 ≤ t.val % 16) (y : S1x128x1024.Idx) :
    outsAt0 m c t.val t.isLt y = through (out (atH m c t)) (iblk m c 2 t) y := by
  rw [outsAt0_H m c t h0 h1 h2 h3 h4 h5 h6 h7]
  frame_out
  unfold atH
  rw [← rowsH]
  canon_tiles x h
  · exact headPiece 7 (by norm_num) _ _ slices_S1024x512_o896_0_S128x512 inb_S8x512x128_S1x512x128_7_0_0 x y (by assumption) (by assumption)
  · exact headPiece 6 (by norm_num) _ _ slices_S1024x512_o768_0_S128x512 inb_S8x512x128_S1x512x128_6_0_0 x y (by assumption) (by assumption)
  · exact headPiece 5 (by norm_num) _ _ slices_S1024x512_o640_0_S128x512 inb_S8x512x128_S1x512x128_5_0_0 x y (by assumption) (by assumption)
  · exact headPiece 4 (by norm_num) _ _ slices_S1024x512_o512_0_S128x512 inb_S8x512x128_S1x512x128_4_0_0 x y (by assumption) (by assumption)
  · exact headPiece 3 (by norm_num) _ _ slices_S1024x512_o384_0_S128x512 inb_S8x512x128_S1x512x128_3_0_0 x y (by assumption) (by assumption)
  · exact headPiece 2 (by norm_num) _ _ slices_S1024x512_o256_0_S128x512 inb_S8x512x128_S1x512x128_2_0_0 x y (by assumption) (by assumption)
  · exact headPiece 1 (by norm_num) _ _ slices_S1024x512_o128_0_S128x512 inb_S8x512x128_S1x512x128_1_0_0 x y (by assumption) (by assumption)
  · exact headPiece 0 (by norm_num) _ _ slices_S1024x512_o0_0_S128x512 inb_S8x512x128_S1x512x128_0_0_0 x y (by assumption) (by omega)

end Cert.AttnIdeal.Cases
-- ==== Proof.Blocks.lean ====
module

public import proofs.«01_k».proof.Proof.Cases
public import Idealize.ShloMosaic.Lib.Claim

/-! The blocks of a grid point in terms of the arguments, and the limit of each row. -/

@[expose] public section

set_option maxRecDepth 16384

noncomputable section

open Idealize.ShloMosaic Idealize.ShloMosaic.TcCoe Idealize.SL.Sem
open Idealize.ShloMosaic.Pipeline (Dat)

namespace Cert.AttnIdeal.Blocks

open Cert.AttnIdeal Cert.AttnIdeal.Gen Cert.AttnIdeal.Value Cert.AttnIdeal.Tiles Cert.AttnIdeal.Cases

variable (m : (ℓ : Loc nD τ sig) → Buf (Elt Ideal) ℓ)

/-- The queries. -/
def argQ (c : Dev nD) : FVec Ideal S16x8x2048x576 .bf16 := m ((c : Thread nD τ).loc main_arg0)

/-- The keys, whose first 512 columns are the values. -/
def argK (c : Dev nD) : FVec Ideal S16x2048x576 .bf16 := m ((c : Thread nD τ).loc main_arg1)

/-- The up-projection. -/
def argW (c : Dev nD) : FVec Ideal S512x2048 .f32 := m ((c : Thread nD τ).loc main_arg2)

/-- Where each window stands at a grid point. -/
theorem idx : ∀ t : Fin cfg0.N, win0_0.index t = ![t.val / 16, 0, t.val % 16, 0]
    ∧ win0_1.index t = ![t.val / 16, 0, 0] ∧ win0_2.index t = ![0, 0, 0]
    ∧ win0_3.index t = ![t.val / 16, t.val % 16, 0] ∧ (grid0.coords t 1).val = t.val % 16 ∧ t.val / 16 < 16 :=
  (by decide +kernel : ∀ t : Fin grid0.N, _)

theorem batch_lt (t : Fin cfg0.N) : t.val / 16 < 16 := (idx t).2.2.2.2.2

theorem frame_lt (t : Fin cfg0.N) (r : Fin 1024) : t.val % 16 * 128 + r.val % 128 < 2048 := by omega

/-- The batch of a grid point. -/
def bat (t : Fin cfg0.N) : Fin 16 := ⟨t.val / 16, batch_lt t⟩

/-- The head of a row. -/
def hd (r : Fin 1024) : Fin 8 := ⟨r.val / 128, by omega⟩

/-- The frame of a row. -/
def frm (t : Fin cfg0.N) (r : Fin 1024) : Fin 2048 := ⟨t.val % 16 * 128 + r.val % 128, frame_lt t r⟩

theorem queries (c : Dev nD) (t : Fin cfg0.N) (r : Fin 1024) (e : Fin 576) :
    k0_pay165 (F := Ideal) (iblk m c 0 t) (ix2 r e) = argQ m c (ix4 (bat t) (hd r) (frm t r) e) := by
  pointwise [k0_pay165]
  unfold argQ
  blk_point [iblk, V, idx t, bat, hd, frm]

theorem keyBlock (c : Dev nD) (t : Fin cfg0.N) (k : Fin 2048) (e : Fin 576) :
    (iblk m c 1 t : FVec Ideal S1x2048x576 .bf16) (ix3 0 k e) = argK m c (ix3 (bat t) k e) := by
  unfold argK
  blk_ext [iblk, V, idx t, bat]

theorem keysF (c : Dev nD) (t : Fin cfg0.N) (o : ℕ) (h : ∀ a, (![0, o, 0] : Fin 3 → ℕ) a + S1x512x576.size a ≤ S1x2048x576.size a)
    (k : Fin 512) (e : Fin 576) (hk : o + k.val < 2048) :
    View.ld (Val := Elt Ideal) (e' := .bf16) (iblk m c 1 t) (Rect.unit (s := S1x2048x576) ![0, o, 0] S1x512x576.size h) (ix3 0 k e)
      = argK m c (ix3 (bat t) ⟨o + k.val, hk⟩ e) := by
  rw [← keyBlock m c t]
  show (iblk m c 1 t : FVec Ideal S1x2048x576 .bf16) _ = (iblk m c 1 t : FVec Ideal S1x2048x576 .bf16) _
  congr 1
  ext a
  fin_cases a <;> simp [Rect.unit, ix3]

theorem keysH (c : Dev nD) (t : Fin cfg0.N) (o : ℕ) (h : ∀ a, (![0, o, 0] : Fin 3 → ℕ) a + S1x256x576.size a ≤ S1x2048x576.size a)
    (k : Fin 256) (e : Fin 576) (hk : o + k.val < 2048) :
    View.ld (Val := Elt Ideal) (e' := .bf16) (iblk m c 1 t) (Rect.unit (s := S1x2048x576) ![0, o, 0] S1x256x576.size h) (ix3 0 k e)
      = argK m c (ix3 (bat t) ⟨o + k.val, hk⟩ e) := by
  rw [← keyBlock m c t]
  show (iblk m c 1 t : FVec Ideal S1x2048x576 .bf16) _ = (iblk m c 1 t : FVec Ideal S1x2048x576 .bf16) _
  congr 1
  ext a
  fin_cases a <;> simp [Rect.unit, ix3]

theorem valuesF (c : Dev nD) (t : Fin cfg0.N) (o : ℕ) (h : ∀ a, (![0, o, 0] : Fin 3 → ℕ) a + S1x512x512.size a ≤ S1x2048x576.size a)
    (k : Fin 512) (e : Fin 512) (hk : o + k.val < 2048) :
    View.ld (Val := Elt Ideal) (e' := .bf16) (iblk m c 1 t) (Rect.unit (s := S1x2048x576) ![0, o, 0] S1x512x512.size h) (ix3 0 k e)
      = argK m c (ix3 (bat t) ⟨o + k.val, hk⟩ ⟨e.val, by omega⟩) := by
  rw [← keyBlock m c t]
  show (iblk m c 1 t : FVec Ideal S1x2048x576 .bf16) _ = (iblk m c 1 t : FVec Ideal S1x2048x576 .bf16) _
  congr 1
  ext a
  fin_cases a <;> simp [Rect.unit, ix3]

theorem valuesH (c : Dev nD) (t : Fin cfg0.N) (o : ℕ) (h : ∀ a, (![0, o, 0] : Fin 3 → ℕ) a + S1x256x512.size a ≤ S1x2048x576.size a)
    (k : Fin 256) (e : Fin 512) (hk : o + k.val < 2048) :
    View.ld (Val := Elt Ideal) (e' := .bf16) (iblk m c 1 t) (Rect.unit (s := S1x2048x576) ![0, o, 0] S1x256x512.size h) (ix3 0 k e)
      = argK m c (ix3 (bat t) ⟨o + k.val, hk⟩ ⟨e.val, by omega⟩) := by
  rw [← keyBlock m c t]
  show (iblk m c 1 t : FVec Ideal S1x2048x576 .bf16) _ = (iblk m c 1 t : FVec Ideal S1x2048x576 .bf16) _
  congr 1
  ext a
  fin_cases a <;> simp [Rect.unit, ix3]

/-- The value up-projection the host cuts out, head by head. -/
theorem ups (c : Dev nD) (t : Fin cfg0.N) (h : Fin 8) (d : Fin 512) (v : Fin 128) :
    (iblk m c 2 t : FVec Ideal S8x512x128 .bf16) (ix3 h d v)
      = argW m c (ix2 d ⟨h.val * 256 + 128 + v.val, by omega⟩) := by
  unfold argW
  blk_simp [iblk]
  entry_read
  pointwise []
  blk_ext [idx t]

/-- The number of keys a row sees: its chunk of 64 frames and all before. -/
def lim (t : Fin cfg0.N) (r : Fin 1024) : ℕ := ((frm t r).val / 64 + 1) * 64

/-- The remainder of a row's number, as words. -/
theorem rem_words : ∀ r : Fin 1024, IntOp.remsi ArithUnit.vector (BitVec.ofNat 32 r.val) 128#32 = BitVec.ofNat 32 (r.val % 128) := by
  decide +kernel

/-- The limit's computation at frame `s` of group `j`, as words. -/
theorem limit_words : ∀ (j : Fin 16) (s : Fin 128), (IntOp.muli
      (IntOp.addi
        (Scalar.select
          (IntOp.andi
            (IntOp.cmpi CmpIPredicate.ne
              (IntOp.subi
                (BitVec.setWidth 32
                  (IntOp.cmpi CmpIPredicate.sgt
                    (IntOp.addi (Scalar.muli (BitVec.ofNat 32 j.val) 128#32)
                      (BitVec.ofNat 32 s.val))
                    0#32))
                (BitVec.setWidth 32
                  (IntOp.cmpi CmpIPredicate.slt
                    (IntOp.addi (Scalar.muli (BitVec.ofNat 32 j.val) 128#32)
                      (BitVec.ofNat 32 s.val))
                    0#32)))
              (Scalar.subi (Scalar.extui (Scalar.cmpi CmpIPredicate.sgt 64#32 0#32))
                (Scalar.extui (Scalar.cmpi CmpIPredicate.slt 64#32 0#32))))
            (IntOp.cmpi CmpIPredicate.ne
              (IntOp.remsi ArithUnit.vector
                (IntOp.addi (Scalar.muli (BitVec.ofNat 32 j.val) 128#32)
                  (BitVec.ofNat 32 s.val))
                64#32)
              0#32))
          (IntOp.subi
            (IntOp.divsi ArithUnit.vector
              (IntOp.addi (Scalar.muli (BitVec.ofNat 32 j.val) 128#32)
                (BitVec.ofNat 32 s.val))
              64#32)
            1#32)
          (IntOp.divsi ArithUnit.vector
            (IntOp.addi (Scalar.muli (BitVec.ofNat 32 j.val) 128#32)
              (BitVec.ofNat 32 s.val))
            64#32))
        1#32)
      64#32) =
    BitVec.ofNat 32 (((j.val * 128 + s.val) / 64 + 1) * 64) := by
  decide +kernel

theorem limit (t : Fin cfg0.N) (r : Fin 1024) : k0_pay166 (grid0.coords t) (ix2 r 0) = BitVec.ofNat 32 (lim t r) := by
  pointwise [k0_pay166]
  rw [rem_words r, (idx t).2.2.2.2.1]
  exact limit_words ⟨t.val % 16, Nat.mod_lt _ (by norm_num)⟩ ⟨r.val % 128, Nat.mod_lt _ (by norm_num)⟩

end Cert.AttnIdeal.Blocks
-- ==== Proof.Attention.lean ====
module

public import proofs.«01_k».proof.Proof.Blocks

/-! What the kernel's result array holds: for every batch, head and frame, the softmax-weighted values of the frames that
are seen, through the head's slice of the value up-projection. -/

@[expose] public section

set_option maxRecDepth 16384

noncomputable section

open Idealize.ShloMosaic Idealize.ShloMosaic.TcCoe Idealize.SL.Sem
open Idealize.ShloMosaic.Pipeline (Dat)

namespace Cert.AttnIdeal.Attention

open Cert.AttnIdeal Cert.AttnIdeal.Gen Cert.AttnIdeal.Value Cert.AttnIdeal.Tiles Cert.AttnIdeal.Cases Cert.AttnIdeal.Blocks

/-- The score of key `k` for the query at batch `b`, head `h`, frame `n`. -/
def raw (Q : FVec Ideal S16x8x2048x576 .bf16) (K : FVec Ideal S16x2048x576 .bf16) (b : Fin 16) (h : Fin 8)
    (n k : Fin 2048) : EReal :=
  ∑ e : Fin 576, Q (ix4 b h n e) * K (ix3 b k e)

/-- The score, and minus infinity at the keys that frame `n` does not see: those after its chunk of 64. -/
def seen (Q : FVec Ideal S16x8x2048x576 .bf16) (K : FVec Ideal S16x2048x576 .bf16) (b : Fin 16) (h : Fin 8)
    (n : Fin 2048) (k : ℕ) : EReal :=
  if hk : k < 2048 then if k < (n.val / 64 + 1) * 64 then raw Q K b h n ⟨k, hk⟩ else ⊥ else ⊥

/-- The values, as reals. -/
def vals (K : FVec Ideal S16x2048x576 .bf16) (b : Fin 16) (d : Fin 512) (k : ℕ) : ℝ :=
  if hk : k < 2048 then (K (ix3 b ⟨k, hk⟩ ⟨d.val, by omega⟩)).toReal else 0

/-- Every entry of an array is a real number. -/
def Real' {S : Shape} {φ : FTy} (X : FVec Ideal S φ) : Prop := ∀ i, ∃ x : ℝ, X i = (x : EReal)

section
variable {Q : FVec Ideal S16x8x2048x576 .bf16} {K : FVec Ideal S16x2048x576 .bf16} (hQ : Real' Q) (hK : Real' K)
include hQ hK

theorem raw_real (b : Fin 16) (h : Fin 8) (n k : Fin 2048) : ∃ x : ℝ, raw Q K b h n k = (x : EReal) := by
  choose f hf using hQ
  choose g hg using hK
  refine ⟨∑ e : Fin 576, f (ix4 b h n e) * g (ix3 b k e), ?_⟩
  unfold raw
  rw [Softmax.coe_sum]
  exact Finset.sum_congr rfl fun e _ => by rw [hf, hg, EReal.coe_mul]

theorem seen_ne_top (b : Fin 16) (h : Fin 8) (n : Fin 2048) (k : ℕ) : seen Q K b h n k ≠ ⊤ := by
  unfold seen
  split_ifs with h1 h2
  · obtain ⟨x, hx⟩ := raw_real hQ hK b h n ⟨k, h1⟩
    rw [hx]; exact EReal.coe_ne_top x
  · exact bot_ne_top
  · exact bot_ne_top

theorem seen_zero (b : Fin 16) (h : Fin 8) (n : Fin 2048) : seen Q K b h n 0 ≠ ⊥ := by
  unfold seen
  rw [dif_pos (by norm_num), if_pos (by positivity)]
  obtain ⟨x, hx⟩ := raw_real hQ hK b h n ⟨0, by norm_num⟩
  rw [hx]; exact EReal.coe_ne_bot x
end

theorem vals_eq {K : FVec Ideal S16x2048x576 .bf16} (hK : Real' K) (b : Fin 16) (d : Fin 512) (k : ℕ) (hk : k < 2048) :
    K (ix3 b ⟨k, hk⟩ ⟨d.val, by omega⟩) = (vals K b d k : EReal) := by
  unfold vals
  rw [dif_pos hk]
  obtain ⟨x, hx⟩ := hK (ix3 b ⟨k, hk⟩ ⟨d.val, by omega⟩)
  rw [hx, EReal.toReal_coe]

/-- The softmax-weighted values. -/
def mixed (Q : FVec Ideal S16x8x2048x576 .bf16) (K : FVec Ideal S16x2048x576 .bf16) (b : Fin 16) (h : Fin 8)
    (n : Fin 2048) (d : Fin 512) : ℝ :=
  (∑ k ∈ Finset.range 2048, Softmax.wt cc (seen Q K b h n k) * vals K b d k)
    / ∑ k ∈ Finset.range 2048, Softmax.wt cc (seen Q K b h n k)

/-- The whole result, at an index. -/
def result (Q : FVec Ideal S16x8x2048x576 .bf16) (K : FVec Ideal S16x2048x576 .bf16) (W : FVec Ideal S512x2048 .f32) :
    FVec Ideal S16x2048x1024 .bf16 := fun i =>
  ∑ d : Fin 512, (mixed Q K (i 0) ⟨(i 2).val / 128, by have h : (i 2).val < 1024 := (i 2).isLt; omega⟩ (i 1) d : EReal)
    * W (ix2 d ⟨(i 2).val / 128 * 256 + 128 + (i 2).val % 128, by have h : (i 2).val < 1024 := (i 2).isLt; omega⟩)

/-! ## A grid point -/

section
variable (m : (ℓ : Loc nD τ sig) → Buf (Elt Ideal) ℓ) (c : Dev nD) (t : Fin cfg0.N)

/-- The scores of a row of the block. -/
def S (r : Fin 1024) (k : ℕ) : EReal := seen (argQ m c) (argK m c) (bat t) (hd r) (frm t r) k

/-- The values of the block. -/
def Vl (d : Fin 512) (k : ℕ) : ℝ := vals (argK m c) (bat t) d k

theorem lim_le (r : Fin 1024) : lim t r ≤ 2048 := by
  have := (frm t r).isLt
  unfold lim
  omega

theorem lim_lt (r : Fin 1024) : lim t r < 4096 := by
  have := lim_le t r
  omega

/-- A full tile of 512 keys, all seen. -/
theorem fullF (o : ℕ) (ho : o + 512 ≤ t.val % 16 * 128)
    (h : ∀ a, (![0, o, 0] : Fin 3 → ℕ) a + S1x512x576.size a ≤ S1x2048x576.size a) (r : Fin 1024) (k : Fin 512) :
    scoreF (k0_pay165 (iblk m c 0 t)) (View.ld (Val := Elt Ideal) (e' := .bf16) (iblk m c 1 t)
      (Rect.unit (s := S1x2048x576) ![0, o, 0] S1x512x576.size h)) (ix2 r k) = S m c t r (o + k) := by
  have hk := k.isLt
  have hj : t.val % 16 < 16 := Nat.mod_lt _ (by norm_num)
  rw [scoreF_at]
  unfold S seen
  rw [dif_pos (by omega), if_pos (by simp only [frm]; omega)]
  unfold raw
  refine Finset.sum_congr rfl fun e _ => ?_
  rw [queries, keysF _ _ _ _ _ _ _ (by omega)]

/-- A tile of 512 keys under the mask. -/
theorem maskedF (o : ℕ) (ho : o + 512 ≤ 2048)
    (h : ∀ a, (![0, o, 0] : Fin 3 → ℕ) a + S1x512x576.size a ≤ S1x2048x576.size a) (r : Fin 1024) (k : Fin 512) :
    maskF (BitVec.ofNat 32 o) (k0_pay166 (grid0.coords t)) (scoreF (k0_pay165 (iblk m c 0 t))
      (View.ld (Val := Elt Ideal) (e' := .bf16) (iblk m c 1 t)
      (Rect.unit (s := S1x2048x576) ![0, o, 0] S1x512x576.size h))) (ix2 r k) = S m c t r (o + k) := by
  have hk := k.isLt
  rw [maskF_at o (by omega) _ (lim t) (limit t) (lim_lt t), scoreF_at]
  unfold S seen
  rw [dif_pos (by omega)]
  refine if_congr Iff.rfl ?_ rfl
  unfold raw
  refine Finset.sum_congr rfl fun e _ => ?_
  rw [queries, keysF _ _ _ _ _ _ _ (by omega)]

/-- A full tile of 256 keys, all seen. -/
theorem fullH (o : ℕ) (ho : o + 256 ≤ t.val % 16 * 128)
    (h : ∀ a, (![0, o, 0] : Fin 3 → ℕ) a + S1x256x576.size a ≤ S1x2048x576.size a) (r : Fin 1024) (k : Fin 256) :
    scoreH (k0_pay165 (iblk m c 0 t)) (View.ld (Val := Elt Ideal) (e' := .bf16) (iblk m c 1 t)
      (Rect.unit (s := S1x2048x576) ![0, o, 0] S1x256x576.size h)) (ix2 r k) = S m c t r (o + k) := by
  have hk := k.isLt
  have hj : t.val % 16 < 16 := Nat.mod_lt _ (by norm_num)
  rw [scoreH_at]
  unfold S seen
  rw [dif_pos (by omega), if_pos (by simp only [frm]; omega)]
  unfold raw
  refine Finset.sum_congr rfl fun e _ => ?_
  rw [queries, keysH _ _ _ _ _ _ _ (by omega)]

/-- A tile of 256 keys under the mask. -/
theorem maskedH (o : ℕ) (ho : o + 256 ≤ 2048)
    (h : ∀ a, (![0, o, 0] : Fin 3 → ℕ) a + S1x256x576.size a ≤ S1x2048x576.size a) (r : Fin 1024) (k : Fin 256) :
    maskH (BitVec.ofNat 32 o) (k0_pay166 (grid0.coords t)) (scoreH (k0_pay165 (iblk m c 0 t))
      (View.ld (Val := Elt Ideal) (e' := .bf16) (iblk m c 1 t)
      (Rect.unit (s := S1x2048x576) ![0, o, 0] S1x256x576.size h))) (ix2 r k) = S m c t r (o + k) := by
  have hk := k.isLt
  rw [maskH_at o (by omega) _ (lim t) (limit t) (lim_lt t), scoreH_at]
  unfold S seen
  rw [dif_pos (by omega)]
  refine if_congr Iff.rfl ?_ rfl
  unfold raw
  refine Finset.sum_congr rfl fun e _ => ?_
  rw [queries, keysH _ _ _ _ _ _ _ (by omega)]

variable (hQ : Real' (argQ m c)) (hK : Real' (argK m c))

include hK in
/-- The values of a tile of 512 keys. -/
theorem tileF (o : ℕ) (ho : o + 512 ≤ 2048)
    (h : ∀ a, (![0, o, 0] : Fin 3 → ℕ) a + S1x512x512.size a ≤ S1x2048x576.size a) (k : Fin 512) (d : Fin 512) :
    View.ld (Val := Elt Ideal) (e' := .bf16) (iblk m c 1 t) (Rect.unit (s := S1x2048x576) ![0, o, 0] S1x512x512.size h)
      (ix3 0 k d) = (Vl m c t d (o + k) : EReal) := by
  have hk := k.isLt
  rw [valuesF _ _ _ _ _ _ _ (by omega)]
  exact vals_eq hK _ _ _ _

include hK in
/-- The values of a tile of 256 keys. -/
theorem tileH (o : ℕ) (ho : o + 256 ≤ 2048)
    (h : ∀ a, (![0, o, 0] : Fin 3 → ℕ) a + S1x256x512.size a ≤ S1x2048x576.size a) (k : Fin 256) (d : Fin 512) :
    View.ld (Val := Elt Ideal) (e' := .bf16) (iblk m c 1 t) (Rect.unit (s := S1x2048x576) ![0, o, 0] S1x256x512.size h)
      (ix3 0 k d) = (Vl m c t d (o + k) : EReal) := by
  have hk := k.isLt
  rw [valuesH _ _ _ _ _ _ _ (by omega)]
  exact vals_eq hK _ _ _ _

include hQ hK

theorem S_top (r : Fin 1024) (k : ℕ) : S m c t r k ≠ ⊤ := seen_ne_top hQ hK _ _ _ _

theorem S_zero (r : Fin 1024) : S m c t r 0 ≠ ⊥ := seen_zero hQ hK _ _ _

/-- Once every seen key has been taken, the rows are the softmax-weighted values. -/
theorem done {N : ℕ} (hN : 0 < N) (hN' : N ≤ 2048) (hl : t.val % 16 * 128 + 128 ≤ N) {x : St}
    (hx : Tiles.Inv (S m c t) (Vl m c t) N x) (y : S1x128x1024.Idx) :
    through (out x) (iblk m c 2 t) y
      = result (argQ m c) (argK m c) (argW m c) (ix3 (bat t) ⟨t.val % 16 * 128 + (y 1).val, by
          have h1 : (y 1).val < 128 := (y 1).isLt
          omega⟩ (y 2)) := by
  have h1 : (y 1).val < 128 := (y 1).isLt
  have h2 : (y 2).val < 1024 := (y 2).isLt
  unfold through result
  refine Finset.sum_congr rfl fun d _ => ?_
  have hm : ∀ k, N ≤ k → S m c t (row y) k = ⊥ := fun k hk => by
    unfold S seen
    split_ifs with a b
    · exfalso
      simp only [frm, row] at b
      omega
    · rfl
    · rfl
  rw [out_inv hx hN (S_zero m c t hQ hK), ups, ← Softmax.sum_masked cc (S m c t (row y)) (Vl m c t d) hN' hm]
  have hd' := Softmax.sum_masked cc (S m c t (row y)) (fun _ => 1) hN' hm
  simp only [mul_one] at hd'
  rw [← hd']
  have er : hd (row y) = ⟨(y 2).val / 128, by omega⟩ := Fin.ext (by simp only [hd, row]; omega)
  have ef : frm t (row y) = ⟨t.val % 16 * 128 + (y 1).val, by omega⟩ := Fin.ext (by simp only [frm, row]; omega)
  unfold S Vl
  rw [er, ef]
  rfl

theorem invA (h : 0 ≤ t.val % 16) : Tiles.Inv (S m c t) (Vl m c t) 256 (atA m c t) :=
  startH_inv (S_top m c t hQ hK) (S_zero m c t hQ hK) _ _
    (fun r k => (maskedH m c t 0 (by norm_num) _ r k).trans (by rw [Nat.zero_add]))
    (fun k d => (tileH m c t hK 0 (by norm_num) _ k d).trans (by rw [Nat.zero_add]))

theorem invB (h : 2 ≤ t.val % 16) : Tiles.Inv (S m c t) (Vl m c t) 512 (atB m c t) :=
  startF_inv (S_top m c t hQ hK) (S_zero m c t hQ hK) _ _
    (fun r k => (maskedF m c t 0 (by norm_num) _ r k).trans (by rw [Nat.zero_add]))
    (fun k d => (tileF m c t hK 0 (by norm_num) _ k d).trans (by rw [Nat.zero_add]))

theorem invC (h : 4 ≤ t.val % 16) : Tiles.Inv (S m c t) (Vl m c t) 768 (atC m c t) :=
  stepH_inv (S_top m c t hQ hK) (startF_inv (S_top m c t hQ hK) (S_zero m c t hQ hK) _ _
    (fun r k => (fullF m c t 0 (by omega) _ r k).trans (by rw [Nat.zero_add]))
    (fun k d => (tileF m c t hK 0 (by norm_num) _ k d).trans (by rw [Nat.zero_add]))) _ _
    (fun r k => (maskedH m c t 512 (by norm_num) _ r k))
    (fun k d => (tileH m c t hK 512 (by norm_num) _ k d))

theorem invD (h : 6 ≤ t.val % 16) : Tiles.Inv (S m c t) (Vl m c t) 1024 (atD m c t) :=
  stepF_inv (S_top m c t hQ hK) (startF_inv (S_top m c t hQ hK) (S_zero m c t hQ hK) _ _
    (fun r k => (fullF m c t 0 (by omega) _ r k).trans (by rw [Nat.zero_add]))
    (fun k d => (tileF m c t hK 0 (by norm_num) _ k d).trans (by rw [Nat.zero_add]))) _ _
    (fun r k => (maskedF m c t 512 (by norm_num) _ r k))
    (fun k d => (tileF m c t hK 512 (by norm_num) _ k d))

theorem invE (h : 8 ≤ t.val % 16) : Tiles.Inv (S m c t) (Vl m c t) 1280 (atE m c t) :=
  stepH_inv (S_top m c t hQ hK) (stepF_inv (S_top m c t hQ hK) (startF_inv (S_top m c t hQ hK) (S_zero m c t hQ hK) _ _
    (fun r k => (fullF m c t 0 (by omega) _ r k).trans (by rw [Nat.zero_add]))
    (fun k d => (tileF m c t hK 0 (by norm_num) _ k d).trans (by rw [Nat.zero_add]))) _ _
    (fun r k => (fullF m c t 512 (by omega) _ r k))
    (fun k d => (tileF m c t hK 512 (by norm_num) _ k d))) _ _
    (fun r k => (maskedH m c t 1024 (by norm_num) _ r k))
    (fun k d => (tileH m c t hK 1024 (by norm_num) _ k d))

theorem invF (h : 10 ≤ t.val % 16) : Tiles.Inv (S m c t) (Vl m c t) 1536 (atF m c t) :=
  stepF_inv (S_top m c t hQ hK) (stepF_inv (S_top m c t hQ hK) (startF_inv (S_top m c t hQ hK) (S_zero m c t hQ hK) _ _
    (fun r k => (fullF m c t 0 (by omega) _ r k).trans (by rw [Nat.zero_add]))
    (fun k d => (tileF m c t hK 0 (by norm_num) _ k d).trans (by rw [Nat.zero_add]))) _ _
    (fun r k => (fullF m c t 512 (by omega) _ r k))
    (fun k d => (tileF m c t hK 512 (by norm_num) _ k d))) _ _
    (fun r k => (maskedF m c t 1024 (by norm_num) _ r k))
    (fun k d => (tileF m c t hK 1024 (by norm_num) _ k d))

theorem invG (h : 12 ≤ t.val % 16) : Tiles.Inv (S m c t) (Vl m c t) 1792 (atG m c t) :=
  stepH_inv (S_top m c t hQ hK) (stepF_inv (S_top m c t hQ hK) (stepF_inv (S_top m c t hQ hK) (startF_inv (S_top m c t hQ hK) (S_zero m c t hQ hK) _ _
    (fun r k => (fullF m c t 0 (by omega) _ r k).trans (by rw [Nat.zero_add]))
    (fun k d => (tileF m c t hK 0 (by norm_num) _ k d).trans (by rw [Nat.zero_add]))) _ _
    (fun r k => (fullF m c t 512 (by omega) _ r k))
    (fun k d => (tileF m c t hK 512 (by norm_num) _ k d))) _ _
    (fun r k => (fullF m c t 1024 (by omega) _ r k))
    (fun k d => (tileF m c t hK 1024 (by norm_num) _ k d))) _ _
    (fun r k => (maskedH m c t 1536 (by norm_num) _ r k))
    (fun k d => (tileH m c t hK 1536 (by norm_num) _ k d))

theorem invH (h : 14 ≤ t.val % 16) : Tiles.Inv (S m c t) (Vl m c t) 2048 (atH m c t) :=
  stepF_inv (S_top m c t hQ hK) (stepF_inv (S_top m c t hQ hK) (stepF_inv (S_top m c t hQ hK) (startF_inv (S_top m c t hQ hK) (S_zero m c t hQ hK) _ _
    (fun r k => (fullF m c t 0 (by omega) _ r k).trans (by rw [Nat.zero_add]))
    (fun k d => (tileF m c t hK 0 (by norm_num) _ k d).trans (by rw [Nat.zero_add]))) _ _
    (fun r k => (fullF m c t 512 (by omega) _ r k))
    (fun k d => (tileF m c t hK 512 (by norm_num) _ k d))) _ _
    (fun r k => (fullF m c t 1024 (by omega) _ r k))
    (fun k d => (tileF m c t hK 1024 (by norm_num) _ k d))) _ _
    (fun r k => (maskedF m c t 1536 (by norm_num) _ r k))
    (fun k d => (tileF m c t hK 1536 (by norm_num) _ k d))

/-- The block a grid point writes. -/
theorem point (y : S1x128x1024.Idx) :
    outsAt0 m c t.val t.isLt y
      = result (argQ m c) (argK m c) (argW m c) (ix3 (bat t) ⟨t.val % 16 * 128 + (y 1).val, by
          have h1 : (y 1).val < 128 := (y 1).isLt
          omega⟩ (y 2)) := by
  have hj : t.val % 16 < 16 := Nat.mod_lt _ (by norm_num)
  rcases (by omega : t.val % 16 ≤ 1 ∨ (2 ≤ t.val % 16 ∧ t.val % 16 ≤ 3) ∨ (4 ≤ t.val % 16 ∧ t.val % 16 ≤ 5)
      ∨ (6 ≤ t.val % 16 ∧ t.val % 16 ≤ 7) ∨ (8 ≤ t.val % 16 ∧ t.val % 16 ≤ 9) ∨ (10 ≤ t.val % 16 ∧ t.val % 16 ≤ 11)
      ∨ (12 ≤ t.val % 16 ∧ t.val % 16 ≤ 13) ∨ 14 ≤ t.val % 16) with h | h | h | h | h | h | h | h
  · rw [outA m c t h (by omega) (by omega) (by omega) (by omega) (by omega) (by omega) (by omega) y]
    exact done m c t hQ hK (by norm_num) (by norm_num) (by omega) (invA m c t hQ hK (by omega)) y
  · rw [outB m c t (by omega) h (by omega) (by omega) (by omega) (by omega) (by omega) (by omega) y]
    exact done m c t hQ hK (by norm_num) (by norm_num) (by omega) (invB m c t hQ hK (by omega)) y
  · rw [outC m c t (by omega) (by omega) h (by omega) (by omega) (by omega) (by omega) (by omega) y]
    exact done m c t hQ hK (by norm_num) (by norm_num) (by omega) (invC m c t hQ hK (by omega)) y
  · rw [outD m c t (by omega) (by omega) (by omega) h (by omega) (by omega) (by omega) (by omega) y]
    exact done m c t hQ hK (by norm_num) (by norm_num) (by omega) (invD m c t hQ hK (by omega)) y
  · rw [outE m c t (by omega) (by omega) (by omega) (by omega) h (by omega) (by omega) (by omega) y]
    exact done m c t hQ hK (by norm_num) (by norm_num) (by omega) (invE m c t hQ hK (by omega)) y
  · rw [outF m c t (by omega) (by omega) (by omega) (by omega) (by omega) h (by omega) (by omega) y]
    exact done m c t hQ hK (by norm_num) (by norm_num) (by omega) (invF m c t hQ hK (by omega)) y
  · rw [outG m c t (by omega) (by omega) (by omega) (by omega) (by omega) (by omega) h (by omega) y]
    exact done m c t hQ hK (by norm_num) (by norm_num) (by omega) (invG m c t hQ hK (by omega)) y
  · rw [outH m c t (by omega) (by omega) (by omega) (by omega) (by omega) (by omega) (by omega) h y]
    exact done m c t hQ hK (by norm_num) (by norm_num) (by omega) (invH m c t hQ hK (by omega)) y

end

variable (m : (ℓ : Loc nD τ sig) → Buf (Elt Ideal) ℓ) (c : Dev nD)

/-- What the kernel leaves in its result array. -/
theorem final (hQ : Real' (argQ m c)) (hK : Real' (argK m c)) :
    (dats m 0 c).arrAt 3 cfg0.N = result (argQ m c) (argK m c) (argW m c) := by
  refine (dats m 0 c).arrAt_eq_of_covers 3 _ (by decide +kernel) fun t _ y => ?_
  blk_simp
  rw [after0_3]
  refine (point m c t hQ hK y).trans ?_
  blk_ext [idx t, bat]

end Cert.AttnIdeal.Attention
-- ==== Proof.Reference.lean ====
module

public import proofs.«01_k».proof.Proof.Attention
public import proofs.«01_k».proof.Proof.Gen.AttnRefIdeal.Run
public import proofs.«01_k».proof.Proof.Gen.AttnRefIdeal.Read

/-! What the reference's result array holds, by the same formula as `Attention.result`. -/

@[expose] public section

set_option maxRecDepth 16384

noncomputable section

open Idealize.ShloMosaic Idealize.ShloMosaic.TcCoe Idealize.SL.Sem

namespace Cert.AttnRefIdeal.Softmaxed

open Cert.AttnRefIdeal Cert.AttnRefIdeal.Gen Cert.AttnRefIdeal.Read Cert.AttnIdeal.Attention

/-- A maximum over the last axis, at an index. -/
theorem fold_at (z : FVec Ideal S16x8x2048x2048 .f32) (init : FVec Ideal S_ .f32) (b : Fin 16) (h : Fin 8) (n : Fin 2048) :
    Host.reduce FloatOps.maximumf z init reducesTo_S16x8x2048x2048_S16x8x2048_d3 h_S_ (ix3 b h n)
      = Finset.univ.fold max (init (Shape.Idx.first h_S_)) fun k : Fin 2048 => z (ix4 b h n k) := by
  pointwise []

/-- The greater of two, at an index. -/
theorem max_at (y z : FVec Ideal S16x8x2048 .f32) (i : S16x8x2048.Idx) :
    maximumf y z i = (max (y i) (z i) : EReal) := by
  rfl

variable (Q : FVec Ideal S16x8x2048x576 .bf16) (K : FVec Ideal S16x2048x576 .bf16) (W : FVec Ideal S512x2048 .f32)

theorem score (b : Fin 16) (h : Fin 8) (n k : Fin 2048) :
    val_main_v8 (F := Ideal) Q K (ix4 b h n k) = raw Q K b h n k := by
  pointwise [val_main_v8, val_main_v7, val_main_v6, val_main_v5, val_main_v4, val_main_v3, val_main_v2, val_main_v1, val_main_v0]
  unfold raw
  rw [show (∑ e : Fin 576, Q (ix4 b h n e) * K (ix3 b k e))
      = ∑ e : Fin (512 + 64), Q (ix4 b h n e) * K (ix3 b k e) from rfl, Fin.sum_univ_add]
  rfl

theorem chunk : ∀ n : Fin 2048, (val_main_v13 (F := Ideal) (ix1 n) : BitVec 32) = BitVec.ofNat 32 (n.val / 64) := by
  decide +kernel

theorem sle_words (a b : ℕ) (ha : a < 4096) (hb : b < 4096) {α : Type} (x y : α) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) := by
    show BitVec.ofBool (BitVec.sle (BitVec.ofNat 32 a) (BitVec.ofNat 32 b)) = _
    congr 1
    have w : ∀ n : ℕ, n < 4096 → (BitVec.ofNat 32 n).toInt = n := fun n hn => by
      have e : (BitVec.ofNat 32 n).toNat = n := by rw [BitVec.toNat_ofNat]; omega
      rw [BitVec.toInt_eq_toNat_of_lt (by rw [e]; omega), e]
    rw [BitVec.sle, w a ha, w b hb]
    exact decide_eq_decide.mpr Int.ofNat_le
  rw [h]
  by_cases hab : a ≤ b
  · rw [if_pos hab, decide_eq_true hab]; rfl
  · rw [if_neg hab, decide_eq_false hab]; rfl

theorem root : Ideal.sqrt (Ideal.ofBits FTy.f32 1128267776#32) = ((Real.sqrt 192 : ℝ) : EReal) := by
  have h : Ideal.ofBits FTy.f32 1128267776#32 = ((192 : ℝ) : EReal) := by
    simp [Ideal.ofBits, Ideal.ieee, -EReal.coe_mul]
    norm_num
  rw [h, Ideal.sqrt_coe, if_neg (by norm_num)]

theorem scaled (b : Fin 16) (h : Fin 8) (n k : Fin 2048) :
    val_main_v19 (F := Ideal) Q K (ix4 b h n k)
      = if k.val / 64 ≤ n.val / 64 then Ideal.div (raw Q K b h n k) ((Real.sqrt 192 : ℝ) : EReal) else ⊥ := by
  pointwise [val_main_v19, val_main_v18, val_main_v17, val_main_v16, val_main_v15, val_main_v14, val_main_v11, val_main_v10, val_main_v9,
    val_main_cst, val_main_call1_v0, val_main_call1_v1, val_main_call1_v2, val_main_cst_0]
  have e1 : (val_main_v13 (F := Ideal) (ix1 k) : BitVec 32) = BitVec.ofNat 32 (k.val / 64) := chunk k
  have e2 : (val_main_v13 (F := Ideal) (ix1 n) : BitVec 32) = BitVec.ofNat 32 (n.val / 64) := chunk n
  rw [root, score, ← sle_words (k.val / 64) (n.val / 64) (by omega) (by omega), ← e1, ← e2, ← Cert.AttnIdeal.Tiles.word_bot]
  rfl

/-- The reference's greatest score of a row. -/
def peak (b : Fin 16) (h : Fin 8) (n : Fin 2048) : EReal :=
  Cert.Softmax.top fun k : Fin 2048 => val_main_v19 (F := Ideal) Q K (ix4 b h n k)

theorem init_bot : val_main_cst_1 (F := Ideal) (Shape.Idx.first h_S_) = (⊥ : EReal) := Cert.AttnIdeal.Tiles.word_bot

theorem floor_bot (b : Fin 16) (h : Fin 8) (n : Fin 2048) : val_main_v21 (F := Ideal) (ix3 b h n) = (⊥ : EReal) := by
  pointwise [val_main_v21, val_main_cst_2]
  exact Cert.AttnIdeal.Tiles.word_bot

theorem folded (b : Fin 16) (h : Fin 8) (n : Fin 2048) : val_main_v20 (F := Ideal) Q K (ix3 b h n)
    = Finset.univ.fold max (val_main_cst_1 (F := Ideal) (Shape.Idx.first h_S_))
      fun k : Fin 2048 => val_main_v19 (F := Ideal) Q K (ix4 b h n k) := by
  unfold val_main_v20
  generalize val_main_v19 (F := Ideal) Q K = z
  generalize val_main_cst_1 (F := Ideal) = init
  exact fold_at z init b h n

theorem floored (b : Fin 16) (h : Fin 8) (n : Fin 2048) : val_main_v22 (F := Ideal) Q K (ix3 b h n)
    = (max (val_main_v21 (F := Ideal) (ix3 b h n)) (val_main_v20 (F := Ideal) Q K (ix3 b h n)) : EReal) := by
  rw [val_main_v22]
  exact max_at (val_main_v21 (F := Ideal)) (val_main_v20 (F := Ideal) Q K) (ix3 b h n)

theorem peak_at (b : Fin 16) (h : Fin 8) (n : Fin 2048) : val_main_v22 (F := Ideal) Q K (ix3 b h n) = peak Q K b h n := by
  refine (floored Q K b h n).trans ?_
  rw [floor_bot, folded, init_bot]
  exact max_eq_right bot_le

theorem weight_at (b : Fin 16) (h : Fin 8) (n k : Fin 2048) : val_main_v26 (F := Ideal) Q K (ix4 b h n k)
    = Ideal.exp (val_main_v19 (F := Ideal) Q K (ix4 b h n k) - peak Q K b h n) := by
  pointwise [val_main_v26, val_main_v25, val_main_v24, val_main_v23]
  rw [peak_at]

theorem mix_at (b : Fin 16) (h : Fin 8) (n : Fin 2048) (d : Fin 512) : val_main_v32 (F := Ideal) Q K (ix4 b n h d)
    = ∑ k : Fin 2048, K (ix3 b k ⟨d.val, by omega⟩) * Ideal.div (val_main_v26 (F := Ideal) Q K (ix4 b h n k))
        (0 + ∑ j : Fin 2048, val_main_v26 (F := Ideal) Q K (ix4 b h n j)) := by
  pointwise [val_main_v32, val_main_v31, val_main_v30, val_main_v29, val_main_v28, val_main_v27, val_main_v4, val_main_v1, val_main_cst_3]

theorem out_at (b : Fin 16) (n : Fin 2048) (e : Fin 1024) : val_main_v38 (F := Ideal) Q K W (ix3 b n e)
    = ∑ d : Fin 512, W (ix2 d ⟨e.val / 128 * 256 + (128 + e.val % 128), by omega⟩)
        * val_main_v32 (F := Ideal) Q K (ix4 b n ⟨e.val / 128, by omega⟩ d) := by
  pointwise [val_main_v38, val_main_v37, val_main_v36, val_main_v35, val_main_v34, val_main_v33]

variable {Q K}

/-- A score of the reference: the root's quotient of a seen key's product, minus infinity elsewhere. -/
theorem scaled_cases (hQ : Real' Q) (hK : Real' K) (b : Fin 16) (h : Fin 8) (n k : Fin 2048) :
    (∃ x : ℝ, val_main_v19 (F := Ideal) Q K (ix4 b h n k) = ((x / Real.sqrt 192 : ℝ) : EReal) ∧ seen Q K b h n k = (x : EReal))
      ∨ (val_main_v19 (F := Ideal) Q K (ix4 b h n k) = ⊥ ∧ seen Q K b h n k = ⊥) := by
  have h192 : Real.sqrt 192 ≠ 0 := (Real.sqrt_pos.2 (by norm_num)).ne'
  have hk : k.val < 2048 := k.isLt
  by_cases hc : k.val / 64 ≤ n.val / 64
  · left
    obtain ⟨x, hx⟩ := raw_real hQ hK b h n k
    refine ⟨x, ?_, ?_⟩
    · rw [scaled, if_pos hc, hx, Ideal.div_coe h192, ← EReal.coe_mul, mul_one_div]
    · unfold seen
      rw [dif_pos hk, if_pos (by omega)]
      exact hx
  · right
    refine ⟨by rw [scaled, if_neg hc], ?_⟩
    unfold seen
    rw [dif_pos hk, if_neg (by omega)]

theorem peak_real (hQ : Real' Q) (hK : Real' K) (b : Fin 16) (h : Fin 8) (n : Fin 2048) :
    ∃ M : ℝ, peak Q K b h n = (M : EReal) := by
  have h1 : peak Q K b h n ≠ ⊤ := Cert.Softmax.top_ne_top _ fun k => by
    rcases scaled_cases hQ hK b h n k with ⟨x, hx, -⟩ | ⟨hx, -⟩
    · rw [hx]; exact EReal.coe_ne_top _
    · rw [hx]; exact bot_ne_top
  have h2 : peak Q K b h n ≠ ⊥ := Cert.Softmax.top_ne_bot _ (0 : Fin 2048) (by
    rcases scaled_cases hQ hK b h n 0 with ⟨x, hx, -⟩ | ⟨-, hs⟩
    · rw [hx]; exact EReal.coe_ne_bot _
    · exact absurd hs (seen_zero hQ hK b h n))
  exact ⟨(peak Q K b h n).toReal, (EReal.coe_toReal h1 h2).symm⟩

/-- The reference's mix of the values. -/
theorem mixed_at (hQ : Real' Q) (hK : Real' K) (b : Fin 16) (h : Fin 8) (n : Fin 2048) (d : Fin 512) :
    val_main_v32 (F := Ideal) Q K (ix4 b n h d) = (mixed Q K b h n d : EReal) := by
  have h192 : 0 < Real.sqrt 192 := Real.sqrt_pos.2 (by norm_num)
  obtain ⟨M, hM⟩ := peak_real hQ hK b h n
  have hz : ∀ k : Fin 2048, val_main_v26 (F := Ideal) Q K (ix4 b h n k)
      = ((Real.exp (-M) * Cert.Softmax.wt Cert.AttnIdeal.Tiles.cc (seen Q K b h n k) : ℝ) : EReal) := fun k => by
    rw [weight_at, hM]
    rcases scaled_cases hQ hK b h n k with ⟨x, hx, hs⟩ | ⟨hx, hs⟩
    · have hw : Cert.Softmax.wt Cert.AttnIdeal.Tiles.cc (x : EReal) = Real.exp (x / Real.sqrt 192) :=
        Cert.Softmax.wt_eq_exp x h192
      rw [hx, hs, hw, ← EReal.coe_sub, Ideal.exp_coe, ← Real.exp_add]
      congr 2
      ring
    · rw [hx, hs, EReal.bot_sub, Ideal.exp_bot]
      simp [Cert.Softmax.wt]
  have hp : 0 < ∑ k : Fin 2048, Cert.Softmax.wt Cert.AttnIdeal.Tiles.cc (seen Q K b h n k) := by
    rw [Fin.sum_univ_eq_sum_range (fun k => Cert.Softmax.wt Cert.AttnIdeal.Tiles.cc (seen Q K b h n k)) 2048]
    exact Cert.Softmax.sum_pos _ _ (by norm_num) (seen_zero hQ hK b h n)
  rw [mix_at, Cert.Softmax.whole _ _ (fun k : Fin 2048 => Cert.Softmax.wt Cert.AttnIdeal.Tiles.cc (seen Q K b h n k))
    (fun k : Fin 2048 => vals K b d k) (Real.exp (-M)) hp (Real.exp_pos _) hz (fun k => vals_eq hK b d k k.isLt)]
  unfold mixed
  rw [Fin.sum_univ_eq_sum_range (fun k => Cert.Softmax.wt Cert.AttnIdeal.Tiles.cc (seen Q K b h n k)) 2048,
    Fin.sum_univ_eq_sum_range (fun k => Cert.Softmax.wt Cert.AttnIdeal.Tiles.cc (seen Q K b h n k) * vals K b d k) 2048]

/-- The reference's result array. -/
theorem result_eq (hQ : Real' Q) (hK : Real' K) : val_main_v38 (F := Ideal) Q K W = result Q K W := by
  funext i
  obtain ⟨b, n, e, rfl⟩ : ∃ b n e, i = ix3 b n e := ⟨i 0, i 1, i 2, by ext d; fin_cases d <;> rfl⟩
  rw [out_at]
  unfold result
  refine Finset.sum_congr rfl fun d _ => ?_
  rw [mixed_at hQ hK, mul_comm]
  simp only [← Nat.add_assoc]
  rfl

end Cert.AttnRefIdeal.Softmaxed
-- ==== Proof.Finite.lean ====
module

public import proofs.«01_k».proof.Proof.Attention
public import proofs.«01_k».proof.Pre_attn_finite

/-! What the precondition says of the arrays: every number is finite. -/

@[expose] public section

set_option maxRecDepth 16384

noncomputable section

open Idealize.ShloMosaic Idealize.ShloMosaic.TcCoe Idealize.SL.Sem

namespace Cert.Finite

open Cert.AttnIdeal.Attention

/-- A number whose absolute value is below plus infinity is a real number. -/
theorem real_of_lt (x : EReal) (h : FloatOps.cmpf (F := Ideal) (φ := .f32) .olt (FloatOps.absf (F := Ideal) (φ := .f32) x)
    (FloatOps.ofBits (F := Ideal) .f32 0x7F800000#32) = 1#1) : ∃ r : ℝ, x = (r : EReal) := by
  have e : (FloatOps.ofBits (F := Ideal) .f32 0x7F800000#32 : EReal) = ⊤ := by
    show Ideal.ofBits .f32 0x7F800000#32 = ⊤
    simp [Ideal.ofBits, Ideal.ieee, -EReal.coe_mul]
  rw [e] at h
  induction x with
  | bot => exact absurd h (by simp [FloatOps.cmpf, FloatOps.absf, Ideal.cmp])
  | top => exact absurd h (by simp [FloatOps.cmpf, FloatOps.absf, Ideal.cmp])
  | coe r => exact ⟨r, rfl⟩

variable [Cert.Pre_attn_finite.Facts]

/-- The precondition at the queries and the keys. -/
theorem reals (Q : FVec Ideal Cert.Pre_attn_finite.S16x8x2048x576 .bf16) (K : FVec Ideal Cert.Pre_attn_finite.S16x2048x576 .bf16)
    (W : FVec Ideal Cert.Pre_attn_finite.S512x2048 .f32)
    (h : (Cert.Pre_attn_finite.fn (F := Ideal) Q K W).1 = (fun _ => 1#1) ∧ (Cert.Pre_attn_finite.fn (F := Ideal) Q K W).2 = (fun _ => 1#1)) :
    (∀ i, ∃ r : ℝ, Q i = (r : EReal)) ∧ ∀ i, ∃ r : ℝ, K i = (r : EReal) :=
  ⟨fun i => real_of_lt (Q i) (congrFun h.1 i), fun i => real_of_lt (K i) (congrFun h.2 i)⟩

end Cert.Finite
-- ==== Proof.Ffn.lean ====
module

public import Idealize.ShloMosaic.Lib.Pipeline.ValueKit
public import Idealize.ShloMosaic.Lib.Pointwise

/-! A feed-forward half-step on one row of numbers: the rows divided by their root mean square, the gate through
`h / 2 + h / 2 * tanh (h / 2)`, which on real numbers is `h / (1 + exp (-h))`, and the factor one half, which may stand
inside the sum over the hidden units or in front of it. -/

@[expose] public section

noncomputable section

open Idealize.ShloMosaic

namespace Cert.Ffn

/-- The word of 2048. -/
theorem word_width : Ideal.ofBits FTy.f32 1157627904#32 = ((2048 : ℝ) : EReal) := by
  simp [Ideal.ofBits, Ideal.ieee, -EReal.coe_mul]
  norm_num

/-- The word of one half. -/
theorem word_half : Ideal.ofBits FTy.f32 1056964608#32 = ((1 / 2 : ℝ) : EReal) := by
  simp [Ideal.ofBits, Ideal.ieee, -EReal.coe_mul]
  norm_num

/-- The word added to the mean square is a positive number. -/
theorem word_eps : ∃ e : ℝ, 0 < e ∧ Ideal.ofBits FTy.f32 897988541#32 = (e : EReal) := by
  refine ⟨_, ?_, by simp [Ideal.ofBits, Ideal.ieee, -EReal.coe_mul]; rfl⟩
  norm_num

/-- The real numbers among the extended ones add up as real numbers. -/
theorem coe_sum {α : Type} (s : Finset α) (f : α → ℝ) : ((∑ a ∈ s, f a : ℝ) : EReal) = ∑ a ∈ s, (f a : EReal) :=
  map_sum (⟨⟨Real.toEReal, EReal.coe_zero⟩, EReal.coe_add⟩ : ℝ →+ EReal) f s

/-- One over the root of the mean square of a row, with a small number added under the root. -/
def scale (x : Fin 2048 → EReal) : EReal :=
  Ideal.rsqrt (Ideal.div (∑ k, x k * x k) (Ideal.ofBits FTy.f32 1157627904#32) + Ideal.ofBits FTy.f32 897988541#32)

/-- A row divided by its root mean square, times the gains. -/
def norm (x g : Fin 2048 → EReal) (k : Fin 2048) : EReal := x k * scale x * g k

/-- The normalised row of a real row with real gains is real. -/
theorem norm_real {x g : Fin 2048 → EReal} (hx : ∀ k, ∃ r : ℝ, x k = (r : EReal)) (hg : ∀ k, ∃ r : ℝ, g k = (r : EReal))
    (k : Fin 2048) : ∃ r : ℝ, norm x g k = (r : EReal) := by
  choose u hu using hx
  choose v hv using hg
  obtain ⟨e, he, hw⟩ := word_eps
  have hs : ∑ k, x k * x k = ((∑ k, u k * u k : ℝ) : EReal) := by
    rw [coe_sum]
    exact Finset.sum_congr rfl fun k _ => by rw [hu, EReal.coe_mul]
  have h0 : 0 ≤ ∑ k, u k * u k := Finset.sum_nonneg fun k _ => mul_self_nonneg _
  have hp : 0 < (∑ k, u k * u k) * (1 / 2048) + e := by positivity
  refine ⟨u k * (Real.sqrt ((∑ k, u k * u k) * (1 / 2048) + e))⁻¹ * v k, ?_⟩
  unfold norm scale
  rw [hs, word_width, hw, Ideal.div_coe (by norm_num), ← EReal.coe_mul, ← EReal.coe_add, Ideal.rsqrt_coe,
    if_neg (not_lt.2 hp.le), if_neg hp.ne', hu, hv, ← EReal.coe_mul, ← EReal.coe_mul]

/-- A sum of products of real numbers is real. -/
theorem dot_real {n a : Fin 2048 → EReal} (hn : ∀ k, ∃ r : ℝ, n k = (r : EReal)) (ha : ∀ k, ∃ r : ℝ, a k = (r : EReal)) :
    ∃ r : ℝ, ∑ k, n k * a k = (r : EReal) := by
  choose u hu using hn
  choose v hv using ha
  refine ⟨∑ k, u k * v k, ?_⟩
  rw [coe_sum]
  exact Finset.sum_congr rfl fun k _ => by rw [hu, hv, EReal.coe_mul]

/-- A hidden unit as the kernel forms it: the gate by the hyperbolic tangent, half the other product. -/
def unit (h u : EReal) : EReal :=
  (Ideal.ofBits FTy.f32 1056964608#32 * h
      + Ideal.ofBits FTy.f32 1056964608#32 * h * Ideal.tanh (Ideal.ofBits FTy.f32 1056964608#32 * h))
    * (Ideal.ofBits FTy.f32 1056964608#32 * u)

/-- The gate as the reference forms it. -/
def silu (h : EReal) : EReal :=
  h * Ideal.div 1 (1 + Ideal.exp (-h))

/-- On the real numbers the two gates agree. -/
theorem gate_eq (h : ℝ) :
    Ideal.ofBits FTy.f32 1056964608#32 * (h : EReal)
        + Ideal.ofBits FTy.f32 1056964608#32 * (h : EReal) * Ideal.tanh (Ideal.ofBits FTy.f32 1056964608#32 * (h : EReal))
      = silu (h : EReal) := by
  have h1 : (1 + Real.exp (-h)) ≠ 0 := by positivity
  unfold silu
  rw [← EReal.coe_one, word_half, ← EReal.coe_mul, Ideal.tanh_coe, ← EReal.coe_mul, ← EReal.coe_add, ← EReal.coe_neg,
    Ideal.exp_coe, ← EReal.coe_add, Ideal.div_coe h1, ← EReal.coe_mul, ← EReal.coe_mul]
  congr 1
  rw [Real.tanh_eq_sinh_div_cosh, Real.sinh_eq, Real.cosh_eq]
  have e1 : Real.exp (-h) = Real.exp (-(1 / 2 * h)) * Real.exp (-(1 / 2 * h)) := by
    rw [← Real.exp_add]; congr 1; ring
  have e2 : Real.exp (1 / 2 * h) * Real.exp (-(1 / 2 * h)) = 1 := by
    rw [← Real.exp_add]; simp
  have p1 := Real.exp_pos (1 / 2 * h)
  have p2 := Real.exp_pos (-(1 / 2 * h))
  have p3 : Real.exp (1 / 2 * h) + Real.exp (-(1 / 2 * h)) ≠ 0 := by positivity
  rw [e1] at h1 ⊢
  clear e1
  generalize Real.exp (1 / 2 * h) = a at *
  generalize Real.exp (-(1 / 2 * h)) = b at *
  field_simp
  linear_combination 2 * h * b * e2

/-- A non-negative real factor goes into a finite sum. -/
theorem mul_sum_half {α : Type} (s : Finset α) (f : α → EReal) :
    ((1 / 2 : ℝ) : EReal) * ∑ a ∈ s, f a = ∑ a ∈ s, ((1 / 2 : ℝ) : EReal) * f a := by
  classical
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- A row of the half-step as the kernel forms it: the row, plus the hidden units through the last product. -/
def step (x n : Fin 2048 → EReal) (a b : Fin 2048 → Fin 5632 → EReal) (w : Fin 5632 → Fin 2048 → EReal)
    (e : Fin 2048) : EReal :=
  x e + ∑ f : Fin 5632, unit (∑ k, n k * a k f) (∑ k, n k * b k f) * w f e

/-- A row of the half-step as the reference forms it. -/
theorem step_eq {x n : Fin 2048 → EReal} {a b : Fin 2048 → Fin 5632 → EReal} {w : Fin 5632 → Fin 2048 → EReal}
    (hn : ∀ k, ∃ r : ℝ, n k = (r : EReal)) (ha : ∀ k f, ∃ r : ℝ, a k f = (r : EReal)) (e : Fin 2048) :
    step x n a b w e
      = x e + Ideal.ofBits FTy.f32 1056964608#32
          * ∑ f : Fin 5632, silu (∑ k, n k * a k f) * (∑ k, n k * b k f) * w f e := by
  unfold step
  rw [word_half, mul_sum_half]
  refine congrArg (x e + ·) (Finset.sum_congr rfl fun f _ => ?_)
  obtain ⟨h, hh⟩ := dot_real hn fun k => ha k f
  unfold unit
  rw [hh, gate_eq, word_half]
  ring_nf
  simp only [mul_assoc, mul_comm, mul_left_comm]

/-- A row of the half-step from the row itself, with the gains, the two gate products and the last product. -/
def row (x g : Fin 2048 → EReal) (a b : Fin 2048 → Fin 5632 → EReal) (w : Fin 5632 → Fin 2048 → EReal) (e : Fin 2048) : EReal :=
  step x (norm x g) a b w e

/-- The part of the sum that a tile of 512 hidden units adds. -/
def tile (n : Fin 2048 → EReal) (a b : Fin 2048 → Fin 5632 → EReal) (w : Fin 5632 → Fin 2048 → EReal)
    (e : Fin 2048) (s : ℕ) : EReal :=
  ∑ k : Fin 512, if h : s * 512 + k.val < 5632 then
    unit (∑ j, n j * a j ⟨s * 512 + k.val, h⟩) (∑ j, n j * b j ⟨s * 512 + k.val, h⟩) * w ⟨s * 512 + k.val, h⟩ e else 0

/-- Eleven tiles of 512 hidden units are the 5632. -/
theorem tiles (G : Fin 5632 → EReal) :
    (∑ s ∈ Finset.range 11, ∑ k : Fin 512, if h : s * 512 + k.val < 5632 then G ⟨s * 512 + k.val, h⟩ else 0)
      = ∑ f : Fin 5632, G f := by
  rw [Finset.sum_range]
  refine Eq.trans ?_ (Equiv.sum_comp (finProdFinEquiv (m := 11) (n := 512)) G)
  rw [Fintype.sum_prod_type]
  refine Finset.sum_congr rfl fun s _ => Finset.sum_congr rfl fun k _ => ?_
  rw [dif_pos (by omega)]
  exact congrArg G (Fin.ext (by simp [finProdFinEquiv]; omega))

/-- The row plus the eleven tiles. -/
theorem step_tiles (x n : Fin 2048 → EReal) (a b : Fin 2048 → Fin 5632 → EReal) (w : Fin 5632 → Fin 2048 → EReal)
    (e : Fin 2048) : x e + ∑ s ∈ Finset.range 11, tile n a b w e s = step x n a b w e :=
  congrArg (x e + ·) (tiles fun f => unit (∑ j, n j * a j f) (∑ j, n j * b j f) * w f e)

end Cert.Ffn

end

end
-- ==== Proof.FirstRows.lean ====
module

public import proofs.«01_k».proof.Proof.Gen.FirstIdeal.Value
public import proofs.«01_k».proof.Proof.Ffn

/-! What the first kernel of the feed-forward half-step leaves in its result array: each block of 1024 rows holds the rows
themselves after the loop of its first grid point, and takes one tile of 512 hidden units at each of its eleven points. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.FirstIdeal.Rows

open Cert.FirstIdeal Cert.FirstIdeal.Gen Cert.FirstIdeal.Value

/-- The normalised rows of a block. -/
def normed (X : Vec Ideal S1024x2048 .f32) (G : Vec Ideal S1x1x2048 .f32) : Vec Ideal S1024x2048 .bf16 := fun y =>
  Ffn.norm (fun k => X (ix2 (y 0) k)) (fun k => G (ix3 0 0 k)) (y 1)

/-- What a trip stores, at an index. -/
theorem pay1_at (X : FVec Ideal S128x2048 .f32) (G : Vec Ideal S1x1x2048 .f32) (r : Fin 128) (e : Fin 2048) :
    k0_pay1 X G (ix2 r e) = Ffn.norm (fun k => X (ix2 r k)) (fun k => G (ix3 0 0 k)) e := by
  pointwise [k0_pay1, Ffn.norm, Ffn.scale]

/-- An index is its two coordinates. -/
theorem eta (y : S128x2048.Idx) : y = ix2 (y 0) (y 1) :=
  funext fun a => match a with
    | ⟨0, _⟩ => rfl
    | ⟨1, _⟩ => rfl

/-- What a trip stores, at any index. -/
theorem pay1_at' (X : FVec Ideal S128x2048 .f32) (G : Vec Ideal S1x1x2048 .f32) (y : S128x2048.Idx) :
    k0_pay1 X G y = Ffn.norm (fun k => X (ix2 (y 0) k)) (fun k => G (ix3 0 0 k)) (y 1) :=
  (congrArg (k0_pay1 X G) (eta y)).trans (pay1_at X G (y 0) (y 1))

section
variable (𝒱 : Variants) (c : Dev nD) (bd : Option 𝒱.V) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1024x2048 .f32) (harg7 : arg7.IsWhole) (arg8 : Memref sig .tc .vmem S1024x2048 .bf16) (harg8 : arg8.IsWhole) (k0_h1 : k0_cond1 i = 1#1)
  (X : Vec Ideal S1024x2048 .f32) (G : Vec Ideal S1x1x2048 .f32)

/-- Every piece of the first loop holds the rows of the block, and the normalised rows. -/
theorem loop (k : ℕ) :
    (∀ p ∈ (pb_k0_t1 (F := Ideal) 𝒱 c bd i arg2 harg2 arg3 harg3 arg4 harg4 arg5 harg5 arg6 harg6 arg7 harg7 arg8 harg8 k0_h1 (harg2.unread X) (harg3.unread G) k).1,
      ∀ x, p.2 x = X (p.1.emb x))
    ∧ (∀ p ∈ (pb_k0_t1 (F := Ideal) 𝒱 c bd i arg2 harg2 arg3 harg3 arg4 harg4 arg5 harg5 arg6 harg6 arg7 harg7 arg8 harg8 k0_h1 (harg2.unread X) (harg3.unread G) k).2,
      ∀ x, p.2 x = normed X G (p.1.emb x)) := by
  induction k with
  | zero => exact ⟨fun p hp => absurd hp List.not_mem_nil, fun p hp => absurd hp List.not_mem_nil⟩
  | succ k ih =>
    by_cases h : k < k0_t1_loop.trips
    · have e := pb_k0_t1_succ (F := Ideal) 𝒱 c bd i arg2 harg2 arg3 harg3 arg4 harg4 arg5 harg5 arg6 harg6 arg7 harg7 arg8 harg8 k0_h1 (harg2.unread X) (harg3.unread G) ⟨k, h⟩
      dsimp only at e
      rw [e]
      unfold trip_k0_t1
      refine ⟨fun p hp => ?_, fun p hp => ?_⟩
      · rcases List.mem_append.1 hp with hp | hp
        · rw [List.mem_singleton.1 hp]
          intro x
          exact congrFun (harg2.read_unread X) _
        · exact ih.1 p hp
      · rcases List.mem_append.1 hp with hp | hp
        · rw [List.mem_singleton.1 hp]
          intro x
          refine (pay1_at' _ _ x).trans ?_
          unfold normed
          have e0 := Rect.idx_unit_val (s := S1024x2048) (k0_off1 ⟨k, h⟩) S128x2048.size (k0_off1_inb i ⟨k, h⟩ k0_h1) x 0
          have e1 := Rect.idx_unit_val (s := S1024x2048) (k0_off1 ⟨k, h⟩) S128x2048.size (k0_off1_inb i ⟨k, h⟩ k0_h1) x 1
          have o0 : k0_off1 ⟨k, h⟩ 0 = 128 * k := congrFun (k0_off1_eq ⟨k, h⟩) 0
          have o1 : k0_off1 ⟨k, h⟩ 1 = 0 := congrFun (k0_off1_eq ⟨k, h⟩) 1
          refine congr (congrArg₂ Ffn.norm (funext fun j => ?_) (funext fun j => ?_)) ?_
          · refine (congrFun (harg2.read_unread X) _).trans (congrArg X (funext fun a => Fin.ext ?_))
            refine (Rect.idx_unit_val (s := S1024x2048) (k0_off1 ⟨k, h⟩) S128x2048.size (k0_off1_inb i ⟨k, h⟩ k0_h1) _ a).trans ?_
            match a with
            | ⟨0, _⟩ => exact e0.symm
            | ⟨1, _⟩ => exact (congrArg (· + j.val) o1).trans (Nat.zero_add _)
          · refine (congrFun (harg3.read_unread G) _).trans (congrArg G (funext fun a => Fin.ext ?_))
            refine (Rect.idx_unit_val (s := S1x1x2048) _ _ _ _ a).trans ?_
            match a with
            | ⟨0, _⟩ => rfl
            | ⟨1, _⟩ => rfl
            | ⟨2, _⟩ => exact Nat.zero_add _
          · exact Fin.ext (e1.trans ((congrArg (· + (x 1).val) o1).trans (Nat.zero_add _))).symm
        · exact ih.2 p hp
    · have e : pb_k0_t1 (F := Ideal) 𝒱 c bd i arg2 harg2 arg3 harg3 arg4 harg4 arg5 harg5 arg6 harg6 arg7 harg7 arg8 harg8 k0_h1 (harg2.unread X) (harg3.unread G) (k + 1)
          = pb_k0_t1 (F := Ideal) 𝒱 c bd i arg2 harg2 arg3 harg3 arg4 harg4 arg5 harg5 arg6 harg6 arg7 harg7 arg8 harg8 k0_h1 (harg2.unread X) (harg3.unread G) k := by
        rw [pb_k0_t1.eq_2]; unfold pb_k0_t1Step; exact dif_neg h
      rw [e]
      exact ih

/-- The pieces of the rows cover the block -/
theorem rows_cover (y : S1024x2048.Idx) : ∃ p ∈ (pb_k0_t1 (F := Ideal) 𝒱 c bd i arg2 harg2 arg3 harg3 arg4 harg4 arg5 harg5 arg6 harg6 arg7 harg7 arg8 harg8 k0_h1 (harg2.unread X) (harg3.unread G) k0_t1_loop.trips).1, y ∈ p.1.set :=
  View.cover_of_tiledL (pb_k0_t1 (F := Ideal) 𝒱 c bd i arg2 harg2 arg3 harg3 arg4 harg4 arg5 harg5 arg6 harg6 arg7 harg7 arg8 harg8 k0_h1 (harg2.unread X) (harg3.unread G) k0_t1_loop.trips).1 S128x2048.size (by sl_kernel_rfl) y

/-- The pieces of the rows cover the block, read whole. -/
theorem rows (v : View sig .tc .vmem S1024x2048 .f32) :
    v.readCov (pb_k0_t1 (F := Ideal) 𝒱 c bd i arg2 harg2 arg3 harg3 arg4 harg4 arg5 harg5 arg6 harg6 arg7 harg7 arg8 harg8 k0_h1 (harg2.unread X) (harg3.unread G) k0_t1_loop.trips).1
      (Rect.unit (s := S1024x2048) ![0, 0] S1024x2048.size inb_S1024x2048_S1024x2048_0_0).toLoadRect = X := by
  rw [View.readCov_eq_canon_ld _ _ _ (rows_cover 𝒱 c bd i arg2 harg2 arg3 harg3 arg4 harg4 arg5 harg5 arg6 harg6 arg7 harg7 arg8 harg8 k0_h1 X G)]
  funext y
  rw [View.ld_apply, View.canon_apply_of_pieces (X) _ (loop 𝒱 c bd i arg2 harg2 arg3 harg3 arg4 harg4 arg5 harg5 arg6 harg6 arg7 harg7 arg8 harg8 k0_h1 X G _).1 _
    (rows_cover 𝒱 c bd i arg2 harg2 arg3 harg3 arg4 harg4 arg5 harg5 arg6 harg6 arg7 harg7 arg8 harg8 k0_h1 X G _)]
  refine congrArg (X) (funext fun a => Fin.ext ?_)
  refine (Rect.idx_unit_val (s := S1024x2048) _ _ _ y a).trans ?_
  match a with
  | ⟨0, _⟩ => exact Nat.zero_add _
  | ⟨1, _⟩ => exact Nat.zero_add _

/-- The pieces of the normalised rows cover the block -/
theorem norms_cover (y : S1024x2048.Idx) : ∃ p ∈ (pb_k0_t1 (F := Ideal) 𝒱 c bd i arg2 harg2 arg3 harg3 arg4 harg4 arg5 harg5 arg6 harg6 arg7 harg7 arg8 harg8 k0_h1 (harg2.unread X) (harg3.unread G) k0_t1_loop.trips).2, y ∈ p.1.set :=
  View.cover_of_tiledL (pb_k0_t1 (F := Ideal) 𝒱 c bd i arg2 harg2 arg3 harg3 arg4 harg4 arg5 harg5 arg6 harg6 arg7 harg7 arg8 harg8 k0_h1 (harg2.unread X) (harg3.unread G) k0_t1_loop.trips).2 S128x2048.size (by sl_kernel_rfl) y

/-- The pieces of the normalised rows cover the block, read whole. -/
theorem norms (v : View sig .tc .vmem S1024x2048 .bf16) :
    v.readCov (pb_k0_t1 (F := Ideal) 𝒱 c bd i arg2 harg2 arg3 harg3 arg4 harg4 arg5 harg5 arg6 harg6 arg7 harg7 arg8 harg8 k0_h1 (harg2.unread X) (harg3.unread G) k0_t1_loop.trips).2
      (Rect.unit (s := S1024x2048) ![0, 0] S1024x2048.size inb_S1024x2048_S1024x2048_0_0).toLoadRect = normed X G := by
  rw [View.readCov_eq_canon_ld _ _ _ (norms_cover 𝒱 c bd i arg2 harg2 arg3 harg3 arg4 harg4 arg5 harg5 arg6 harg6 arg7 harg7 arg8 harg8 k0_h1 X G)]
  funext y
  rw [View.ld_apply, View.canon_apply_of_pieces (normed X G) _ (loop 𝒱 c bd i arg2 harg2 arg3 harg3 arg4 harg4 arg5 harg5 arg6 harg6 arg7 harg7 arg8 harg8 k0_h1 X G _).2 _
    (norms_cover 𝒱 c bd i arg2 harg2 arg3 harg3 arg4 harg4 arg5 harg5 arg6 harg6 arg7 harg7 arg8 harg8 k0_h1 X G _)]
  refine congrArg (normed X G) (funext fun a => Fin.ext ?_)
  refine (Rect.idx_unit_val (s := S1024x2048) _ _ _ y a).trans ?_
  match a with
  | ⟨0, _⟩ => exact Nat.zero_add _
  | ⟨1, _⟩ => exact Nat.zero_add _

end
/-- The same operands give the same block. -/
theorem pay2_congr {n n' : Vec Ideal S1024x2048 .bf16} {a a' b b' : Vec Ideal S1x2048x512 .bf16} {o o' : Vec Ideal S1024x2048 .f32}
    {w w' : Vec Ideal S1x512x2048 .bf16} (h1 : n = n') (h2 : a = a') (h3 : b = b') (h4 : o = o') (h5 : w = w') :
    k0_pay2 n a b o w = k0_pay2 n' a' b' o' w' := by
  rw [h1, h2, h3, h4, h5]

/-- A store of the whole block leaves what it stores. -/
theorem canon_full (h : ∀ a, (![0, 0] : Fin 2 → ℕ) a + S1024x2048.size a ≤ S1024x2048.size a) (w : Vec Ideal S1024x2048 .f32)
    (L : List (View.Piece (Elt Ideal) S1024x2048 .f32)) :
    View.canon (⟨Rect.unit (s := S1024x2048) ![0, 0] S1024x2048.size h, w⟩ :: L) = w := by
  funext y
  have e : (Rect.unit (s := S1024x2048) ![0, 0] S1024x2048.size h).emb y = y := funext fun a => Fin.ext (by
    refine (Rect.idx_unit_val (s := S1024x2048) _ _ _ y a).trans ?_
    match a with
    | ⟨0, _⟩ => exact Nat.zero_add _
    | ⟨1, _⟩ => exact Nat.zero_add _)
  refine (congrArg (View.canon _) e.symm).trans ?_
  exact View.canon_cons_emb _ _ _ _

/-- A load of a whole block of the gate. -/
theorem whole_gate (M : Memref sig .tc .vmem S1x2048x512 .bf16) (hM : M.IsWhole) (X : Vec Ideal S1x2048x512 .bf16) :
    View.readAt (Elt Ideal) M.view (Rect.unit (s := S1x2048x512) ![0, 0, 0] S1x2048x512.size inb_S1x2048x512_S1x2048x512_0_0_0).toLoadRect (hM.unread X) = X := by
  funext y
  refine (congrFun (hM.read_unread X) _).trans (congrArg X (funext fun a => Fin.ext ?_))
  refine (Rect.idx_unit_val (s := S1x2048x512) _ _ _ y a).trans ?_
  match a with
  | ⟨0, _⟩ => exact Nat.zero_add _
  | ⟨1, _⟩ => exact Nat.zero_add _
  | ⟨2, _⟩ => exact Nat.zero_add _

/-- A load of a whole block of the last product. -/
theorem whole_last (M : Memref sig .tc .vmem S1x512x2048 .bf16) (hM : M.IsWhole) (X : Vec Ideal S1x512x2048 .bf16) :
    View.readAt (Elt Ideal) M.view (Rect.unit (s := S1x512x2048) ![0, 0, 0] S1x512x2048.size inb_S1x512x2048_S1x512x2048_0_0_0).toLoadRect (hM.unread X) = X := by
  funext y
  refine (congrFun (hM.read_unread X) _).trans (congrArg X (funext fun a => Fin.ext ?_))
  refine (Rect.idx_unit_val (s := S1x512x2048) _ _ _ y a).trans ?_
  match a with
  | ⟨0, _⟩ => exact Nat.zero_add _
  | ⟨1, _⟩ => exact Nat.zero_add _
  | ⟨2, _⟩ => exact Nat.zero_add _

variable (m : (ℓ : Loc nD τ sig) → Buf (Elt Ideal) ℓ) (c : Dev nD) (t : Fin cfg0.N)

set_option maxHeartbeats 1000000 in
/-- The first point of a block of rows. -/
theorem first_point (h0 : t.val % 11 = 0) : outsAt0 m c t.val t.isLt
    = (k0_pay2 (normed (iblk m c 0 t) (iblk m c 1 t)) (iblk m c 2 t) (iblk m c 3 t) (iblk m c 0 t) (iblk m c 4 t),
        normed (iblk m c 0 t) (iblk m c 1 t)) := by
  rw [outsAt0_A m c t h0]
  refine Prod.ext ?_ ?_
  · dsimp only
    unfold out0_A_5
    rw [View.read_writes_eq_canon _ _ _ (fun y => cover0_A_5 _ _ _ _ _ _ _ _ _ _ _ _ _ _ _ _ _ _ _ _ _ _ y)]
    unfold kernelRun0_A
    dsimp only
    refine (canon_full _ _ _).trans ?_
    refine pay2_congr ?_ ?_ ?_ ?_ ?_
    · exact norms _ _ _ _ _ _ _ _ _ _ _ _ _ _ _ _ _ _ _ _ _ _
    · exact whole_gate _ _ _
    · exact whole_gate _ _ _
    · exact rows _ _ _ _ _ _ _ _ _ _ _ _ _ _ _ _ _ _ _ _ _ _
    · exact whole_last _ _ _
  · dsimp only
    unfold sout0_A_0
    rw [View.read_writes_eq_canon _ _ _ (fun y => scover0_A_0 _ _ _ _ _ _ _ _ _ _ _ _ _ _ _ _ _ _ _ _ _ _ y)]
    unfold kernelRun0_A
    dsimp only
    funext y
    exact View.canon_apply_of_pieces (normed _ _) _ (loop _ _ _ _ _ _ _ _ _ _ _ _ _ _ _ _ _ _ _ _ _ _).2 _ (norms_cover _ _ _ _ _ _ _ _ _ _ _ _ _ _ _ _ _ _ _ _ _ _)

/-- A later point of a block of rows. -/
theorem next_point (h0 : ¬ t.val % 11 = 0) : outsAt0 m c t.val t.isLt
    = (k0_pay2 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t),
        (outsAt0 m c (t.val - 1) (Nat.lt_of_le_of_lt (Nat.sub_le _ _) t.isLt)).2) := by
  rw [outsAt0_B m c t h0]
  refine Prod.ext ?_ rfl
  dsimp only
  frame_out
  exact congrArg (fun n => k0_pay2 (F := Ideal) n (iblk m c 2 t) (iblk m c 3 t)
    (outsAt0 m c (t.val - 1) (Nat.lt_of_le_of_lt (Nat.sub_le _ _) t.isLt)).1 (iblk m c 4 t))
    ((Memref.isWhole_whole cc0_scratch0).read_unread _)

/-- The rows. -/
def argX : FVec Ideal S32768x2048 .f32 := m ((c : Thread nD τ).loc main_arg0)

/-- The gains. -/
def argG : FVec Ideal S4x2048 .f32 := m ((c : Thread nD τ).loc main_arg1)

/-- The weights of the gate. -/
def argA : FVec Ideal S4x2048x5632 .f32 := m ((c : Thread nD τ).loc main_arg2)

/-- The weights beside the gate. -/
def argB : FVec Ideal S4x2048x5632 .f32 := m ((c : Thread nD τ).loc main_arg3)

/-- The weights of the last product. -/
def argW : FVec Ideal S4x5632x2048 .f32 := m ((c : Thread nD τ).loc main_arg4)

/-- Where each window stands at a grid point. -/
theorem idx : ∀ t : Fin cfg0.N, win0_0.index t = ![t.val / 11, 0] ∧ win0_1.index t = ![0, 0, 0]
    ∧ win0_2.index t = ![0, 0, t.val % 11] ∧ win0_3.index t = ![0, 0, t.val % 11] ∧ win0_4.index t = ![0, t.val % 11, 0]
    ∧ win0_5.index t = ![t.val / 11, 0] ∧ t.val / 11 < 32 :=
  (by decide +kernel : ∀ t : Fin grid0.N, _)

/-- A row of a block is one of the 32768. -/
theorem row_lt (r : Fin 1024) : t.val / 11 * 1024 + r.val < 32768 := by
  have := (idx t).2.2.2.2.2.2
  omega

/-- The row of the array that a row of a block is. -/
def at_ (r : Fin 1024) : Fin 32768 := ⟨t.val / 11 * 1024 + r.val, row_lt t r⟩

/-- A row of the array. -/
def X (r : Fin 1024) (k : Fin 2048) : EReal := argX m c (ix2 (at_ t r) k)

/-- The gains of the layer. -/
def G (k : Fin 2048) : EReal := argG m c (ix2 0 k)

/-- The gate's weights of the layer. -/
def A (k : Fin 2048) (f : Fin 5632) : EReal := argA m c (ix3 0 k f)

/-- The weights beside the gate of the layer. -/
def B (k : Fin 2048) (f : Fin 5632) : EReal := argB m c (ix3 0 k f)

/-- The weights of the last product of the layer. -/
def W (f : Fin 5632) (e : Fin 2048) : EReal := argW m c (ix3 0 f e)

/-- The rows of a block. -/
theorem xs (r : Fin 1024) (k : Fin 2048) : (iblk m c 0 t : FVec Ideal S1024x2048 .f32) (ix2 r k) = X m c t r k := by
  unfold X argX
  blk_ext [iblk, V, idx t, at_]

/-- The gains of a block. -/
theorem gs (k : Fin 2048) : (iblk m c 1 t : FVec Ideal S1x1x2048 .f32) (ix3 0 0 k) = G m c k := by
  unfold G argG
  blk_simp [iblk]
  entry_read
  pointwise []
  blk_ext [idx t]

/-- A hidden unit of a tile is one of the 5632. -/
theorem hid_lt (f : Fin 512) : t.val % 11 * 512 + f.val < 5632 := by omega

/-- The gate's weights of a tile. -/
theorem gates (k : Fin 2048) (f : Fin 512) : (iblk m c 2 t : FVec Ideal S1x2048x512 .bf16) (ix3 0 k f) = A m c k ⟨t.val % 11 * 512 + f.val, hid_lt t f⟩ := by
  unfold A argA
  blk_simp [iblk]
  entry_read
  pointwise []
  blk_ext [idx t]

/-- The weights beside the gate of a tile. -/
theorem besides (k : Fin 2048) (f : Fin 512) : (iblk m c 3 t : FVec Ideal S1x2048x512 .bf16) (ix3 0 k f) = B m c k ⟨t.val % 11 * 512 + f.val, hid_lt t f⟩ := by
  unfold B argB
  blk_simp [iblk]
  entry_read
  pointwise []
  blk_ext [idx t]

/-- The weights of the last product of a tile. -/
theorem lasts (f : Fin 512) (e : Fin 2048) : (iblk m c 4 t : FVec Ideal S1x512x2048 .bf16) (ix3 0 f e) = W m c ⟨t.val % 11 * 512 + f.val, hid_lt t f⟩ e := by
  unfold W argW
  blk_simp [iblk]
  entry_read
  pointwise []
  blk_ext [idx t]

/-- What the body adds to the block, at an index. -/
theorem pay2_at (n : Vec Ideal S1024x2048 .bf16) (a b : Vec Ideal S1x2048x512 .bf16) (o : Vec Ideal S1024x2048 .f32)
    (w : Vec Ideal S1x512x2048 .bf16) (r : Fin 1024) (e : Fin 2048) : k0_pay2 n a b o w (ix2 r e)
      = o (ix2 r e) + ∑ f : Fin 512, Ffn.unit (∑ k : Fin 2048, n (ix2 r k) * a (ix3 0 k f)) (∑ k : Fin 2048, n (ix2 r k) * b (ix3 0 k f))
          * w (ix3 0 f e) := by
  pointwise [k0_pay2, Ffn.unit]

/-- A point of the grid adds its tile of hidden units. -/
theorem adds (n : Vec Ideal S1024x2048 .bf16) (o : Vec Ideal S1024x2048 .f32) (r : Fin 1024) (e : Fin 2048) :
    k0_pay2 n (iblk m c 2 t) (iblk m c 3 t) o (iblk m c 4 t) (ix2 r e)
      = o (ix2 r e) + Ffn.tile (fun k => n (ix2 r k)) (A m c) (B m c) (W m c) e (t.val % 11) := by
  refine (pay2_at n _ _ o _ r e).trans (congrArg (o (ix2 r e) + ·) ?_)
  unfold Ffn.tile
  refine Finset.sum_congr rfl fun f _ => ?_
  rw [dif_pos (hid_lt t f), lasts]
  refine congrArg (· * _) (congrArg₂ Ffn.unit (Finset.sum_congr rfl fun k _ => ?_) (Finset.sum_congr rfl fun k _ => ?_))
  · exact congrArg (n (ix2 r k) * ·) (gates m c t k f)
  · exact congrArg (n (ix2 r k) * ·) (besides m c t k f)

/-- The normalised rows of a block, at an index. -/
theorem normed_at (r : Fin 1024) (k : Fin 2048) :
    normed (iblk m c 0 t) (iblk m c 1 t) (ix2 r k) = Ffn.norm (X m c t r) (G m c) k :=
  congrFun (congrArg₂ Ffn.norm (funext fun j => xs m c t r j) (funext fun j => gs m c t j)) k

/-- After each point: the normalised rows, and the rows with the tiles up to this one. -/
theorem invariant : ∀ (n : ℕ) (hn : n < cfg0.N),
    (∀ (r : Fin 1024) (k : Fin 2048), (outsAt0 m c n hn).2 (ix2 r k) = Ffn.norm (X m c ⟨n, hn⟩ r) (G m c) k)
    ∧ ∀ (r : Fin 1024) (e : Fin 2048), (outsAt0 m c n hn).1 (ix2 r e)
        = X m c ⟨n, hn⟩ r e + ∑ s ∈ Finset.range (n % 11 + 1),
            Ffn.tile (Ffn.norm (X m c ⟨n, hn⟩ r) (G m c)) (A m c) (B m c) (W m c) e s := by
  intro n
  induction n with
  | zero =>
    intro hn
    rw [first_point m c ⟨0, hn⟩ rfl]
    refine ⟨fun r k => normed_at m c ⟨0, hn⟩ r k, fun r e => ?_⟩
    refine (adds m c ⟨0, hn⟩ _ _ r e).trans ?_
    rw [xs m c ⟨0, hn⟩, Finset.sum_range_one]
    exact congrArg (fun z => X m c ⟨0, hn⟩ r e + Ffn.tile z _ _ _ e 0) (funext fun k => normed_at m c ⟨0, hn⟩ r k)
  | succ n ih =>
    intro hn
    by_cases h : (n + 1) % 11 = 0
    · rw [first_point m c ⟨n + 1, hn⟩ h]
      refine ⟨fun r k => normed_at m c ⟨n + 1, hn⟩ r k, fun r e => ?_⟩
      refine (adds m c ⟨n + 1, hn⟩ _ _ r e).trans ?_
      rw [xs m c ⟨n + 1, hn⟩]
      dsimp only
      rw [h, Finset.sum_range_one]
      exact congrArg (fun z => X m c ⟨n + 1, hn⟩ r e + Ffn.tile z _ _ _ e 0) (funext fun k => normed_at m c ⟨n + 1, hn⟩ r k)
    · obtain ⟨i1, i2⟩ := ih (Nat.lt_of_succ_lt hn)
      have hX : ∀ r, X m c ⟨n, Nat.lt_of_succ_lt hn⟩ r = X m c ⟨n + 1, hn⟩ r := fun r => by
        funext k
        unfold X at_
        exact congrArg (fun q => argX m c (ix2 q k)) (Fin.ext (by dsimp only; omega))
      rw [next_point m c ⟨n + 1, hn⟩ h]
      refine ⟨fun r k => (i1 r k).trans (by rw [hX]), fun r e => ?_⟩
      refine (adds m c ⟨n + 1, hn⟩ _ _ r e).trans ?_
      refine (congrArg₂ (fun u z => u + Ffn.tile z (A m c) (B m c) (W m c) e ((n + 1) % 11)) (i2 r e) (funext fun k => i1 r k)).trans ?_
      rw [hX, show (n + 1) % 11 = n % 11 + 1 by omega, Finset.sum_range_succ _ (n % 11 + 1), add_assoc]

/-- The whole result, at an index. -/
def result (x : FVec Ideal S32768x2048 .f32) (g : FVec Ideal S4x2048 .f32) (a b : FVec Ideal S4x2048x5632 .f32)
    (w : FVec Ideal S4x5632x2048 .f32) : FVec Ideal S32768x2048 .f32 := fun i =>
  Ffn.row (fun k => x (ix2 (i 0) k)) (fun k => g (ix2 0 k)) (fun k f => a (ix3 0 k f)) (fun k f => b (ix3 0 k f))
    (fun f e => w (ix3 0 f e)) (i 1)

/-- What the last point of a block of rows leaves. -/
theorem point (h : t.val % 11 = 10) (y : S1024x2048.Idx) : (outsAt0 m c t.val t.isLt).1 y
    = result (argX m c) (argG m c) (argA m c) (argB m c) (argW m c) (ix2 (at_ t (y 0)) (y 1)) := by
  refine (congrArg (outsAt0 m c t.val t.isLt).1 (eq_ix2 y)).trans (((invariant m c t.val t.isLt).2 (y 0) (y 1)).trans ?_)
  rw [h]
  exact Ffn.step_tiles _ _ _ _ _ _

/-- What the kernel leaves in its result array. -/
theorem final : (dats m 0 c).arrAt 5 cfg0.N = result (argX m c) (argG m c) (argA m c) (argB m c) (argW m c) := by
  refine (dats m 0 c).arrAt_eq_of_covers 5 _ (by decide +kernel) fun t hf y => ?_
  blk_simp
  rw [after0_5]
  refine (point m c t ((flush0_5 t).mp hf) y).trans ?_
  blk_ext [idx t, at_]

end Cert.FirstIdeal.Rows

end

end
-- ==== Proof.FirstReference.lean ====
module

public import proofs.«01_k».proof.Proof.FirstRows
public import proofs.«01_k».proof.Pre_ffn_first_finite
public import proofs.«01_k».proof.Proof.Finite
public import proofs.«01_k».proof.Proof.Gen.FirstRefIdeal.Run
public import proofs.«01_k».proof.Proof.Gen.FirstRefIdeal.Read

/-! What the result array of the first feed-forward half-step's reference holds, by the same formula as `Rows.result`. -/

@[expose] public section

set_option maxRecDepth 16384

noncomputable section

open Idealize.ShloMosaic Idealize.ShloMosaic.TcCoe Idealize.SL.Sem

namespace Cert.FirstRefIdeal.Rows

open Cert.FirstRefIdeal Cert.FirstRefIdeal.Gen Cert.FirstRefIdeal.Read

variable (x : FVec Ideal S32768x2048 .f32) (g : FVec Ideal S4x2048 .f32) (a b : FVec Ideal S4x2048x5632 .f32)
  (w : FVec Ideal S4x5632x2048 .f32)

/-- The normalised rows. -/
theorem normed (r : Fin 32768) (k : Fin 2048) :
    val_main_v14 (F := Ideal) x g (ix2 r k) = Ffn.norm (fun j => x (ix2 r j)) (fun j => g (ix2 0 j)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0, Ffn.norm, Ffn.scale]

/-- The gate before its nonlinearity. -/
theorem gate (r : Fin 32768) (f : Fin 5632) : val_main_v21 (F := Ideal) x g a (ix2 r f)
    = ∑ k, Ffn.norm (fun j => x (ix2 r j)) (fun j => g (ix2 0 j)) k * a (ix3 0 k f) := by
  refine Eq.trans (b := ∑ k : Fin 2048, val_main_v14 (F := Ideal) x g (ix2 r k) * a (ix3 0 k f)) ?_
    (Finset.sum_congr rfl fun k _ => congrArg (· * a (ix3 0 k f)) (normed x g r k))
  pointwise [val_main_v21, val_main_v16, val_main_v15]

/-- The product beside the gate. -/
theorem beside (r : Fin 32768) (f : Fin 5632) : val_main_v23 (F := Ideal) x g b (ix2 r f)
    = ∑ k, Ffn.norm (fun j => x (ix2 r j)) (fun j => g (ix2 0 j)) k * b (ix3 0 k f) := by
  refine Eq.trans (b := ∑ k : Fin 2048, val_main_v14 (F := Ideal) x g (ix2 r k) * b (ix3 0 k f)) ?_
    (Finset.sum_congr rfl fun k _ => congrArg (· * b (ix3 0 k f)) (normed x g r k))
  pointwise [val_main_v23, val_main_v18, val_main_v17]

/-- A hidden unit. -/
theorem hidden (r : Fin 32768) (f : Fin 5632) : val_main_v24 (F := Ideal) x g a b (ix2 r f)
    = Ffn.silu (∑ k, Ffn.norm (fun j => x (ix2 r j)) (fun j => g (ix2 0 j)) k * a (ix3 0 k f))
      * ∑ k, Ffn.norm (fun j => x (ix2 r j)) (fun j => g (ix2 0 j)) k * b (ix3 0 k f) := by
  refine Eq.trans (b := Ffn.silu (val_main_v21 (F := Ideal) x g a (ix2 r f)) * val_main_v23 (F := Ideal) x g b (ix2 r f)) ?_
    (congrArg₂ (fun u v => Ffn.silu u * v) (gate x g a r f) (beside x g b r f))
  pointwise [val_main_v24, val_main_v22, val_main_call0_v5, val_main_call0_v4, val_main_call0_cst_0, val_main_call0_v3,
    val_main_call0_v2, val_main_call0_cst, val_main_call0_v1, val_main_call0_v0, Ffn.silu]

/-- The rows with the half-step added. -/
theorem added (hx : ∀ i, ∃ r : ℝ, x i = (r : EReal)) (hg : ∀ i, ∃ r : ℝ, g i = (r : EReal)) (ha : ∀ i, ∃ r : ℝ, a i = (r : EReal))
    (r : Fin 32768) (e : Fin 2048) : val_main_v28 (F := Ideal) x g a b w (ix2 r e)
    = Ffn.row (fun k => x (ix2 r k)) (fun k => g (ix2 0 k)) (fun k f => a (ix3 0 k f)) (fun k f => b (ix3 0 k f))
      (fun f e => w (ix3 0 f e)) e := by
  refine Eq.trans (b := x (ix2 r e) + Ideal.ofBits FTy.f32 1056964608#32
    * ∑ f : Fin 5632, val_main_v24 (F := Ideal) x g a b (ix2 r f) * w (ix3 0 f e)) ?_ ?_
  · pointwise [val_main_v28, val_main_v27, val_main_v26, val_main_cst_2, val_main_v25, val_main_v20, val_main_v19]
  · unfold Ffn.row
    rw [Ffn.step_eq (fun k => Ffn.norm_real (fun j => hx _) (fun j => hg _) k) (fun k f => ha _) e]
    exact congrArg (fun s => x (ix2 r e) + Ideal.ofBits FTy.f32 1056964608#32 * s)
      (Finset.sum_congr rfl fun f _ => congrArg (· * w (ix3 0 f e)) (hidden x g a b r f))

/-- The reference's result is the kernel's. -/
theorem result_eq (hx : ∀ i, ∃ r : ℝ, x i = (r : EReal)) (hg : ∀ i, ∃ r : ℝ, g i = (r : EReal))
    (ha : ∀ i, ∃ r : ℝ, a i = (r : EReal)) :
    val_main_v28 (F := Ideal) x g a b w = Cert.FirstIdeal.Rows.result x g a b w := by
  funext i
  rw [eq_ix2 i]
  exact added x g a b w hx hg ha (i 0) (i 1)

variable [Cert.Pre_ffn_first_finite.Facts]

/-- The precondition at the rows, the gains and the gate's weights. -/
theorem reals (h : (Cert.Pre_ffn_first_finite.fn (F := Ideal) x g a b w).1 = (fun _ => 1#1)
      ∧ (Cert.Pre_ffn_first_finite.fn (F := Ideal) x g a b w).2.1 = (fun _ => 1#1)
      ∧ (Cert.Pre_ffn_first_finite.fn (F := Ideal) x g a b w).2.2 = (fun _ => 1#1)) :
    (∀ i, ∃ r : ℝ, x i = (r : EReal)) ∧ (∀ i, ∃ r : ℝ, g i = (r : EReal)) ∧ ∀ i, ∃ r : ℝ, a i = (r : EReal) :=
  ⟨fun i => Cert.Finite.real_of_lt (x i) (congrFun h.1 i), fun i => Cert.Finite.real_of_lt (g i) (congrFun h.2.1 i),
    fun i => Cert.Finite.real_of_lt (a i) (congrFun h.2.2 i)⟩

end Cert.FirstRefIdeal.Rows

end

end
-- ==== Proof.LastRows.lean ====
module

public import proofs.«01_k».proof.Proof.Gen.LastIdeal.Value
public import proofs.«01_k».proof.Proof.Ffn
public import Idealize.ShloMosaic.Lib.Pipeline.CanonAppend

/-! What the last kernel of the feed-forward half-step leaves in its result array: each block of 1024 rows holds the rows
themselves after the loop of its first grid point, and takes one tile of 512 hidden units at each of its eleven points, after
the last of which the rows are divided by their root mean square. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.LastIdeal.Rows

open Cert.LastIdeal Cert.LastIdeal.Gen Cert.LastIdeal.Value

/-- The normalised rows of a block. -/
def normed (X : Vec Ideal S1024x2048 .f32) (G : Vec Ideal S1x1x2048 .f32) : Vec Ideal S1024x2048 .bf16 := fun y =>
  Ffn.norm (fun k => X (ix2 (y 0) k)) (fun k => G (ix3 0 0 k)) (y 1)

/-- What a trip stores, at an index. -/
theorem pay1_at (X : FVec Ideal S128x2048 .f32) (G : Vec Ideal S1x1x2048 .f32) (r : Fin 128) (e : Fin 2048) :
    k0_pay1 X G (ix2 r e) = Ffn.norm (fun k => X (ix2 r k)) (fun k => G (ix3 0 0 k)) e := by
  pointwise [k0_pay1, Ffn.norm, Ffn.scale]

/-- An index is its two coordinates. -/
theorem eta (y : S128x2048.Idx) : y = ix2 (y 0) (y 1) :=
  funext fun a => match a with
    | ⟨0, _⟩ => rfl
    | ⟨1, _⟩ => rfl

/-- What a trip stores, at any index. -/
theorem pay1_at' (X : FVec Ideal S128x2048 .f32) (G : Vec Ideal S1x1x2048 .f32) (y : S128x2048.Idx) :
    k0_pay1 X G y = Ffn.norm (fun k => X (ix2 (y 0) k)) (fun k => G (ix3 0 0 k)) (y 1) :=
  (congrArg (k0_pay1 X G) (eta y)).trans (pay1_at X G (y 0) (y 1))

section
variable (𝒱 : Variants) (c : Dev nD) (bd : Option 𝒱.V) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (k0_h1 : k0_cond1 i = 1#1)
  (X : Vec Ideal S1024x2048 .f32) (G : Vec Ideal S1x1x2048 .f32)

/-- Every piece of the first loop holds the rows of the block, and the normalised rows. -/
theorem loop (k : ℕ) :
    (∀ p ∈ (pb_k0_t1 (F := Ideal) 𝒱 c bd i arg2 harg2 arg3 harg3 arg4 harg4 arg5 harg5 arg6 harg6 arg7 harg7 arg8 harg8 arg9 harg9 k0_h1 (harg2.unread X) (harg3.unread G) k).1,
      ∀ x, p.2 x = X (p.1.emb x))
    ∧ (∀ p ∈ (pb_k0_t1 (F := Ideal) 𝒱 c bd i arg2 harg2 arg3 harg3 arg4 harg4 arg5 harg5 arg6 harg6 arg7 harg7 arg8 harg8 arg9 harg9 k0_h1 (harg2.unread X) (harg3.unread G) k).2,
      ∀ x, p.2 x = normed X G (p.1.emb x)) := by
  induction k with
  | zero => exact ⟨fun p hp => absurd hp List.not_mem_nil, fun p hp => absurd hp List.not_mem_nil⟩
  | succ k ih =>
    by_cases h : k < k0_t1_loop.trips
    · have e := pb_k0_t1_succ (F := Ideal) 𝒱 c bd i arg2 harg2 arg3 harg3 arg4 harg4 arg5 harg5 arg6 harg6 arg7 harg7 arg8 harg8 arg9 harg9 k0_h1 (harg2.unread X) (harg3.unread G) ⟨k, h⟩
      dsimp only at e
      rw [e]
      unfold trip_k0_t1
      refine ⟨fun p hp => ?_, fun p hp => ?_⟩
      · rcases List.mem_append.1 hp with hp | hp
        · rw [List.mem_singleton.1 hp]
          intro x
          exact congrFun (harg2.read_unread X) _
        · exact ih.1 p hp
      · rcases List.mem_append.1 hp with hp | hp
        · rw [List.mem_singleton.1 hp]
          intro x
          refine (pay1_at' _ _ x).trans ?_
          unfold normed
          have e0 := Rect.idx_unit_val (s := S1024x2048) (k0_off1 ⟨k, h⟩) S128x2048.size (k0_off1_inb i ⟨k, h⟩ k0_h1) x 0
          have e1 := Rect.idx_unit_val (s := S1024x2048) (k0_off1 ⟨k, h⟩) S128x2048.size (k0_off1_inb i ⟨k, h⟩ k0_h1) x 1
          have o0 : k0_off1 ⟨k, h⟩ 0 = 128 * k := congrFun (k0_off1_eq ⟨k, h⟩) 0
          have o1 : k0_off1 ⟨k, h⟩ 1 = 0 := congrFun (k0_off1_eq ⟨k, h⟩) 1
          refine congr (congrArg₂ Ffn.norm (funext fun j => ?_) (funext fun j => ?_)) ?_
          · refine (congrFun (harg2.read_unread X) _).trans (congrArg X (funext fun a => Fin.ext ?_))
            refine (Rect.idx_unit_val (s := S1024x2048) (k0_off1 ⟨k, h⟩) S128x2048.size (k0_off1_inb i ⟨k, h⟩ k0_h1) _ a).trans ?_
            match a with
            | ⟨0, _⟩ => exact e0.symm
            | ⟨1, _⟩ => exact (congrArg (· + j.val) o1).trans (Nat.zero_add _)
          · refine (congrFun (harg3.read_unread G) _).trans (congrArg G (funext fun a => Fin.ext ?_))
            refine (Rect.idx_unit_val (s := S1x1x2048) _ _ _ _ a).trans ?_
            match a with
            | ⟨0, _⟩ => rfl
            | ⟨1, _⟩ => rfl
            | ⟨2, _⟩ => exact Nat.zero_add _
          · exact Fin.ext (e1.trans ((congrArg (· + (x 1).val) o1).trans (Nat.zero_add _))).symm
        · exact ih.2 p hp
    · have e : pb_k0_t1 (F := Ideal) 𝒱 c bd i arg2 harg2 arg3 harg3 arg4 harg4 arg5 harg5 arg6 harg6 arg7 harg7 arg8 harg8 arg9 harg9 k0_h1 (harg2.unread X) (harg3.unread G) (k + 1)
          = pb_k0_t1 (F := Ideal) 𝒱 c bd i arg2 harg2 arg3 harg3 arg4 harg4 arg5 harg5 arg6 harg6 arg7 harg7 arg8 harg8 arg9 harg9 k0_h1 (harg2.unread X) (harg3.unread G) k := by
        rw [pb_k0_t1.eq_2]; unfold pb_k0_t1Step; exact dif_neg h
      rw [e]
      exact ih

/-- The pieces of the rows cover the block -/
theorem rows_cover (y : S1024x2048.Idx) : ∃ p ∈ (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).1, y ∈ p.1.set :=
  View.cover_of_tiledL (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).1 S128x2048.size (by sl_kernel_rfl) y

/-- The pieces of the rows cover the block, read whole. -/
theorem rows (v : View sig .tc .vmem S1024x2048 .f32) :
    v.readCov (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).1
      (Rect.unit (s := S1024x2048) ![0, 0] S1024x2048.size inb_S1024x2048_S1024x2048_0_0).toLoadRect = X := by
  rw [View.readCov_eq_canon_ld _ _ _ (rows_cover 𝒱 c bd i arg2 harg2 arg3 harg3 arg4 harg4 arg5 harg5 arg6 harg6 arg7 harg7 arg8 harg8 arg9 harg9 k0_h1 X G)]
  funext y
  rw [View.ld_apply, View.canon_apply_of_pieces (X) _ (loop 𝒱 c bd i arg2 harg2 arg3 harg3 arg4 harg4 arg5 harg5 arg6 harg6 arg7 harg7 arg8 harg8 arg9 harg9 k0_h1 X G _).1 _
    (rows_cover 𝒱 c bd i arg2 harg2 arg3 harg3 arg4 harg4 arg5 harg5 arg6 harg6 arg7 harg7 arg8 harg8 arg9 harg9 k0_h1 X G _)]
  refine congrArg (X) (funext fun a => Fin.ext ?_)
  refine (Rect.idx_unit_val (s := S1024x2048) _ _ _ y a).trans ?_
  match a with
  | ⟨0, _⟩ => exact Nat.zero_add _
  | ⟨1, _⟩ => exact Nat.zero_add _

/-- The pieces of the normalised rows cover the block -/
theorem norms_cover (y : S1024x2048.Idx) : ∃ p ∈ (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).2, y ∈ p.1.set :=
  View.cover_of_tiledL (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).2 S128x2048.size (by sl_kernel_rfl) y

/-- The pieces of the normalised rows cover the block, read whole. -/
theorem norms (v : View sig .tc .vmem S1024x2048 .bf16) :
    v.readCov (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).2
      (Rect.unit (s := S1024x2048) ![0, 0] S1024x2048.size inb_S1024x2048_S1024x2048_0_0).toLoadRect = normed X G := by
  rw [View.readCov_eq_canon_ld _ _ _ (norms_cover 𝒱 c bd i arg2 harg2 arg3 harg3 arg4 harg4 arg5 harg5 arg6 harg6 arg7 harg7 arg8 harg8 arg9 harg9 k0_h1 X G)]
  funext y
  rw [View.ld_apply, View.canon_apply_of_pieces (normed X G) _ (loop 𝒱 c bd i arg2 harg2 arg3 harg3 arg4 harg4 arg5 harg5 arg6 harg6 arg7 harg7 arg8 harg8 arg9 harg9 k0_h1 X G _).2 _
    (norms_cover 𝒱 c bd i arg2 harg2 arg3 harg3 arg4 harg4 arg5 harg5 arg6 harg6 arg7 harg7 arg8 harg8 arg9 harg9 k0_h1 X G _)]
  refine congrArg (normed X G) (funext fun a => Fin.ext ?_)
  refine (Rect.idx_unit_val (s := S1024x2048) _ _ _ y a).trans ?_
  match a with
  | ⟨0, _⟩ => exact Nat.zero_add _
  | ⟨1, _⟩ => exact Nat.zero_add _

end
/-- The same operands give the same block. -/
theorem pay2_congr {n n' : Vec Ideal S1024x2048 .bf16} {a a' b b' : Vec Ideal S1x2048x512 .bf16} {o o' : Vec Ideal S1024x2048 .f32}
    {w w' : Vec Ideal S1x512x2048 .bf16} (h1 : n = n') (h2 : a = a') (h3 : b = b') (h4 : o = o') (h5 : w = w') :
    k0_pay2 n a b o w = k0_pay2 n' a' b' o' w' := by
  rw [h1, h2, h3, h4, h5]

/-- A store of the whole block leaves what it stores. -/
theorem canon_full (h : ∀ a, (![0, 0] : Fin 2 → ℕ) a + S1024x2048.size a ≤ S1024x2048.size a) (w : Vec Ideal S1024x2048 .f32)
    (L : List (View.Piece (Elt Ideal) S1024x2048 .f32)) :
    View.canon (⟨Rect.unit (s := S1024x2048) ![0, 0] S1024x2048.size h, w⟩ :: L) = w := by
  funext y
  have e : (Rect.unit (s := S1024x2048) ![0, 0] S1024x2048.size h).emb y = y := funext fun a => Fin.ext (by
    refine (Rect.idx_unit_val (s := S1024x2048) _ _ _ y a).trans ?_
    match a with
    | ⟨0, _⟩ => exact Nat.zero_add _
    | ⟨1, _⟩ => exact Nat.zero_add _)
  refine (congrArg (View.canon _) e.symm).trans ?_
  exact View.canon_cons_emb _ _ _ _

/-- A load of a whole block of the gate. -/
theorem whole_gate (M : Memref sig .tc .vmem S1x2048x512 .bf16) (hM : M.IsWhole) (X : Vec Ideal S1x2048x512 .bf16) :
    View.readAt (Elt Ideal) M.view (Rect.unit (s := S1x2048x512) ![0, 0, 0] S1x2048x512.size inb_S1x2048x512_S1x2048x512_0_0_0).toLoadRect (hM.unread X) = X := by
  funext y
  refine (congrFun (hM.read_unread X) _).trans (congrArg X (funext fun a => Fin.ext ?_))
  refine (Rect.idx_unit_val (s := S1x2048x512) _ _ _ y a).trans ?_
  match a with
  | ⟨0, _⟩ => exact Nat.zero_add _
  | ⟨1, _⟩ => exact Nat.zero_add _
  | ⟨2, _⟩ => exact Nat.zero_add _

/-- A load of a whole block of the last product. -/
theorem whole_last (M : Memref sig .tc .vmem S1x512x2048 .bf16) (hM : M.IsWhole) (X : Vec Ideal S1x512x2048 .bf16) :
    View.readAt (Elt Ideal) M.view (Rect.unit (s := S1x512x2048) ![0, 0, 0] S1x512x2048.size inb_S1x512x2048_S1x512x2048_0_0_0).toLoadRect (hM.unread X) = X := by
  funext y
  refine (congrFun (hM.read_unread X) _).trans (congrArg X (funext fun a => Fin.ext ?_))
  refine (Rect.idx_unit_val (s := S1x512x2048) _ _ _ y a).trans ?_
  match a with
  | ⟨0, _⟩ => exact Nat.zero_add _
  | ⟨1, _⟩ => exact Nat.zero_add _
  | ⟨2, _⟩ => exact Nat.zero_add _

/-- The rows of a block divided by their root mean square, times the gains. -/
def closed (O : Vec Ideal S1024x2048 .f32) (R : Vec Ideal S1x2048 .f32) : Vec Ideal S1024x2048 .f32 := fun y =>
  Ffn.norm (fun k => O (ix2 (y 0) k)) (fun k => R (ix2 0 k)) (y 1)

/-- What a trip of the last loop stores, at an index. -/
theorem pay3_at (O : FVec Ideal S128x2048 .f32) (R : Vec Ideal S1x2048 .f32) (r : Fin 128) (e : Fin 2048) :
    k0_pay3 O R (ix2 r e) = Ffn.norm (fun k => O (ix2 r k)) (fun k => R (ix2 0 k)) e := by
  pointwise [k0_pay3, Ffn.norm, Ffn.scale]

/-- What a trip of the last loop stores, at any index. -/
theorem pay3_at' (O : FVec Ideal S128x2048 .f32) (R : Vec Ideal S1x2048 .f32) (y : S128x2048.Idx) :
    k0_pay3 O R y = Ffn.norm (fun k => O (ix2 (y 0) k)) (fun k => R (ix2 0 k)) (y 1) :=
  (congrArg (k0_pay3 O R) (eta y)).trans (pay3_at O R (y 0) (y 1))

section
variable (𝒱 : Variants) (c : Dev nD) (bd : Option 𝒱.V) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (k0_h2 : k0_cond2 i = 1#1)
  (R : Vec Ideal S1x2048 .f32) (Z : BufTy.Contents (Elt Ideal) arg8.view.ty)

/-- Every piece of the last loop holds rows divided by their root mean square, among the rows of the trips so far. -/
theorem loop2 (k : ℕ) :
    ∀ p ∈ (pb_k0_t2 (F := Ideal) 𝒱 c bd i arg2 harg2 arg3 harg3 arg4 harg4 arg5 harg5 arg6 harg6 arg7 harg7 arg8 harg8 arg9 harg9 k0_h2 (harg7.unread R) Z k), (∀ x, p.2 x = closed (arg8.view.read (Elt Ideal) Z) R (p.1.emb x)) ∧ ∀ x, (p.1.emb x 0).val < 128 * k := by
  induction k with
  | zero => exact fun p hp => absurd hp List.not_mem_nil
  | succ k ih =>
    by_cases h : k < k0_t2_loop.trips
    · have e := pb_k0_t2_succ (F := Ideal) 𝒱 c bd i arg2 harg2 arg3 harg3 arg4 harg4 arg5 harg5 arg6 harg6 arg7 harg7 arg8 harg8 arg9 harg9 k0_h2 (harg7.unread R) Z ⟨k, h⟩
      dsimp only at e
      rw [e]
      delta tripL_k0_t2
      unfold trip_k0_t2
      intro p hp
      rcases List.mem_append.1 hp with hp | hp
      · rw [List.mem_singleton.1 hp]
        have o0 : k0_off2 ⟨k, h⟩ 0 = 128 * k := congrFun (k0_off2_eq ⟨k, h⟩) 0
        have o1 : k0_off2 ⟨k, h⟩ 1 = 0 := congrFun (k0_off2_eq ⟨k, h⟩) 1
        refine ⟨fun x => ?_, fun x => ?_⟩
        · have e0 := Rect.idx_unit_val (s := S1024x2048) (k0_off2 ⟨k, h⟩) S128x2048.size (k0_off2_inb i ⟨k, h⟩ k0_h2) x 0
          have e1 := Rect.idx_unit_val (s := S1024x2048) (k0_off2 ⟨k, h⟩) S128x2048.size (k0_off2_inb i ⟨k, h⟩ k0_h2) x 1
          refine (pay3_at' _ _ x).trans ?_
          unfold closed
          refine congr (congrArg₂ Ffn.norm (funext fun j => ?_) (funext fun j => ?_)) ?_
          · refine (View.read_writes_apply_of_forall_not_mem arg8.view Z _ _ fun p hp hm => ?_).trans
              (congrArg (arg8.view.read (Elt Ideal) Z) (funext fun a => Fin.ext ?_))
            · obtain ⟨z, hz⟩ := p.1.exists_idx_of_mem hm
              have hl : (p.1.emb z 0).val < 128 * k := (ih p hp).2 z
              have hr := Rect.idx_unit_val (s := S1024x2048) (k0_off2 ⟨k, h⟩) S128x2048.size (k0_off2_inb i ⟨k, h⟩ k0_h2) (ix2 (x 0) j) 0
              have hv := congrArg (fun q : S1024x2048.Idx => (q 0).val) hz
              dsimp only at hv
              rw [o0] at hr
              have hv' : (p.1.emb z 0).val = 128 * k + (x 0).val := hv.trans hr
              omega
            · refine (Rect.idx_unit_val (s := S1024x2048) (k0_off2 ⟨k, h⟩) S128x2048.size (k0_off2_inb i ⟨k, h⟩ k0_h2) _ a).trans ?_
              match a with
              | ⟨0, _⟩ => exact e0.symm
              | ⟨1, _⟩ => exact (congrArg (· + j.val) o1).trans (Nat.zero_add _)
          · refine (congrFun (harg7.read_unread R) _).trans (congrArg R (funext fun a => Fin.ext ?_))
            refine (Rect.idx_unit_val (s := S1x2048) _ _ _ _ a).trans ?_
            match a with
            | ⟨0, _⟩ => rfl
            | ⟨1, _⟩ => exact Nat.zero_add _
          · exact Fin.ext (e1.trans ((congrArg (· + (x 1).val) o1).trans (Nat.zero_add _))).symm
        · have e0 := Rect.idx_unit_val (s := S1024x2048) (k0_off2 ⟨k, h⟩) S128x2048.size (k0_off2_inb i ⟨k, h⟩ k0_h2) x 0
          have hx : (x 0).val < 128 := (x 0).isLt
          rw [o0] at e0
          exact e0.trans_lt (by omega)
      · exact ⟨(ih p hp).1, fun x => Nat.lt_trans ((ih p hp).2 x) (by omega)⟩
    · have e : pb_k0_t2 (F := Ideal) 𝒱 c bd i arg2 harg2 arg3 harg3 arg4 harg4 arg5 harg5 arg6 harg6 arg7 harg7 arg8 harg8 arg9 harg9 k0_h2 (harg7.unread R) Z (k + 1) = pb_k0_t2 (F := Ideal) 𝒱 c bd i arg2 harg2 arg3 harg3 arg4 harg4 arg5 harg5 arg6 harg6 arg7 harg7 arg8 harg8 arg9 harg9 k0_h2 (harg7.unread R) Z k := by
        rw [pb_k0_t2.eq_2]; unfold pb_k0_t2Step; exact dif_neg h
      rw [e]
      exact fun p hp => ⟨(ih p hp).1, fun x => Nat.lt_trans ((ih p hp).2 x) (by omega)⟩

/-- The pieces of the last loop cover the block. -/
theorem closed_cover (y : S1024x2048.Idx) : ∃ p ∈ (pb_k0_t2 (F := Ideal) 𝒱 c bd i arg2 harg2 arg3 harg3 arg4 harg4 arg5 harg5 arg6 harg6 arg7 harg7 arg8 harg8 arg9 harg9 k0_h2 (harg7.unread R) Z k0_t2_loop.trips), y ∈ p.1.set :=
  View.cover_of_tiledL (pb_k0_t2 (F := Ideal) 𝒱 c bd i arg2 harg2 arg3 harg3 arg4 harg4 arg5 harg5 arg6 harg6 arg7 harg7 arg8 harg8 arg9 harg9 k0_h2 (harg7.unread R) Z k0_t2_loop.trips) S128x2048.size (by sl_kernel_rfl) y

/-- After the last loop every row of the block is divided by its root mean square. -/
theorem closes (L : List (View.Piece (Elt Ideal) S1024x2048 .f32)) :
    View.canon ((pb_k0_t2 (F := Ideal) 𝒱 c bd i arg2 harg2 arg3 harg3 arg4 harg4 arg5 harg5 arg6 harg6 arg7 harg7 arg8 harg8 arg9 harg9 k0_h2 (harg7.unread R) Z k0_t2_loop.trips) ++ L) = closed (arg8.view.read (Elt Ideal) Z) R := by
  funext y
  exact View.canon_append_of_pieces (closed (arg8.view.read (Elt Ideal) Z) R) L _
    (fun p hp => (loop2 𝒱 c bd i arg2 harg2 arg3 harg3 arg4 harg4 arg5 harg5 arg6 harg6 arg7 harg7 arg8 harg8 arg9 harg9 k0_h2 R Z _ p hp).1) y
    (closed_cover 𝒱 c bd i arg2 harg2 arg3 harg3 arg4 harg4 arg5 harg5 arg6 harg6 arg7 harg7 arg8 harg8 arg9 harg9 k0_h2 R Z y)
end

variable (m : (ℓ : Loc nD τ sig) → Buf (Elt Ideal) ℓ) (c : Dev nD) (t : Fin cfg0.N)

set_option maxHeartbeats 1000000 in
/-- The first point of a block of rows. -/
theorem first_point (h0 : t.val % 11 = 0) : outsAt0 m c t.val t.isLt
    = (k0_pay2 (normed (iblk m c 0 t) (iblk m c 1 t)) (iblk m c 2 t) (iblk m c 3 t) (iblk m c 0 t) (iblk m c 4 t),
        normed (iblk m c 0 t) (iblk m c 1 t)) := by
  rw [outsAt0_A m c t h0 (by omega)]
  refine Prod.ext ?_ ?_
  · dsimp only
    unfold out0_A_6
    rw [View.read_writes_eq_canon _ _ _ (fun y => cover0_A_6 _ _ _ _ _ _ _ _ _ _ _ _ _ _ _ _ _ _ _ _ _ _ _ _ _ _ y)]
    unfold kernelRun0_A
    dsimp only
    refine (canon_full _ _ _).trans ?_
    refine pay2_congr ?_ ?_ ?_ ?_ ?_
    · exact norms _ _ _ _ _ _ _ _ _ _ _ _ _ _ _ _ _ _ _ _ _ _ _ _
    · exact whole_gate _ _ _
    · exact whole_gate _ _ _
    · exact rows _ _ _ _ _ _ _ _ _ _ _ _ _ _ _ _ _ _ _ _ _ _ _ _
    · exact whole_last _ _ _
  · dsimp only
    unfold sout0_A_0
    rw [View.read_writes_eq_canon _ _ _ (fun y => scover0_A_0 _ _ _ _ _ _ _ _ _ _ _ _ _ _ _ _ _ _ _ _ _ _ _ _ _ _ y)]
    unfold kernelRun0_A
    dsimp only
    funext y
    exact View.canon_apply_of_pieces (normed _ _) _ (loop _ _ _ _ _ _ _ _ _ _ _ _ _ _ _ _ _ _ _ _ _ _ _ _).2 _ (norms_cover _ _ _ _ _ _ _ _ _ _ _ _ _ _ _ _ _ _ _ _ _ _ _ _)

/-- A later point of a block of rows. -/
theorem next_point (h0 : ¬ t.val % 11 = 0) (h1 : ¬ t.val % 11 = 10) : outsAt0 m c t.val t.isLt
    = (k0_pay2 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t),
        (outsAt0 m c (t.val - 1) (Nat.lt_of_le_of_lt (Nat.sub_le _ _) t.isLt)).2) := by
  rw [outsAt0_B m c t h0 h1]
  refine Prod.ext ?_ rfl
  dsimp only
  frame_out
  exact congrArg (fun n => k0_pay2 (F := Ideal) n (iblk m c 2 t) (iblk m c 3 t)
    (outsAt0 m c (t.val - 1) (Nat.lt_of_le_of_lt (Nat.sub_le _ _) t.isLt)).1 (iblk m c 4 t))
    ((Memref.isWhole_whole cc0_scratch0).read_unread _)

/-- A load of the whole block of rows. -/
theorem whole_rows {e : EltTy} (M : Memref sig .tc .vmem S1024x2048 e) (hM : M.IsWhole) (X : Vec Ideal S1024x2048 e) :
    View.readAt (Elt Ideal) M.view (Rect.unit (s := S1024x2048) ![0, 0] S1024x2048.size inb_S1024x2048_S1024x2048_0_0).toLoadRect (hM.unread X) = X := by
  funext y
  refine (congrFun (hM.read_unread X) _).trans (congrArg X (funext fun a => Fin.ext ?_))
  refine (Rect.idx_unit_val (s := S1024x2048) _ _ _ y a).trans ?_
  match a with
  | ⟨0, _⟩ => exact Nat.zero_add _
  | ⟨1, _⟩ => exact Nat.zero_add _

set_option maxHeartbeats 1000000 in
/-- The last point of a block of rows. -/
theorem last_point (h0 : ¬ t.val % 11 = 0) (h1 : t.val % 11 = 10) : outsAt0 m c t.val t.isLt
    = (closed (k0_pay2 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t)) (iblk m c 5 t),
        (outsAt0 m c (t.val - 1) (Nat.lt_of_le_of_lt (Nat.sub_le _ _) t.isLt)).2) := by
  rw [outsAt0_C m c t h0 h1]
  refine Prod.ext ?_ rfl
  dsimp only
  unfold out0_C_6
  rw [View.read_writes_eq_canon _ _ _ (fun y => cover0_C_6 _ _ _ _ _ _ _ _ _ _ _ _ _ _ _ _ _ _ _ _ _ _ _ _ _ _ _ _ y)]
  unfold kernelRun0_C
  dsimp only
  refine (closes _ _ _ _ _ _ _ _ _ _ _ _ _ _ _ _ _ _ _ _ _ _ _ _).trans ?_
  refine congrArg (fun O => closed O (iblk m c 5 t)) ?_
  rw [View.read_writes_junk_eq_canon]
  unfold kernelRun0_C.sl.H6_1
  refine (canon_full _ _ _).trans ?_
  refine pay2_congr ?_ ?_ ?_ ?_ ?_
  · exact whole_rows _ _ _
  · exact whole_gate _ _ _
  · exact whole_gate _ _ _
  · exact whole_rows _ _ _
  · exact whole_last _ _ _

/-- The rows. -/
def argX : FVec Ideal S32768x2048 .f32 := m ((c : Thread nD τ).loc main_arg0)

/-- The gains. -/
def argG : FVec Ideal S4x2048 .f32 := m ((c : Thread nD τ).loc main_arg1)

/-- The weights of the gate. -/
def argA : FVec Ideal S4x2048x5632 .f32 := m ((c : Thread nD τ).loc main_arg2)

/-- The weights beside the gate. -/
def argB : FVec Ideal S4x2048x5632 .f32 := m ((c : Thread nD τ).loc main_arg3)

/-- The weights of the last product. -/
def argW : FVec Ideal S4x5632x2048 .f32 := m ((c : Thread nD τ).loc main_arg4)

/-- The gains of the division at the end. -/
def argF : FVec Ideal S2048 .f32 := m ((c : Thread nD τ).loc main_arg5)

/-- Where each window stands at a grid point. -/
theorem idx : ∀ t : Fin cfg0.N, win0_0.index t = ![t.val / 11, 0] ∧ win0_1.index t = ![3, 0, 0]
    ∧ win0_2.index t = ![3, 0, t.val % 11] ∧ win0_3.index t = ![3, 0, t.val % 11] ∧ win0_4.index t = ![3, t.val % 11, 0]
    ∧ win0_5.index t = ![0, 0] ∧ win0_6.index t = ![t.val / 11, 0] ∧ t.val / 11 < 32 :=
  (by decide +kernel : ∀ t : Fin grid0.N, _)

/-- A row of a block is one of the 32768. -/
theorem row_lt (r : Fin 1024) : t.val / 11 * 1024 + r.val < 32768 := by
  have := (idx t).2.2.2.2.2.2.2
  omega

/-- The row of the array that a row of a block is. -/
def at_ (r : Fin 1024) : Fin 32768 := ⟨t.val / 11 * 1024 + r.val, row_lt t r⟩

/-- A row of the array. -/
def X (r : Fin 1024) (k : Fin 2048) : EReal := argX m c (ix2 (at_ t r) k)

/-- The gains of the layer. -/
def G (k : Fin 2048) : EReal := argG m c (ix2 3 k)

/-- The gate's weights of the layer. -/
def A (k : Fin 2048) (f : Fin 5632) : EReal := argA m c (ix3 3 k f)

/-- The weights beside the gate of the layer. -/
def B (k : Fin 2048) (f : Fin 5632) : EReal := argB m c (ix3 3 k f)

/-- The weights of the last product of the layer. -/
def W (f : Fin 5632) (e : Fin 2048) : EReal := argW m c (ix3 3 f e)

/-- The rows of a block. -/
theorem xs (r : Fin 1024) (k : Fin 2048) : (iblk m c 0 t : FVec Ideal S1024x2048 .f32) (ix2 r k) = X m c t r k := by
  unfold X argX
  blk_ext [iblk, V, idx t, at_]

/-- The gains of a block. -/
theorem gs (k : Fin 2048) : (iblk m c 1 t : FVec Ideal S1x1x2048 .f32) (ix3 0 0 k) = G m c k := by
  unfold G argG
  blk_simp [iblk]
  entry_read
  pointwise []
  blk_ext [idx t]

/-- The gains of the division at the end, as a block. -/
theorem fs (k : Fin 2048) : (iblk m c 5 t : FVec Ideal S1x2048 .f32) (ix2 0 k) = argF m c (ix1 k) := by
  unfold argF
  blk_simp [iblk]
  entry_read
  pointwise []
  blk_ext [idx t]

/-- A hidden unit of a tile is one of the 5632. -/
theorem hid_lt (f : Fin 512) : t.val % 11 * 512 + f.val < 5632 := by omega

/-- The gate's weights of a tile. -/
theorem gates (k : Fin 2048) (f : Fin 512) : (iblk m c 2 t : FVec Ideal S1x2048x512 .bf16) (ix3 0 k f) = A m c k ⟨t.val % 11 * 512 + f.val, hid_lt t f⟩ := by
  unfold A argA
  blk_simp [iblk]
  entry_read
  pointwise []
  blk_ext [idx t]

/-- The weights beside the gate of a tile. -/
theorem besides (k : Fin 2048) (f : Fin 512) : (iblk m c 3 t : FVec Ideal S1x2048x512 .bf16) (ix3 0 k f) = B m c k ⟨t.val % 11 * 512 + f.val, hid_lt t f⟩ := by
  unfold B argB
  blk_simp [iblk]
  entry_read
  pointwise []
  blk_ext [idx t]

/-- The weights of the last product of a tile. -/
theorem lasts (f : Fin 512) (e : Fin 2048) : (iblk m c 4 t : FVec Ideal S1x512x2048 .bf16) (ix3 0 f e) = W m c ⟨t.val % 11 * 512 + f.val, hid_lt t f⟩ e := by
  unfold W argW
  blk_simp [iblk]
  entry_read
  pointwise []
  blk_ext [idx t]

/-- What the body adds to the block, at an index. -/
theorem pay2_at (n : Vec Ideal S1024x2048 .bf16) (a b : Vec Ideal S1x2048x512 .bf16) (o : Vec Ideal S1024x2048 .f32)
    (w : Vec Ideal S1x512x2048 .bf16) (r : Fin 1024) (e : Fin 2048) : k0_pay2 n a b o w (ix2 r e)
      = o (ix2 r e) + ∑ f : Fin 512, Ffn.unit (∑ k : Fin 2048, n (ix2 r k) * a (ix3 0 k f)) (∑ k : Fin 2048, n (ix2 r k) * b (ix3 0 k f))
          * w (ix3 0 f e) := by
  pointwise [k0_pay2, Ffn.unit]

/-- A point of the grid adds its tile of hidden units. -/
theorem adds (n : Vec Ideal S1024x2048 .bf16) (o : Vec Ideal S1024x2048 .f32) (r : Fin 1024) (e : Fin 2048) :
    k0_pay2 n (iblk m c 2 t) (iblk m c 3 t) o (iblk m c 4 t) (ix2 r e)
      = o (ix2 r e) + Ffn.tile (fun k => n (ix2 r k)) (A m c) (B m c) (W m c) e (t.val % 11) := by
  refine (pay2_at n _ _ o _ r e).trans (congrArg (o (ix2 r e) + ·) ?_)
  unfold Ffn.tile
  refine Finset.sum_congr rfl fun f _ => ?_
  rw [dif_pos (hid_lt t f), lasts]
  refine congrArg (· * _) (congrArg₂ Ffn.unit (Finset.sum_congr rfl fun k _ => ?_) (Finset.sum_congr rfl fun k _ => ?_))
  · exact congrArg (n (ix2 r k) * ·) (gates m c t k f)
  · exact congrArg (n (ix2 r k) * ·) (besides m c t k f)

/-- The normalised rows of a block, at an index. -/
theorem normed_at (r : Fin 1024) (k : Fin 2048) :
    normed (iblk m c 0 t) (iblk m c 1 t) (ix2 r k) = Ffn.norm (X m c t r) (G m c) k :=
  congrFun (congrArg₂ Ffn.norm (funext fun j => xs m c t r j) (funext fun j => gs m c t j)) k

/-- After each point: the normalised rows, and before the last point of a block, the rows with
the tiles up to this one. -/
theorem invariant : ∀ (n : ℕ) (hn : n < cfg0.N),
    (∀ (r : Fin 1024) (k : Fin 2048), (outsAt0 m c n hn).2 (ix2 r k) = Ffn.norm (X m c ⟨n, hn⟩ r) (G m c) k)
    ∧ (n % 11 < 10 → ∀ (r : Fin 1024) (e : Fin 2048), (outsAt0 m c n hn).1 (ix2 r e)
        = X m c ⟨n, hn⟩ r e + ∑ s ∈ Finset.range (n % 11 + 1),
            Ffn.tile (Ffn.norm (X m c ⟨n, hn⟩ r) (G m c)) (A m c) (B m c) (W m c) e s) := by
  intro n
  induction n with
  | zero =>
    intro hn
    rw [first_point m c ⟨0, hn⟩ rfl]
    refine ⟨fun r k => normed_at m c ⟨0, hn⟩ r k, fun _ r e => ?_⟩
    refine (adds m c ⟨0, hn⟩ _ _ r e).trans ?_
    rw [xs m c ⟨0, hn⟩, Finset.sum_range_one]
    exact congrArg (fun z => X m c ⟨0, hn⟩ r e + Ffn.tile z _ _ _ e 0) (funext fun k => normed_at m c ⟨0, hn⟩ r k)
  | succ n ih =>
    intro hn
    by_cases h : (n + 1) % 11 = 0
    · rw [first_point m c ⟨n + 1, hn⟩ h]
      refine ⟨fun r k => normed_at m c ⟨n + 1, hn⟩ r k, fun _ r e => ?_⟩
      refine (adds m c ⟨n + 1, hn⟩ _ _ r e).trans ?_
      rw [xs m c ⟨n + 1, hn⟩]
      dsimp only
      rw [h, Finset.sum_range_one]
      exact congrArg (fun z => X m c ⟨n + 1, hn⟩ r e + Ffn.tile z _ _ _ e 0) (funext fun k => normed_at m c ⟨n + 1, hn⟩ r k)
    · obtain ⟨i1, i2⟩ := ih (Nat.lt_of_succ_lt hn)
      have hX : ∀ r, X m c ⟨n, Nat.lt_of_succ_lt hn⟩ r = X m c ⟨n + 1, hn⟩ r := fun r => by
        funext k
        unfold X at_
        exact congrArg (fun q => argX m c (ix2 q k)) (Fin.ext (by dsimp only; omega))
      by_cases hl : (n + 1) % 11 = 10
      · rw [last_point m c ⟨n + 1, hn⟩ h hl]
        exact ⟨fun r k => (i1 r k).trans (by rw [hX]), fun hc => absurd hl (Nat.ne_of_lt hc)⟩
      rw [next_point m c ⟨n + 1, hn⟩ h hl]
      refine ⟨fun r k => (i1 r k).trans (by rw [hX]), fun _ r e => ?_⟩
      refine (adds m c ⟨n + 1, hn⟩ _ _ r e).trans ?_
      refine (congrArg₂ (fun u z => u + Ffn.tile z (A m c) (B m c) (W m c) e ((n + 1) % 11)) (i2 (by omega) r e) (funext fun k => i1 r k)).trans ?_
      rw [hX, show (n + 1) % 11 = n % 11 + 1 by omega, Finset.sum_range_succ _ (n % 11 + 1), add_assoc]

/-- The whole result, at an index. -/
def result (x : FVec Ideal S32768x2048 .f32) (g : FVec Ideal S4x2048 .f32) (a b : FVec Ideal S4x2048x5632 .f32)
    (w : FVec Ideal S4x5632x2048 .f32) (z : FVec Ideal S2048 .f32) : FVec Ideal S32768x2048 .f32 := fun i =>
  Ffn.norm (fun k => Ffn.row (fun j => x (ix2 (i 0) j)) (fun j => g (ix2 3 j)) (fun j f => a (ix3 3 j f))
    (fun j f => b (ix3 3 j f)) (fun f e => w (ix3 3 f e)) k) (fun k => z (ix1 k)) (i 1)

/-- A row with all its tiles at the last point of its block. -/
theorem full (h : t.val % 11 = 10) (r : Fin 1024) (e : Fin 2048) :
    k0_pay2 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) (ix2 r e)
      = Ffn.row (X m c t r) (G m c) (A m c) (B m c) (W m c) e := by
  obtain ⟨i1, i2⟩ := invariant m c (t.val - 1) (Nat.lt_of_le_of_lt (Nat.sub_le _ _) t.isLt)
  have hX : X m c ⟨t.val - 1, Nat.lt_of_le_of_lt (Nat.sub_le _ _) t.isLt⟩ r = X m c t r := by
    funext k
    unfold X at_
    exact congrArg (fun q => argX m c (ix2 q k)) (Fin.ext (by dsimp only; omega))
  refine (adds m c t _ _ r e).trans ?_
  refine (congrArg₂ (fun u z => u + Ffn.tile z (A m c) (B m c) (W m c) e (t.val % 11)) (i2 (by omega) r e)
    (funext fun k => i1 r k)).trans ?_
  rw [hX, show t.val % 11 = (t.val - 1) % 11 + 1 by omega, add_assoc, ← Finset.sum_range_succ _ ((t.val - 1) % 11 + 1),
    show (t.val - 1) % 11 + 1 + 1 = 11 by omega]
  exact Ffn.step_tiles _ _ _ _ _ _

/-- What the last point of a block of rows leaves. -/
theorem point (h : t.val % 11 = 10) (y : S1024x2048.Idx) : (outsAt0 m c t.val t.isLt).1 y
    = result (argX m c) (argG m c) (argA m c) (argB m c) (argW m c) (argF m c) (ix2 (at_ t (y 0)) (y 1)) := by
  rw [last_point m c t (by omega) h]
  unfold closed result
  dsimp only
  exact congrArg₂ (fun u z => Ffn.norm u z (y 1)) (funext fun e => full m c t h (y 0) e) (funext fun k => fs m c t k)

/-- What the kernel leaves in its result array. -/
theorem final : (dats m 0 c).arrAt 6 cfg0.N = result (argX m c) (argG m c) (argA m c) (argB m c) (argW m c) (argF m c) := by
  refine (dats m 0 c).arrAt_eq_of_covers 6 _ (by decide +kernel) fun t hf y => ?_
  blk_simp
  rw [after0_6]
  refine (point m c t ((flush0_6 t).mp hf) y).trans ?_
  blk_ext [idx t, at_]
-- ==== Proof.LastReference.lean ====
module

public import proofs.«01_k».proof.Proof.LastRows
public import proofs.«01_k».proof.Pre_ffn_last_finite
public import proofs.«01_k».proof.Proof.Finite
public import proofs.«01_k».proof.Proof.Gen.LastRefIdeal.Run
public import proofs.«01_k».proof.Proof.Gen.LastRefIdeal.Read

/-! What the result array of the last feed-forward half-step's reference holds, by the same formula as `Rows.result`. -/

@[expose] public section

set_option maxRecDepth 16384

noncomputable section

open Idealize.ShloMosaic Idealize.ShloMosaic.TcCoe Idealize.SL.Sem

namespace Cert.LastRefIdeal.Rows

open Cert.LastRefIdeal Cert.LastRefIdeal.Gen Cert.LastRefIdeal.Read

variable (x : FVec Ideal S32768x2048 .f32) (g : FVec Ideal S4x2048 .f32) (a b : FVec Ideal S4x2048x5632 .f32)
  (w : FVec Ideal S4x5632x2048 .f32)
  (z : FVec Ideal S2048 .f32)

/-- The normalised rows. -/
theorem normed (r : Fin 32768) (k : Fin 2048) :
    val_main_v14 (F := Ideal) x g (ix2 r k) = Ffn.norm (fun j => x (ix2 r j)) (fun j => g (ix2 3 j)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0, Ffn.norm, Ffn.scale]

/-- The gate before its nonlinearity. -/
theorem gate (r : Fin 32768) (f : Fin 5632) : val_main_v21 (F := Ideal) x g a (ix2 r f)
    = ∑ k, Ffn.norm (fun j => x (ix2 r j)) (fun j => g (ix2 3 j)) k * a (ix3 3 k f) := by
  refine Eq.trans (b := ∑ k : Fin 2048, val_main_v14 (F := Ideal) x g (ix2 r k) * a (ix3 3 k f)) ?_
    (Finset.sum_congr rfl fun k _ => congrArg (· * a (ix3 3 k f)) (normed x g r k))
  pointwise [val_main_v21, val_main_v16, val_main_v15]

/-- The product beside the gate. -/
theorem beside (r : Fin 32768) (f : Fin 5632) : val_main_v23 (F := Ideal) x g b (ix2 r f)
    = ∑ k, Ffn.norm (fun j => x (ix2 r j)) (fun j => g (ix2 3 j)) k * b (ix3 3 k f) := by
  refine Eq.trans (b := ∑ k : Fin 2048, val_main_v14 (F := Ideal) x g (ix2 r k) * b (ix3 3 k f)) ?_
    (Finset.sum_congr rfl fun k _ => congrArg (· * b (ix3 3 k f)) (normed x g r k))
  pointwise [val_main_v23, val_main_v18, val_main_v17]

/-- A hidden unit. -/
theorem hidden (r : Fin 32768) (f : Fin 5632) : val_main_v24 (F := Ideal) x g a b (ix2 r f)
    = Ffn.silu (∑ k, Ffn.norm (fun j => x (ix2 r j)) (fun j => g (ix2 3 j)) k * a (ix3 3 k f))
      * ∑ k, Ffn.norm (fun j => x (ix2 r j)) (fun j => g (ix2 3 j)) k * b (ix3 3 k f) := by
  refine Eq.trans (b := Ffn.silu (val_main_v21 (F := Ideal) x g a (ix2 r f)) * val_main_v23 (F := Ideal) x g b (ix2 r f)) ?_
    (congrArg₂ (fun u v => Ffn.silu u * v) (gate x g a r f) (beside x g b r f))
  pointwise [val_main_v24, val_main_v22, val_main_call0_v5, val_main_call0_v4, val_main_call0_cst_0, val_main_call0_v3,
    val_main_call0_v2, val_main_call0_cst, val_main_call0_v1, val_main_call0_v0, Ffn.silu]

/-- The rows with the half-step added. -/
theorem added (hx : ∀ i, ∃ r : ℝ, x i = (r : EReal)) (hg : ∀ i, ∃ r : ℝ, g i = (r : EReal)) (ha : ∀ i, ∃ r : ℝ, a i = (r : EReal))
    (r : Fin 32768) (e : Fin 2048) : val_main_v28 (F := Ideal) x g a b w (ix2 r e)
    = Ffn.row (fun k => x (ix2 r k)) (fun k => g (ix2 3 k)) (fun k f => a (ix3 3 k f)) (fun k f => b (ix3 3 k f))
      (fun f e => w (ix3 3 f e)) e := by
  refine Eq.trans (b := x (ix2 r e) + Ideal.ofBits FTy.f32 1056964608#32
    * ∑ f : Fin 5632, val_main_v24 (F := Ideal) x g a b (ix2 r f) * w (ix3 3 f e)) ?_ ?_
  · pointwise [val_main_v28, val_main_v27, val_main_v26, val_main_cst_2, val_main_v25, val_main_v20, val_main_v19]
  · unfold Ffn.row
    rw [Ffn.step_eq (fun k => Ffn.norm_real (fun j => hx _) (fun j => hg _) k) (fun k f => ha _) e]
    exact congrArg (fun s => x (ix2 r e) + Ideal.ofBits FTy.f32 1056964608#32 * s)
      (Finset.sum_congr rfl fun f _ => congrArg (· * w (ix3 3 f e)) (hidden x g a b r f))

/-- The rows divided by their root mean square at the end. -/
theorem divided (r : Fin 32768) (e : Fin 2048) : val_main_v41 (F := Ideal) x g a b w z (ix2 r e)
    = Ffn.norm (fun k => val_main_v28 (F := Ideal) x g a b w (ix2 r k)) (fun k => z (ix1 k)) e := by
  pointwise [val_main_v41, val_main_v40, val_main_v39, val_main_v38, val_main_v37, val_main_v36, val_main_v35, val_main_v34,
    val_main_v33, val_main_v32, val_main_v31, val_main_v30, val_main_v29, val_main_cst_3, val_main_cst_4, val_main_cst_5,
    Ffn.norm, Ffn.scale]

/-- The reference's result is the kernel's. -/
theorem result_eq (hx : ∀ i, ∃ r : ℝ, x i = (r : EReal)) (hg : ∀ i, ∃ r : ℝ, g i = (r : EReal))
    (ha : ∀ i, ∃ r : ℝ, a i = (r : EReal)) :
    val_main_v41 (F := Ideal) x g a b w z = Cert.LastIdeal.Rows.result x g a b w z := by
  funext i
  rw [eq_ix2 i]
  exact (divided x g a b w z (i 0) (i 1)).trans (congrArg (fun u => Ffn.norm u (fun k => z (ix1 k)) (i 1))
    (funext fun k => added x g a b w hx hg ha (i 0) k))

variable [Cert.Pre_ffn_last_finite.Facts]

/-- The precondition at the rows, the gains and the gate's weights. -/
theorem reals (h : (Cert.Pre_ffn_last_finite.fn (F := Ideal) x g a b w z).1 = (fun _ => 1#1)
      ∧ (Cert.Pre_ffn_last_finite.fn (F := Ideal) x g a b w z).2.1 = (fun _ => 1#1)
      ∧ (Cert.Pre_ffn_last_finite.fn (F := Ideal) x g a b w z).2.2 = (fun _ => 1#1)) :
    (∀ i, ∃ r : ℝ, x i = (r : EReal)) ∧ (∀ i, ∃ r : ℝ, g i = (r : EReal)) ∧ ∀ i, ∃ r : ℝ, a i = (r : EReal) :=
  ⟨fun i => Cert.Finite.real_of_lt (x i) (congrFun h.1 i), fun i => Cert.Finite.real_of_lt (g i) (congrFun h.2.1 i),
    fun i => Cert.Finite.real_of_lt (a i) (congrFun h.2.2 i)⟩

end Cert.LastRefIdeal.Rows

end

end
-- ==== Proof.InOddRows.lean ====
module

public import proofs.«01_k».proof.Proof.Gen.InOddIdeal.Value
public import proofs.«01_k».proof.Proof.Gen.InOddRefIdeal.Run
public import proofs.«01_k».proof.Proof.Gen.InOddRefIdeal.Read
public import proofs.«01_k».proof.Proof.Ffn

/-! What the norm and projection before the recurrence leaves in its result array, and that its reference leaves the same: each
block of 1024 rows is normalised in a loop at its first grid point, and multiplied with one tile of columns at each of its four. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.InOddIdeal.Rows

open Cert.InOddIdeal Cert.InOddIdeal.Gen Cert.InOddIdeal.Value

/-- The normalised rows of a block. -/
def normed (X : Vec Ideal S1024x2048 .f32) (G : Vec Ideal S1x2048 .f32) : Vec Ideal S1024x2048 .bf16 := fun y =>
  Ffn.norm (fun k => X (ix2 (y 0) k)) (fun k => G (ix2 0 k)) (y 1)

/-- What a trip stores, at an index. -/
theorem pay1_at (X : FVec Ideal S128x2048 .f32) (G : Vec Ideal S1x2048 .f32) (r : Fin 128) (e : Fin 2048) :
    k0_pay1 X G (ix2 r e) = Ffn.norm (fun k => X (ix2 r k)) (fun k => G (ix2 0 k)) e := by
  pointwise [k0_pay1, Ffn.norm, Ffn.scale]

/-- An index is its two coordinates. -/
theorem eta (y : S128x2048.Idx) : y = ix2 (y 0) (y 1) :=
  funext fun a => match a with
    | ⟨0, _⟩ => rfl
    | ⟨1, _⟩ => rfl

/-- What a trip stores, at any index. -/
theorem pay1_at' (X : FVec Ideal S128x2048 .f32) (G : Vec Ideal S1x2048 .f32) (y : S128x2048.Idx) :
    k0_pay1 X G y = Ffn.norm (fun k => X (ix2 (y 0) k)) (fun k => G (ix2 0 k)) (y 1) :=
  (congrArg (k0_pay1 X G) (eta y)).trans (pay1_at X G (y 0) (y 1))

section
variable (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S1024x2048 .f32) (harg5 : arg5.IsWhole) (arg6 : Memref sig .tc .vmem S1024x2048 .bf16) (harg6 : arg6.IsWhole) (k0_h1 : k0_cond1 i = 1#1)
  (X : Vec Ideal S1024x2048 .f32) (G : Vec Ideal S1x2048 .f32)

/-- Every piece of the loop holds normalised rows. -/
theorem loop (k : ℕ) : ∀ p ∈ (pb_k0_t1 (F := Ideal) 𝒱 c bd i arg2 harg2 arg3 harg3 arg4 harg4 arg5 harg5 arg6 harg6 k0_h1 (harg2.unread X) (harg3.unread G) k), ∀ x, p.2 x = normed X G (p.1.emb x) := by
  induction k with
  | zero => exact fun p hp => absurd hp List.not_mem_nil
  | succ k ih =>
    by_cases h : k < k0_t1_loop.trips
    · have e := pb_k0_t1_succ (F := Ideal) 𝒱 c bd i arg2 harg2 arg3 harg3 arg4 harg4 arg5 harg5 arg6 harg6 k0_h1 (harg2.unread X) (harg3.unread G) ⟨k, h⟩
      dsimp only at e
      rw [e]
      delta tripL_k0_t1
      unfold trip_k0_t1
      intro p hp
      rcases List.mem_append.1 hp with hp | hp
      · rw [List.mem_singleton.1 hp]
        intro x
        refine (pay1_at' _ _ x).trans ?_
        unfold normed
        have e0 := Rect.idx_unit_val (s := S1024x2048) (k0_off1 ⟨k, h⟩) S128x2048.size (k0_off1_inb i ⟨k, h⟩ k0_h1) x 0
        have e1 := Rect.idx_unit_val (s := S1024x2048) (k0_off1 ⟨k, h⟩) S128x2048.size (k0_off1_inb i ⟨k, h⟩ k0_h1) x 1
        have o0 : k0_off1 ⟨k, h⟩ 0 = 128 * k := congrFun (k0_off1_eq ⟨k, h⟩) 0
        have o1 : k0_off1 ⟨k, h⟩ 1 = 0 := congrFun (k0_off1_eq ⟨k, h⟩) 1
        refine congr (congrArg₂ Ffn.norm (funext fun j => ?_) (funext fun j => ?_)) ?_
        · refine (congrFun (harg2.read_unread X) _).trans (congrArg X (funext fun a => Fin.ext ?_))
          refine (Rect.idx_unit_val (s := S1024x2048) (k0_off1 ⟨k, h⟩) S128x2048.size (k0_off1_inb i ⟨k, h⟩ k0_h1) _ a).trans ?_
          match a with
          | ⟨0, _⟩ => exact e0.symm
          | ⟨1, _⟩ => exact (congrArg (· + j.val) o1).trans (Nat.zero_add _)
        · refine (congrFun (harg3.read_unread G) _).trans (congrArg G (funext fun a => Fin.ext ?_))
          refine (Rect.idx_unit_val (s := S1x2048) _ _ _ _ a).trans ?_
          match a with
          | ⟨0, _⟩ => rfl
          | ⟨1, _⟩ => exact Nat.zero_add _
        · exact Fin.ext (e1.trans ((congrArg (· + (x 1).val) o1).trans (Nat.zero_add _))).symm
      · exact ih p hp
    · have e : pb_k0_t1 (F := Ideal) 𝒱 c bd i arg2 harg2 arg3 harg3 arg4 harg4 arg5 harg5 arg6 harg6 k0_h1 (harg2.unread X) (harg3.unread G) (k + 1) = pb_k0_t1 (F := Ideal) 𝒱 c bd i arg2 harg2 arg3 harg3 arg4 harg4 arg5 harg5 arg6 harg6 k0_h1 (harg2.unread X) (harg3.unread G) k := by
        rw [pb_k0_t1.eq_2]; unfold pb_k0_t1Step; exact dif_neg h
      rw [e]
      exact ih

/-- The pieces of the normalised rows cover the block. -/
theorem norms_cover (y : S1024x2048.Idx) : ∃ p ∈ (pb_k0_t1 (F := Ideal) 𝒱 c bd i arg2 harg2 arg3 harg3 arg4 harg4 arg5 harg5 arg6 harg6 k0_h1 (harg2.unread X) (harg3.unread G) k0_t1_loop.trips), y ∈ p.1.set :=
  View.cover_of_tiledL (pb_k0_t1 (F := Ideal) 𝒱 c bd i arg2 harg2 arg3 harg3 arg4 harg4 arg5 harg5 arg6 harg6 k0_h1 (harg2.unread X) (harg3.unread G) k0_t1_loop.trips) S128x2048.size (by sl_kernel_rfl) y

/-- The pieces of the normalised rows cover the block, read whole. -/
theorem norms (v : View sig .tc .vmem S1024x2048 .bf16) :
    v.readCov (pb_k0_t1 (F := Ideal) 𝒱 c bd i arg2 harg2 arg3 harg3 arg4 harg4 arg5 harg5 arg6 harg6 k0_h1 (harg2.unread X) (harg3.unread G) k0_t1_loop.trips)
      (Rect.unit (s := S1024x2048) ![0, 0] S1024x2048.size inb_S1024x2048_S1024x2048_0_0).toLoadRect = normed X G := by
  rw [View.readCov_eq_canon_ld _ _ _ (norms_cover 𝒱 c bd i arg2 harg2 arg3 harg3 arg4 harg4 arg5 harg5 arg6 harg6 k0_h1 X G)]
  funext y
  rw [View.ld_apply, View.canon_apply_of_pieces (normed X G) _ (loop 𝒱 c bd i arg2 harg2 arg3 harg3 arg4 harg4 arg5 harg5 arg6 harg6 k0_h1 X G _) _
    (norms_cover 𝒱 c bd i arg2 harg2 arg3 harg3 arg4 harg4 arg5 harg5 arg6 harg6 k0_h1 X G _)]
  refine congrArg (normed X G) (funext fun a => Fin.ext ?_)
  refine (Rect.idx_unit_val (s := S1024x2048) _ _ _ y a).trans ?_
  match a with
  | ⟨0, _⟩ => exact Nat.zero_add _
  | ⟨1, _⟩ => exact Nat.zero_add _

end

/-- A store of the whole block leaves what it stores. -/
theorem canon_full (h : ∀ a, (![0, 0] : Fin 2 → ℕ) a + S1024x2048.size a ≤ S1024x2048.size a) (w : Vec Ideal S1024x2048 .f32)
    (L : List (View.Piece (Elt Ideal) S1024x2048 .f32)) :
    View.canon (⟨Rect.unit (s := S1024x2048) ![0, 0] S1024x2048.size h, w⟩ :: L) = w := by
  funext y
  have e : (Rect.unit (s := S1024x2048) ![0, 0] S1024x2048.size h).emb y = y := funext fun a => Fin.ext (by
    refine (Rect.idx_unit_val (s := S1024x2048) _ _ _ y a).trans ?_
    match a with
    | ⟨0, _⟩ => exact Nat.zero_add _
    | ⟨1, _⟩ => exact Nat.zero_add _)
  refine (congrArg (View.canon _) e.symm).trans ?_
  exact View.canon_cons_emb _ _ _ _

/-- A load of a whole block of the weights. -/
theorem whole_weights (M : Memref sig .tc .vmem S1x2048x2048 .bf16) (hM : M.IsWhole) (X : Vec Ideal S1x2048x2048 .bf16) :
    View.readAt (Elt Ideal) M.view (Rect.unit (s := S1x2048x2048) ![0, 0, 0] S1x2048x2048.size inb_S1x2048x2048_S1x2048x2048_0_0_0).toLoadRect (hM.unread X) = X := by
  funext y
  refine (congrFun (hM.read_unread X) _).trans (congrArg X (funext fun a => Fin.ext ?_))
  refine (Rect.idx_unit_val (s := S1x2048x2048) _ _ _ y a).trans ?_
  match a with
  | ⟨0, _⟩ => exact Nat.zero_add _
  | ⟨1, _⟩ => exact Nat.zero_add _
  | ⟨2, _⟩ => exact Nat.zero_add _

/-- What a point stores, at an index. -/
theorem pay2_at (n : Vec Ideal S1024x2048 .bf16) (w : Vec Ideal S1x2048x2048 .bf16) (r : Fin 1024) (e : Fin 2048) :
    (k0_pay2 (F := Ideal) n w (ix2 r e) : EReal) = ∑ k : Fin 2048, (n (ix2 r k) : EReal) * w (ix3 0 k e) := by
  pointwise [k0_pay2]

variable (m : (ℓ : Loc nD τ sig) → Buf (Elt Ideal) ℓ) (c : Dev nD) (t : Fin cfg0.N)

set_option maxHeartbeats 1000000 in
/-- The first point of a block of rows. -/
theorem first_point (h0 : t.val % 4 = 0) : outsAt0 m c t.val t.isLt
    = (k0_pay2 (F := Ideal) (normed (iblk m c 0 t) (iblk m c 1 t)) (iblk m c 2 t), normed (iblk m c 0 t) (iblk m c 1 t)) := by
  rw [outsAt0_A m c t h0]
  refine Prod.ext ?_ ?_
  · dsimp only
    unfold out0_A_3
    rw [View.read_writes_eq_canon _ _ _ (fun y => cover0_A_3 _ _ _ _ _ _ _ _ _ _ _ _ _ _ _ _ y)]
    unfold kernelRun0_A
    dsimp only
    refine (canon_full _ _ _).trans ?_
    refine congrArg₂ (k0_pay2 (F := Ideal)) ?_ ?_
    · exact norms _ _ _ _ _ _ _ _ _ _ _ _ _ _ _ _ _ _
    · exact whole_weights _ _ _
  · dsimp only
    unfold sout0_A_0
    rw [View.read_writes_eq_canon _ _ _ (fun y => scover0_A_0 _ _ _ _ _ _ _ _ _ _ _ _ _ _ _ _ y)]
    unfold kernelRun0_A
    dsimp only
    funext y
    exact View.canon_apply_of_pieces (normed _ _) _ (loop _ _ _ _ _ _ _ _ _ _ _ _ _ _ _ _ _ _) _ (norms_cover _ _ _ _ _ _ _ _ _ _ _ _ _ _ _ _ _ _)

/-- Any later point of a block of rows. -/
theorem next_point (h0 : ¬ t.val % 4 = 0) : outsAt0 m c t.val t.isLt
    = (k0_pay2 (F := Ideal) (outsAt0 m c (t.val - 1) (Nat.lt_of_le_of_lt (Nat.sub_le _ _) t.isLt)).2 (iblk m c 2 t),
        (outsAt0 m c (t.val - 1) (Nat.lt_of_le_of_lt (Nat.sub_le _ _) t.isLt)).2) := by
  rw [outsAt0_B m c t h0]
  refine Prod.ext ?_ rfl
  dsimp only
  frame_out
  exact congrArg (fun n => k0_pay2 (F := Ideal) n (iblk m c 2 t)) ((Memref.isWhole_whole cc0_scratch0).read_unread _)

/-- The rows. -/
def argX : FVec Ideal S32768x2048 .f32 := m ((c : Thread nD τ).loc main_arg0)

/-- The gains. -/
def argG : FVec Ideal S4x2048 .f32 := m ((c : Thread nD τ).loc main_arg1)

/-- The weights. -/
def argW : FVec Ideal S2x2048x8192 .f32 := m ((c : Thread nD τ).loc main_arg2)

/-- Where each window stands at a grid point. -/
theorem idx : ∀ t : Fin cfg0.N, win0_0.index t = ![t.val / 4, 0] ∧ win0_1.index t = ![0, 0]
    ∧ win0_2.index t = ![0, 0, t.val % 4] ∧ win0_3.index t = ![t.val / 4, t.val % 4] ∧ t.val / 4 < 32 :=
  (by decide +kernel : ∀ t : Fin grid0.N, _)

/-- A row of a block is one of the 32768. -/
theorem row_lt (r : Fin 1024) : t.val / 4 * 1024 + r.val < 32768 := by
  have := (idx t).2.2.2.2
  omega

/-- The row of the array that a row of a block is. -/
def at_ (r : Fin 1024) : Fin 32768 := ⟨t.val / 4 * 1024 + r.val, row_lt t r⟩

/-- A column of a tile is one of the 8192. -/
theorem col_lt (e : Fin 2048) : t.val % 4 * 2048 + e.val < 8192 := by omega

/-- The column of the array that a column of a tile is. -/
def col (e : Fin 2048) : Fin 8192 := ⟨t.val % 4 * 2048 + e.val, col_lt t e⟩

/-- A row of the array. -/
def X (r : Fin 1024) (k : Fin 2048) : EReal := argX m c (ix2 (at_ t r) k)

/-- The gains of the layer. -/
def G (k : Fin 2048) : EReal := argG m c (ix2 1 k)

/-- The rows of a block. -/
theorem xs (r : Fin 1024) (k : Fin 2048) : (iblk m c 0 t : FVec Ideal S1024x2048 .f32) (ix2 r k) = X m c t r k := by
  unfold X argX
  blk_ext [iblk, V, idx t, at_]

/-- The gains of a block. -/
theorem gs (k : Fin 2048) : (iblk m c 1 t : FVec Ideal S1x2048 .f32) (ix2 0 k) = G m c k := by
  unfold G argG
  blk_simp [iblk]
  entry_read
  pointwise []
  blk_ext [idx t]

/-- The weights of a tile. -/
theorem weights (k e : Fin 2048) : (iblk m c 2 t : FVec Ideal S1x2048x2048 .bf16) (ix3 0 k e) = argW m c (ix3 0 k (col t e)) := by
  unfold argW col
  blk_simp [iblk]
  entry_read
  pointwise []
  blk_ext [idx t]

/-- The normalised rows of a block, at an index. -/
theorem normed_at (r : Fin 1024) (k : Fin 2048) :
    normed (iblk m c 0 t) (iblk m c 1 t) (ix2 r k) = Ffn.norm (X m c t r) (G m c) k :=
  congrArg₂ (fun x g => Ffn.norm x g k) (funext fun j => xs m c t r j) (funext fun j => gs m c t j)

/-- After each point the second block holds the normalised rows. -/
theorem invariant : ∀ (n : ℕ) (hn : n < cfg0.N) (r : Fin 1024) (k : Fin 2048),
    (outsAt0 m c n hn).2 (ix2 r k) = Ffn.norm (X m c ⟨n, hn⟩ r) (G m c) k := by
  intro n
  induction n with
  | zero =>
    intro hn r k
    rw [first_point m c ⟨0, hn⟩ rfl]
    exact normed_at m c ⟨0, hn⟩ r k
  | succ n ih =>
    intro hn r k
    by_cases h : (n + 1) % 4 = 0
    · rw [first_point m c ⟨n + 1, hn⟩ h]
      exact normed_at m c ⟨n + 1, hn⟩ r k
    · rw [next_point m c ⟨n + 1, hn⟩ h]
      refine (ih (Nat.lt_of_succ_lt hn) r k).trans (congrArg (fun x => Ffn.norm x (G m c) k) (funext fun j => ?_))
      unfold X at_
      exact congrArg (fun q => argX m c (ix2 q j)) (Fin.ext (by dsimp only; omega))

/-- The whole result, at an index. -/
def result (x : FVec Ideal S32768x2048 .f32) (g : FVec Ideal S4x2048 .f32) (w : FVec Ideal S2x2048x8192 .f32) :
    FVec Ideal S32768x8192 .f32 := fun i =>
  ∑ k : Fin 2048, Ffn.norm (fun j => x (ix2 (i 0) j)) (fun j => g (ix2 1 j)) k * w (ix3 0 k (i 1))

/-- What a point stores is the normalised rows times its tile of the weights. -/
theorem stored : (outsAt0 m c t.val t.isLt).1 = k0_pay2 (F := Ideal) (outsAt0 m c t.val t.isLt).2 (iblk m c 2 t) := by
  by_cases h : t.val % 4 = 0
  · rw [first_point m c t h]
  · rw [next_point m c t h]

/-- What a point leaves. -/
theorem point (r : Fin 1024) (e : Fin 2048) : (outsAt0 m c t.val t.isLt).1 (ix2 r e)
    = result (argX m c) (argG m c) (argW m c) (ix2 (at_ t r) (col t e)) := by
  rw [stored]
  refine (pay2_at _ _ r e).trans ?_
  exact Finset.sum_congr rfl fun k _ => congrArg₂ (fun u v : EReal => u * v) (invariant m c t.val t.isLt r k) (weights m c t k e)

/-- What the kernel leaves in its result array. -/
theorem final : (dats m 0 c).arrAt 3 cfg0.N = result (argX m c) (argG m c) (argW m c) := by
  refine (dats m 0 c).arrAt_eq_of_covers 3 _ (by decide +kernel) fun t hf y => ?_
  blk_simp
  rw [after0_3]
  refine (congrArg (outsAt0 m c t.val t.isLt).1 (eq_ix2 y)).trans ((point m c t (y 0) (y 1)).trans ?_)
  blk_ext [idx t, at_, col]

end Cert.InOddIdeal.Rows

namespace Cert.InOddRefIdeal.Rows

open Cert.InOddRefIdeal Cert.InOddRefIdeal.Gen Cert.InOddRefIdeal.Read

variable (x : FVec Ideal S32768x2048 .f32) (g : FVec Ideal S4x2048 .f32) (w : FVec Ideal S2x2048x8192 .f32)

/-- The reference's normalised rows. -/
theorem normed (r : Fin 32768) (k : Fin 2048) :
    val_main_v14 (F := Ideal) x g (ix2 r k) = Ffn.norm (fun j => x (ix2 r j)) (fun j => g (ix2 1 j)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0, Ffn.norm, Ffn.scale]

/-- The reference at an index. -/
theorem value_at (r : Fin 32768) (e : Fin 8192) : val_main_v17 (F := Ideal) x g w (ix2 r e)
    = ∑ k : Fin 2048, (val_main_v14 (F := Ideal) x g (ix2 r k) : EReal) * w (ix3 0 k e) := by
  pointwise [val_main_v17, val_main_v16, val_main_v15]

/-- The reference's result is the kernel's. -/
theorem result_eq : val_main_v17 (F := Ideal) x g w = Cert.InOddIdeal.Rows.result x g w := by
  funext i
  rw [eq_ix2 i]
  refine (value_at x g w (i 0) (i 1)).trans ?_
  exact Finset.sum_congr rfl fun k _ => congrArg₂ (fun u v : EReal => u * v) (normed x g (i 0) k) rfl

end Cert.InOddRefIdeal.Rows

end

end
-- ==== Proof.OutOddRows.lean ====
module

public import proofs.«01_k».proof.Proof.Gen.OutOddIdeal.Value
public import proofs.«01_k».proof.Proof.Gen.OutOddRefIdeal.Run
public import proofs.«01_k».proof.Proof.Gen.OutOddRefIdeal.Read
public import proofs.«01_k».proof.Proof.Ffn

/-! What the projection after the recurrence leaves in its result array, and that its reference leaves the same. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.OutOddIdeal.Rows

open Cert.OutOddIdeal Cert.OutOddIdeal.Gen Cert.OutOddIdeal.Value

/-- The whole result, at an index. -/
def result (a : FVec Ideal S32768x2048 .bf16) (w : FVec Ideal S2x2048x2048 .f32) (x : FVec Ideal S32768x2048 .f32) :
    FVec Ideal S32768x2048 .f32 := fun i =>
  (x i : EReal) + ∑ k : Fin 2048, (a (ix2 (i 0) k) : EReal) * w (ix3 0 k (i 1))

/-- What a point stores, at an index. -/
theorem pay_at (x : FVec Ideal S512x2048 .f32) (a : FVec Ideal S512x2048 .bf16) (w : FVec Ideal S2048x2048 .bf16)
    (r : Fin 512) (e : Fin 2048) :
    k0_pay1 x a w (ix2 r e) = (x (ix2 r e) : EReal) + ∑ k : Fin 2048, (a (ix2 r k) : EReal) * w (ix2 k e) := by
  pointwise [k0_pay1]

variable (m : (ℓ : Loc nD τ sig) → Buf (Elt Ideal) ℓ) (c : Dev nD) (t : Fin cfg0.N)

/-- The activations. -/
def argA : FVec Ideal S32768x2048 .bf16 := m ((c : Thread nD τ).loc main_arg0)

/-- The weights. -/
def argW : FVec Ideal S2x2048x2048 .f32 := m ((c : Thread nD τ).loc main_arg1)

/-- The residual stream. -/
def argX : FVec Ideal S32768x2048 .f32 := m ((c : Thread nD τ).loc main_arg2)

/-- Where each window stands at a grid point. -/
theorem idx : ∀ t : Fin cfg0.N, win0_0.index t = ![t.val, 0] ∧ win0_1.index t = ![0, 0]
    ∧ win0_2.index t = ![t.val, 0] ∧ win0_3.index t = ![t.val, 0] ∧ t.val < 64 :=
  (by decide +kernel : ∀ t : Fin grid0.N, _)

/-- A row of a block is one of the 32768. -/
theorem row_lt (r : Fin 512) : t.val * 512 + r.val < 32768 := by
  have := (idx t).2.2.2.2
  omega

/-- The row of the array that a row of a block is. -/
def at_ (r : Fin 512) : Fin 32768 := ⟨t.val * 512 + r.val, row_lt t r⟩

/-- The activations of a block. -/
theorem acts (r : Fin 512) (k : Fin 2048) : (iblk m c 0 t : FVec Ideal S512x2048 .bf16) (ix2 r k) = argA m c (ix2 (at_ t r) k) := by
  unfold argA
  blk_ext [iblk, V, idx t, at_]

/-- The weights of a block. -/
theorem weights (k e : Fin 2048) : (iblk m c 1 t : FVec Ideal S2048x2048 .bf16) (ix2 k e) = argW m c (ix3 0 k e) := by
  unfold argW
  blk_simp [iblk]
  entry_read
  pointwise []
  blk_ext [idx t]

/-- The residual stream of a block. -/
theorem rows (r : Fin 512) (k : Fin 2048) : (iblk m c 2 t : FVec Ideal S512x2048 .f32) (ix2 r k) = argX m c (ix2 (at_ t r) k) := by
  unfold argX
  blk_ext [iblk, V, idx t, at_]

/-- What a point leaves. -/
theorem point (r : Fin 512) (e : Fin 2048) : out0_3 (iblk m c 0 t) (iblk m c 1 t) (iblk m c 2 t) (ix2 r e)
    = result (argA m c) (argW m c) (argX m c) (ix2 (at_ t r) e) := by
  frame_out
  refine (pay_at _ _ _ r e).trans ?_
  exact congrArg₂ (fun u v : EReal => u + v) (rows m c t r e)
    (Finset.sum_congr rfl fun k _ => congrArg₂ (fun u v : EReal => u * v) (acts m c t r k) (weights m c t k e))

/-- What the kernel leaves in its result array. -/
theorem final : (dats m 0 c).arrAt 3 cfg0.N = result (argA m c) (argW m c) (argX m c) := by
  refine (dats m 0 c).arrAt_eq_of_covers 3 _ (by decide +kernel) fun t hf y => ?_
  blk_simp
  rw [after0_3]
  refine (congrArg (out0_3 (iblk m c 0 t) (iblk m c 1 t) (iblk m c 2 t)) (eq_ix2 y)).trans ((point m c t (y 0) (y 1)).trans ?_)
  blk_ext [idx t, at_]

end Cert.OutOddIdeal.Rows

namespace Cert.OutOddRefIdeal.Rows

open Cert.OutOddRefIdeal Cert.OutOddRefIdeal.Gen Cert.OutOddRefIdeal.Read

/-- The reference's result is the kernel's. -/
theorem result_eq (a : FVec Ideal S32768x2048 .bf16) (w : FVec Ideal S2x2048x2048 .f32) (x : FVec Ideal S32768x2048 .f32) :
    val_main_v4 (F := Ideal) a w x = Cert.OutOddIdeal.Rows.result a w x := by
  funext i
  rw [eq_ix2 i]
  refine Eq.trans (b := (x (ix2 (i 0) (i 1)) : EReal) + ∑ k : Fin 2048, (a (ix2 (i 0) k) : EReal) * w (ix3 0 k (i 1))) ?_ rfl
  generalize i 0 = r
  generalize i 1 = e
  revert r e
  intro (r : Fin 32768) (e : Fin 2048)
  pointwise [val_main_v4, val_main_v3, val_main_v2, val_main_v1, val_main_v0]

end Cert.OutOddRefIdeal.Rows

end

end
-- ==== Proof.OutEvenRows.lean ====
module

public import proofs.«01_k».proof.Proof.Gen.OutEvenIdeal.Value
public import proofs.«01_k».proof.Proof.Gen.OutEvenRefIdeal.Run
public import proofs.«01_k».proof.Proof.Gen.OutEvenRefIdeal.Read
public import proofs.«01_k».proof.Proof.Ffn

/-! What the projection after convolution and attention leaves in its result array, and that its reference leaves the same. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.OutEvenIdeal.Rows

open Cert.OutEvenIdeal Cert.OutEvenIdeal.Gen Cert.OutEvenIdeal.Value

/-- The whole result, at an index. -/
def result (a b : FVec Ideal S32768x1024 .bf16) (w : FVec Ideal S2x2048x2048 .f32) (x : FVec Ideal S32768x2048 .f32) :
    FVec Ideal S32768x2048 .f32 := fun i =>
  (x i : EReal) + ∑ k : Fin 1024, (a (ix2 (i 0) k) : EReal) * w (ix3 0 (Fin.castAdd 1024 k) (i 1))
    + ∑ k : Fin 1024, (b (ix2 (i 0) k) : EReal) * w (ix3 0 (Fin.natAdd 1024 k) (i 1))

/-- What a point stores, at an index. -/
theorem pay_at (x : FVec Ideal S512x2048 .f32) (a : FVec Ideal S512x1024 .bf16) (u : FVec Ideal S1024x2048 .bf16)
    (b : FVec Ideal S512x1024 .bf16) (v : FVec Ideal S1024x2048 .bf16) (r : Fin 512) (e : Fin 2048) :
    k0_pay1 x a u b v (ix2 r e) = (x (ix2 r e) : EReal) + ∑ k : Fin 1024, (a (ix2 r k) : EReal) * u (ix2 k e)
      + ∑ k : Fin 1024, (b (ix2 r k) : EReal) * v (ix2 k e) := by
  pointwise [k0_pay1]

variable (m : (ℓ : Loc nD τ sig) → Buf (Elt Ideal) ℓ) (c : Dev nD) (t : Fin cfg0.N)

/-- The convolution's activations. -/
def argA : FVec Ideal S32768x1024 .bf16 := m ((c : Thread nD τ).loc main_arg0)

/-- The attention's activations. -/
def argB : FVec Ideal S32768x1024 .bf16 := m ((c : Thread nD τ).loc main_arg1)

/-- The weights. -/
def argW : FVec Ideal S2x2048x2048 .f32 := m ((c : Thread nD τ).loc main_arg2)

/-- The residual stream. -/
def argX : FVec Ideal S32768x2048 .f32 := m ((c : Thread nD τ).loc main_arg3)

/-- Where each window stands at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 64 :=
  (by decide +kernel : ∀ t : Fin grid0.N, _)

/-- A row of a block is one of the 32768. -/
theorem row_lt (r : Fin 512) : t.val * 512 + r.val < 32768 := by
  have := (idx t).2.2.2.2.2.2
  omega

/-- The row of the array that a row of a block is. -/
def at_ (r : Fin 512) : Fin 32768 := ⟨t.val * 512 + r.val, row_lt t r⟩

/-- The convolution's activations of a block. -/
theorem convs (r : Fin 512) (k : Fin 1024) : (iblk m c 0 t : FVec Ideal S512x1024 .bf16) (ix2 r k) = argA m c (ix2 (at_ t r) k) := by
  unfold argA
  blk_ext [iblk, V, idx t, at_]

/-- The attention's activations of a block. -/
theorem attns (r : Fin 512) (k : Fin 1024) : (iblk m c 1 t : FVec Ideal S512x1024 .bf16) (ix2 r k) = argB m c (ix2 (at_ t r) k) := by
  unfold argB
  blk_ext [iblk, V, idx t, at_]

/-- The upper half of the weights. -/
theorem uppers (k : Fin 1024) (e : Fin 2048) : (iblk m c 2 t : FVec Ideal S1024x2048 .bf16) (ix2 k e) = argW m c (ix3 0 (Fin.castAdd 1024 k) e) := by
  unfold argW
  blk_simp [iblk]
  entry_read
  pointwise []
  blk_ext [idx t]
  rfl

/-- The lower half of the weights. -/
theorem lowers (k : Fin 1024) (e : Fin 2048) : (iblk m c 3 t : FVec Ideal S1024x2048 .bf16) (ix2 k e) = argW m c (ix3 0 (Fin.natAdd 1024 k) e) := by
  unfold argW
  blk_simp [iblk]
  entry_read
  pointwise []
  blk_ext [idx t]
  rfl

/-- The residual stream of a block. -/
theorem rows (r : Fin 512) (k : Fin 2048) : (iblk m c 4 t : FVec Ideal S512x2048 .f32) (ix2 r k) = argX m c (ix2 (at_ t r) k) := by
  unfold argX
  blk_ext [iblk, V, idx t, at_]

/-- What a point leaves. -/
theorem point (r : Fin 512) (e : Fin 2048) :
    out0_5 (iblk m c 0 t) (iblk m c 1 t) (iblk m c 2 t) (iblk m c 3 t) (iblk m c 4 t) (ix2 r e)
    = result (argA m c) (argB m c) (argW m c) (argX m c) (ix2 (at_ t r) e) := by
  frame_out
  refine (pay_at _ _ _ _ _ r e).trans ?_
  refine congrArg₂ (fun u v : EReal => u + v) (congrArg₂ (fun u v : EReal => u + v) (rows m c t r e) ?_) ?_
  · exact Finset.sum_congr rfl fun k _ => congrArg₂ (fun u v : EReal => u * v) (convs m c t r k) (uppers m c t k e)
  · exact Finset.sum_congr rfl fun k _ => congrArg₂ (fun u v : EReal => u * v) (attns m c t r k) (lowers m c t k e)

/-- What the kernel leaves in its result array. -/
theorem final : (dats m 0 c).arrAt 5 cfg0.N = result (argA m c) (argB m c) (argW m c) (argX m c) := by
  refine (dats m 0 c).arrAt_eq_of_covers 5 _ (by decide +kernel) fun t hf y => ?_
  blk_simp
  rw [after0_5]
  refine (congrArg (out0_5 (iblk m c 0 t) (iblk m c 1 t) (iblk m c 2 t) (iblk m c 3 t) (iblk m c 4 t)) (eq_ix2 y)).trans
    ((point m c t (y 0) (y 1)).trans ?_)
  blk_ext [idx t, at_]

end Cert.OutEvenIdeal.Rows

namespace Cert.OutEvenRefIdeal.Rows

open Cert.OutEvenRefIdeal Cert.OutEvenRefIdeal.Gen Cert.OutEvenRefIdeal.Read

variable (a b : FVec Ideal S32768x1024 .bf16) (w : FVec Ideal S2x2048x2048 .f32) (x : FVec Ideal S32768x2048 .f32)

/-- The joined activations, in the first half. -/
theorem joined_left (r : Fin 32768) (k : Fin 1024) : val_main_v2 (F := Ideal) a b (ix2 r (Fin.castAdd 1024 k)) = a (ix2 r k) := by
  pointwise [val_main_v2, val_main_v1, val_main_v0]
  exact dif_pos k.isLt

/-- The joined activations, in the second half. -/
theorem joined_right (r : Fin 32768) (k : Fin 1024) : val_main_v2 (F := Ideal) a b (ix2 r (Fin.natAdd 1024 k)) = b (ix2 r k) := by
  pointwise [val_main_v2, val_main_v1, val_main_v0]
  refine (dif_neg (by rw [Fin.val_natAdd]; omega)).trans (congrArg (fun q => b (ix2 r q)) (Fin.ext ?_))
  dsimp only [Fin.val_natAdd]
  omega

/-- The reference at an index. -/
theorem value_at (r : Fin 32768) (e : Fin 2048) : val_main_v6 (F := Ideal) a b w x (ix2 r e)
    = (x (ix2 r e) : EReal) + ∑ k : Fin (1024 + 1024), (val_main_v2 (F := Ideal) a b (ix2 r k) : EReal) * w (ix3 0 k e) := by
  pointwise [val_main_v6, val_main_v5, val_main_v4, val_main_v3]

/-- The reference's result is the kernel's. -/
theorem result_eq : val_main_v6 (F := Ideal) a b w x = Cert.OutEvenIdeal.Rows.result a b w x := by
  funext i
  rw [eq_ix2 i]
  refine (value_at a b w x (i 0) (i 1)).trans ?_
  rw [Fin.sum_univ_add, ← add_assoc]
  refine congrArg₂ (fun u v : EReal => u + v) (congrArg₂ (fun u v : EReal => u + v) rfl ?_) ?_
  · exact Finset.sum_congr rfl fun k _ => congrArg₂ (fun u v : EReal => u * v) (joined_left a b (i 0) k) rfl
  · exact Finset.sum_congr rfl fun k _ => congrArg₂ (fun u v : EReal => u * v) (joined_right a b (i 0) k) rfl

end Cert.OutEvenRefIdeal.Rows

end

end
-- ==== Proof.CachedTiles.lean ====
module

public import proofs.«01_k».proof.Proof.Gen.CachedIdeal.Skeleton
public import proofs.«01_k».proof.Proof.Softmax
public import Idealize.ShloMosaic.Lib.Pointwise

/-!
The steps the sample's attention kernel takes on the queries of one sequence, as functions of whole blocks, and what each does
to one row of scores and one column of values.
-/

@[expose] public section

set_option maxRecDepth 16384

noncomputable section

open Idealize.ShloMosaic Idealize.ShloMosaic.TcCoe Idealize.SL.Sem

namespace Cert.CachedIdeal.Tiles

open Cert.CachedIdeal Cert.CachedIdeal.Gen

/-- The scale of the scores, in the base-two exponential. -/
def cc : ℝ := (Real.sqrt 192)⁻¹ * (Real.log 2)⁻¹

/-- The scale is positive. -/
theorem cc_pos : 0 < cc := by
  unfold cc
  have h1 : 0 < Real.sqrt 192 := Real.sqrt_pos.2 (by norm_num)
  have h2 : 0 < Real.log 2 := Real.log_pos (by norm_num)
  positivity

/-- The named scale denotes that number. -/
theorem named_scale : Named.named (F := Ideal) κ "scale_log2e" (φ := .f32) 0x3DD53B95#32 = ((cc : ℝ) : EReal) :=
  IdealRules.named_const.ideal_named_scalar _ _ _ _ rfl

/-- The columns of the queries that meet the cached latents, and those that meet the cached positions. -/
def qc (q : FVec Ideal S512x576 .bf16) : FVec Ideal S512x512 .bf16 :=
  extractStridedSlice S512x512 ![0, 0] q slices_S512x576_o0_0_S512x512

/-- The last 64 columns of the queries. -/
def qp (q : FVec Ideal S512x576 .bf16) : FVec Ideal S512x64 .bf16 :=
  extractStridedSlice S512x64 ![0, 512] q slices_S512x576_o0_512_S512x64

/-- The scores of 512 cached keys: the part of the latents and the part of the positions. -/
def scoreF (q : FVec Ideal S512x576 .bf16) (k : FVec Ideal S1x1x512x512 .f32) (p : FVec Ideal S1x1x512x64 .f32) :
    FVec Ideal S512x512 .f32 :=
  addf (matmul dot_S512x512_S512x512_S512x512_1_1_0_0_n_n none (qc q)
      (truncf .bf16 (shapeCast S512x512 k shapeCasts_S1x1x512x512_S512x512) bitsLt_bf16_f32) (constant S512x512 .f32 0x00000000#32))
    (matmul dot_S512x64_S512x64_S512x512_1_1_0_0_n_n none (qp q)
      (truncf .bf16 (shapeCast S512x64 p shapeCasts_S1x1x512x64_S512x64) bitsLt_bf16_f32) (constant S512x512 .f32 0x00000000#32))

/-- The scores of the 64 new keys. -/
def scoreH (q : FVec Ideal S512x576 .bf16) (k : FVec Ideal S1x64x576 .bf16) : FVec Ideal S512x64 .f32 :=
  matmul dot_S512x576_S64x576_S512x64_1_1_0_0_n_n none q (shapeCast S64x576 k shapeCasts_S1x64x576_S64x576)
    (constant S512x64 .f32 0x00000000#32)

/-- The greatest score of each row. -/
def topF (s : FVec Ideal S512x512 .f32) : FVec Ideal S512x1 .f32 :=
  shapeCast S512x1 (multiReduction .maximumf [1] S512 s 0xFF800000#32 reduces_S512x512_S512 (.inl rfl) rfl)
    shapeCasts_S512_S512x1

/-- The greatest score of each row. -/
def topH (s : FVec Ideal S512x64 .f32) : FVec Ideal S512x1 .f32 :=
  shapeCast S512x1 (multiReduction .maximumf [1] S512 s 0xFF800000#32 reduces_S512x64_S512 (.inl rfl) rfl)
    shapeCasts_S512_S512x1

/-- The exponentials of the scores less the reference `m`. -/
def expF (s : FVec Ideal S512x512 .f32) (m : FVec Ideal S512x1 .f32) : FVec Ideal S512x512 .f32 :=
  exp2 (mulf (subf s (broadcastTo S512x512 m broadcasts_S512x1_S512x512))
    (broadcast S512x512 (Named.named (F := Ideal) κ "scale_log2e" (φ := .f32) 0x3DD53B95#32)))

/-- The exponentials of the scores less the reference `m`. -/
def expH (s : FVec Ideal S512x64 .f32) (m : FVec Ideal S512x1 .f32) : FVec Ideal S512x64 .f32 :=
  exp2 (mulf (subf s (broadcastTo S512x64 m broadcasts_S512x1_S512x64))
    (broadcast S512x64 (Named.named (F := Ideal) κ "scale_log2e" (φ := .f32) 0x3DD53B95#32)))

/-- The sum of each row's exponentials. -/
def sumF (p : FVec Ideal S512x512 .f32) : FVec Ideal S512x1 .f32 :=
  shapeCast S512x1 (multiReduction .add [1] S512 p 0x00000000#32 reduces_S512x512_S512 (.inl rfl) rfl)
    shapeCasts_S512_S512x1

/-- The sum of each row's exponentials. -/
def sumH (p : FVec Ideal S512x64 .f32) : FVec Ideal S512x1 .f32 :=
  shapeCast S512x1 (multiReduction .add [1] S512 p 0x00000000#32 reduces_S512x64_S512 (.inl rfl) rfl)
    shapeCasts_S512_S512x1

/-- The exponentials times the values. -/
def valF (p : FVec Ideal S512x512 .f32) (v : FVec Ideal S1x1x512x512 .f32) : FVec Ideal S512x512 .f32 :=
  matmul dot_S512x512_S512x512_S512x512_1_0_0_1_n_n none (truncf .bf16 p bitsLt_bf16_f32)
    (truncf .bf16 (shapeCast S512x512 v shapeCasts_S1x1x512x512_S512x512) bitsLt_bf16_f32) (constant S512x512 .f32 0x00000000#32)

/-- The exponentials times the values. -/
def valH (p : FVec Ideal S512x64 .f32) (v : FVec Ideal S1x64x512 .bf16) : FVec Ideal S512x512 .f32 :=
  matmul dot_S512x64_S64x512_S512x512_1_0_0_1_n_n none (truncf .bf16 p bitsLt_bf16_f32)
    (shapeCast S64x512 v shapeCasts_S1x64x512_S64x512) (constant S512x512 .f32 0x00000000#32)

/-- What is carried from tile to tile: the reference, the sum of the exponentials, their sum times the values. -/
structure St where
  m : FVec Ideal S512x1 .f32
  l : FVec Ideal S512x1 .f32
  a : FVec Ideal S512x512 .f32

/-- The factor that moves a sum from the reference `m` to the reference `m'`. -/
def alpha (m m' : FVec Ideal S512x1 .f32) : FVec Ideal S512x1 .f32 :=
  exp2 (mulf (subf m m') (broadcast S512x1 (Named.named (F := Ideal) κ "scale_log2e" (φ := .f32) 0x3DD53B95#32)))

/-- After a first tile of 512 keys. -/
def startF (s : FVec Ideal S512x512 .f32) (v : FVec Ideal S1x1x512x512 .f32) : St :=
  ⟨topF s, sumF (expF s (topF s)), valF (expF s (topF s)) v⟩

/-- After a further tile of 512 keys. -/
def stepF (x : St) (s : FVec Ideal S512x512 .f32) (v : FVec Ideal S1x1x512x512 .f32) : St :=
  ⟨maximumf x.m (topF s),
    addf (mulf (alpha x.m (maximumf x.m (topF s))) x.l) (sumF (expF s (maximumf x.m (topF s)))),
    addf (mulf (broadcastTo S512x512 (alpha x.m (maximumf x.m (topF s))) broadcasts_S512x1_S512x512) x.a)
      (valF (expF s (maximumf x.m (topF s))) v)⟩

/-- After a further tile of 64 keys. -/
def stepH (x : St) (s : FVec Ideal S512x64 .f32) (v : FVec Ideal S1x64x512 .bf16) : St :=
  ⟨maximumf x.m (topH s),
    addf (mulf (alpha x.m (maximumf x.m (topH s))) x.l) (sumH (expH s (maximumf x.m (topH s)))),
    addf (mulf (broadcastTo S512x512 (alpha x.m (maximumf x.m (topH s))) broadcasts_S512x1_S512x512) x.a)
      (valH (expH s (maximumf x.m (topH s))) v)⟩

/-- The values divided by the sum. -/
def out (x : St) : FVec Ideal S512x512 .bf16 :=
  truncf .bf16 (mulf x.a (broadcastTo S512x512
    (divf (broadcast S512x1 (Scalar.ofBits (F := Ideal) .f32 0x3F800000#32)) x.l) broadcasts_S512x1_S512x512)) bitsLt_bf16_f32

/-- The rows of one head, through that head's slice of the value up-projection. -/
def up (off : Fin 2 → ℕ) (h : S512x512.Slices off S64x512) (o : FVec Ideal S512x512 .bf16)
    (w : FVec Ideal S1x512x128 .bf16) : FVec Ideal S1x64x128 .bf16 :=
  shapeCast S1x64x128 (truncf .bf16 (matmul dot_S64x512_S512x128_S64x128_1_0_0_1_n_n none
    (extractStridedSlice S64x512 off o h) (shapeCast S512x128 w shapeCasts_S1x512x128_S512x128)
    (constant S64x128 .f32 0x00000000#32)) bitsLt_bf16_f32) shapeCasts_S64x128_S1x64x128

/-! ## Read at an index -/

theorem scoreF_at (q : FVec Ideal S512x576 .bf16) (k : FVec Ideal S1x1x512x512 .f32) (p : FVec Ideal S1x1x512x64 .f32)
    (r : Fin 512) (j : Fin 512) :
    scoreF q k p (ix2 r j) = (∑ e : Fin 512, q (ix2 r ⟨e.val, by omega⟩) * k (ix4 0 0 j e))
      + ∑ e : Fin 64, q (ix2 r ⟨512 + e.val, by omega⟩) * p (ix4 0 0 j e) := by
  pointwise [scoreF, qc, qp]

theorem scoreH_at (q : FVec Ideal S512x576 .bf16) (k : FVec Ideal S1x64x576 .bf16) (r : Fin 512) (j : Fin 64) :
    scoreH q k (ix2 r j) = ∑ e : Fin 576, q (ix2 r e) * k (ix3 0 j e) := by
  pointwise [scoreH]

/-- The word a maximum starts from denotes minus infinity. -/
theorem word_bot : Ideal.ofBits FTy.f32 0xFF800000#32 = (⊥ : EReal) := by
  simp [Ideal.ofBits, Ideal.ieee]

theorem topF_at (s : FVec Ideal S512x512 .f32) (r : Fin 512) :
    topF s (ix2 r 0) = Softmax.top fun k : Fin 512 => s (ix2 r k) := by
  pointwise [topF, Softmax.top, word_bot]

theorem topH_at (s : FVec Ideal S512x64 .f32) (r : Fin 512) :
    topH s (ix2 r 0) = Softmax.top fun k : Fin 64 => s (ix2 r k) := by
  pointwise [topH, Softmax.top, word_bot]

theorem expF_at (s : FVec Ideal S512x512 .f32) (m : FVec Ideal S512x1 .f32) (r : Fin 512) (k : Fin 512) :
    expF s m (ix2 r k) = Ideal.exp2 ((s (ix2 r k) - m (ix2 r 0)) * ((cc : ℝ) : EReal)) := by
  pointwise [expF, named_scale]
  rfl

theorem expH_at (s : FVec Ideal S512x64 .f32) (m : FVec Ideal S512x1 .f32) (r : Fin 512) (k : Fin 64) :
    expH s m (ix2 r k) = Ideal.exp2 ((s (ix2 r k) - m (ix2 r 0)) * ((cc : ℝ) : EReal)) := by
  pointwise [expH, named_scale]
  rfl

theorem alpha_at (m m' : FVec Ideal S512x1 .f32) (r : Fin 512) :
    alpha m m' (ix2 r 0) = Ideal.exp2 ((m (ix2 r 0) - m' (ix2 r 0)) * ((cc : ℝ) : EReal)) := by
  pointwise [alpha, named_scale]
  rfl

theorem sumF_at (p : FVec Ideal S512x512 .f32) (r : Fin 512) :
    sumF p (ix2 r 0) = ∑ k : Fin 512, p (ix2 r k) := by
  pointwise [sumF]

theorem sumH_at (p : FVec Ideal S512x64 .f32) (r : Fin 512) :
    sumH p (ix2 r 0) = ∑ k : Fin 64, p (ix2 r k) := by
  pointwise [sumH]

theorem valF_at (p : FVec Ideal S512x512 .f32) (v : FVec Ideal S1x1x512x512 .f32) (r : Fin 512) (d : Fin 512) :
    valF p v (ix2 r d) = ∑ k : Fin 512, p (ix2 r k) * v (ix4 0 0 k d) := by
  pointwise [valF]

theorem valH_at (p : FVec Ideal S512x64 .f32) (v : FVec Ideal S1x64x512 .bf16) (r : Fin 512) (d : Fin 512) :
    valH p v (ix2 r d) = ∑ k : Fin 64, p (ix2 r k) * v (ix3 0 k d) := by
  pointwise [valH]

theorem out_at (x : St) (r : Fin 512) (d : Fin 512) :
    out x (ix2 r d) = x.a (ix2 r d) * Ideal.div 1 (x.l (ix2 r 0)) := by
  pointwise [out]

/-! ## Rows -/

/-- The tile-by-tile invariant for every row of the block and every column of the values. -/
def Inv (S : Fin 512 → ℕ → EReal) (V : Fin 512 → ℕ → ℝ) (N : ℕ) (x : St) : Prop :=
  ∀ (r : Fin 512) (d : Fin 512),
    Softmax.Inv cc (S r) (V d) N (x.m (ix2 r 0)) (x.l (ix2 r 0)) (x.a (ix2 r d))

variable {S : Fin 512 → ℕ → EReal} {V : Fin 512 → ℕ → ℝ} {N : ℕ}

theorem startF_inv (hS : ∀ r k, S r k ≠ ⊤) (hb : ∀ r, S r 0 ≠ ⊥) (s : FVec Ideal S512x512 .f32)
    (v : FVec Ideal S1x1x512x512 .f32) (hs : ∀ (r : Fin 512) (k : Fin 512), s (ix2 r k) = S r k)
    (hv : ∀ (k d : Fin 512), v (ix4 0 0 k d) = (V d k : EReal)) : Inv S V 512 (startF s v) := by
  intro r d
  have h := Softmax.Inv.start cc_pos (fun k : Fin 512 => s (ix2 r k)) (fun k : Fin 512 => v (ix4 0 0 k d)) (S r) (V d)
    (fun k => hs r k) (fun k => hv k d) (hS r) (by norm_num) (hb r)
  simp only [startF, topF_at, sumF_at, valF_at, expF_at]
  exact h

theorem stepF_inv (hS : ∀ r k, S r k ≠ ⊤) {x : St} (h : Inv S V N x) (s : FVec Ideal S512x512 .f32)
    (v : FVec Ideal S1x1x512x512 .f32) (hs : ∀ (r : Fin 512) (k : Fin 512), s (ix2 r k) = S r (N + k))
    (hv : ∀ (k d : Fin 512), v (ix4 0 0 k d) = (V d (N + k) : EReal)) : Inv S V (N + 512) (stepF x s v) := by
  intro r d
  have h := Softmax.Inv.step cc_pos (fun k : Fin 512 => s (ix2 r k)) (fun k : Fin 512 => v (ix4 0 0 k d)) (S r) (V d)
    (h r d) (fun k => hs r k) (fun k => hv k d) (hS r)
  have e : maximumf x.m (topF s) (ix2 r 0) = max (x.m (ix2 r 0)) (Softmax.top fun k : Fin 512 => s (ix2 r k)) := by
    rw [← topF_at]; rfl
  have e1 : (stepF x s v).l (ix2 r 0) = alpha x.m (maximumf x.m (topF s)) (ix2 r 0) * x.l (ix2 r 0)
      + sumF (expF s (maximumf x.m (topF s))) (ix2 r 0) := rfl
  have e2 : (stepF x s v).a (ix2 r d) = alpha x.m (maximumf x.m (topF s)) (ix2 r 0) * x.a (ix2 r d)
      + valF (expF s (maximumf x.m (topF s))) v (ix2 r d) := by
    pointwise [stepF]
  rw [e1, e2, alpha_at, sumF_at, valF_at, show (stepF x s v).m (ix2 r 0) = maximumf x.m (topF s) (ix2 r 0) from rfl]
  simp only [expF_at, e]
  exact h

theorem stepH_inv (hS : ∀ r k, S r k ≠ ⊤) {x : St} (h : Inv S V N x) (s : FVec Ideal S512x64 .f32)
    (v : FVec Ideal S1x64x512 .bf16) (hs : ∀ (r : Fin 512) (k : Fin 64), s (ix2 r k) = S r (N + k))
    (hv : ∀ (k : Fin 64) (d : Fin 512), v (ix3 0 k d) = (V d (N + k) : EReal)) : Inv S V (N + 64) (stepH x s v) := by
  intro r d
  have h := Softmax.Inv.step cc_pos (fun k : Fin 64 => s (ix2 r k)) (fun k : Fin 64 => v (ix3 0 k d)) (S r) (V d)
    (h r d) (fun k => hs r k) (fun k => hv k d) (hS r)
  have e : maximumf x.m (topH s) (ix2 r 0) = max (x.m (ix2 r 0)) (Softmax.top fun k : Fin 64 => s (ix2 r k)) := by
    rw [← topH_at]; rfl
  have e1 : (stepH x s v).l (ix2 r 0) = alpha x.m (maximumf x.m (topH s)) (ix2 r 0) * x.l (ix2 r 0)
      + sumH (expH s (maximumf x.m (topH s))) (ix2 r 0) := rfl
  have e2 : (stepH x s v).a (ix2 r d) = alpha x.m (maximumf x.m (topH s)) (ix2 r 0) * x.a (ix2 r d)
      + valH (expH s (maximumf x.m (topH s))) v (ix2 r d) := by
    pointwise [stepH]
  rw [e1, e2, alpha_at, sumH_at, valH_at, show (stepH x s v).m (ix2 r 0) = maximumf x.m (topH s) (ix2 r 0) from rfl]
  simp only [expH_at, e]
  exact h

/-- What one row and one column end with. -/
theorem out_inv {x : St} (h : Inv S V N x) (hN : 0 < N) (hb : ∀ r, S r 0 ≠ ⊥) (r : Fin 512) (d : Fin 512) :
    out x (ix2 r d) = (((∑ k ∈ Finset.range N, Softmax.wt cc (S r k) * V d k)
      / ∑ k ∈ Finset.range N, Softmax.wt cc (S r k) : ℝ) : EReal) := by
  rw [out_at, (h r d).out hN (hb r)]

end Cert.CachedIdeal.Tiles
-- ==== Proof.CachedCases.lean ====
module

public import proofs.«01_k».proof.Proof.Gen.CachedIdeal.Value
public import proofs.«01_k».proof.Proof.CachedTiles
public import Idealize.ShloMosaic.Lib.Pipeline.ValueKit
public import Idealize.ShloMosaic.Lib.Pointwise

/-! The block a grid point of the sample's attention kernel writes: eight tiles of cached keys and the tile of new keys of
`CachedTiles.lean` in a row, divided by the sum, each head through its slice of the value up-projection. -/

@[expose] public section

set_option maxRecDepth 16384

noncomputable section

open Idealize.ShloMosaic Idealize.ShloMosaic.TcCoe Idealize.SL.Sem
open Idealize.ShloMosaic.Pipeline (Dat)

namespace Cert.CachedIdeal.Cases

open Cert.CachedIdeal Cert.CachedIdeal.Gen Cert.CachedIdeal.Value Cert.CachedIdeal.Tiles

/-- One head's rows through its slice of the up-projection, at an index. -/
theorem up_at (off : ℕ) (hs : S512x512.Slices ![off, 0] S64x512) (o : FVec Ideal S512x512 .bf16)
    (w : FVec Ideal S1x512x128 .bf16) (r : Fin 64) (e : Fin 128) (h : off + 64 ≤ 512) :
    up ![off, 0] hs o w (ix3 0 r e) = ∑ d : Fin 512, o (ix2 ⟨off + r.val, by omega⟩ d) * w (ix3 0 d e) := by
  pointwise [up]

/-- The row of the block, of the head and the frame that the index `y` of the result names. -/
def row (y : S1x64x1024.Idx) : Fin 512 :=
  ⟨(y 2).val / 128 * 64 + (y 1).val, by
    have h1 : (y 1).val < 64 := (y 1).isLt
    have h2 : (y 2).val < 1024 := (y 2).isLt
    omega⟩

/-- The head that the index `y` of the result names. -/
def head (y : S1x64x1024.Idx) : Fin 8 :=
  ⟨(y 2).val / 128, by
    have h2 : (y 2).val < 1024 := (y 2).isLt
    omega⟩

/-- The column of the head. -/
def col (y : S1x64x1024.Idx) : Fin 128 := ⟨(y 2).val % 128, Nat.mod_lt _ (by norm_num)⟩

/-- The rows `o` of the block through the value up-projections `W`, at an index of the result. -/
def through (o : FVec Ideal S512x512 .bf16) (W : FVec Ideal S8x512x128 .bf16) (y : S1x64x1024.Idx) : EReal :=
  ∑ d : Fin 512, o (ix2 (row y) d) * W (ix3 (head y) d (col y))

/-- One piece of the result: the rows of head `n`, kept at columns `128n` to `128n + 127`. -/
theorem headPiece (n : ℕ) (hn : n < 8) (o : FVec Ideal S512x512 .bf16) (W : FVec Ideal S8x512x128 .bf16)
    (hs : S512x512.Slices ![64 * n, 0] S64x512) (hw : ∀ d, ![n, 0, 0] d + S1x512x128.size d ≤ S8x512x128.size d)
    (x : S1x64x128.Idx) (y : S1x64x1024.Idx) (h1 : (y 1).val = (x 1).val) (h2 : (y 2).val = 128 * n + (x 2).val) :
    up ![64 * n, 0] hs o (View.ld (Val := Elt Ideal) (e' := .bf16) W (Rect.unit (s := S8x512x128) ![n, 0, 0] S1x512x128.size hw)) x = through o W y := by
  obtain ⟨x0, x1, x2, rfl⟩ : ∃ a b c, x = ix3 a b c := ⟨x 0, x 1, x 2, by ext d; fin_cases d <;> rfl⟩
  have e0 : x0 = 0 := Subsingleton.elim _ _
  subst e0
  have hx1 : x1.val < 64 := x1.isLt
  have hx2 : x2.val < 128 := x2.isLt
  have k1 : (y 1).val = x1.val := h1
  have k2 : (y 2).val = 128 * n + x2.val := h2
  rw [up_at _ _ _ _ _ _ (by omega)]
  unfold through
  refine Finset.sum_congr rfl fun d _ => ?_
  have er : row y = ⟨64 * n + x1.val, by omega⟩ := Fin.ext (by simp only [row]; omega)
  have eh : head y = ⟨n, hn⟩ := Fin.ext (by simp only [head]; omega)
  have ec : col y = x2 := Fin.ext (by simp only [col]; omega)
  rw [er, eh, ec]
  congr 1
  show W _ = W _
  congr 1
  ext d'
  fin_cases d' <;> simp [Rect.unit, ix3]

/-! ## The payloads, one at a time -/

section
variable (x : St) (s t : FVec Ideal S512x512 .f32) (v w : FVec Ideal S1x1x512x512 .f32)

theorem top14 : k0_pay14 (F := Ideal) s x.m
    = (stepF x s v).m := rfl

theorem top21 : k0_pay21 (F := Ideal) s x.m
    = (stepF x s v).m := rfl

theorem top28 : k0_pay28 (F := Ideal) s x.m
    = (stepF x s v).m := rfl

theorem top35 : k0_pay35 (F := Ideal) s x.m
    = (stepF x s v).m := rfl

theorem top53 : k0_pay53 (F := Ideal) s x.m
    = (stepF x s v).m := rfl

theorem top42 : k0_pay42 (F := Ideal) x.m (topF s)
    = (stepF x s v).m := rfl

theorem top48 : k0_pay48 (F := Ideal) x.m t (topF s)
    = (stepF (stepF x s v) t w).m := rfl

theorem exp49 : k0_pay49 (F := Ideal) x.m t (topF s)
    = expF t (stepF (stepF x s v) t w).m := rfl

theorem sum18 : k0_pay18 (F := Ideal) s x.m x.l
    = (stepF x s v).l := rfl

theorem sum24 : k0_pay24 (F := Ideal) s x.m x.l
    = (stepF x s v).l := rfl

theorem sum31 : k0_pay31 (F := Ideal) s x.m x.l
    = (stepF x s v).l := rfl

theorem sum38 : k0_pay38 (F := Ideal) s x.m x.l
    = (stepF x s v).l := rfl

theorem sum45 : k0_pay45 (F := Ideal) s x.m x.l (topF s)
    = (stepF x s v).l := rfl

theorem sum57 : k0_pay57 (F := Ideal) x.m x.l t (stepF x s v).m (expF s (stepF x s v).m)
    = (stepF (stepF x s v) t w).l := rfl

theorem val12 : k0_pay12 (F := Ideal) (expF s (topF s)) v
    = (startF s v).a := rfl

theorem val25 : k0_pay25 (F := Ideal) x.a t (stepF x s v).m (k0_pay16 (F := Ideal) s x.m v) (k0_pay19 (F := Ideal) s x.m) w
    = (stepF (stepF x s v) t w).a := rfl

theorem val32 : k0_pay32 (F := Ideal) s x.m x.a v
    = (stepF x s v).a := rfl

theorem val39 : k0_pay39 (F := Ideal) s x.m x.a v
    = (stepF x s v).a := rfl

theorem val46 : k0_pay46 (F := Ideal) s x.m x.a (topF s) v
    = (stepF x s v).a := rfl

theorem val51 : k0_pay51 (F := Ideal) x.m x.a (stepF x s v).m (expF s (stepF x s v).m) v
    = (stepF x s v).a := rfl

theorem last59 (z : FVec Ideal S512x64 .f32) (u : FVec Ideal S1x64x512 .bf16) : k0_pay59 (F := Ideal) x.a z (stepF x s v).m (k0_pay55 (F := Ideal) s x.m v) (stepF x s v).l (k0_pay58 (F := Ideal) s x.m) u
    = out (stepH (stepF x s v) z u) := rfl

end

theorem top9 (q : FVec Ideal S1x8x64x576 .bf16) (k : FVec Ideal S1x1x512x512 .f32) (p : FVec Ideal S1x1x512x64 .f32) :
    k0_pay9 (F := Ideal) q k p = topF (scoreF (k0_pay4 q) k p) := rfl

/-! ## The tiles in a row -/

section
variable (x0 : FVec Ideal S1x8x64x576 .bf16) (x1 : FVec Ideal S1x64x576 .bf16) (x2 : FVec Ideal S1x1x4096x512 .f32)
  (x3 : FVec Ideal S1x1x4096x64 .f32) (x4 : FVec Ideal S8x512x128 .bf16)

/-- The cached latents of tile 0. -/
def lat0 : FVec Ideal S1x1x512x512 .f32 := View.ld (Val := Elt Ideal) (e' := .f32) x2 r0_1

/-- The scores of tile 0. -/
def sc0 : FVec Ideal S512x512 .f32 := scoreF (k0_pay4 (View.ld (Val := Elt Ideal) (e' := .bf16) x0 r0_0)) (lat0 x2) (View.ld (Val := Elt Ideal) (e' := .f32) x3 r0_2)

/-- The cached latents of tile 1. -/
def lat1 : FVec Ideal S1x1x512x512 .f32 := View.ld (Val := Elt Ideal) (e' := .f32) x2 r0_3

/-- The scores of tile 1. -/
def sc1 : FVec Ideal S512x512 .f32 := scoreF (k0_pay4 (View.ld (Val := Elt Ideal) (e' := .bf16) x0 r0_0)) (lat1 x2) (View.ld (Val := Elt Ideal) (e' := .f32) x3 r0_4)

/-- The cached latents of tile 2. -/
def lat2 : FVec Ideal S1x1x512x512 .f32 := View.ld (Val := Elt Ideal) (e' := .f32) x2 r0_5

/-- The scores of tile 2. -/
def sc2 : FVec Ideal S512x512 .f32 := scoreF (k0_pay4 (View.ld (Val := Elt Ideal) (e' := .bf16) x0 r0_0)) (lat2 x2) (View.ld (Val := Elt Ideal) (e' := .f32) x3 r0_6)

/-- The cached latents of tile 3. -/
def lat3 : FVec Ideal S1x1x512x512 .f32 := View.ld (Val := Elt Ideal) (e' := .f32) x2 r0_7

/-- The scores of tile 3. -/
def sc3 : FVec Ideal S512x512 .f32 := scoreF (k0_pay4 (View.ld (Val := Elt Ideal) (e' := .bf16) x0 r0_0)) (lat3 x2) (View.ld (Val := Elt Ideal) (e' := .f32) x3 r0_8)

/-- The cached latents of tile 4. -/
def lat4 : FVec Ideal S1x1x512x512 .f32 := View.ld (Val := Elt Ideal) (e' := .f32) x2 r0_9

/-- The scores of tile 4. -/
def sc4 : FVec Ideal S512x512 .f32 := scoreF (k0_pay4 (View.ld (Val := Elt Ideal) (e' := .bf16) x0 r0_0)) (lat4 x2) (View.ld (Val := Elt Ideal) (e' := .f32) x3 r0_10)

/-- The cached latents of tile 5. -/
def lat5 : FVec Ideal S1x1x512x512 .f32 := View.ld (Val := Elt Ideal) (e' := .f32) x2 r0_11

/-- The scores of tile 5. -/
def sc5 : FVec Ideal S512x512 .f32 := scoreF (k0_pay4 (View.ld (Val := Elt Ideal) (e' := .bf16) x0 r0_0)) (lat5 x2) (View.ld (Val := Elt Ideal) (e' := .f32) x3 r0_12)

/-- The cached latents of tile 6. -/
def lat6 : FVec Ideal S1x1x512x512 .f32 := View.ld (Val := Elt Ideal) (e' := .f32) x2 r0_13

/-- The scores of tile 6. -/
def sc6 : FVec Ideal S512x512 .f32 := scoreF (k0_pay4 (View.ld (Val := Elt Ideal) (e' := .bf16) x0 r0_0)) (lat6 x2) (View.ld (Val := Elt Ideal) (e' := .f32) x3 r0_14)

/-- The cached latents of tile 7. -/
def lat7 : FVec Ideal S1x1x512x512 .f32 := View.ld (Val := Elt Ideal) (e' := .f32) x2 r0_15

/-- The scores of tile 7. -/
def sc7 : FVec Ideal S512x512 .f32 := scoreF (k0_pay4 (View.ld (Val := Elt Ideal) (e' := .bf16) x0 r0_0)) (lat7 x2) (View.ld (Val := Elt Ideal) (e' := .f32) x3 r0_16)

/-- The scores of the new keys. -/
def sc8 : FVec Ideal S512x64 .f32 := scoreH (k0_pay4 (View.ld (Val := Elt Ideal) (e' := .bf16) x0 r0_0)) (View.ld (Val := Elt Ideal) (e' := .bf16) x1 r0_17)

/-- After the first tile. -/
def st0 : St := startF (sc0 x0 x2 x3) (lat0 x2)

/-- After tile 1. -/
def st1 : St := stepF (st0 x0 x2 x3) (sc1 x0 x2 x3) (lat1 x2)

/-- After tile 2. -/
def st2 : St := stepF (st1 x0 x2 x3) (sc2 x0 x2 x3) (lat2 x2)

/-- After tile 3. -/
def st3 : St := stepF (st2 x0 x2 x3) (sc3 x0 x2 x3) (lat3 x2)

/-- After tile 4. -/
def st4 : St := stepF (st3 x0 x2 x3) (sc4 x0 x2 x3) (lat4 x2)

/-- After tile 5. -/
def st5 : St := stepF (st4 x0 x2 x3) (sc5 x0 x2 x3) (lat5 x2)

/-- After tile 6. -/
def st6 : St := stepF (st5 x0 x2 x3) (sc6 x0 x2 x3) (lat6 x2)

/-- After tile 7. -/
def st7 : St := stepF (st6 x0 x2 x3) (sc7 x0 x2 x3) (lat7 x2)

/-- After the new keys. -/
def st8 : St := stepH (st7 x0 x2 x3) (sc8 x0 x1) (View.ld (Val := Elt Ideal) (e' := .bf16) x1 r0_18)

theorem e69 : k0_pay69 (F := Ideal) x0 x1 x2 x3 x4 = (sc1 x0 x2 x3) := rfl

theorem e70 : k0_pay70 (F := Ideal) x0 x1 x2 x3 x4 = (st0 x0 x2 x3).m := by
  unfold k0_pay70
  rw [top9]
  simp only [st0, startF, sc0, lat0]

theorem e71 : k0_pay71 (F := Ideal) x0 x1 x2 x3 x4 = (sc2 x0 x2 x3) := rfl

theorem e73 : k0_pay73 (F := Ideal) x0 x1 x2 x3 x4 = (sc3 x0 x2 x3) := rfl

theorem e75 : k0_pay75 (F := Ideal) x0 x1 x2 x3 x4 = (sc4 x0 x2 x3) := rfl

theorem e78 : k0_pay78 (F := Ideal) x0 x1 x2 x3 x4 = (sc5 x0 x2 x3) := rfl

theorem e80 : k0_pay80 (F := Ideal) x0 x1 x2 x3 x4 = (sc6 x0 x2 x3) := rfl

theorem e83 : k0_pay83 (F := Ideal) x0 x1 x2 x3 x4 = (sc7 x0 x2 x3) := rfl

theorem e87 : k0_pay87 (F := Ideal) x0 x1 x2 x3 x4 = (sc8 x0 x1) := rfl

theorem e81 : k0_pay81 (F := Ideal) x0 x1 x2 x3 x4 = topF (sc5 x0 x2 x3) := rfl

theorem e72 : k0_pay72 (F := Ideal) x0 x1 x2 x3 x4 = (st1 x0 x2 x3).m := by
  unfold k0_pay72
  rw [e69, e70]
  exact top14 (st0 x0 x2 x3) (sc1 x0 x2 x3) (lat1 x2)

theorem e74 : k0_pay74 (F := Ideal) x0 x1 x2 x3 x4 = (st2 x0 x2 x3).m := by
  unfold k0_pay74
  rw [e71, e72]
  exact top21 (st1 x0 x2 x3) (sc2 x0 x2 x3) (lat2 x2)

theorem e76 : k0_pay76 (F := Ideal) x0 x1 x2 x3 x4 = (st3 x0 x2 x3).m := by
  unfold k0_pay76
  rw [e73, e74]
  exact top28 (st2 x0 x2 x3) (sc3 x0 x2 x3) (lat3 x2)

theorem e79 : k0_pay79 (F := Ideal) x0 x1 x2 x3 x4 = (st4 x0 x2 x3).m := by
  unfold k0_pay79
  rw [e75, e76]
  exact top35 (st3 x0 x2 x3) (sc4 x0 x2 x3) (lat4 x2)

theorem e82 : k0_pay82 (F := Ideal) x0 x1 x2 x3 x4 = (st5 x0 x2 x3).m := by
  unfold k0_pay82
  rw [e79, e81]
  exact top42 (st4 x0 x2 x3) (sc5 x0 x2 x3) (lat5 x2)

theorem e84 : k0_pay84 (F := Ideal) x0 x1 x2 x3 x4 = (st6 x0 x2 x3).m := by
  unfold k0_pay84
  rw [e79, e80, e81]
  exact top48 (st4 x0 x2 x3) (sc5 x0 x2 x3) (sc6 x0 x2 x3) (lat5 x2) (lat6 x2)

theorem e85 : k0_pay85 (F := Ideal) x0 x1 x2 x3 x4 = expF (sc6 x0 x2 x3) (st6 x0 x2 x3).m := by
  unfold k0_pay85
  rw [e79, e80, e81]
  exact exp49 (st4 x0 x2 x3) (sc5 x0 x2 x3) (sc6 x0 x2 x3) (lat5 x2) (lat6 x2)

theorem e88 : k0_pay88 (F := Ideal) x0 x1 x2 x3 x4 = (st7 x0 x2 x3).m := by
  unfold k0_pay88
  rw [e83, e84]
  exact top53 (st6 x0 x2 x3) (sc7 x0 x2 x3) (lat7 x2)

theorem l11 : k0_pay11 (F := Ideal) (View.ld (Val := Elt Ideal) (e' := .bf16) x0 r0_0) (View.ld (Val := Elt Ideal) (e' := .f32) x2 r0_1) (View.ld (Val := Elt Ideal) (e' := .f32) x3 r0_2) = (st0 x0 x2 x3).l := rfl

theorem x10 : k0_pay10 (F := Ideal) (View.ld (Val := Elt Ideal) (e' := .bf16) x0 r0_0) (View.ld (Val := Elt Ideal) (e' := .f32) x2 r0_1) (View.ld (Val := Elt Ideal) (e' := .f32) x3 r0_2) = expF (sc0 x0 x2 x3) (topF (sc0 x0 x2 x3)) := rfl

theorem l18 : k0_pay18 (F := Ideal) (sc1 x0 x2 x3) (st0 x0 x2 x3).m (st0 x0 x2 x3).l = (st1 x0 x2 x3).l := sum18 _ _ (lat1 x2)

theorem l24 : k0_pay24 (F := Ideal) (sc2 x0 x2 x3) (st1 x0 x2 x3).m (st1 x0 x2 x3).l = (st2 x0 x2 x3).l := sum24 _ _ (lat2 x2)

theorem l31 : k0_pay31 (F := Ideal) (sc3 x0 x2 x3) (st2 x0 x2 x3).m (st2 x0 x2 x3).l = (st3 x0 x2 x3).l := sum31 _ _ (lat3 x2)

theorem l38 : k0_pay38 (F := Ideal) (sc4 x0 x2 x3) (st3 x0 x2 x3).m (st3 x0 x2 x3).l = (st4 x0 x2 x3).l := sum38 _ _ (lat4 x2)

theorem l45 : k0_pay45 (F := Ideal) (sc5 x0 x2 x3) (st4 x0 x2 x3).m (st4 x0 x2 x3).l (topF (sc5 x0 x2 x3)) = (st5 x0 x2 x3).l := sum45 _ _ (lat5 x2)

theorem l57 : k0_pay57 (F := Ideal) (st5 x0 x2 x3).m (st5 x0 x2 x3).l (sc7 x0 x2 x3) (st6 x0 x2 x3).m (expF (sc6 x0 x2 x3) (st6 x0 x2 x3).m) = (st7 x0 x2 x3).l :=
  sum57 (st5 x0 x2 x3) (sc6 x0 x2 x3) (sc7 x0 x2 x3) (lat6 x2) (lat7 x2)

theorem a12 : k0_pay12 (F := Ideal) (expF (sc0 x0 x2 x3) (topF (sc0 x0 x2 x3))) (View.ld (Val := Elt Ideal) (e' := .f32) x2 r0_1) = (st0 x0 x2 x3).a := val12 _ _

theorem a25 : k0_pay25 (F := Ideal) (st0 x0 x2 x3).a (sc2 x0 x2 x3) (st1 x0 x2 x3).m (k0_pay16 (F := Ideal) (sc1 x0 x2 x3) (st0 x0 x2 x3).m (View.ld (Val := Elt Ideal) (e' := .f32) x2 r0_3))
    (k0_pay19 (F := Ideal) (sc1 x0 x2 x3) (st0 x0 x2 x3).m) (View.ld (Val := Elt Ideal) (e' := .f32) x2 r0_5) = (st2 x0 x2 x3).a := val25 (st0 x0 x2 x3) (sc1 x0 x2 x3) (sc2 x0 x2 x3) (lat1 x2) (lat2 x2)

theorem a32 : k0_pay32 (F := Ideal) (sc3 x0 x2 x3) (st2 x0 x2 x3).m (st2 x0 x2 x3).a (View.ld (Val := Elt Ideal) (e' := .f32) x2 r0_7) = (st3 x0 x2 x3).a := val32 (st2 x0 x2 x3) (sc3 x0 x2 x3) (lat3 x2)

theorem a39 : k0_pay39 (F := Ideal) (sc4 x0 x2 x3) (st3 x0 x2 x3).m (st3 x0 x2 x3).a (View.ld (Val := Elt Ideal) (e' := .f32) x2 r0_9) = (st4 x0 x2 x3).a := val39 (st3 x0 x2 x3) (sc4 x0 x2 x3) (lat4 x2)

theorem a46 : k0_pay46 (F := Ideal) (sc5 x0 x2 x3) (st4 x0 x2 x3).m (st4 x0 x2 x3).a (topF (sc5 x0 x2 x3)) (View.ld (Val := Elt Ideal) (e' := .f32) x2 r0_11) = (st5 x0 x2 x3).a := val46 (st4 x0 x2 x3) (sc5 x0 x2 x3) (lat5 x2)

theorem a51 : k0_pay51 (F := Ideal) (st5 x0 x2 x3).m (st5 x0 x2 x3).a (st6 x0 x2 x3).m (expF (sc6 x0 x2 x3) (st6 x0 x2 x3).m) (View.ld (Val := Elt Ideal) (e' := .f32) x2 r0_13) = (st6 x0 x2 x3).a := val51 (st5 x0 x2 x3) (sc6 x0 x2 x3) (lat6 x2)

theorem e86 : k0_pay86 (F := Ideal) x0 x1 x2 x3 x4 = (st6 x0 x2 x3).a := by
  unfold k0_pay86
  rw [e69, e70, e71, e72, e73, e74, e75, e76, e78, e79, e81, e82, e84, e85, x10, a12, a25, a32, a39, a46, a51]

theorem e90 : k0_pay90 (F := Ideal) x0 x1 x2 x3 x4 = (st7 x0 x2 x3).l := by
  unfold k0_pay90
  rw [e69, e70, e71, e72, e73, e74, e75, e76, e78, e79, e81, e82, e83, e84, e85, l11, l18, l24, l31, l38, l45, l57]

/-- The rows the body forms. -/
theorem rows : k0_pay92 (F := Ideal) x0 x1 x2 x3 x4 = out (st8 x0 x1 x2 x3) := by
  unfold k0_pay92 k0_pay89 k0_pay91
  rw [e83, e84, e86, e87, e88, e90]
  exact last59 (st6 x0 x2 x3) (sc7 x0 x2 x3) (lat7 x2) _ _

/-- The block the body leaves, at an index. -/
theorem block (y : S1x64x1024.Idx) :
    out0_5 (F := Ideal) x0 x1 x2 x3 x4 y = through (out (st8 x0 x1 x2 x3)) x4 y := by
  frame_out
  rw [← rows x0 x1 x2 x3 x4]
  canon_tiles x h
  · exact headPiece 7 (by norm_num) _ _ slices_S512x512_o448_0_S64x512 inb_S8x512x128_S1x512x128_7_0_0 x y (by assumption) (by assumption)
  · exact headPiece 6 (by norm_num) _ _ slices_S512x512_o384_0_S64x512 inb_S8x512x128_S1x512x128_6_0_0 x y (by assumption) (by assumption)
  · exact headPiece 5 (by norm_num) _ _ slices_S512x512_o320_0_S64x512 inb_S8x512x128_S1x512x128_5_0_0 x y (by assumption) (by assumption)
  · exact headPiece 4 (by norm_num) _ _ slices_S512x512_o256_0_S64x512 inb_S8x512x128_S1x512x128_4_0_0 x y (by assumption) (by assumption)
  · exact headPiece 3 (by norm_num) _ _ slices_S512x512_o192_0_S64x512 inb_S8x512x128_S1x512x128_3_0_0 x y (by assumption) (by assumption)
  · exact headPiece 2 (by norm_num) _ _ slices_S512x512_o128_0_S64x512 inb_S8x512x128_S1x512x128_2_0_0 x y (by assumption) (by assumption)
  · exact headPiece 1 (by norm_num) _ _ slices_S512x512_o64_0_S64x512 inb_S8x512x128_S1x512x128_1_0_0 x y (by assumption) (by assumption)
  · exact headPiece 0 (by norm_num) _ _ slices_S512x512_o0_0_S64x512 inb_S8x512x128_S1x512x128_0_0_0 x y (by assumption) (by omega)

end

end Cert.CachedIdeal.Cases
-- ==== Proof.CachedAttention.lean ====
module

public import proofs.«01_k».proof.Proof.CachedCases
public import proofs.«01_k».proof.Proof.Attention
public import Idealize.ShloMosaic.Lib.Claim

/-! What the result array of the sample's attention kernel holds: for every sequence, head and frame, the
softmax-weighted values of the cached frames and of the new ones, through the head's slice of the value up-projection. -/

@[expose] public section

set_option maxRecDepth 16384

noncomputable section

open Idealize.ShloMosaic Idealize.ShloMosaic.TcCoe Idealize.SL.Sem
open Idealize.ShloMosaic.Pipeline (Dat)

namespace Cert.CachedIdeal.Attention

open Cert.CachedIdeal Cert.CachedIdeal.Gen Cert.CachedIdeal.Value Cert.CachedIdeal.Tiles Cert.CachedIdeal.Cases
open Cert.AttnIdeal.Attention (Real')

section
variable (Q : FVec Ideal S8x8x64x576 .bf16) (N : FVec Ideal S8x64x576 .bf16) (C : FVec Ideal S2x8x4096x512 .f32)
  (P : FVec Ideal S2x8x4096x64 .f32) (W : FVec Ideal S512x2048 .f32)

/-- The score of the cached key `k` for the query at sequence `b`, head `h`, frame `n`. -/
def old (b h : Fin 8) (n : Fin 64) (k : Fin 4096) : EReal :=
  (∑ e : Fin 512, Q (ix4 b h n ⟨e.val, by omega⟩) * C (ix4 0 b k e))
    + ∑ e : Fin 64, Q (ix4 b h n ⟨512 + e.val, by omega⟩) * P (ix4 0 b k e)

/-- The score of the new key `k`. -/
def new (b h : Fin 8) (n k : Fin 64) : EReal := ∑ e : Fin 576, Q (ix4 b h n e) * N (ix3 b k e)

/-- The score of key `k`: the cached keys, then the new ones. -/
def seen (b h : Fin 8) (n : Fin 64) (k : ℕ) : EReal :=
  if h1 : k < 4096 then old Q C P b h n ⟨k, h1⟩ else if h2 : k - 4096 < 64 then new Q N b h n ⟨k - 4096, h2⟩ else ⊥

/-- The values, as reals: the cached latents, then the first 512 columns of the new keys. -/
def vals (b : Fin 8) (d : Fin 512) (k : ℕ) : ℝ :=
  if h1 : k < 4096 then (C (ix4 0 b ⟨k, h1⟩ d)).toReal
  else if h2 : k - 4096 < 64 then (N (ix3 b ⟨k - 4096, h2⟩ ⟨d.val, by omega⟩)).toReal else 0

/-- The softmax-weighted values. -/
def mixed (b h : Fin 8) (n : Fin 64) (d : Fin 512) : ℝ :=
  (∑ k ∈ Finset.range 4160, Softmax.wt cc (seen Q N C P b h n k) * vals N C b d k)
    / ∑ k ∈ Finset.range 4160, Softmax.wt cc (seen Q N C P b h n k)

/-- The whole result, at an index. -/
def result : FVec Ideal S8x64x1024 .bf16 := fun i =>
  ∑ d : Fin 512, (mixed Q N C P (i 0) ⟨(i 2).val / 128, by have h : (i 2).val < 1024 := (i 2).isLt; omega⟩ (i 1) d : EReal)
    * W (ix2 d ⟨(i 2).val / 128 * 256 + 128 + (i 2).val % 128, by have h : (i 2).val < 1024 := (i 2).isLt; omega⟩)

theorem seen_old (b h : Fin 8) (n : Fin 64) (k : ℕ) (hk : k < 4096) :
    seen Q N C P b h n k = old Q C P b h n ⟨k, hk⟩ := dif_pos hk

theorem seen_new (b h : Fin 8) (n k : Fin 64) : seen Q N C P b h n (4096 + k.val) = new Q N b h n k := by
  unfold seen
  rw [dif_neg (by omega), dif_pos (by omega)]
  have e : (⟨4096 + k.val - 4096, by omega⟩ : Fin 64) = k := Fin.ext (by simp)
  rw [e]

variable {Q N C P} (hQ : Real' Q) (hN : Real' N) (hC : Real' C) (hP : Real' P)

include hQ hN hC hP in
/-- A score is a real number. -/
theorem seen_real (b h : Fin 8) (n : Fin 64) (k : ℕ) (hk : k < 4160) : ∃ x : ℝ, seen Q N C P b h n k = (x : EReal) := by
  choose q hq using hQ
  choose g hg using hN
  choose c hc using hC
  choose p hp using hP
  unfold seen
  split_ifs with h1 h2
  · refine ⟨(∑ e : Fin 512, q (ix4 b h n ⟨e.val, by omega⟩) * c (ix4 0 b ⟨k, h1⟩ e))
      + ∑ e : Fin 64, q (ix4 b h n ⟨512 + e.val, by omega⟩) * p (ix4 0 b ⟨k, h1⟩ e), ?_⟩
    unfold old
    rw [EReal.coe_add, Softmax.coe_sum, Softmax.coe_sum]
    congr 1
    · exact Finset.sum_congr rfl fun e _ => by rw [hq, hc, EReal.coe_mul]
    · exact Finset.sum_congr rfl fun e _ => by rw [hq, hp, EReal.coe_mul]
  · refine ⟨∑ e : Fin 576, q (ix4 b h n e) * g (ix3 b ⟨k - 4096, h2⟩ e), ?_⟩
    unfold new
    rw [Softmax.coe_sum]
    exact Finset.sum_congr rfl fun e _ => by rw [hq, hg, EReal.coe_mul]
  · omega

include hQ hN hC hP in
theorem seen_ne_top (b h : Fin 8) (n : Fin 64) (k : ℕ) : seen Q N C P b h n k ≠ ⊤ := by
  by_cases hk : k < 4160
  · obtain ⟨x, hx⟩ := seen_real hQ hN hC hP b h n k hk
    rw [hx]; exact EReal.coe_ne_top x
  · unfold seen
    rw [dif_neg (by omega), dif_neg (by omega)]
    exact bot_ne_top

include hQ hN hC hP in
theorem seen_zero (b h : Fin 8) (n : Fin 64) : seen Q N C P b h n 0 ≠ ⊥ := by
  obtain ⟨x, hx⟩ := seen_real hQ hN hC hP b h n 0 (by norm_num)
  rw [hx]; exact EReal.coe_ne_bot x

include hC in
theorem vals_old (b : Fin 8) (d : Fin 512) (k : ℕ) (hk : k < 4096) : C (ix4 0 b ⟨k, hk⟩ d) = (vals N C b d k : EReal) := by
  unfold vals
  rw [dif_pos hk]
  obtain ⟨x, hx⟩ := hC (ix4 0 b ⟨k, hk⟩ d)
  rw [hx, EReal.toReal_coe]

include hN in
theorem vals_new (b : Fin 8) (d : Fin 512) (k : Fin 64) :
    N (ix3 b k ⟨d.val, by omega⟩) = (vals N C b d (4096 + k.val) : EReal) := by
  unfold vals
  rw [dif_neg (by omega), dif_pos (by omega)]
  have e : (⟨4096 + k.val - 4096, by omega⟩ : Fin 64) = k := Fin.ext (by simp)
  rw [e]
  obtain ⟨x, hx⟩ := hN (ix3 b k ⟨d.val, by omega⟩)
  rw [hx, EReal.toReal_coe]

end

/-! ## The blocks of a grid point -/

section
variable (m : (ℓ : Loc nD τ sig) → Buf (Elt Ideal) ℓ)

/-- The queries. -/
def argQ (c : Dev nD) : FVec Ideal S8x8x64x576 .bf16 := m ((c : Thread nD τ).loc main_arg0)

/-- The new keys, whose first 512 columns are the values. -/
def argN (c : Dev nD) : FVec Ideal S8x64x576 .bf16 := m ((c : Thread nD τ).loc main_arg1)

/-- The cached latents. -/
def argC (c : Dev nD) : FVec Ideal S2x8x4096x512 .f32 := m ((c : Thread nD τ).loc main_arg2)

/-- The cached positions. -/
def argP (c : Dev nD) : FVec Ideal S2x8x4096x64 .f32 := m ((c : Thread nD τ).loc main_arg3)

/-- The up-projection. -/
def argW (c : Dev nD) : FVec Ideal S512x2048 .f32 := m ((c : Thread nD τ).loc main_arg4)

/-- Where each window stands at a grid point. -/
theorem idx : ∀ t : Fin cfg0.N, win0_0.index t = ![t.val, 0, 0, 0] ∧ win0_1.index t = ![t.val, 0, 0]
    ∧ win0_2.index t = ![0, t.val, 0, 0] ∧ win0_3.index t = ![0, t.val, 0, 0] ∧ win0_4.index t = ![0, 0, 0]
    ∧ win0_5.index t = ![t.val, 0, 0] ∧ t.val < 8 :=
  (by decide +kernel : ∀ t : Fin grid0.N, _)

/-- The sequence of a grid point. -/
def bat (t : Fin cfg0.N) : Fin 8 := ⟨t.val, (idx t).2.2.2.2.2.2⟩

/-- The head of a row. -/
def hd (r : Fin 512) : Fin 8 := ⟨r.val / 64, by omega⟩

/-- The frame of a row. -/
def frm (r : Fin 512) : Fin 64 := ⟨r.val % 64, Nat.mod_lt _ (by norm_num)⟩

theorem queryBlock (c : Dev nD) (t : Fin cfg0.N) (h : Fin 8) (n : Fin 64) (e : Fin 576) :
    (iblk m c 0 t : FVec Ideal S1x8x64x576 .bf16) (ix4 0 h n e) = argQ m c (ix4 (bat t) h n e) := by
  unfold argQ
  blk_ext [iblk, V, idx t, bat]

theorem newBlock (c : Dev nD) (t : Fin cfg0.N) (k : Fin 64) (e : Fin 576) :
    (iblk m c 1 t : FVec Ideal S1x64x576 .bf16) (ix3 0 k e) = argN m c (ix3 (bat t) k e) := by
  unfold argN
  blk_ext [iblk, V, idx t, bat]

theorem latBlock (c : Dev nD) (t : Fin cfg0.N) (k : Fin 4096) (e : Fin 512) :
    (iblk m c 2 t : FVec Ideal S1x1x4096x512 .f32) (ix4 0 0 k e) = argC m c (ix4 0 (bat t) k e) := by
  unfold argC
  blk_ext [iblk, V, idx t, bat]

theorem posBlock (c : Dev nD) (t : Fin cfg0.N) (k : Fin 4096) (e : Fin 64) :
    (iblk m c 3 t : FVec Ideal S1x1x4096x64 .f32) (ix4 0 0 k e) = argP m c (ix4 0 (bat t) k e) := by
  unfold argP
  blk_ext [iblk, V, idx t, bat]

/-- The value up-projection the host cuts out, head by head. -/
theorem ups (c : Dev nD) (t : Fin cfg0.N) (h : Fin 8) (d : Fin 512) (v : Fin 128) :
    (iblk m c 4 t : FVec Ideal S8x512x128 .bf16) (ix3 h d v)
      = argW m c (ix2 d ⟨h.val * 256 + 128 + v.val, by omega⟩) := by
  unfold argW
  blk_simp [iblk]
  entry_read
  pointwise []
  blk_ext [idx t]

theorem rowsOf (x : FVec Ideal S1x8x64x576 .bf16) (r : Fin 512) (e : Fin 576) :
    k0_pay4 (F := Ideal) x (ix2 r e) = x (ix4 0 (hd r) (frm r) e) := by
  pointwise [k0_pay4]
  rfl

theorem ldQ (x : FVec Ideal S1x8x64x576 .bf16) (h : Fin 8) (n : Fin 64) (e : Fin 576) :
    View.ld (Val := Elt Ideal) (e' := .bf16) x r0_0 (ix4 0 h n e) = x (ix4 0 h n e) := by
  show x _ = x _
  congr 1
  ext a
  fin_cases a <;> simp [r0_0, Rect.unit, ix4]

theorem queries (c : Dev nD) (t : Fin cfg0.N) (r : Fin 512) (e : Fin 576) :
    k0_pay4 (F := Ideal) (View.ld (Val := Elt Ideal) (e' := .bf16) (iblk m c 0 t) r0_0) (ix2 r e)
      = argQ m c (ix4 (bat t) (hd r) (frm r) e) := by
  rw [rowsOf, ldQ, queryBlock]

theorem ldN (x : FVec Ideal S1x64x576 .bf16) (k : Fin 64) (e : Fin 576) :
    View.ld (Val := Elt Ideal) (e' := .bf16) x r0_17 (ix3 0 k e) = x (ix3 0 k e) := by
  show x _ = x _
  congr 1
  ext a
  fin_cases a <;> simp [r0_17, Rect.unit, ix3]

theorem ldNv (x : FVec Ideal S1x64x576 .bf16) (k : Fin 64) (e : Fin 512) :
    View.ld (Val := Elt Ideal) (e' := .bf16) x r0_18 (ix3 0 k e) = x (ix3 0 k ⟨e.val, by omega⟩) := by
  show x _ = x _
  congr 1
  ext a
  fin_cases a <;> simp [r0_18, Rect.unit, ix3]

theorem ldC (x : FVec Ideal S1x1x4096x512 .f32) (o : ℕ)
    (h : ∀ a, (![0, 0, o, 0] : Fin 4 → ℕ) a + S1x1x512x512.size a ≤ S1x1x4096x512.size a) (k : Fin 512) (e : Fin 512)
    (hk : o + k.val < 4096) :
    View.ld (Val := Elt Ideal) (e' := .f32) x (Rect.unit (s := S1x1x4096x512) ![0, 0, o, 0] S1x1x512x512.size h) (ix4 0 0 k e)
      = x (ix4 0 0 ⟨o + k.val, hk⟩ e) := by
  show x _ = x _
  congr 1
  ext a
  fin_cases a <;> simp [Rect.unit, ix4]

theorem ldP (x : FVec Ideal S1x1x4096x64 .f32) (o : ℕ)
    (h : ∀ a, (![0, 0, o, 0] : Fin 4 → ℕ) a + S1x1x512x64.size a ≤ S1x1x4096x64.size a) (k : Fin 512) (e : Fin 64)
    (hk : o + k.val < 4096) :
    View.ld (Val := Elt Ideal) (e' := .f32) x (Rect.unit (s := S1x1x4096x64) ![0, 0, o, 0] S1x1x512x64.size h) (ix4 0 0 k e)
      = x (ix4 0 0 ⟨o + k.val, hk⟩ e) := by
  show x _ = x _
  congr 1
  ext a
  fin_cases a <;> simp [Rect.unit, ix4]

/-! ## A grid point -/

variable (c : Dev nD) (t : Fin cfg0.N)

/-- The scores of a row of the block. -/
def S (r : Fin 512) (k : ℕ) : EReal := seen (argQ m c) (argN m c) (argC m c) (argP m c) (bat t) (hd r) (frm r) k

/-- The values of the block. -/
def Vl (d : Fin 512) (k : ℕ) : ℝ := vals (argN m c) (argC m c) (bat t) d k

/-- The scores of a tile of cached keys. -/
theorem tileS (o : ℕ) (ho : o + 512 ≤ 4096)
    (h : ∀ a, (![0, 0, o, 0] : Fin 4 → ℕ) a + S1x1x512x512.size a ≤ S1x1x4096x512.size a)
    (h' : ∀ a, (![0, 0, o, 0] : Fin 4 → ℕ) a + S1x1x512x64.size a ≤ S1x1x4096x64.size a) (r : Fin 512) (k : Fin 512) :
    scoreF (k0_pay4 (F := Ideal) (View.ld (Val := Elt Ideal) (e' := .bf16) (iblk m c 0 t) r0_0))
      (View.ld (Val := Elt Ideal) (e' := .f32) (iblk m c 2 t) (Rect.unit (s := S1x1x4096x512) ![0, 0, o, 0] S1x1x512x512.size h))
      (View.ld (Val := Elt Ideal) (e' := .f32) (iblk m c 3 t) (Rect.unit (s := S1x1x4096x64) ![0, 0, o, 0] S1x1x512x64.size h'))
      (ix2 r k) = S m c t r (o + k) := by
  have hk := k.isLt
  rw [scoreF_at]
  unfold S
  rw [seen_old _ _ _ _ _ _ _ _ (by omega)]
  unfold old
  congr 1
  · exact Finset.sum_congr rfl fun e _ => by rw [queries, ldC _ _ _ _ _ (by omega), latBlock]
  · exact Finset.sum_congr rfl fun e _ => by rw [queries, ldP _ _ _ _ _ (by omega), posBlock]

/-- The scores of the new keys. -/
theorem newS (r : Fin 512) (k : Fin 64) :
    scoreH (k0_pay4 (F := Ideal) (View.ld (Val := Elt Ideal) (e' := .bf16) (iblk m c 0 t) r0_0))
      (View.ld (Val := Elt Ideal) (e' := .bf16) (iblk m c 1 t) r0_17) (ix2 r k) = S m c t r (4096 + k) := by
  rw [scoreH_at]
  unfold S
  rw [seen_new]
  unfold new
  exact Finset.sum_congr rfl fun e _ => by rw [queries, ldN, newBlock]

variable (hQ : Real' (argQ m c)) (hN : Real' (argN m c)) (hC : Real' (argC m c)) (hP : Real' (argP m c))

include hC in
/-- The values of a tile of cached keys. -/
theorem tileV (o : ℕ) (ho : o + 512 ≤ 4096)
    (h : ∀ a, (![0, 0, o, 0] : Fin 4 → ℕ) a + S1x1x512x512.size a ≤ S1x1x4096x512.size a) (k d : Fin 512) :
    View.ld (Val := Elt Ideal) (e' := .f32) (iblk m c 2 t) (Rect.unit (s := S1x1x4096x512) ![0, 0, o, 0] S1x1x512x512.size h)
      (ix4 0 0 k d) = (Vl m c t d (o + k) : EReal) := by
  have hk := k.isLt
  rw [ldC _ _ _ _ _ (by omega), latBlock]
  exact vals_old hC _ _ _ _

include hN in
/-- The values of the new keys. -/
theorem newV (k : Fin 64) (d : Fin 512) :
    View.ld (Val := Elt Ideal) (e' := .bf16) (iblk m c 1 t) r0_18 (ix3 0 k d) = (Vl m c t d (4096 + k) : EReal) := by
  rw [ldNv, newBlock]
  exact vals_new hN _ _ _

include hQ hN hC hP

theorem S_top (r : Fin 512) (k : ℕ) : S m c t r k ≠ ⊤ := seen_ne_top hQ hN hC hP _ _ _ _

theorem S_zero (r : Fin 512) : S m c t r 0 ≠ ⊥ := seen_zero hQ hN hC hP _ _ _

theorem inv0 : Tiles.Inv (S m c t) (Vl m c t) 512 (st0 (iblk m c 0 t) (iblk m c 2 t) (iblk m c 3 t)) :=
  startF_inv (S_top m c t hQ hN hC hP) (S_zero m c t hQ hN hC hP) _ _
    (fun r k => (tileS m c t 0 (by norm_num) _ _ r k).trans (by rw [Nat.zero_add]))
    (fun k d => (tileV m c t hC 0 (by norm_num) _ k d).trans (by rw [Nat.zero_add]))

theorem inv1 : Tiles.Inv (S m c t) (Vl m c t) 1024 (st1 (iblk m c 0 t) (iblk m c 2 t) (iblk m c 3 t)) :=
  stepF_inv (S_top m c t hQ hN hC hP) (inv0 m c t hQ hN hC hP) _ _
    (fun r k => tileS m c t 512 (by norm_num) _ _ r k) (fun k d => tileV m c t hC 512 (by norm_num) _ k d)

theorem inv2 : Tiles.Inv (S m c t) (Vl m c t) 1536 (st2 (iblk m c 0 t) (iblk m c 2 t) (iblk m c 3 t)) :=
  stepF_inv (S_top m c t hQ hN hC hP) (inv1 m c t hQ hN hC hP) _ _
    (fun r k => tileS m c t 1024 (by norm_num) _ _ r k) (fun k d => tileV m c t hC 1024 (by norm_num) _ k d)

theorem inv3 : Tiles.Inv (S m c t) (Vl m c t) 2048 (st3 (iblk m c 0 t) (iblk m c 2 t) (iblk m c 3 t)) :=
  stepF_inv (S_top m c t hQ hN hC hP) (inv2 m c t hQ hN hC hP) _ _
    (fun r k => tileS m c t 1536 (by norm_num) _ _ r k) (fun k d => tileV m c t hC 1536 (by norm_num) _ k d)

theorem inv4 : Tiles.Inv (S m c t) (Vl m c t) 2560 (st4 (iblk m c 0 t) (iblk m c 2 t) (iblk m c 3 t)) :=
  stepF_inv (S_top m c t hQ hN hC hP) (inv3 m c t hQ hN hC hP) _ _
    (fun r k => tileS m c t 2048 (by norm_num) _ _ r k) (fun k d => tileV m c t hC 2048 (by norm_num) _ k d)

theorem inv5 : Tiles.Inv (S m c t) (Vl m c t) 3072 (st5 (iblk m c 0 t) (iblk m c 2 t) (iblk m c 3 t)) :=
  stepF_inv (S_top m c t hQ hN hC hP) (inv4 m c t hQ hN hC hP) _ _
    (fun r k => tileS m c t 2560 (by norm_num) _ _ r k) (fun k d => tileV m c t hC 2560 (by norm_num) _ k d)

theorem inv6 : Tiles.Inv (S m c t) (Vl m c t) 3584 (st6 (iblk m c 0 t) (iblk m c 2 t) (iblk m c 3 t)) :=
  stepF_inv (S_top m c t hQ hN hC hP) (inv5 m c t hQ hN hC hP) _ _
    (fun r k => tileS m c t 3072 (by norm_num) _ _ r k) (fun k d => tileV m c t hC 3072 (by norm_num) _ k d)

theorem inv7 : Tiles.Inv (S m c t) (Vl m c t) 4096 (st7 (iblk m c 0 t) (iblk m c 2 t) (iblk m c 3 t)) :=
  stepF_inv (S_top m c t hQ hN hC hP) (inv6 m c t hQ hN hC hP) _ _
    (fun r k => tileS m c t 3584 (by norm_num) _ _ r k) (fun k d => tileV m c t hC 3584 (by norm_num) _ k d)

theorem inv8 : Tiles.Inv (S m c t) (Vl m c t) 4160
    (st8 (iblk m c 0 t) (iblk m c 1 t) (iblk m c 2 t) (iblk m c 3 t)) :=
  stepH_inv (S_top m c t hQ hN hC hP) (inv7 m c t hQ hN hC hP) _ _
    (fun r k => newS m c t r k) (fun k d => newV m c t hN k d)

/-- The block a grid point writes. -/
theorem point (y : S1x64x1024.Idx) :
    out0_5 (F := Ideal) (iblk m c 0 t) (iblk m c 1 t) (iblk m c 2 t) (iblk m c 3 t) (iblk m c 4 t) y
      = result (argQ m c) (argN m c) (argC m c) (argP m c) (argW m c) (ix3 (bat t) (y 1) (y 2)) := by
  have h1 : (y 1).val < 64 := (y 1).isLt
  have h2 : (y 2).val < 1024 := (y 2).isLt
  refine (block _ _ _ _ _ y).trans ?_
  unfold through result
  refine Finset.sum_congr rfl fun d _ => ?_
  rw [out_inv (inv8 m c t hQ hN hC hP) (by norm_num) (S_zero m c t hQ hN hC hP), ups]
  have er : hd (row y) = ⟨(y 2).val / 128, by omega⟩ := Fin.ext (by simp only [hd, row]; omega)
  have ef : frm (row y) = ⟨(y 1).val, h1⟩ := Fin.ext (by simp only [frm, row]; omega)
  unfold S Vl
  rw [er, ef]
  rfl

/-- What the kernel leaves in its result array. -/
theorem final : (dats m 0 c).arrAt 5 cfg0.N = result (argQ m c) (argN m c) (argC m c) (argP m c) (argW m c) := by
  refine (dats m 0 c).arrAt_eq_of_covers 5 _ (by decide +kernel) fun t _ y => ?_
  blk_simp
  rw [after0_5]
  refine (point m c t hQ hN hC hP y).trans ?_
  blk_ext [idx t, bat]

end

end Cert.CachedIdeal.Attention
-- ==== Proof.CachedReference.lean ====
module

public import proofs.«01_k».proof.Proof.CachedAttention
public import proofs.«01_k».proof.Proof.Finite
public import proofs.«01_k».proof.Pre_cached_finite
public import proofs.«01_k».proof.Proof.Gen.CachedRefIdeal.Run
public import proofs.«01_k».proof.Proof.Gen.CachedRefIdeal.Read

/-! What the reference of the sample's attention leaves in its result array, by the same formula as the kernel's. -/

@[expose] public section

set_option maxRecDepth 16384

noncomputable section

open Idealize.ShloMosaic Idealize.ShloMosaic.TcCoe Idealize.SL.Sem

namespace Cert.CachedRefIdeal.Softmaxed

open Cert.CachedRefIdeal Cert.CachedRefIdeal.Gen Cert.CachedRefIdeal.Read Cert.CachedIdeal.Attention
open Cert.AttnIdeal.Attention (Real')

/-- A maximum over the last axis, at an index. -/
theorem fold_at (z : FVec Ideal S8x8x64x4160 .f32) (init : FVec Ideal S_ .f32) (b h : Fin 8) (n : Fin 64) :
    Host.reduce FloatOps.maximumf z init reducesTo_S8x8x64x4160_S8x8x64_d3 h_S_ (ix3 b h n)
      = Finset.univ.fold max (init (Shape.Idx.first h_S_)) fun k : Fin 4160 => z (ix4 b h n k) := by
  pointwise []

/-- The greater of two, at an index. -/
theorem max_at (y z : FVec Ideal S8x8x64 .f32) (i : S8x8x64.Idx) :
    maximumf y z i = (max (y i) (z i) : EReal) := by
  rfl

variable (Q : FVec Ideal S8x8x64x576 .bf16) (N : FVec Ideal S8x64x576 .bf16) (C : FVec Ideal S2x8x4096x512 .f32)
  (P : FVec Ideal S2x8x4096x64 .f32) (W : FVec Ideal S512x2048 .f32)

/-- The joined latents at a cached frame. -/
theorem lat_old (b : Fin 8) (k : Fin 4096) (e : Fin 512) :
    val_main_v7 (F := Ideal) N C (ix3 b (Fin.castAdd 64 k) e) = C (ix4 0 b k e) := by
  pointwise [val_main_v7, val_main_v6, val_main_v5, val_main_v4, val_main_v1]
  exact dif_pos k.isLt

/-- The joined latents at a new frame. -/
theorem lat_new (b : Fin 8) (k : Fin 64) (e : Fin 512) :
    val_main_v7 (F := Ideal) N C (ix3 b (Fin.natAdd 4096 k) e) = N (ix3 b k ⟨e.val, by omega⟩) := by
  pointwise [val_main_v7, val_main_v6, val_main_v5, val_main_v4, val_main_v1]
  refine (dif_neg (by rw [Fin.val_natAdd]; omega)).trans (congrArg (fun q => N (ix3 b q ⟨e.val, by omega⟩)) (Fin.ext ?_))
  dsimp only [Fin.val_natAdd]
  omega

/-- The joined positions at a cached frame. -/
theorem pos_old (b : Fin 8) (k : Fin 4096) (e : Fin 64) :
    val_main_v11 (F := Ideal) N P (ix3 b (Fin.castAdd 64 k) e) = P (ix4 0 b k e) := by
  pointwise [val_main_v11, val_main_v10, val_main_v9, val_main_v8, val_main_v1]
  exact dif_pos k.isLt

/-- The joined positions at a new frame. -/
theorem pos_new (b : Fin 8) (k : Fin 64) (e : Fin 64) :
    val_main_v11 (F := Ideal) N P (ix3 b (Fin.natAdd 4096 k) e) = N (ix3 b k ⟨512 + e.val, by omega⟩) := by
  pointwise [val_main_v11, val_main_v10, val_main_v9, val_main_v8, val_main_v1]
  refine (dif_neg (by rw [Fin.val_natAdd]; omega)).trans (congrArg (fun q => N (ix3 b q ⟨512 + e.val, by omega⟩)) (Fin.ext ?_))
  dsimp only [Fin.val_natAdd]
  omega

theorem score_at (b h : Fin 8) (n : Fin 64) (k : Fin 4160) :
    val_main_v14 (F := Ideal) Q N C P (ix4 b h n k)
      = (∑ e : Fin 512, Q (ix4 b h n ⟨e.val, by omega⟩) * val_main_v7 (F := Ideal) N C (ix3 b k e) : EReal)
        + ∑ e : Fin 64, Q (ix4 b h n ⟨512 + e.val, by omega⟩) * val_main_v11 (F := Ideal) N P (ix3 b k e) := by
  pointwise [val_main_v14, val_main_v13, val_main_v12, val_main_v3, val_main_v2, val_main_v0]

/-- The reference's scores before the scaling. -/
theorem score (b h : Fin 8) (n : Fin 64) (k : Fin 4160) :
    val_main_v14 (F := Ideal) Q N C P (ix4 b h n k) = seen Q N C P b h n k.val := by
  rw [score_at]
  by_cases hk : k.val < 4096
  · obtain ⟨j, rfl⟩ : ∃ j : Fin 4096, k = Fin.castAdd 64 j := ⟨⟨k.val, hk⟩, Fin.ext rfl⟩
    rw [seen_old _ _ _ _ _ _ _ _ hk]
    unfold old
    congr 1
    · exact Finset.sum_congr rfl fun e _ => by rw [lat_old]; rfl
    · exact Finset.sum_congr rfl fun e _ => by rw [pos_old]; rfl
  · obtain ⟨j, rfl⟩ : ∃ j : Fin 64, k = Fin.natAdd 4096 j :=
      ⟨⟨k.val - 4096, by omega⟩, Fin.ext (by rw [Fin.val_natAdd]; dsimp only; omega)⟩
    rw [Fin.val_natAdd, seen_new]
    unfold new
    rw [show (∑ e : Fin 576, Q (ix4 b h n e) * N (ix3 b j e))
        = ∑ e : Fin (512 + 64), Q (ix4 b h n e) * N (ix3 b j e) from rfl, Fin.sum_univ_add]
    congr 1
    · exact Finset.sum_congr rfl fun e _ => by rw [lat_new]; rfl
    · exact Finset.sum_congr rfl fun e _ => by rw [pos_new]; rfl

theorem root : Ideal.sqrt (Ideal.ofBits FTy.f32 1128267776#32) = ((Real.sqrt 192 : ℝ) : EReal) := by
  have h : Ideal.ofBits FTy.f32 1128267776#32 = ((192 : ℝ) : EReal) := by
    simp [Ideal.ofBits, Ideal.ieee, -EReal.coe_mul]
    norm_num
  rw [h, Ideal.sqrt_coe, if_neg (by norm_num)]

theorem scaled (b h : Fin 8) (n : Fin 64) (k : Fin 4160) :
    val_main_v17 (F := Ideal) Q N C P (ix4 b h n k) = Ideal.div (seen Q N C P b h n k.val) ((Real.sqrt 192 : ℝ) : EReal) := by
  pointwise [val_main_v17, val_main_v16, val_main_v15, val_main_cst]
  rw [root, score]

/-- The reference's greatest score of a row. -/
def peak (b h : Fin 8) (n : Fin 64) : EReal :=
  Cert.Softmax.top fun k : Fin 4160 => val_main_v17 (F := Ideal) Q N C P (ix4 b h n k)

theorem init_bot : val_main_cst_0 (F := Ideal) (Shape.Idx.first h_S_) = (⊥ : EReal) := Cert.AttnIdeal.Tiles.word_bot

theorem floor_bot (b h : Fin 8) (n : Fin 64) : val_main_v19 (F := Ideal) (ix3 b h n) = (⊥ : EReal) := by
  pointwise [val_main_v19, val_main_cst_1]
  exact Cert.AttnIdeal.Tiles.word_bot

theorem folded (b h : Fin 8) (n : Fin 64) : val_main_v18 (F := Ideal) Q N C P (ix3 b h n)
    = Finset.univ.fold max (val_main_cst_0 (F := Ideal) (Shape.Idx.first h_S_))
      fun k : Fin 4160 => val_main_v17 (F := Ideal) Q N C P (ix4 b h n k) := by
  unfold val_main_v18
  generalize val_main_v17 (F := Ideal) Q N C P = z
  generalize val_main_cst_0 (F := Ideal) = init
  exact fold_at z init b h n

theorem floored (b h : Fin 8) (n : Fin 64) : val_main_v20 (F := Ideal) Q N C P (ix3 b h n)
    = (max (val_main_v19 (F := Ideal) (ix3 b h n)) (val_main_v18 (F := Ideal) Q N C P (ix3 b h n)) : EReal) := by
  rw [val_main_v20]
  exact max_at (val_main_v19 (F := Ideal)) (val_main_v18 (F := Ideal) Q N C P) (ix3 b h n)

theorem peak_at (b h : Fin 8) (n : Fin 64) : val_main_v20 (F := Ideal) Q N C P (ix3 b h n) = peak Q N C P b h n := by
  refine (floored Q N C P b h n).trans ?_
  rw [floor_bot, folded, init_bot]
  exact max_eq_right bot_le

theorem weight_at (b h : Fin 8) (n : Fin 64) (k : Fin 4160) : val_main_v24 (F := Ideal) Q N C P (ix4 b h n k)
    = Ideal.exp (val_main_v17 (F := Ideal) Q N C P (ix4 b h n k) - peak Q N C P b h n) := by
  pointwise [val_main_v24, val_main_v23, val_main_v22, val_main_v21]
  rw [peak_at]

theorem mix_at (b h : Fin 8) (n : Fin 64) (d : Fin 512) : val_main_v30 (F := Ideal) Q N C P (ix4 b n h d)
    = ∑ k : Fin 4160, val_main_v7 (F := Ideal) N C (ix3 b k d) * Ideal.div (val_main_v24 (F := Ideal) Q N C P (ix4 b h n k))
        (0 + ∑ j : Fin 4160, val_main_v24 (F := Ideal) Q N C P (ix4 b h n j)) := by
  pointwise [val_main_v30, val_main_v29, val_main_v28, val_main_v27, val_main_v26, val_main_v25, val_main_cst_2]

theorem out_at (b : Fin 8) (n : Fin 64) (e : Fin 1024) : val_main_v36 (F := Ideal) Q N C P W (ix3 b n e)
    = ∑ d : Fin 512, W (ix2 d ⟨e.val / 128 * 256 + (128 + e.val % 128), by omega⟩)
        * val_main_v30 (F := Ideal) Q N C P (ix4 b n ⟨e.val / 128, by omega⟩ d) := by
  pointwise [val_main_v36, val_main_v35, val_main_v34, val_main_v33, val_main_v32, val_main_v31]

variable {Q N C P} (hQ : Real' Q) (hN : Real' N) (hC : Real' C) (hP : Real' P)

include hN hC in
/-- The joined latents are the values. -/
theorem value_at (b : Fin 8) (d : Fin 512) (k : Fin 4160) :
    val_main_v7 (F := Ideal) N C (ix3 b k d) = (vals N C b d k.val : EReal) := by
  by_cases hk : k.val < 4096
  · obtain ⟨j, rfl⟩ : ∃ j : Fin 4096, k = Fin.castAdd 64 j := ⟨⟨k.val, hk⟩, Fin.ext rfl⟩
    rw [lat_old]
    exact vals_old hC b d j.val j.isLt
  · obtain ⟨j, rfl⟩ : ∃ j : Fin 64, k = Fin.natAdd 4096 j :=
      ⟨⟨k.val - 4096, by omega⟩, Fin.ext (by rw [Fin.val_natAdd]; dsimp only; omega)⟩
    rw [lat_new, Fin.val_natAdd]
    exact vals_new hN b d j

include hQ hN hC hP in
/-- A score of the reference: the root's quotient of a real number. -/
theorem scaled_real (b h : Fin 8) (n : Fin 64) (k : Fin 4160) :
    ∃ x : ℝ, val_main_v17 (F := Ideal) Q N C P (ix4 b h n k) = ((x / Real.sqrt 192 : ℝ) : EReal)
      ∧ seen Q N C P b h n k.val = (x : EReal) := by
  have h192 : Real.sqrt 192 ≠ 0 := (Real.sqrt_pos.2 (by norm_num)).ne'
  obtain ⟨x, hx⟩ := seen_real hQ hN hC hP b h n k.val k.isLt
  exact ⟨x, by rw [scaled, hx, Ideal.div_coe h192, ← EReal.coe_mul, mul_one_div], hx⟩

include hQ hN hC hP in
theorem peak_real (b h : Fin 8) (n : Fin 64) : ∃ M : ℝ, peak Q N C P b h n = (M : EReal) := by
  have h1 : peak Q N C P b h n ≠ ⊤ := Cert.Softmax.top_ne_top _ fun k => by
    obtain ⟨x, hx, -⟩ := scaled_real hQ hN hC hP b h n k
    rw [hx]; exact EReal.coe_ne_top _
  have h2 : peak Q N C P b h n ≠ ⊥ := Cert.Softmax.top_ne_bot _ (0 : Fin 4160) (by
    obtain ⟨x, hx, -⟩ := scaled_real hQ hN hC hP b h n 0
    rw [hx]; exact EReal.coe_ne_bot _)
  exact ⟨(peak Q N C P b h n).toReal, (EReal.coe_toReal h1 h2).symm⟩

include hQ hN hC hP in
/-- The reference's mix of the values. -/
theorem mixed_at (b h : Fin 8) (n : Fin 64) (d : Fin 512) :
    val_main_v30 (F := Ideal) Q N C P (ix4 b n h d) = (mixed Q N C P b h n d : EReal) := by
  have h192 : 0 < Real.sqrt 192 := Real.sqrt_pos.2 (by norm_num)
  obtain ⟨M, hM⟩ := peak_real hQ hN hC hP b h n
  have hz : ∀ k : Fin 4160, val_main_v24 (F := Ideal) Q N C P (ix4 b h n k)
      = ((Real.exp (-M) * Cert.Softmax.wt Cert.CachedIdeal.Tiles.cc (seen Q N C P b h n k.val) : ℝ) : EReal) := fun k => by
    rw [weight_at, hM]
    obtain ⟨x, hx, hs⟩ := scaled_real hQ hN hC hP b h n k
    have hw : Cert.Softmax.wt Cert.CachedIdeal.Tiles.cc (x : EReal) = Real.exp (x / Real.sqrt 192) :=
      Cert.Softmax.wt_eq_exp x h192
    rw [hx, hs, hw, ← EReal.coe_sub, Ideal.exp_coe, ← Real.exp_add]
    congr 2
    ring
  have hp : 0 < ∑ k : Fin 4160, Cert.Softmax.wt Cert.CachedIdeal.Tiles.cc (seen Q N C P b h n k.val) := by
    rw [Fin.sum_univ_eq_sum_range (fun k => Cert.Softmax.wt Cert.CachedIdeal.Tiles.cc (seen Q N C P b h n k)) 4160]
    exact Cert.Softmax.sum_pos _ _ (by norm_num) (seen_zero hQ hN hC hP b h n)
  rw [mix_at, Cert.Softmax.whole _ _ (fun k : Fin 4160 => Cert.Softmax.wt Cert.CachedIdeal.Tiles.cc (seen Q N C P b h n k.val))
    (fun k : Fin 4160 => vals N C b d k.val) (Real.exp (-M)) hp (Real.exp_pos _) hz (fun k => value_at hN hC b d k)]
  unfold mixed
  rw [Fin.sum_univ_eq_sum_range (fun k => Cert.Softmax.wt Cert.CachedIdeal.Tiles.cc (seen Q N C P b h n k)) 4160,
    Fin.sum_univ_eq_sum_range (fun k => Cert.Softmax.wt Cert.CachedIdeal.Tiles.cc (seen Q N C P b h n k) * vals N C b d k) 4160]

include hQ hN hC hP in
/-- The reference's result array. -/
theorem result_eq : val_main_v36 (F := Ideal) Q N C P W = result Q N C P W := by
  funext i
  obtain ⟨b, n, e, rfl⟩ : ∃ b n e, i = ix3 b n e := ⟨i 0, i 1, i 2, by ext d; fin_cases d <;> rfl⟩
  rw [out_at]
  unfold result
  refine Finset.sum_congr rfl fun d _ => ?_
  rw [mixed_at hQ hN hC hP, mul_comm]
  simp only [← Nat.add_assoc]
  rfl

section
variable [Cert.Pre_cached_finite.Facts]

/-- The precondition at the queries and at the keys, cached and new. -/
theorem reals (Q : FVec Ideal Cert.Pre_cached_finite.S8x8x64x576 .bf16) (N : FVec Ideal Cert.Pre_cached_finite.S8x64x576 .bf16)
    (C : FVec Ideal Cert.Pre_cached_finite.S2x8x4096x512 .f32) (P : FVec Ideal Cert.Pre_cached_finite.S2x8x4096x64 .f32)
    (W : FVec Ideal Cert.Pre_cached_finite.S512x2048 .f32)
    (h : (Cert.Pre_cached_finite.fn (F := Ideal) Q N C P W).1 = (fun _ => 1#1)
      ∧ (Cert.Pre_cached_finite.fn (F := Ideal) Q N C P W).2.1 = (fun _ => 1#1)
      ∧ (Cert.Pre_cached_finite.fn (F := Ideal) Q N C P W).2.2.1 = (fun _ => 1#1)
      ∧ (Cert.Pre_cached_finite.fn (F := Ideal) Q N C P W).2.2.2 = (fun _ => 1#1)) :
    (∀ i, ∃ r : ℝ, Q i = (r : EReal)) ∧ (∀ i, ∃ r : ℝ, N i = (r : EReal)) ∧ (∀ i, ∃ r : ℝ, C i = (r : EReal))
      ∧ ∀ i, ∃ r : ℝ, P i = (r : EReal) :=
  ⟨fun i => Cert.Finite.real_of_lt (Q i) (congrFun h.1 i), fun i => Cert.Finite.real_of_lt (N i) (congrFun h.2.1 i),
    fun i => Cert.Finite.real_of_lt (C i) (congrFun h.2.2.1 i), fun i => Cert.Finite.real_of_lt (P i) (congrFun h.2.2.2 i)⟩

end

end Cert.CachedRefIdeal.Softmaxed
-- ==== Proof.Recur.lean ====
module

public import Idealize.ShloMosaic.Lib.Pointwise
public import Idealize.ShloMosaic.PureOps.Ideal.Laws

/-!
The arithmetic of the recurrence's decays: running sums made by doubling the window, the base-two exponential of a scaled
number, and the gate's complement. All of it holds for infinite numbers as well.
-/

@[expose] public section

noncomputable section

open Idealize.ShloMosaic

namespace Cert.Recur

/-- The factor of the base-two exponential. -/
def lg : ℝ := (Real.log 2)⁻¹

theorem lg_pos : 0 < lg := inv_pos.2 (Real.log_pos (by norm_num))

/-- A positive real number distributes over a sum of extended real numbers. -/
theorem add_mul_real (x y : EReal) {c : ℝ} (hc : 0 < c) : (x + y) * (c : EReal) = x * c + y * c :=
  EReal.right_distrib_of_nonneg_of_ne_top (EReal.coe_nonneg.2 hc.le) (EReal.coe_ne_top c) x y

/-- A positive real number distributes over a difference. -/
theorem sub_mul_real (x y : EReal) {c : ℝ} (hc : 0 < c) : (x - y) * (c : EReal) = x * c - y * c := by
  rw [sub_eq_add_neg, sub_eq_add_neg, add_mul_real _ _ hc, EReal.neg_mul]

/-- A positive real number distributes over a finite sum. -/
theorem sum_mul_real {α : Type} (s : Finset α) (f : α → EReal) {c : ℝ} (hc : 0 < c) :
    (∑ a ∈ s, f a) * (c : EReal) = ∑ a ∈ s, f a * c := by
  classical
  induction s using Finset.induction_on with
  | empty => simp
  | insert a s ha ih => rw [Finset.sum_insert ha, Finset.sum_insert ha, add_mul_real _ _ hc, ih]

/-- The base-two exponential of a number times the factor is the exponential of the number. -/
theorem exp2_lg (x : EReal) : Ideal.exp2 (x * (lg : EReal)) = Ideal.exp x := by
  induction x using EReal.rec with
  | bot => rw [EReal.bot_mul_coe_of_pos lg_pos]; rfl
  | top => rw [EReal.top_mul_coe_of_pos lg_pos]; rfl
  | coe r =>
    rw [← EReal.coe_mul]
    show ((Real.rpow 2 (r * lg) : ℝ) : EReal) = ((Real.exp r : ℝ) : EReal)
    congr 1
    show (2 : ℝ) ^ (r * lg) = Real.exp r
    rw [Real.rpow_def_of_pos (by norm_num)]
    congr 1
    unfold lg
    have h : Real.log 2 ≠ 0 := (Real.log_pos (by norm_num)).ne'
    field_simp

/-- The gate of a number. -/
def sig (z : EReal) : EReal := Ideal.div 1 (1 + Ideal.exp (-z))

/-- The gate's complement is the gate of the number's negative. -/
theorem one_sub_sig (z : EReal) : 1 - sig z = sig (-z) := by
  unfold sig
  induction z using EReal.rec with
  | bot =>
    rw [EReal.neg_bot, EReal.neg_top]
    show (1 : EReal) - Ideal.div 1 (1 + ⊤) = Ideal.div 1 (1 + 0)
    have e : (1 : EReal) + ⊤ = ⊤ := rfl
    rw [e]
    simp [Ideal.div]
  | top =>
    rw [EReal.neg_top, EReal.neg_bot]
    show (1 : EReal) - Ideal.div 1 (1 + 0) = Ideal.div 1 (1 + ⊤)
    have e : (1 : EReal) + ⊤ = ⊤ := rfl
    rw [e]
    simp only [Ideal.div, add_zero]
    norm_num
    exact EReal.sub_self (by decide) (by decide)
  | coe r =>
    have h1 : (1 : ℝ) + Real.exp (-r) ≠ 0 := by positivity
    have h2 : (1 : ℝ) + Real.exp r ≠ 0 := by positivity
    rw [neg_neg, ← EReal.coe_neg]
    show (1 : EReal) - Ideal.div 1 (1 + ((Real.exp (-r) : ℝ) : EReal)) = Ideal.div 1 (1 + ((Real.exp r : ℝ) : EReal))
    rw [← EReal.coe_one, ← EReal.coe_add, ← EReal.coe_add]
    unfold Ideal.div
    rw [if_neg (by rw [EReal.coe_eq_zero]; exact h1), if_neg (by rw [EReal.coe_eq_zero]; exact h2),
      ← EReal.coe_inv, ← EReal.coe_inv, ← EReal.coe_mul, ← EReal.coe_mul, ← EReal.coe_sub]
    congr 1
    rw [Real.exp_neg] at h1 ⊢
    have h3 := (Real.exp_pos r).ne'
    field_simp
    ring

/-- The sum of the last `w` numbers up to and including number `r`. -/
def win (g : ℕ → EReal) (w r : ℕ) : EReal := ∑ i ∈ Finset.range w, if i ≤ r then g (r - i) else 0

theorem win_one (g : ℕ → EReal) (r : ℕ) : win g 1 r = g r := by
  simp [win]

/-- Two windows one after the other are the window of twice the width. -/
theorem win_double (g : ℕ → EReal) (w r : ℕ) : win g w r + (if w ≤ r then win g w (r - w) else 0) = win g (w + w) r := by
  unfold win
  rw [Finset.sum_range_add]
  congr 1
  split_ifs with h
  · refine Finset.sum_congr rfl fun i _ => ?_
    by_cases hi : i ≤ r - w
    · rw [if_pos hi, if_pos (by omega)]
      congr 1
      omega
    · rw [if_neg hi, if_neg (by omega)]
  · refine (Finset.sum_eq_zero fun i _ => ?_).symm
    rw [if_neg (by omega)]

/-- A window read from its far end. -/
theorem win_reflect (g : ℕ → EReal) (r : ℕ) :
    (∑ k : Fin 64, if 63 ≤ r + k.val then g (r + k.val - 63) else 0) = win g 64 r := by
  unfold win
  rw [Fin.sum_univ_eq_sum_range (fun k => if 63 ≤ r + k then g (r + k - 63) else 0) 64, ← Finset.sum_range_reflect]
  refine Finset.sum_congr rfl fun i hi => ?_
  have h : i < 64 := Finset.mem_range.1 hi
  by_cases hr : i ≤ r
  · rw [if_pos (by omega), if_pos hr]
    congr 1
    omega
  · rw [if_neg (by omega), if_neg hr]

/-- A factor leaves the window. -/
theorem win_mul (g : ℕ → EReal) (w r : ℕ) {c : ℝ} (hc : 0 < c) : win (fun n => g n * c) w r = win g w r * (c : EReal) := by
  unfold win
  rw [sum_mul_real _ _ hc]
  refine Finset.sum_congr rfl fun i _ => ?_
  split_ifs
  · rfl
  · rw [zero_mul]

/-- Adding up a list from the left. -/
theorem foldl_sum {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- The window of 64 that a running sum along the third axis reads. -/
theorem window4 {A B D : ℕ} (x : (⟨4, ![A, B, 64, D]⟩ : Shape).Idx → EReal)
    (h : (⟨4, ![A, B, 64, D]⟩ : Shape).ReduceWindows (![1, 1, 64, 1] : Fin 4 → Nat) ![1, 1, 1, 1] ![0, 0, 63, 0] ![0, 0, 0, 0]
      ⟨4, ![A, B, 64, D]⟩) (a : Fin A) (b : Fin B) (r : Fin 64) (d : Fin D) (g : ℕ → EReal)
    (hg : ∀ s : Fin 64, x (ix4 a b s d) = g s.val) :
    Ideal.hostReduceWindowAdd ![1, 1, 64, 1] ![1, 1, 1, 1] ![0, 0, 63, 0] ![0, 0, 0, 0] h x 0 (ix4 a b r d) = win g 64 r.val := by
  rw [← win_reflect]
  unfold Ideal.hostReduceWindowAdd Host.reduceWindow
  dsimp only
  rw [foldl_sum, zero_add, ← Fin.sum_univ_def]
  have key : (∑ p : (⟨4, ![1, 1, 64, 1]⟩ : Shape).Idx, if 63 ≤ r.val + (p 2).val then g (r.val + (p 2).val - 63) else 0)
      = ∑ k : Fin 64, if 63 ≤ r.val + k.val then g (r.val + k.val - 63) else 0 :=
    Finset.sum_nbij' (i := fun p : (⟨4, ![1, 1, 64, 1]⟩ : Shape).Idx => (p 2 : Fin 64))
      (j := fun k : Fin 64 => (ix4 (0 : Fin 1) (0 : Fin 1) k (0 : Fin 1) : (⟨4, ![1, 1, 64, 1]⟩ : Shape).Idx))
      (fun _ _ => Finset.mem_univ _) (fun _ _ => Finset.mem_univ _)
      (fun p _ => by
        funext q
        match q with
        | ⟨0, _⟩ => exact Subsingleton.elim (α := Fin 1) _ _
        | ⟨1, _⟩ => exact Subsingleton.elim (α := Fin 1) _ _
        | ⟨2, _⟩ => rfl
        | ⟨3, _⟩ => exact Subsingleton.elim (α := Fin 1) _ _)
      (fun k _ => rfl) (fun p _ => rfl)
  rw [← key, ← Equiv.sum_comp (⟨4, ![1, 1, 64, 1]⟩ : Shape).rowMajor.symm]
  refine Finset.sum_congr rfl fun n _ => ?_
  have p0 : (((⟨4, ![1, 1, 64, 1]⟩ : Shape).rowMajor.symm n) 0).val < 1 := (((⟨4, ![1, 1, 64, 1]⟩ : Shape).rowMajor.symm n) 0).isLt
  have p1 : (((⟨4, ![1, 1, 64, 1]⟩ : Shape).rowMajor.symm n) 1).val < 1 := (((⟨4, ![1, 1, 64, 1]⟩ : Shape).rowMajor.symm n) 1).isLt
  have p2 : (((⟨4, ![1, 1, 64, 1]⟩ : Shape).rowMajor.symm n) 2).val < 64 := (((⟨4, ![1, 1, 64, 1]⟩ : Shape).rowMajor.symm n) 2).isLt
  have p3 : (((⟨4, ![1, 1, 64, 1]⟩ : Shape).rowMajor.symm n) 3).val < 1 := (((⟨4, ![1, 1, 64, 1]⟩ : Shape).rowMajor.symm n) 3).isLt
  have hr := r.isLt
  by_cases hin : 63 ≤ r.val + (((⟨4, ![1, 1, 64, 1]⟩ : Shape).rowMajor.symm n) 2).val
  · rw [if_pos hin]
    refine Eq.trans ?_ (hg ⟨r.val + (((⟨4, ![1, 1, 64, 1]⟩ : Shape).rowMajor.symm n) 2).val - 63, by omega⟩)
    rw [dif_pos]
    · congr 1
      funext q
      match q with
      | ⟨0, _⟩ => exact Fin.ext (show a.val * 1 + (((⟨4, ![1, 1, 64, 1]⟩ : Shape).rowMajor.symm n) 0).val - 0 = a.val by omega)
      | ⟨1, _⟩ => exact Fin.ext (show b.val * 1 + (((⟨4, ![1, 1, 64, 1]⟩ : Shape).rowMajor.symm n) 1).val - 0 = b.val by omega)
      | ⟨2, _⟩ => exact Fin.ext (show r.val * 1 + (((⟨4, ![1, 1, 64, 1]⟩ : Shape).rowMajor.symm n) 2).val - 63 = r.val + (((⟨4, ![1, 1, 64, 1]⟩ : Shape).rowMajor.symm n) 2).val - 63 by omega)
      | ⟨3, _⟩ => exact Fin.ext (show d.val * 1 + (((⟨4, ![1, 1, 64, 1]⟩ : Shape).rowMajor.symm n) 3).val - 0 = d.val by omega)
    · intro q
      match q with
      | ⟨0, _⟩ => exact ⟨Nat.zero_le _, show a.val * 1 + (((⟨4, ![1, 1, 64, 1]⟩ : Shape).rowMajor.symm n) 0).val - 0 < A by have := a.isLt; omega⟩
      | ⟨1, _⟩ => exact ⟨Nat.zero_le _, show b.val * 1 + (((⟨4, ![1, 1, 64, 1]⟩ : Shape).rowMajor.symm n) 1).val - 0 < B by have := b.isLt; omega⟩
      | ⟨2, _⟩ => exact ⟨show 63 ≤ r.val * 1 + (((⟨4, ![1, 1, 64, 1]⟩ : Shape).rowMajor.symm n) 2).val by omega, show r.val * 1 + (((⟨4, ![1, 1, 64, 1]⟩ : Shape).rowMajor.symm n) 2).val - 63 < 64 by omega⟩
      | ⟨3, _⟩ => exact ⟨Nat.zero_le _, show d.val * 1 + (((⟨4, ![1, 1, 64, 1]⟩ : Shape).rowMajor.symm n) 3).val - 0 < D by have := d.isLt; omega⟩
  · rw [if_neg hin, dif_neg]
    intro hq
    have h2 : 63 ≤ r.val * 1 + (((⟨4, ![1, 1, 64, 1]⟩ : Shape).rowMajor.symm n) 2).val := (hq 2).1
    omega

/-- The first row of a running sum down two rows. -/
theorem window2 {D : ℕ} (x : (⟨2, ![2, D]⟩ : Shape).Idx → EReal)
    (h : (⟨2, ![2, D]⟩ : Shape).ReduceWindows (![2, 1] : Fin 2 → Nat) ![1, 1] ![1, 0] ![0, 0] ⟨2, ![2, D]⟩) (d : Fin D) :
    Ideal.hostReduceWindowAdd ![2, 1] ![1, 1] ![1, 0] ![0, 0] h x 0 (ix2 0 d) = x (ix2 0 d) := by
  unfold Ideal.hostReduceWindowAdd Host.reduceWindow
  dsimp only
  rw [foldl_sum, zero_add, ← Fin.sum_univ_def]
  refine Eq.trans (Finset.sum_congr rfl fun n _ => ?_) ((Equiv.sum_comp (⟨2, ![2, 1]⟩ : Shape).rowMajor.symm
    (fun p : (⟨2, ![2, 1]⟩ : Shape).Idx => if (p 0).val = 1 then x (ix2 0 d) else 0)).trans ?_)
  · have p0 : (((⟨2, ![2, 1]⟩ : Shape).rowMajor.symm n) 0).val < 2 := (((⟨2, ![2, 1]⟩ : Shape).rowMajor.symm n) 0).isLt
    have p1 : (((⟨2, ![2, 1]⟩ : Shape).rowMajor.symm n) 1).val < 1 := (((⟨2, ![2, 1]⟩ : Shape).rowMajor.symm n) 1).isLt
    by_cases hp : (((⟨2, ![2, 1]⟩ : Shape).rowMajor.symm n) 0).val = 1
    · rw [if_pos hp, dif_pos]
      · congr 1
        funext q
        match q with
        | ⟨0, _⟩ => exact Fin.ext (show 0 * 1 + (((⟨2, ![2, 1]⟩ : Shape).rowMajor.symm n) 0).val - 1 = 0 by omega)
        | ⟨1, _⟩ => exact Fin.ext (show d.val * 1 + (((⟨2, ![2, 1]⟩ : Shape).rowMajor.symm n) 1).val - 0 = d.val by omega)
      · intro q
        match q with
        | ⟨0, _⟩ => exact ⟨show 1 ≤ 0 * 1 + (((⟨2, ![2, 1]⟩ : Shape).rowMajor.symm n) 0).val by omega, show 0 * 1 + (((⟨2, ![2, 1]⟩ : Shape).rowMajor.symm n) 0).val - 1 < 2 by omega⟩
        | ⟨1, _⟩ => exact ⟨Nat.zero_le _, show d.val * 1 + (((⟨2, ![2, 1]⟩ : Shape).rowMajor.symm n) 1).val - 0 < D by have := d.isLt; omega⟩
    · rw [if_neg hp, dif_neg]
      intro hq
      have h0 : 1 ≤ 0 * 1 + (((⟨2, ![2, 1]⟩ : Shape).rowMajor.symm n) 0).val := (hq 0).1
      omega
  · rw [Finset.sum_eq_single (ix2 (1 : Fin 2) (0 : Fin 1))]
    · exact if_pos rfl
    · intro p _ hp
      refine if_neg fun h1 => hp ?_
      funext q
      match q with
      | ⟨0, _⟩ => exact Fin.ext h1
      | ⟨1, _⟩ => exact Subsingleton.elim (α := Fin 1) _ _
    · exact fun hn => absurd (Finset.mem_univ _) hn

end Cert.Recur

end

end
-- ==== Proof.StateCases.lean ====
module

public import proofs.«01_k».proof.Proof.Gen.StateIdeal.Value
public import proofs.«01_k».proof.Proof.Recur
public import Idealize.ShloMosaic.Lib.KernelVsHost
public import Idealize.ShloMosaic.Lib.Pipeline.ValueKit
public import Idealize.ShloMosaic.Lib.Pipeline.ReadBack

/-! What the recurrence's body leaves of the state at a grid point: the running sums of the decays are made by doubling the
window six times, and each head's state is its old one decayed plus one product. -/

@[expose] public section

set_option maxRecDepth 16384

noncomputable section

open Idealize.ShloMosaic Idealize.ShloMosaic.TcCoe Idealize.ShloMosaic.Tactic Idealize.SL.Sem

namespace Cert.StateIdeal.Cases

open Cert.StateIdeal Cert.StateIdeal.Gen Cert.StateIdeal.Value Cert.Recur

/-- The numbers of the rows. -/
def rowNo : IVec S64x1 32 := iota .tc S64x1 32 [0] iota_S64x1_d0_w32

/-- One doubling of a narrow window: the rows turned down by `n` and the first `n` put to zero are added. -/
def turn (n : BitVec 32) (x : FVec Ideal S64x2048 .f32) : FVec Ideal S64x2048 .f32 :=
  addf x (concatenate S64x2048 0
    [⟨S8x2048, select (broadcastTo S8x2048 (shapeCast S8x1 (cmpi .sge (extractStridedSlice S8x1 ![0, 0] rowNo slices_S64x1_o0_0_S8x1) (broadcast S8x1 n)) shapeCasts_S8x1_S8x1) broadcasts_S8x1_S8x2048)
      (extractStridedSlice S8x2048 ![0, 0] (dynamicRotate 0 n none x rotates_S64x2048_d0) slices_S64x2048_o0_0_S8x2048)
      (broadcast S8x2048 (Scalar.ofBits .f32 0x00000000#32))⟩,
     ⟨S56x2048, extractStridedSlice S56x2048 ![8, 0] (dynamicRotate 0 n none x rotates_S64x2048_d0) slices_S64x2048_o8_0_S56x2048⟩]
    concatenates_S8x2048_S56x2048_S64x2048_d0)

/-- A doubling by eight rows. -/
def down8 (x : FVec Ideal S64x2048 .f32) : FVec Ideal S64x2048 .f32 :=
  addf x (concatenate S64x2048 0
    [⟨S8x2048, broadcast S8x2048 (Scalar.ofBits .f32 0x00000000#32)⟩,
     ⟨S56x2048, extractStridedSlice S56x2048 ![0, 0] x slices_S64x2048_o0_0_S56x2048⟩]
    concatenates_S8x2048_S56x2048_S64x2048_d0)

/-- A doubling by sixteen rows. -/
def down16 (x : FVec Ideal S64x2048 .f32) : FVec Ideal S64x2048 .f32 :=
  addf x (concatenate S64x2048 0
    [⟨S16x2048, broadcast S16x2048 (Scalar.ofBits .f32 0x00000000#32)⟩,
     ⟨S48x2048, extractStridedSlice S48x2048 ![0, 0] x slices_S64x2048_o0_0_S48x2048⟩]
    concatenates_S16x2048_S48x2048_S64x2048_d0)

/-- A doubling by thirty-two rows. -/
def down32 (x : FVec Ideal S64x2048 .f32) : FVec Ideal S64x2048 .f32 :=
  addf x (concatenate S64x2048 0
    [⟨S32x2048, broadcast S32x2048 (Scalar.ofBits .f32 0x00000000#32)⟩,
     ⟨S32x2048, extractStridedSlice S32x2048 ![0, 0] x slices_S64x2048_o0_0_S32x2048⟩]
    concatenates_S32x2048_S32x2048_S64x2048_d0)

theorem pay33_eq (x : FVec Ideal S64x2048 .f32) : k0_pay33 (F := Ideal) rowNo x = down8 (turn 4#32 (turn 2#32 (turn 1#32 x))) := rfl

theorem pay34_eq (x : FVec Ideal S64x2048 .f32) :
    k0_pay34 (F := Ideal) x (Scalar.ofBits .f32 0x00000000#32) = down32 (down16 x) := rfl

/-- `y` is `x` with its rows pushed down by `w` added. -/
def Doubles (w : ℕ) (x y : FVec Ideal S64x2048 .f32) : Prop :=
  ∀ (r : Fin 64) (j : Fin 2048), y (ix2 r j) = x (ix2 r j) + if h : w ≤ r.val then x (ix2 ⟨r.val - w, by omega⟩ j) else 0

theorem Doubles.step {w : ℕ} {x y : FVec Ideal S64x2048 .f32} (h : Doubles w x y) {j : Fin 2048} {g : ℕ → EReal}
    (hx : ∀ r : Fin 64, x (ix2 r j) = win g w r.val) (r : Fin 64) : y (ix2 r j) = win g (w + w) r.val := by
  rw [h, hx, ← win_double]
  congr 1
  split_ifs
  · exact hx _
  · rfl

theorem down8_doubles (x : FVec Ideal S64x2048 .f32) : Doubles 8 x (down8 x) := by
  intro r j
  pointwise [down8]
  by_cases h : 8 ≤ r.val
  · rw [dif_neg (by omega), dif_pos h]
  · rw [dif_pos (by omega), dif_neg h]

theorem down16_doubles (x : FVec Ideal S64x2048 .f32) : Doubles 16 x (down16 x) := by
  intro r j
  pointwise [down16]
  by_cases h : 16 ≤ r.val
  · rw [dif_neg (by omega), dif_pos h]
  · rw [dif_pos (by omega), dif_neg h]

theorem down32_doubles (x : FVec Ideal S64x2048 .f32) : Doubles 32 x (down32 x) := by
  intro r j
  pointwise [down32]
  by_cases h : 32 ≤ r.val
  · rw [dif_neg (by omega), dif_pos h]
  · rw [dif_pos (by omega), dif_neg h]

/-- The comparison of a row's number. -/
theorem rowNo_at (r : Fin 64) : rowNo (ix2 r 0) = BitVec.ofNat 32 r.val := by
  pointwise [rowNo]

theorem ge1 : ∀ r : Fin 64, IntOp.cmpi CmpIPredicate.sge (BitVec.ofNat 32 r.val) 1#32 = if 1 ≤ r.val then 1#1 else 0#1 := by
  decide +kernel

theorem ge2 : ∀ r : Fin 64, IntOp.cmpi CmpIPredicate.sge (BitVec.ofNat 32 r.val) 2#32 = if 2 ≤ r.val then 1#1 else 0#1 := by
  decide +kernel

theorem ge4 : ∀ r : Fin 64, IntOp.cmpi CmpIPredicate.sge (BitVec.ofNat 32 r.val) 4#32 = if 4 ≤ r.val then 1#1 else 0#1 := by
  decide +kernel

/-- Reading a column at equal rows. -/
theorem at_row (x : FVec Ideal S64x2048 .f32) (j : Fin 2048) {a b : Fin 64} (h : a.val = b.val) : x (ix2 a j) = x (ix2 b j) := by
  rw [Fin.ext h]

theorem turn1_doubles (x : FVec Ideal S64x2048 .f32) : Doubles 1 x (turn 1#32 x) := by
  intro r j
  pointwise [turn]
  rw [rowNo_at, ge1]
  congr 1
  by_cases h8 : r.val < 8
  · rw [dif_pos h8]
    by_cases h : 1 ≤ r.val
    · rw [if_pos h, dif_pos h]
      exact at_row x j (show (r.val + 64 - 1) % 64 = r.val - 1 by omega)
    · rw [if_neg h, dif_neg h]
      rfl
  · rw [dif_neg h8, dif_pos (by omega)]
    exact at_row x j (show (8 + (r.val - 8) + 64 - 1) % 64 = r.val - 1 by omega)

theorem turn2_doubles (x : FVec Ideal S64x2048 .f32) : Doubles 2 x (turn 2#32 x) := by
  intro r j
  pointwise [turn]
  rw [rowNo_at, ge2]
  congr 1
  by_cases h8 : r.val < 8
  · rw [dif_pos h8]
    by_cases h : 2 ≤ r.val
    · rw [if_pos h, dif_pos h]
      exact at_row x j (show (r.val + 64 - 2) % 64 = r.val - 2 by omega)
    · rw [if_neg h, dif_neg h]
      rfl
  · rw [dif_neg h8, dif_pos (by omega)]
    exact at_row x j (show (8 + (r.val - 8) + 64 - 2) % 64 = r.val - 2 by omega)

theorem turn4_doubles (x : FVec Ideal S64x2048 .f32) : Doubles 4 x (turn 4#32 x) := by
  intro r j
  pointwise [turn]
  rw [rowNo_at, ge4]
  congr 1
  by_cases h8 : r.val < 8
  · rw [dif_pos h8]
    by_cases h : 4 ≤ r.val
    · rw [if_pos h, dif_pos h]
      exact at_row x j (show (r.val + 64 - 4) % 64 = r.val - 4 by omega)
    · rw [if_neg h, dif_neg h]
      rfl
  · rw [dif_neg h8, dif_pos (by omega)]
    exact at_row x j (show (8 + (r.val - 8) + 64 - 4) % 64 = r.val - 4 by omega)

/-- The running sums of the scaled decays. -/
def sums (x : FVec Ideal S64x2048 .f32) : FVec Ideal S64x2048 .f32 := k0_pay34 (F := Ideal) (k0_pay33 (F := Ideal) rowNo x) (Scalar.ofBits .f32 0x00000000#32)

/-- The running sums are the sums of all rows so far. -/
theorem sums_at (x : FVec Ideal S64x2048 .f32) {j : Fin 2048} {g : ℕ → EReal} (hx : ∀ r : Fin 64, x (ix2 r j) = g r.val) (r : Fin 64) :
    sums x (ix2 r j) = win g 64 r.val := by
  unfold sums
  rw [pay33_eq, pay34_eq]
  have h1 := (turn1_doubles x).step (g := g) (j := j) fun r => (hx r).trans (win_one g r.val).symm
  have h2 := (turn2_doubles _).step h1
  have h4 := (turn4_doubles _).step h2
  have h8 := (down8_doubles _).step h4
  have h16 := (down16_doubles _).step h8
  exact (down32_doubles _).step h16 r

/-- The state of the head whose columns begin at `o`: the old one decayed, plus the product of the values and the keys. -/
def head (o : ℕ) (hl : S1x2048.Slices ![0, o] S1x128) (hs : S64x2048.Slices ![0, o] S64x128) (s : FVec Ideal S128x128 .f32)
    (last : FVec Ideal S1x2048 .f32) (kt vb : FVec Ideal S64x2048 .bf16) : FVec Ideal S128x128 .f32 :=
  addf (mulf s (broadcastTo S128x128 (extractStridedSlice S1x128 ![0, o] last hl) broadcasts_S1x128_S128x128))
    (matmul dot_S64x128_S64x128_S128x128_0_0_1_1_n_n none (extractStridedSlice S64x128 ![0, o] vb hs)
      (extractStridedSlice S64x128 ![0, o] kt hs) (constant S128x128 .f32 0x00000000#32))

theorem head_at (o : ℕ) (hl : S1x2048.Slices ![0, o] S1x128) (hs : S64x2048.Slices ![0, o] S64x128) (s : FVec Ideal S128x128 .f32)
    (last : FVec Ideal S1x2048 .f32) (kt vb : FVec Ideal S64x2048 .bf16) (ho : o + 128 ≤ 2048) (e d : Fin 128) :
    (head o hl hs s last kt vb (ix2 e d) : EReal) = s (ix2 e d) * last (ix2 0 ⟨o + d.val, by omega⟩)
      + ∑ t : Fin 64, (vb (ix2 t ⟨o + e.val, by omega⟩) : EReal) * kt (ix2 t ⟨o + d.val, by omega⟩) := by
  pointwise [head]

/-- The state of head 7, which the body forms in two parts. -/
theorem head7 (hl : S1x2048.Slices ![0, 128 * 7] S1x128) (hs : S64x2048.Slices ![0, 128 * 7] S64x128) (s : FVec Ideal S128x128 .f32)
    (last : FVec Ideal S1x2048 .f32) (kt vb : FVec Ideal S64x2048 .bf16) :
    k0_pay608 (F := Ideal) kt (k0_pay606 (F := Ideal) s last) (k0_pay607 (F := Ideal) vb) = head (128 * 7) hl hs s last kt vb := rfl

/-- All heads' states. -/
def states (s : FVec Ideal S1x16x128x128 .f32) (last : FVec Ideal S1x2048 .f32) (kt vb : FVec Ideal S64x2048 .bf16) :
    FVec Ideal S1x16x128x128 .f32 := fun y =>
  (s y * last (ix2 0 ⟨128 * (y 1).val + (y 3).val, by have h1 : (y 1).val < 16 := (y 1).isLt; have h3 : (y 3).val < 128 := (y 3).isLt; omega⟩)
    + ∑ t : Fin 64, (vb (ix2 t ⟨128 * (y 1).val + (y 2).val, by have h1 : (y 1).val < 16 := (y 1).isLt; have h3 : (y 2).val < 128 := (y 2).isLt; omega⟩) : EReal)
      * kt (ix2 t ⟨128 * (y 1).val + (y 3).val, by have h1 : (y 1).val < 16 := (y 1).isLt; have h3 : (y 3).val < 128 := (y 3).isLt; omega⟩) : EReal)

/-- The state of head `n`, from its old one. -/
theorem state_at (n : ℕ) (hn : n < 16) (hl : S1x2048.Slices ![0, 128 * n] S1x128) (hs : S64x2048.Slices ![0, 128 * n] S64x128)
    (hw : ∀ a, (![0, n, 0, 0] : Fin 4 → ℕ) a + S1x1x128x128.size a ≤ S1x16x128x128.size a)
    (P : FVec Ideal S1x16x128x128 .f32) (s : FVec Ideal S1x1x128x128 .f32)
    (hP : ∀ e d : Fin 128, s (ix4 0 0 e d) = P (ix4 0 ⟨n, hn⟩ e d))
    (last : FVec Ideal S1x2048 .f32) (kt vb : FVec Ideal S64x2048 .bf16) :
    shapeCast S1x1x128x128 (head (128 * n) hl hs (shapeCast S128x128 s shapeCasts_S1x1x128x128_S128x128) last kt vb) shapeCasts_S128x128_S1x1x128x128
      = fun x => states P last kt vb ((Rect.unit (s := S1x16x128x128) ![0, n, 0, 0] S1x1x128x128.size hw).emb x) := by
  funext x
  obtain ⟨a, b, e, d, rfl⟩ : ∃ (a b : Fin 1) (e d : Fin 128), x = ix4 a b e d := ⟨x 0, x 1, x 2, x 3, by ext q; fin_cases q <;> rfl⟩
  obtain rfl : a = 0 := Subsingleton.elim _ _
  obtain rfl : b = 0 := Subsingleton.elim _ _
  have hi : (Rect.unit (s := S1x16x128x128) ![0, n, 0, 0] S1x1x128x128.size hw).emb (ix4 0 0 e d) = ix4 0 ⟨n, hn⟩ e d := by
    funext q
    refine Fin.ext ((Rect.idx_unit_val (s := S1x16x128x128) _ _ hw (ix4 0 0 e d) q).trans ?_)
    match q with
    | ⟨0, _⟩ => rfl
    | ⟨1, _⟩ => exact Nat.add_zero _
    | ⟨2, _⟩ => exact Nat.zero_add _
    | ⟨3, _⟩ => exact Nat.zero_add _
  rw [hi]
  pointwise []
  rw [head_at _ _ _ _ _ _ _ (by omega)]
  pointwise []
  rw [hP]
  rfl

/-- One stored piece: the state of head `n`, read from the block filled with the old states. -/
theorem piece (n : ℕ) (hn : n < 16) (hl : S1x2048.Slices ![0, 128 * n] S1x128) (hs : S64x2048.Slices ![0, 128 * n] S64x128)
    (hw : ∀ a, (![0, n, 0, 0] : Fin 4 → ℕ) a + S1x1x128x128.size a ≤ S1x16x128x128.size a)
    (h0 : ∀ a, (![0, 0, 0, 0] : Fin 4 → ℕ) a + S1x16x128x128.size a ≤ S1x16x128x128.size a)
    (v : View sig .tc .vmem S1x16x128x128 .f32) (P : FVec Ideal S1x16x128x128 .f32)
    (last : FVec Ideal S1x2048 .f32) (kt vb : FVec Ideal S64x2048 .bf16) :
    shapeCast S1x1x128x128 (head (128 * n) hl hs (shapeCast S128x128
        (v.readCov (Val := Elt Ideal) [⟨Rect.unit (s := S1x16x128x128) ![0, 0, 0, 0] S1x16x128x128.size h0, P⟩]
          (Rect.unit (s := S1x16x128x128) ![0, n, 0, 0] S1x1x128x128.size hw).toLoadRect)
        shapeCasts_S1x1x128x128_S128x128) last kt vb) shapeCasts_S128x128_S1x1x128x128
      = fun x => states P last kt vb ((Rect.unit (s := S1x16x128x128) ![0, n, 0, 0] S1x1x128x128.size hw).emb x) := by
  refine state_at n hn hl hs hw P _ (fun e d => ?_) last kt vb
  have hf : v.readCov (Val := Elt Ideal) [⟨Rect.unit (s := S1x16x128x128) ![0, 0, 0, 0] S1x16x128x128.size h0, P⟩]
      (Rect.unit (s := S1x16x128x128) ![0, n, 0, 0] S1x1x128x128.size hw).toLoadRect
      = View.ld P (Rect.unit (s := S1x16x128x128) ![0, n, 0, 0] S1x1x128x128.size hw) :=
    View.readCov_fill (Val := Elt Ideal) (s := S1x16x128x128) (e := .f32) (off := ![0, 0, 0, 0]) v h0 P [] _ (fun a => by fin_cases a <;> rfl)
  rw [hf, View.ld_apply]
  refine congrArg P ?_
  funext q
  refine Fin.ext ((Rect.idx_unit_val (s := S1x16x128x128) _ _ hw (ix4 0 0 e d) q).trans ?_)
  match q with
  | ⟨0, _⟩ => rfl
  | ⟨1, _⟩ => exact Nat.add_zero _
  | ⟨2, _⟩ => exact Nat.zero_add _
  | ⟨3, _⟩ => exact Nat.zero_add _

/-- A load of a whole block of rows. -/
theorem whole_rows (M : Memref sig .tc .vmem S1x64x2048 .f32) (hM : M.IsWhole) (X : Vec Ideal S1x64x2048 .f32) :
    View.readAt (Elt Ideal) M.view (Rect.unit (s := S1x64x2048) ![0, 0, 0] S1x64x2048.size inb_S1x64x2048_S1x64x2048_0_0_0).toLoadRect (hM.unread X) = X := by
  funext y
  refine (congrFun (hM.read_unread X) _).trans (congrArg X (funext fun a => Fin.ext ?_))
  refine (Rect.idx_unit_val (s := S1x64x2048) _ _ _ y a).trans ?_
  match a with
  | ⟨0, _⟩ => exact Nat.zero_add _
  | ⟨1, _⟩ => exact Nat.zero_add _
  | ⟨2, _⟩ => exact Nat.zero_add _

/-- A load of a whole block of states. -/
theorem whole_states (M : Memref sig .tc .vmem S1x16x128x128 .f32) (hM : M.IsWhole) (X : Vec Ideal S1x16x128x128 .f32) :
    View.readAt (Elt Ideal) M.view (Rect.unit (s := S1x16x128x128) ![0, 0, 0, 0] S1x16x128x128.size inb_S1x16x128x128_S1x16x128x128_0_0_0_0).toLoadRect (hM.unread X) = X := by
  funext y
  refine (congrFun (hM.read_unread X) _).trans (congrArg X (funext fun a => Fin.ext ?_))
  refine (Rect.idx_unit_val (s := S1x16x128x128) _ _ _ y a).trans ?_
  match a with
  | ⟨0, _⟩ => exact Nat.zero_add _
  | ⟨1, _⟩ => exact Nat.zero_add _
  | ⟨2, _⟩ => exact Nat.zero_add _
  | ⟨3, _⟩ => exact Nat.zero_add _

variable (c : Dev nD) (t : Fin cfg0.N) (x0 x1 x2 x3 : Vec Ideal S1x64x2048 .f32) (x4 : Vec Ideal S2x2048 .f32) (x5 : Vec Ideal S1x128 .f32)
  (x6 : Vec Ideal S1x16x128x128 .f32) (x7 : Vec Ideal S5x64x64 .f32)

/-- The scaled decays of a block. -/
def decays : FVec Ideal S64x2048 .f32 := k0_pay28 (F := Ideal) (k0_pay3 (F := Ideal)) (k0_pay4 (F := Ideal)) x1

/-- The keys of a block. -/
def keys : FVec Ideal S64x2048 .f32 := k0_pay29 (F := Ideal) (k0_pay4 (F := Ideal)) x1

/-- The whole chunk's decay. -/
def lastE : FVec Ideal S1x2048 .f32 := extractStridedSlice S1x2048 ![63, 0] (exp2 (sums (decays x1))) slices_S64x2048_o63_0_S1x2048

/-- The keys decayed to the end of the chunk. -/
def keysE : FVec Ideal S64x2048 .bf16 := k0_pay38 (F := Ideal) (keys x1) (k0_pay33 (F := Ideal) rowNo (decays x1)) (Scalar.ofBits .f32 0x00000000#32)

/-- The values. -/
def vals : FVec Ideal S64x2048 .bf16 := k0_pay40 (F := Ideal) (k0_pay25 (F := Ideal) x2)

set_option maxHeartbeats 1000000 in
/-- The state's block after the body. -/
theorem block (y : S1x16x128x128.Idx) :
    (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (hcond0_0 t) x0 x1 x2 x3 x4 x5 x6 x7) y
      = states x6 (lastE x1) (keysE x1) (vals x2) y := by
  have e1 : View.readAt (Elt Ideal) (ms0_1 t).view (Rect.unit (s := S1x64x2048) ![0, 0, 0] S1x64x2048.size inb_S1x64x2048_S1x64x2048_0_0_0).toLoadRect ((hs0_1 t).unread x1) = x1 := whole_rows _ _ _
  have e2 : View.readAt (Elt Ideal) (ms0_2 t).view (Rect.unit (s := S1x64x2048) ![0, 0, 0] S1x64x2048.size inb_S1x64x2048_S1x64x2048_0_0_0).toLoadRect ((hs0_2 t).unread x2) = x2 := whole_rows _ _ _
  have e6 : kernelRun0_A.sl.v3480 (F := Ideal) c (ms0_6 t) (hs0_6 t) x6 = x6 := by
    have e : View.readAt (Elt Ideal) (ms0_6 t).view (Rect.unit (s := S1x16x128x128) ![0, 0, 0, 0] S1x16x128x128.size inb_S1x16x128x128_S1x16x128x128_0_0_0_0).toLoadRect ((hs0_6 t).unread x6) = x6 := whole_states _ _ _
    refine Eq.trans ?_ e
    funext y
    obtain ⟨a, b, e, d, rfl⟩ : ∃ (a : Fin 1) (b : Fin 16) (e d : Fin 128), y = ix4 a b e d := ⟨y 0, y 1, y 2, y 3, by ext q; fin_cases q <;> rfl⟩
    pointwise [kernelRun0_A.sl.v3480]
  have e147 : kernelRun0_A.sl.v147 (F := Ideal) c (ms0_1 t) (hs0_1 t) x1 = lastE x1 := (congrArg lastE e1)
  have e151 : kernelRun0_A.sl.v151 (F := Ideal) c (ms0_1 t) (hs0_1 t) x1 = keysE x1 := (congrArg keysE e1)
  have e153 : kernelRun0_A.sl.v153 (F := Ideal) c (ms0_2 t) (hs0_2 t) x2 = vals x2 := (congrArg vals e2)
  unfold out0_A_9
  rw [View.read_writes_eq_canon _ _ _ (fun y => cover0_A_9 _ _ _ _ _ _ _ _ _ _ _ _ _ _ _ _ _ _ _ _ _ _ _ _ _ _ _ _ _ _ _ y)]
  unfold kernelRun0_A
  dsimp only
  rw [← e147, ← e151, ← e153, ← congrArg states e6]
  refine View.canon_append_of_piecesOf _ (kernelRun0_A.sl.H9_1 c (ms0_6 t) (hs0_6 t) x6)
    [_, _, _, _, _, _, _, _, _, _, _, _, _, _, _, _] ?_ y ?_
  · refine ⟨?_, ?_, ?_, ?_, ?_, ?_, ?_, ?_, ?_, ?_, ?_, ?_, ?_, ?_, ?_, ?_, trivial⟩
    · exact congrFun (piece 15 (by norm_num) slices_S1x2048_o0_1920_S1x128 slices_S64x2048_o0_1920_S64x128 inb_S1x16x128x128_S1x1x128x128_0_15_0_0 inb_S1x16x128x128_S1x16x128x128_0_0_0_0 (ms0_9 t).view _ _ _ _)
    · exact congrFun (piece 14 (by norm_num) slices_S1x2048_o0_1792_S1x128 slices_S64x2048_o0_1792_S64x128 inb_S1x16x128x128_S1x1x128x128_0_14_0_0 inb_S1x16x128x128_S1x16x128x128_0_0_0_0 (ms0_9 t).view _ _ _ _)
    · exact congrFun (piece 13 (by norm_num) slices_S1x2048_o0_1664_S1x128 slices_S64x2048_o0_1664_S64x128 inb_S1x16x128x128_S1x1x128x128_0_13_0_0 inb_S1x16x128x128_S1x16x128x128_0_0_0_0 (ms0_9 t).view _ _ _ _)
    · exact congrFun (piece 12 (by norm_num) slices_S1x2048_o0_1536_S1x128 slices_S64x2048_o0_1536_S64x128 inb_S1x16x128x128_S1x1x128x128_0_12_0_0 inb_S1x16x128x128_S1x16x128x128_0_0_0_0 (ms0_9 t).view _ _ _ _)
    · exact congrFun (piece 11 (by norm_num) slices_S1x2048_o0_1408_S1x128 slices_S64x2048_o0_1408_S64x128 inb_S1x16x128x128_S1x1x128x128_0_11_0_0 inb_S1x16x128x128_S1x16x128x128_0_0_0_0 (ms0_9 t).view _ _ _ _)
    · exact congrFun (piece 10 (by norm_num) slices_S1x2048_o0_1280_S1x128 slices_S64x2048_o0_1280_S64x128 inb_S1x16x128x128_S1x1x128x128_0_10_0_0 inb_S1x16x128x128_S1x16x128x128_0_0_0_0 (ms0_9 t).view _ _ _ _)
    · exact congrFun (piece 9 (by norm_num) slices_S1x2048_o0_1152_S1x128 slices_S64x2048_o0_1152_S64x128 inb_S1x16x128x128_S1x1x128x128_0_9_0_0 inb_S1x16x128x128_S1x16x128x128_0_0_0_0 (ms0_9 t).view _ _ _ _)
    · exact congrFun (piece 8 (by norm_num) slices_S1x2048_o0_1024_S1x128 slices_S64x2048_o0_1024_S64x128 inb_S1x16x128x128_S1x1x128x128_0_8_0_0 inb_S1x16x128x128_S1x16x128x128_0_0_0_0 (ms0_9 t).view _ _ _ _)
    · have e := congrArg (fun u : FVec Ideal S128x128 .f32 => shapeCast S1x1x128x128 u shapeCasts_S128x128_S1x1x128x128) (head7 slices_S1x2048_o0_896_S1x128 slices_S64x2048_o0_896_S64x128 (kernelRun0_A.sl.v36 (F := Ideal) c (ms0_6 t) (hs0_6 t) (ms0_9 t) x6) (kernelRun0_A.sl.v147 (F := Ideal) c (ms0_1 t) (hs0_1 t) x1) (kernelRun0_A.sl.v151 (F := Ideal) c (ms0_1 t) (hs0_1 t) x1) (kernelRun0_A.sl.v153 (F := Ideal) c (ms0_2 t) (hs0_2 t) x2))
      exact congrFun (e.trans (piece 7 (by norm_num) slices_S1x2048_o0_896_S1x128 slices_S64x2048_o0_896_S64x128 inb_S1x16x128x128_S1x1x128x128_0_7_0_0 inb_S1x16x128x128_S1x16x128x128_0_0_0_0 (ms0_9 t).view _ _ _ _))
    · exact congrFun (piece 6 (by norm_num) slices_S1x2048_o0_768_S1x128 slices_S64x2048_o0_768_S64x128 inb_S1x16x128x128_S1x1x128x128_0_6_0_0 inb_S1x16x128x128_S1x16x128x128_0_0_0_0 (ms0_9 t).view _ _ _ _)
    · exact congrFun (piece 5 (by norm_num) slices_S1x2048_o0_640_S1x128 slices_S64x2048_o0_640_S64x128 inb_S1x16x128x128_S1x1x128x128_0_5_0_0 inb_S1x16x128x128_S1x16x128x128_0_0_0_0 (ms0_9 t).view _ _ _ _)
    · exact congrFun (piece 4 (by norm_num) slices_S1x2048_o0_512_S1x128 slices_S64x2048_o0_512_S64x128 inb_S1x16x128x128_S1x1x128x128_0_4_0_0 inb_S1x16x128x128_S1x16x128x128_0_0_0_0 (ms0_9 t).view _ _ _ _)
    · exact congrFun (piece 3 (by norm_num) slices_S1x2048_o0_384_S1x128 slices_S64x2048_o0_384_S64x128 inb_S1x16x128x128_S1x1x128x128_0_3_0_0 inb_S1x16x128x128_S1x16x128x128_0_0_0_0 (ms0_9 t).view _ _ _ _)
    · exact congrFun (piece 2 (by norm_num) slices_S1x2048_o0_256_S1x128 slices_S64x2048_o0_256_S64x128 inb_S1x16x128x128_S1x1x128x128_0_2_0_0 inb_S1x16x128x128_S1x16x128x128_0_0_0_0 (ms0_9 t).view _ _ _ _)
    · exact congrFun (piece 1 (by norm_num) slices_S1x2048_o0_128_S1x128 slices_S64x2048_o0_128_S64x128 inb_S1x16x128x128_S1x1x128x128_0_1_0_0 inb_S1x16x128x128_S1x16x128x128_0_0_0_0 (ms0_9 t).view _ _ _ _)
    · exact congrFun (piece 0 (by norm_num) slices_S1x2048_o0_0_S1x128 slices_S64x2048_o0_0_S64x128 inb_S1x16x128x128_S1x1x128x128_0_0_0_0 inb_S1x16x128x128_S1x16x128x128_0_0_0_0 (ms0_9 t).view _ _ _ _)
  · exact View.cover_of_tiledL (s := S1x16x128x128) _ ![1, 1, 128, 128] (by sl_kernel_rfl) y

end Cert.StateIdeal.Cases

end

end
-- ==== Proof.StateRows.lean ====
module

public import proofs.«01_k».proof.Proof.StateCases

/-! What the recurrence leaves in the array of states, in terms of its arguments. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.StateIdeal.Rows

open Cert.StateIdeal Cert.StateIdeal.Gen Cert.StateIdeal.Value Cert.StateIdeal.Cases Cert.Recur

/-! ## The body's rows, at an index -/

section
variable (X : Vec Ideal S1x64x2048 .f32)

/-- The named constant is the number it stands for. -/
theorem named_lg : (Named.named (F := Ideal) κ "log2e" (φ := .f32) 0x3FB8AA3B#32 : EReal) = (lg : EReal) :=
  IdealRules.named_const.ideal_named_scalar _ _ _ _ rfl

theorem zero_word : (Scalar.ofBits (F := Ideal) .f32 0x00000000#32 : EReal) = 0 := by
  pointwise []

theorem decays_at (r : Fin 64) (j : Fin 2048) :
    decays X (ix2 r j) = Ideal.log (Recur.sig (X (ix3 0 r j))) * (lg : EReal) := by
  pointwise [decays, k0_pay28, k0_pay27, k0_pay3, k0_pay4]
  rw [named_lg, zero_sub]
  rfl

theorem keys_at (r : Fin 64) (j : Fin 2048) : keys X (ix2 r j) = Recur.sig (-X (ix3 0 r j)) := by
  pointwise [keys, k0_pay29, k0_pay27, k0_pay3, k0_pay4]
  rw [zero_sub]
  exact one_sub_sig _

theorem vals_at (r : Fin 64) (j : Fin 2048) : (vals X (ix2 r j) : EReal) = X (ix3 0 r j) := by
  pointwise [vals, k0_pay40, k0_pay25]

theorem lastE_at (j : Fin 2048) : lastE X (ix2 0 j) = Ideal.exp2 (sums (decays X) (ix2 63 j)) := by
  pointwise [lastE]
  rfl

theorem keysE_at (r : Fin 64) (j : Fin 2048) : (keysE X (ix2 r j) : EReal)
    = keys X (ix2 r j) * Ideal.exp2 (sums (decays X) (ix2 63 j) - sums (decays X) (ix2 r j)) := by
  have h : keysE X (ix2 r j) = k0_pay38 (F := Ideal) (keys X) (k0_pay33 (F := Ideal) rowNo (decays X)) (Scalar.ofBits .f32 0x00000000#32) (ix2 r j) := rfl
  rw [h]
  pointwise [k0_pay38]
  unfold sums
  rw [zero_word]
  rfl

end

variable (m : (ℓ : Loc nD τ sig) → Buf (Elt Ideal) ℓ) (c : Dev nD) (t : Fin cfg0.N)

/-- The projected rows. -/
def argZ : FVec Ideal S8x64x8192 .f32 := m ((c : Thread nD τ).loc main_arg0)

/-- The states. -/
def argS : FVec Ideal S2x8x16x128x128 .f32 := m ((c : Thread nD τ).loc main_arg3)

/-- Where each window stands at a grid point. -/
theorem idx : ∀ t : Fin cfg0.N, win0_1.index t = ![t.val, 0, 1] ∧ win0_2.index t = ![t.val, 0, 2]
    ∧ win0_6.index t = ![t.val, 0, 0, 0] ∧ win0_9.index t = ![t.val, 0, 0, 0] ∧ t.val < 8 :=
  (by decide +kernel : ∀ t : Fin grid0.N, _)

/-- The batch of a grid point. -/
def bat : Fin 8 := ⟨t.val, (idx t).2.2.2.2⟩

theorem forgets (r : Fin 64) (j : Fin 2048) :
    (iblk m c 1 t : FVec Ideal S1x64x2048 .f32) (ix3 0 r j) = argZ m c (ix3 (bat t) r ⟨2048 + j.val, by omega⟩) := by
  unfold argZ
  blk_ext [iblk, V, idx t, bat]

theorem inputs (r : Fin 64) (j : Fin 2048) :
    (iblk m c 2 t : FVec Ideal S1x64x2048 .f32) (ix3 0 r j) = argZ m c (ix3 (bat t) r ⟨4096 + j.val, by omega⟩) := by
  unfold argZ
  blk_ext [iblk, V, idx t, bat]

theorem olds (h : Fin 16) (e d : Fin 128) :
    (iblk m c 6 t : FVec Ideal S1x16x128x128 .f32) (ix4 0 h e d) = argS m c (ix5 0 (bat t) h d e) := by
  unfold argS
  blk_simp [iblk]
  entry_read
  pointwise []
  blk_ext [idx t, bat]

/-- The logarithm of the decay of a row, at a column. -/
def lgate (z : FVec Ideal S8x64x8192 .f32) (b : Fin 8) (j : Fin 2048) (r : ℕ) : EReal :=
  if h : r < 64 then Ideal.log (Recur.sig (z (ix3 b ⟨r, h⟩ ⟨2048 + j.val, by omega⟩))) else 0

/-- The whole result, at an index. -/
def result (z : FVec Ideal S8x64x8192 .f32) (s : FVec Ideal S2x8x16x128x128 .f32) : FVec Ideal S8x16x128x128 .f32 := fun i =>
  s (ix5 0 (i 0) (i 1) (i 3) (i 2)) * Ideal.exp (win (lgate z (i 0) ⟨128 * (i 1).val + (i 3).val, by have h1 : (i 1).val < 16 := (i 1).isLt; have h3 : (i 3).val < 128 := (i 3).isLt; omega⟩) 64 63)
    + ∑ r : Fin 64, z (ix3 (i 0) r ⟨4096 + (128 * (i 1).val + (i 2).val), by have h1 : (i 1).val < 16 := (i 1).isLt; have h3 : (i 2).val < 128 := (i 2).isLt; omega⟩)
      * (Recur.sig (-z (ix3 (i 0) r ⟨2048 + (128 * (i 1).val + (i 3).val), by have h1 : (i 1).val < 16 := (i 1).isLt; have h3 : (i 3).val < 128 := (i 3).isLt; omega⟩))
        * Ideal.exp (win (lgate z (i 0) ⟨128 * (i 1).val + (i 3).val, by have h1 : (i 1).val < 16 := (i 1).isLt; have h3 : (i 3).val < 128 := (i 3).isLt; omega⟩) 64 63
            - win (lgate z (i 0) ⟨128 * (i 1).val + (i 3).val, by have h1 : (i 1).val < 16 := (i 1).isLt; have h3 : (i 3).val < 128 := (i 3).isLt; omega⟩) 64 r.val))

theorem sums_eq (r : Fin 64) (j : Fin 2048) :
    sums (decays (iblk m c 1 t)) (ix2 r j) = win (lgate (argZ m c) (bat t) j) 64 r.val * (lg : EReal) := by
  refine (sums_at _ (g := fun n => lgate (argZ m c) (bat t) j n * (lg : EReal)) (fun q => ?_) r).trans (win_mul _ _ _ lg_pos)
  refine (decays_at _ q j).trans ?_
  unfold lgate
  rw [dif_pos q.isLt, forgets]

/-- What a point leaves of the states. -/
theorem point (h : Fin 16) (e d : Fin 128) :
    states (iblk m c 6 t) (lastE (iblk m c 1 t)) (keysE (iblk m c 1 t)) (vals (iblk m c 2 t)) (ix4 0 h e d)
      = result (argZ m c) (argS m c) (ix4 (bat t) h e d) := by
  have hl : ∀ j : Fin 2048, lastE (iblk m c 1 t) (ix2 0 j) = Ideal.exp (win (lgate (argZ m c) (bat t) j) 64 63) := fun j => by
    rw [lastE_at, sums_eq, exp2_lg]
    rfl
  have hk : ∀ (r : Fin 64) (j : Fin 2048), (keysE (iblk m c 1 t) (ix2 r j) : EReal)
      = Recur.sig (-argZ m c (ix3 (bat t) r ⟨2048 + j.val, by omega⟩))
        * Ideal.exp (win (lgate (argZ m c) (bat t) j) 64 63 - win (lgate (argZ m c) (bat t) j) 64 r.val) := fun r j => by
    rw [keysE_at, keys_at, sums_eq, sums_eq, ← sub_mul_real _ _ lg_pos, exp2_lg, forgets]
    rfl
  have hv : ∀ (r : Fin 64) (j : Fin 2048), (vals (iblk m c 2 t) (ix2 r j) : EReal) = argZ m c (ix3 (bat t) r ⟨4096 + j.val, by omega⟩) :=
    fun r j => (vals_at _ r j).trans (inputs m c t r j)
  unfold states
  dsimp only
  rw [olds]
  refine congrArg₂ (fun u v : EReal => u + v) (congrArg₂ (fun u v : EReal => u * v) rfl (hl _)) (Finset.sum_congr rfl fun r _ => ?_)
  exact congrArg₂ (fun u v : EReal => u * v) (hv r _) (hk r _)

/-- An index is its four coordinates. -/
theorem eta (y : S1x16x128x128.Idx) : y = ix4 0 (y 1) (y 2) (y 3) :=
  funext fun a => match a with
    | ⟨0, _⟩ => Subsingleton.elim (α := Fin 1) _ _
    | ⟨1, _⟩ => rfl
    | ⟨2, _⟩ => rfl
    | ⟨3, _⟩ => rfl

/-- What the kernel leaves in its array of states. -/
theorem final : (dats m 0 c).arrAt 9 cfg0.N = result (argZ m c) (argS m c) := by
  refine (dats m 0 c).arrAt_eq_of_covers 9 _ (by decide +kernel) fun t hf y => ?_
  blk_simp
  rw [after0_9]
  simp only [outsAt0]
  refine (block c t _ _ _ _ _ _ _ _ y).trans ?_
  refine (congrArg (states (iblk m c 6 t) (lastE (iblk m c 1 t)) (keysE (iblk m c 1 t)) (vals (iblk m c 2 t))) (eta y)).trans ?_
  refine (point m c t (y 1) (y 2) (y 3)).trans ?_
  refine congrArg (result (argZ m c) (argS m c)) ?_
  blk_ext [idx t, bat]

end Cert.StateIdeal.Rows

end

end
-- ==== Proof.StateReference.lean ====
module

public import proofs.«01_k».proof.Proof.StateRows
public import proofs.«01_k».proof.Proof.Finite
public import proofs.«01_k».proof.Pre_state_finite
public import proofs.«01_k».proof.Proof.Gen.StateRefIdeal.Run
public import proofs.«01_k».proof.Proof.Gen.StateRefIdeal.Read

/-! What the reference of the recurrence leaves in its array of states, by the same formula as the kernel's. -/

@[expose] public section

set_option maxRecDepth 16384

noncomputable section

open Idealize.ShloMosaic Idealize.ShloMosaic.TcCoe Idealize.SL.Sem

namespace Cert.StateRefIdeal.Scan

open Cert.StateRefIdeal Cert.StateRefIdeal.Gen Cert.StateRefIdeal.Read Cert.StateIdeal.Rows Cert.Recur

/-- A maximum over the first axis, at an index. -/
theorem fold_at (z : FVec Ideal S2x2048 .f32) (init : FVec Ideal S_ .f32) (d : Fin 2048) :
    Host.reduce FloatOps.maximumf z init reducesTo_S2x2048_S2048_d0 h_S_ (ix1 d)
      = Finset.univ.fold max (init (Shape.Idx.first h_S_)) fun k : Fin 2 => z (ix2 k d) := by
  pointwise []

theorem max_at (y z : FVec Ideal S2048 .f32) (i : S2048.Idx) : maximumf y z i = (max (y i) (z i) : EReal) := by
  rfl

variable (Z : FVec Ideal S8x64x8192 .f32) (L : FVec Ideal S2x2048 .f32) (S : FVec Ideal S2x8x16x128x128 .f32)

/-- The greater of a column's two logits. -/
def peak (d : Fin 2048) : EReal := Cert.Softmax.top fun k : Fin 2 => L (ix2 k d)

theorem init_bot : val_main_cst (F := Ideal) (Shape.Idx.first h_S_) = (⊥ : EReal) := Cert.AttnIdeal.Tiles.word_bot

theorem floor_bot (d : Fin 2048) : val_main_v1 (F := Ideal) (ix1 d) = (⊥ : EReal) := by
  pointwise [val_main_v1, val_main_cst_0]
  exact Cert.AttnIdeal.Tiles.word_bot

theorem folded (d : Fin 2048) : val_main_v0 (F := Ideal) L (ix1 d)
    = Finset.univ.fold max (val_main_cst (F := Ideal) (Shape.Idx.first h_S_)) fun k : Fin 2 => L (ix2 k d) := by
  unfold val_main_v0
  generalize val_main_cst (F := Ideal) = init
  exact fold_at L init d

theorem peak_at (d : Fin 2048) : val_main_v2 (F := Ideal) L (ix1 d) = peak L d := by
  refine (max_at (val_main_v1 (F := Ideal)) (val_main_v0 (F := Ideal) L) (ix1 d)).trans ?_
  rw [floor_bot, folded, init_bot]
  exact max_eq_right bot_le

theorem part_at (k : Fin 2) (d : Fin 2048) : val_main_v10 (F := Ideal) L (ix2 k d)
    = Ideal.div (Ideal.exp (L (ix2 k d) - peak L d)) (0 + ∑ j : Fin 2, Ideal.exp (L (ix2 j d) - peak L d)) := by
  have h : ∀ j : Fin 2, val_main_v6 (F := Ideal) L (ix2 j d) = Ideal.exp (L (ix2 j d) - peak L d) := fun j => by
    pointwise [val_main_v6, val_main_v5, val_main_v4, val_main_v3]
    rw [peak_at]
  pointwise [val_main_v10, val_main_v9, val_main_v8, val_main_v7, val_main_cst_1]
  simp only [h]

variable {L} (hL : ∀ i, ∃ r : ℝ, L i = (r : EReal))

include hL in
/-- A column's first share is a real number. -/
theorem part_real (d : Fin 2048) : ∃ r : ℝ, val_main_v10 (F := Ideal) L (ix2 0 d) = (r : EReal) := by
  have hp : ∃ M : ℝ, peak L d = (M : EReal) := by
    have h1 : peak L d ≠ ⊤ := Cert.Softmax.top_ne_top _ fun k => by
      obtain ⟨x, hx⟩ := hL (ix2 k d)
      rw [hx]; exact EReal.coe_ne_top _
    have h2 : peak L d ≠ ⊥ := Cert.Softmax.top_ne_bot _ (0 : Fin 2) (by
      obtain ⟨x, hx⟩ := hL (ix2 0 d)
      rw [hx]; exact EReal.coe_ne_bot _)
    exact ⟨(peak L d).toReal, (EReal.coe_toReal h1 h2).symm⟩
  obtain ⟨M, hM⟩ := hp
  obtain ⟨x, hx⟩ := hL (ix2 0 d)
  obtain ⟨y, hy⟩ := hL (ix2 1 d)
  rw [part_at, hM, Fin.sum_univ_two, hx, hy, zero_add, ← EReal.coe_sub, ← EReal.coe_sub, Ideal.exp_coe, Ideal.exp_coe,
    ← EReal.coe_add]
  have h0 : Real.exp (x - M) + Real.exp (y - M) ≠ 0 := by positivity
  exact ⟨_, (Ideal.div_coe h0 _).trans (EReal.coe_mul _ _).symm⟩

theorem running (d : Fin 2048) : val_main_v11 (F := Ideal) L (ix2 0 d) = val_main_v10 (F := Ideal) L (ix2 0 d) := by
  unfold val_main_v11
  have h0 : val_main_call0_call0_v0 (F := Ideal) (Shape.Idx.first h_S_) = (0 : EReal) := by
    pointwise [val_main_call0_call0_v0, val_main_call0_call0_cst]
  generalize val_main_v10 (F := Ideal) L = x
  change (Ideal.hostReduceWindowAdd ![2, 1] ![1, 1] ![1, 0] ![0, 0] reduceWindows_S2x2048_S2x2048_w2s1p1_0_w1s1p0_0 x
    (val_main_call0_call0_v0 (F := Ideal) (Shape.Idx.first h_S_)) (ix2 0 d) : EReal) = _
  rw [h0]
  exact window2 x _ d

include hL in
/-- The lower bound of layer one is zero. -/
theorem bound (d : Fin 2048) : val_main_v18 (F := Ideal) L (ix1 d) = (0 : EReal) := by
  obtain ⟨r, hr⟩ := part_real hL d
  have h1 : val_main_v18 (F := Ideal) L (ix1 d) = val_main_v11 (F := Ideal) L (ix2 0 d) - val_main_v10 (F := Ideal) L (ix2 0 d) := by
    pointwise [val_main_v18, val_main_v17, val_main_v16, val_main_v15, val_main_v14, val_main_v13, val_main_v12]
  rw [h1, running, hr, ← EReal.coe_sub, sub_self, EReal.coe_zero]

theorem one_sub_zero : (1 : EReal) - 0 = 1 := by
  rw [← EReal.coe_one, ← EReal.coe_zero, ← EReal.coe_sub, sub_zero]

include hL in
/-- The logarithm of the decay. -/
theorem gate_at (b : Fin 8) (r : Fin 64) (j : Fin 2048) :
    val_main_v35 (F := Ideal) Z L (ix3 b r j) = lgate Z b j r.val := by
  have h1 : val_main_v35 (F := Ideal) Z L (ix3 b r j)
      = Ideal.log (val_main_v18 (F := Ideal) L (ix1 j) + (1 - val_main_v18 (F := Ideal) L (ix1 j)) * Recur.sig (Z (ix3 b r ⟨2048 + j.val, by omega⟩))) := by
    pointwise [val_main_v35, val_main_v34, val_main_v33, val_main_v32, val_main_v31, val_main_v30, val_main_v29, val_main_v28, val_main_v27,
      val_main_v26, val_main_v25, val_main_v24, val_main_v23, val_main_v22, val_main_v21, val_main_v19, val_main_cst_2, val_main_cst_3, val_main_cst_4]
    rfl
  rw [h1, bound hL, one_sub_zero, one_mul, zero_add]
  unfold lgate
  rw [dif_pos r.isLt]

include hL in
/-- The keys. -/
theorem key_at (b : Fin 8) (r : Fin 64) (j : Fin 2048) :
    val_main_v47 (F := Ideal) Z L (ix3 b r j) = Recur.sig (-Z (ix3 b r ⟨2048 + j.val, by omega⟩)) := by
  have h1 : val_main_v47 (F := Ideal) Z L (ix3 b r j)
      = (1 - val_main_v18 (F := Ideal) L (ix1 j)) * Recur.sig (-Z (ix3 b r ⟨2048 + j.val, by omega⟩)) := by
    pointwise [val_main_v47, val_main_v46, val_main_v45, val_main_v44, val_main_v43, val_main_v42, val_main_v41, val_main_v40, val_main_v39,
      val_main_v38, val_main_v37, val_main_v36, val_main_v19, val_main_cst_5, val_main_cst_6, val_main_cst_7]
    rfl
  rw [h1, bound hL, one_sub_zero, one_mul]

/-- A column of a head. -/
def col (h : Fin 16) (d : Fin 128) : Fin 2048 := ⟨128 * h.val + d.val, by omega⟩

theorem col_eq (h : Fin 16) (d : Fin 128) (hq : h.val * 128 + d.val < 2048) : (⟨h.val * 128 + d.val, hq⟩ : Fin 2048) = col h d := by
  refine Fin.ext ?_
  dsimp only [col]
  omega

theorem heads_gate (b : Fin 8) (h : Fin 16) (r : Fin 64) (d : Fin 128) :
    val_main_v53 (F := Ideal) Z L (ix4 b h r d) = val_main_v35 (F := Ideal) Z L (ix3 b r (col h d)) := by
  pointwise [val_main_v53, val_main_v52]
  exact congrArg (fun q => val_main_v35 (F := Ideal) Z L (ix3 b r q)) (col_eq h d _)

theorem heads_key (b : Fin 8) (h : Fin 16) (r : Fin 64) (d : Fin 128) :
    val_main_v49 (F := Ideal) Z L (ix4 b h r d) = val_main_v47 (F := Ideal) Z L (ix3 b r (col h d)) := by
  pointwise [val_main_v49, val_main_v48]
  exact congrArg (fun q => val_main_v47 (F := Ideal) Z L (ix3 b r q)) (col_eq h d _)

theorem heads_value (b : Fin 8) (h : Fin 16) (r : Fin 64) (d : Fin 128) :
    val_main_v51 (F := Ideal) Z (ix4 b h r d) = Z (ix3 b r ⟨4096 + (col h d).val, by omega⟩) := by
  pointwise [val_main_v51, val_main_v50, val_main_v20]
  refine congrArg (fun q => Z (ix3 b r q)) (Fin.ext ?_)
  dsimp only [col]
  omega

include hL in
/-- The running sum of the decays' logarithms. -/
theorem scan_at (b : Fin 8) (h : Fin 16) (r : Fin 64) (d : Fin 128) :
    val_main_v54 (F := Ideal) Z L (ix4 b h r d) = win (lgate Z b (col h d)) 64 r.val := by
  have hx : ∀ s : Fin 64, val_main_v53 (F := Ideal) Z L (ix4 b h s d) = lgate Z b (col h d) s.val := fun s => by
    rw [heads_gate, gate_at Z hL]
  have h0 : val_main_call1_call0_v0 (F := Ideal) (Shape.Idx.first h_S_) = (0 : EReal) := by
    pointwise [val_main_call1_call0_v0, val_main_call1_call0_cst]
  unfold val_main_v54
  generalize val_main_v53 (F := Ideal) Z L = x at hx ⊢
  change (Ideal.hostReduceWindowAdd ![1, 1, 64, 1] ![1, 1, 1, 1] ![0, 0, 63, 0] ![0, 0, 0, 0]
    reduceWindows_S8x16x64x128_S8x16x64x128_w1s1p0_0_w1s1p0_0_w64s1p63_0_w1s1p0_0 x
    (val_main_call1_call0_v0 (F := Ideal) (Shape.Idx.first h_S_)) (ix4 b h r d) : EReal) = _
  rw [h0]
  exact window4 x _ b h r d _ hx

/-- The new state, at an index. -/
theorem new_at (b : Fin 8) (h : Fin 16) (e d : Fin 128) : val_main_v70 (F := Ideal) Z L S (ix4 b h e d)
    = Ideal.exp (val_main_v54 (F := Ideal) Z L (ix4 b h 63 d)) * S (ix5 0 b h d e)
      + ∑ r : Fin 64, val_main_v49 (F := Ideal) Z L (ix4 b h r d)
          * Ideal.exp (val_main_v54 (F := Ideal) Z L (ix4 b h 63 d) - val_main_v54 (F := Ideal) Z L (ix4 b h r d))
          * val_main_v51 (F := Ideal) Z (ix4 b h r e) := by
  pointwise [val_main_v70, val_main_v69, val_main_v68, val_main_v67, val_main_v66, val_main_v65, val_main_v64, val_main_v63, val_main_v62,
    val_main_v61, val_main_v60, val_main_v59, val_main_v58, val_main_v57, val_main_v56, val_main_v55]

include hL in
/-- The reference's state is the kernel's. -/
theorem state_eq : val_main_v70 (F := Ideal) Z L S = result Z S := by
  funext i
  obtain ⟨b, h, e, d, rfl⟩ : ∃ (b : Fin 8) (h : Fin 16) (e d : Fin 128), i = ix4 b h e d :=
    ⟨i 0, i 1, i 2, i 3, funext fun a => match a with
      | ⟨0, _⟩ => rfl
      | ⟨1, _⟩ => rfl
      | ⟨2, _⟩ => rfl
      | ⟨3, _⟩ => rfl⟩
  rw [new_at]
  unfold result
  simp only [scan_at Z hL, heads_key, heads_value, key_at Z hL]
  refine congrArg₂ (fun u v : EReal => u + v) (mul_comm _ _) (Finset.sum_congr rfl fun r _ => ?_)
  exact mul_comm _ _

variable [Cert.Pre_state_finite.Facts]

/-- The precondition at the logits. -/
theorem reals (Z : FVec Ideal Cert.Pre_state_finite.S8x64x8192 .f32) (L : FVec Ideal Cert.Pre_state_finite.S2x2048 .f32)
    (O : FVec Ideal Cert.Pre_state_finite.S2x128 .f32) (S : FVec Ideal Cert.Pre_state_finite.S2x8x16x128x128 .f32)
    (h : Cert.Pre_state_finite.fn (F := Ideal) Z L O S = (fun _ => 1#1)) : ∀ i, ∃ r : ℝ, L i = (r : EReal) :=
  fun i => Cert.Finite.real_of_lt (L i) (congrFun h i)

end Cert.StateRefIdeal.Scan

end

end
-- ==== Proof.NextRows.lean ====
module

public import proofs.«01_k».proof.Proof.Gen.NextIdeal.Value
public import proofs.«01_k».proof.Proof.Ffn
public import Idealize.ShloMosaic.Lib.Pipeline.CanonAppend

/-! What the kernel of the next frames' last feed-forward half-step leaves in its result array: its block of 512 rows holds the rows
themselves after the loop of its first grid point, and takes one tile of 512 hidden units at each of its eleven points, after
the last of which the rows are divided by their root mean square. -/

@[expose] public section

set_option maxRecDepth 16384

noncomputable section

open Idealize.ShloMosaic Idealize.ShloMosaic.TcCoe Idealize.ShloMosaic.Tactic Idealize.SL.Sem
open Idealize.ShloMosaic.Pipeline (Dat)

namespace Cert.NextIdeal.Rows

open Cert.NextIdeal Cert.NextIdeal.Gen Cert.NextIdeal.Value

/-- The normalised rows of a block. -/
def normed (X : Vec Ideal S512x2048 .f32) (G : Vec Ideal S1x1x2048 .f32) : Vec Ideal S512x2048 .bf16 := fun y =>
  Ffn.norm (fun k => X (ix2 (y 0) k)) (fun k => G (ix3 0 0 k)) (y 1)

/-- What a trip stores, at an index. -/
theorem pay1_at (X : FVec Ideal S128x2048 .f32) (G : Vec Ideal S1x1x2048 .f32) (r : Fin 128) (e : Fin 2048) :
    k0_pay1 X G (ix2 r e) = Ffn.norm (fun k => X (ix2 r k)) (fun k => G (ix3 0 0 k)) e := by
  pointwise [k0_pay1, Ffn.norm, Ffn.scale]

/-- An index is its two coordinates. -/
theorem eta (y : S128x2048.Idx) : y = ix2 (y 0) (y 1) :=
  funext fun a => match a with
    | ⟨0, _⟩ => rfl
    | ⟨1, _⟩ => rfl

/-- What a trip stores, at any index. -/
theorem pay1_at' (X : FVec Ideal S128x2048 .f32) (G : Vec Ideal S1x1x2048 .f32) (y : S128x2048.Idx) :
    k0_pay1 X G y = Ffn.norm (fun k => X (ix2 (y 0) k)) (fun k => G (ix3 0 0 k)) (y 1) :=
  (congrArg (k0_pay1 X G) (eta y)).trans (pay1_at X G (y 0) (y 1))

section
variable (𝒱 : Variants) (c : Dev nD) (bd : Option 𝒱.V) (i : grid0.Coords) (arg2 : Memref sig .tc .vmem S512x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (k0_h1 : k0_cond1 i = 1#1)
  (X : Vec Ideal S512x2048 .f32) (G : Vec Ideal S1x1x2048 .f32)

/-- Every piece of the first loop holds the rows of the block, and the normalised rows. -/
theorem loop (k : ℕ) :
    (∀ p ∈ (pb_k0_t1 (F := Ideal) 𝒱 c bd i arg2 harg2 arg3 harg3 arg4 harg4 arg5 harg5 arg6 harg6 arg7 harg7 arg8 harg8 arg9 harg9 k0_h1 (harg2.unread X) (harg3.unread G) k).1,
      ∀ x, p.2 x = X (p.1.emb x))
    ∧ (∀ p ∈ (pb_k0_t1 (F := Ideal) 𝒱 c bd i arg2 harg2 arg3 harg3 arg4 harg4 arg5 harg5 arg6 harg6 arg7 harg7 arg8 harg8 arg9 harg9 k0_h1 (harg2.unread X) (harg3.unread G) k).2,
      ∀ x, p.2 x = normed X G (p.1.emb x)) := by
  induction k with
  | zero => exact ⟨fun p hp => absurd hp List.not_mem_nil, fun p hp => absurd hp List.not_mem_nil⟩
  | succ k ih =>
    by_cases h : k < k0_t1_loop.trips
    · have e := pb_k0_t1_succ (F := Ideal) 𝒱 c bd i arg2 harg2 arg3 harg3 arg4 harg4 arg5 harg5 arg6 harg6 arg7 harg7 arg8 harg8 arg9 harg9 k0_h1 (harg2.unread X) (harg3.unread G) ⟨k, h⟩
      dsimp only at e
      rw [e]
      unfold trip_k0_t1
      refine ⟨fun p hp => ?_, fun p hp => ?_⟩
      · rcases List.mem_append.1 hp with hp | hp
        · rw [List.mem_singleton.1 hp]
          intro x
          exact congrFun (harg2.read_unread X) _
        · exact ih.1 p hp
      · rcases List.mem_append.1 hp with hp | hp
        · rw [List.mem_singleton.1 hp]
          intro x
          refine (pay1_at' _ _ x).trans ?_
          unfold normed
          have e0 := Rect.idx_unit_val (s := S512x2048) (k0_off1 ⟨k, h⟩) S128x2048.size (k0_off1_inb i ⟨k, h⟩ k0_h1) x 0
          have e1 := Rect.idx_unit_val (s := S512x2048) (k0_off1 ⟨k, h⟩) S128x2048.size (k0_off1_inb i ⟨k, h⟩ k0_h1) x 1
          have o0 : k0_off1 ⟨k, h⟩ 0 = 128 * k := congrFun (k0_off1_eq ⟨k, h⟩) 0
          have o1 : k0_off1 ⟨k, h⟩ 1 = 0 := congrFun (k0_off1_eq ⟨k, h⟩) 1
          refine congr (congrArg₂ Ffn.norm (funext fun j => ?_) (funext fun j => ?_)) ?_
          · refine (congrFun (harg2.read_unread X) _).trans (congrArg X (funext fun a => Fin.ext ?_))
            refine (Rect.idx_unit_val (s := S512x2048) (k0_off1 ⟨k, h⟩) S128x2048.size (k0_off1_inb i ⟨k, h⟩ k0_h1) _ a).trans ?_
            match a with
            | ⟨0, _⟩ => exact e0.symm
            | ⟨1, _⟩ => exact (congrArg (· + j.val) o1).trans (Nat.zero_add _)
          · refine (congrFun (harg3.read_unread G) _).trans (congrArg G (funext fun a => Fin.ext ?_))
            refine (Rect.idx_unit_val (s := S1x1x2048) _ _ _ _ a).trans ?_
            match a with
            | ⟨0, _⟩ => rfl
            | ⟨1, _⟩ => rfl
            | ⟨2, _⟩ => exact Nat.zero_add _
          · exact Fin.ext (e1.trans ((congrArg (· + (x 1).val) o1).trans (Nat.zero_add _))).symm
        · exact ih.2 p hp
    · have e : pb_k0_t1 (F := Ideal) 𝒱 c bd i arg2 harg2 arg3 harg3 arg4 harg4 arg5 harg5 arg6 harg6 arg7 harg7 arg8 harg8 arg9 harg9 k0_h1 (harg2.unread X) (harg3.unread G) (k + 1)
          = pb_k0_t1 (F := Ideal) 𝒱 c bd i arg2 harg2 arg3 harg3 arg4 harg4 arg5 harg5 arg6 harg6 arg7 harg7 arg8 harg8 arg9 harg9 k0_h1 (harg2.unread X) (harg3.unread G) k := by
        rw [pb_k0_t1.eq_2]; unfold pb_k0_t1Step; exact dif_neg h
      rw [e]
      exact ih

/-- The pieces of the rows cover the block -/
theorem rows_cover (y : S512x2048.Idx) : ∃ p ∈ (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).1, y ∈ p.1.set :=
  View.cover_of_tiledL (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).1 S128x2048.size (by sl_kernel_rfl) y

/-- The pieces of the rows cover the block, read whole. -/
theorem rows (v : View sig .tc .vmem S512x2048 .f32) :
    v.readCov (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).1
      (Rect.unit (s := S512x2048) ![0, 0] S512x2048.size inb_S512x2048_S512x2048_0_0).toLoadRect = X := by
  rw [View.readCov_eq_canon_ld _ _ _ (rows_cover 𝒱 c bd i arg2 harg2 arg3 harg3 arg4 harg4 arg5 harg5 arg6 harg6 arg7 harg7 arg8 harg8 arg9 harg9 k0_h1 X G)]
  funext y
  rw [View.ld_apply, View.canon_apply_of_pieces (X) _ (loop 𝒱 c bd i arg2 harg2 arg3 harg3 arg4 harg4 arg5 harg5 arg6 harg6 arg7 harg7 arg8 harg8 arg9 harg9 k0_h1 X G _).1 _
    (rows_cover 𝒱 c bd i arg2 harg2 arg3 harg3 arg4 harg4 arg5 harg5 arg6 harg6 arg7 harg7 arg8 harg8 arg9 harg9 k0_h1 X G _)]
  refine congrArg (X) (funext fun a => Fin.ext ?_)
  refine (Rect.idx_unit_val (s := S512x2048) _ _ _ y a).trans ?_
  match a with
  | ⟨0, _⟩ => exact Nat.zero_add _
  | ⟨1, _⟩ => exact Nat.zero_add _

/-- The pieces of the normalised rows cover the block -/
theorem norms_cover (y : S512x2048.Idx) : ∃ p ∈ (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).2, y ∈ p.1.set :=
  View.cover_of_tiledL (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).2 S128x2048.size (by sl_kernel_rfl) y

/-- The pieces of the normalised rows cover the block, read whole. -/
theorem norms (v : View sig .tc .vmem S512x2048 .bf16) :
    v.readCov (pb_k0_t1 (F := Ideal) 𝒱 c bd i arg2 harg2 arg3 harg3 arg4 harg4 arg5 harg5 arg6 harg6 arg7 harg7 arg8 harg8 arg9 harg9 k0_h1 (harg2.unread X) (harg3.unread G) k0_t1_loop.trips).2
      (Rect.unit (s := S512x2048) ![0, 0] S512x2048.size inb_S512x2048_S512x2048_0_0).toLoadRect = normed X G := by
  rw [View.readCov_eq_canon_ld _ _ _ (norms_cover 𝒱 c bd i arg2 harg2 arg3 harg3 arg4 harg4 arg5 harg5 arg6 harg6 arg7 harg7 arg8 harg8 arg9 harg9 k0_h1 X G)]
  funext y
  rw [View.ld_apply, View.canon_apply_of_pieces (normed X G) _ (loop 𝒱 c bd i arg2 harg2 arg3 harg3 arg4 harg4 arg5 harg5 arg6 harg6 arg7 harg7 arg8 harg8 arg9 harg9 k0_h1 X G _).2 _
    (norms_cover 𝒱 c bd i arg2 harg2 arg3 harg3 arg4 harg4 arg5 harg5 arg6 harg6 arg7 harg7 arg8 harg8 arg9 harg9 k0_h1 X G _)]
  refine congrArg (normed X G) (funext fun a => Fin.ext ?_)
  refine (Rect.idx_unit_val (s := S512x2048) _ _ _ y a).trans ?_
  match a with
  | ⟨0, _⟩ => exact Nat.zero_add _
  | ⟨1, _⟩ => exact Nat.zero_add _

end
/-- The same operands give the same block. -/
theorem pay2_congr {n n' : Vec Ideal S512x2048 .bf16} {a a' b b' : Vec Ideal S1x2048x512 .bf16} {o o' : Vec Ideal S512x2048 .f32}
    {w w' : Vec Ideal S1x512x2048 .bf16} (h1 : n = n') (h2 : a = a') (h3 : b = b') (h4 : o = o') (h5 : w = w') :
    k0_pay2 n a b o w = k0_pay2 n' a' b' o' w' := by
  rw [h1, h2, h3, h4, h5]

/-- A store of the whole block leaves what it stores. -/
theorem canon_full (h : ∀ a, (![0, 0] : Fin 2 → ℕ) a + S512x2048.size a ≤ S512x2048.size a) (w : Vec Ideal S512x2048 .f32)
    (L : List (View.Piece (Elt Ideal) S512x2048 .f32)) :
    View.canon (⟨Rect.unit (s := S512x2048) ![0, 0] S512x2048.size h, w⟩ :: L) = w := by
  funext y
  have e : (Rect.unit (s := S512x2048) ![0, 0] S512x2048.size h).emb y = y := funext fun a => Fin.ext (by
    refine (Rect.idx_unit_val (s := S512x2048) _ _ _ y a).trans ?_
    match a with
    | ⟨0, _⟩ => exact Nat.zero_add _
    | ⟨1, _⟩ => exact Nat.zero_add _)
  refine (congrArg (View.canon _) e.symm).trans ?_
  exact View.canon_cons_emb _ _ _ _

/-- A load of a whole block of the gate. -/
theorem whole_gate (M : Memref sig .tc .vmem S1x2048x512 .bf16) (hM : M.IsWhole) (X : Vec Ideal S1x2048x512 .bf16) :
    View.readAt (Elt Ideal) M.view (Rect.unit (s := S1x2048x512) ![0, 0, 0] S1x2048x512.size inb_S1x2048x512_S1x2048x512_0_0_0).toLoadRect (hM.unread X) = X := by
  funext y
  refine (congrFun (hM.read_unread X) _).trans (congrArg X (funext fun a => Fin.ext ?_))
  refine (Rect.idx_unit_val (s := S1x2048x512) _ _ _ y a).trans ?_
  match a with
  | ⟨0, _⟩ => exact Nat.zero_add _
  | ⟨1, _⟩ => exact Nat.zero_add _
  | ⟨2, _⟩ => exact Nat.zero_add _

/-- A load of a whole block of the last product. -/
theorem whole_last (M : Memref sig .tc .vmem S1x512x2048 .bf16) (hM : M.IsWhole) (X : Vec Ideal S1x512x2048 .bf16) :
    View.readAt (Elt Ideal) M.view (Rect.unit (s := S1x512x2048) ![0, 0, 0] S1x512x2048.size inb_S1x512x2048_S1x512x2048_0_0_0).toLoadRect (hM.unread X) = X := by
  funext y
  refine (congrFun (hM.read_unread X) _).trans (congrArg X (funext fun a => Fin.ext ?_))
  refine (Rect.idx_unit_val (s := S1x512x2048) _ _ _ y a).trans ?_
  match a with
  | ⟨0, _⟩ => exact Nat.zero_add _
  | ⟨1, _⟩ => exact Nat.zero_add _
  | ⟨2, _⟩ => exact Nat.zero_add _

/-- The rows of a block divided by their root mean square, times the gains. -/
def closed (O : Vec Ideal S512x2048 .f32) (R : Vec Ideal S1x2048 .f32) : Vec Ideal S512x2048 .f32 := fun y =>
  Ffn.norm (fun k => O (ix2 (y 0) k)) (fun k => R (ix2 0 k)) (y 1)

/-- What a trip of the last loop stores, at an index. -/
theorem pay3_at (O : FVec Ideal S128x2048 .f32) (R : Vec Ideal S1x2048 .f32) (r : Fin 128) (e : Fin 2048) :
    k0_pay3 O R (ix2 r e) = Ffn.norm (fun k => O (ix2 r k)) (fun k => R (ix2 0 k)) e := by
  pointwise [k0_pay3, Ffn.norm, Ffn.scale]

/-- What a trip of the last loop stores, at any index. -/
theorem pay3_at' (O : FVec Ideal S128x2048 .f32) (R : Vec Ideal S1x2048 .f32) (y : S128x2048.Idx) :
    k0_pay3 O R y = Ffn.norm (fun k => O (ix2 (y 0) k)) (fun k => R (ix2 0 k)) (y 1) :=
  (congrArg (k0_pay3 O R) (eta y)).trans (pay3_at O R (y 0) (y 1))

section
variable (𝒱 : Variants) (c : Dev nD) (bd : Option 𝒱.V) (i : grid0.Coords) (arg2 : Memref sig .tc .vmem S512x2048 .f32) (harg2 : arg2.IsWhole) (arg3 : Memref sig .tc .vmem S1x1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole) (k0_h2 : k0_cond2 i = 1#1)
  (R : Vec Ideal S1x2048 .f32) (Z : BufTy.Contents (Elt Ideal) arg8.view.ty)

/-- Every piece of the last loop holds rows divided by their root mean square, among the rows of the trips so far. -/
theorem loop2 (k : ℕ) :
    ∀ p ∈ (pb_k0_t2 (F := Ideal) 𝒱 c bd i arg2 harg2 arg3 harg3 arg4 harg4 arg5 harg5 arg6 harg6 arg7 harg7 arg8 harg8 arg9 harg9 k0_h2 (harg7.unread R) Z k), (∀ x, p.2 x = closed (arg8.view.read (Elt Ideal) Z) R (p.1.emb x)) ∧ ∀ x, (p.1.emb x 0).val < 128 * k := by
  induction k with
  | zero => exact fun p hp => absurd hp List.not_mem_nil
  | succ k ih =>
    by_cases h : k < k0_t2_loop.trips
    · have e := pb_k0_t2_succ (F := Ideal) 𝒱 c bd i arg2 harg2 arg3 harg3 arg4 harg4 arg5 harg5 arg6 harg6 arg7 harg7 arg8 harg8 arg9 harg9 k0_h2 (harg7.unread R) Z ⟨k, h⟩
      dsimp only at e
      rw [e]
      delta tripL_k0_t2
      unfold trip_k0_t2
      intro p hp
      rcases List.mem_append.1 hp with hp | hp
      · rw [List.mem_singleton.1 hp]
        have o0 : k0_off2 ⟨k, h⟩ 0 = 128 * k := congrFun (k0_off2_eq ⟨k, h⟩) 0
        have o1 : k0_off2 ⟨k, h⟩ 1 = 0 := congrFun (k0_off2_eq ⟨k, h⟩) 1
        refine ⟨fun x => ?_, fun x => ?_⟩
        · have e0 := Rect.idx_unit_val (s := S512x2048) (k0_off2 ⟨k, h⟩) S128x2048.size (k0_off2_inb i ⟨k, h⟩ k0_h2) x 0
          have e1 := Rect.idx_unit_val (s := S512x2048) (k0_off2 ⟨k, h⟩) S128x2048.size (k0_off2_inb i ⟨k, h⟩ k0_h2) x 1
          refine (pay3_at' _ _ x).trans ?_
          unfold closed
          refine congr (congrArg₂ Ffn.norm (funext fun j => ?_) (funext fun j => ?_)) ?_
          · refine (View.read_writes_apply_of_forall_not_mem arg8.view Z _ _ fun p hp hm => ?_).trans
              (congrArg (arg8.view.read (Elt Ideal) Z) (funext fun a => Fin.ext ?_))
            · obtain ⟨z, hz⟩ := p.1.exists_idx_of_mem hm
              have hl : (p.1.emb z 0).val < 128 * k := (ih p hp).2 z
              have hr := Rect.idx_unit_val (s := S512x2048) (k0_off2 ⟨k, h⟩) S128x2048.size (k0_off2_inb i ⟨k, h⟩ k0_h2) (ix2 (x 0) j) 0
              have hv := congrArg (fun q : S512x2048.Idx => (q 0).val) hz
              dsimp only at hv
              rw [o0] at hr
              have hv' : (p.1.emb z 0).val = 128 * k + (x 0).val := hv.trans hr
              omega
            · refine (Rect.idx_unit_val (s := S512x2048) (k0_off2 ⟨k, h⟩) S128x2048.size (k0_off2_inb i ⟨k, h⟩ k0_h2) _ a).trans ?_
              match a with
              | ⟨0, _⟩ => exact e0.symm
              | ⟨1, _⟩ => exact (congrArg (· + j.val) o1).trans (Nat.zero_add _)
          · refine (congrFun (harg7.read_unread R) _).trans (congrArg R (funext fun a => Fin.ext ?_))
            refine (Rect.idx_unit_val (s := S1x2048) _ _ _ _ a).trans ?_
            match a with
            | ⟨0, _⟩ => rfl
            | ⟨1, _⟩ => exact Nat.zero_add _
          · exact Fin.ext (e1.trans ((congrArg (· + (x 1).val) o1).trans (Nat.zero_add _))).symm
        · have e0 := Rect.idx_unit_val (s := S512x2048) (k0_off2 ⟨k, h⟩) S128x2048.size (k0_off2_inb i ⟨k, h⟩ k0_h2) x 0
          have hx : (x 0).val < 128 := (x 0).isLt
          rw [o0] at e0
          exact e0.trans_lt (by omega)
      · exact ⟨(ih p hp).1, fun x => Nat.lt_trans ((ih p hp).2 x) (by omega)⟩
    · have e : pb_k0_t2 (F := Ideal) 𝒱 c bd i arg2 harg2 arg3 harg3 arg4 harg4 arg5 harg5 arg6 harg6 arg7 harg7 arg8 harg8 arg9 harg9 k0_h2 (harg7.unread R) Z (k + 1) = pb_k0_t2 (F := Ideal) 𝒱 c bd i arg2 harg2 arg3 harg3 arg4 harg4 arg5 harg5 arg6 harg6 arg7 harg7 arg8 harg8 arg9 harg9 k0_h2 (harg7.unread R) Z k := by
        rw [pb_k0_t2.eq_2]; unfold pb_k0_t2Step; exact dif_neg h
      rw [e]
      exact fun p hp => ⟨(ih p hp).1, fun x => Nat.lt_trans ((ih p hp).2 x) (by omega)⟩

/-- The pieces of the last loop cover the block. -/
theorem closed_cover (y : S512x2048.Idx) : ∃ p ∈ (pb_k0_t2 (F := Ideal) 𝒱 c bd i arg2 harg2 arg3 harg3 arg4 harg4 arg5 harg5 arg6 harg6 arg7 harg7 arg8 harg8 arg9 harg9 k0_h2 (harg7.unread R) Z k0_t2_loop.trips), y ∈ p.1.set :=
  View.cover_of_tiledL (pb_k0_t2 (F := Ideal) 𝒱 c bd i arg2 harg2 arg3 harg3 arg4 harg4 arg5 harg5 arg6 harg6 arg7 harg7 arg8 harg8 arg9 harg9 k0_h2 (harg7.unread R) Z k0_t2_loop.trips) S128x2048.size (by sl_kernel_rfl) y

/-- After the last loop every row of the block is divided by its root mean square. -/
theorem closes (L : List (View.Piece (Elt Ideal) S512x2048 .f32)) :
    View.canon ((pb_k0_t2 (F := Ideal) 𝒱 c bd i arg2 harg2 arg3 harg3 arg4 harg4 arg5 harg5 arg6 harg6 arg7 harg7 arg8 harg8 arg9 harg9 k0_h2 (harg7.unread R) Z k0_t2_loop.trips) ++ L) = closed (arg8.view.read (Elt Ideal) Z) R := by
  funext y
  exact View.canon_append_of_pieces (closed (arg8.view.read (Elt Ideal) Z) R) L _
    (fun p hp => (loop2 𝒱 c bd i arg2 harg2 arg3 harg3 arg4 harg4 arg5 harg5 arg6 harg6 arg7 harg7 arg8 harg8 arg9 harg9 k0_h2 R Z _ p hp).1) y
    (closed_cover 𝒱 c bd i arg2 harg2 arg3 harg3 arg4 harg4 arg5 harg5 arg6 harg6 arg7 harg7 arg8 harg8 arg9 harg9 k0_h2 R Z y)
end

variable (m : (ℓ : Loc nD τ sig) → Buf (Elt Ideal) ℓ) (c : Dev nD) (t : Fin cfg0.N)

set_option maxHeartbeats 1000000 in
/-- The first point of a block of rows. -/
theorem first_point (h0 : t.val % 11 = 0) : outsAt0 m c t.val t.isLt
    = (k0_pay2 (normed (iblk m c 0 t) (iblk m c 1 t)) (iblk m c 2 t) (iblk m c 3 t) (iblk m c 0 t) (iblk m c 4 t),
        normed (iblk m c 0 t) (iblk m c 1 t)) := by
  rw [outsAt0_A m c t h0 (by omega)]
  refine Prod.ext ?_ ?_
  · dsimp only
    unfold out0_A_6
    rw [View.read_writes_eq_canon _ _ _ (fun y => cover0_A_6 _ _ _ _ _ _ _ _ _ _ _ _ _ _ _ _ _ _ _ _ _ _ _ _ _ _ y)]
    unfold kernelRun0_A
    dsimp only
    refine (canon_full _ _ _).trans ?_
    refine pay2_congr ?_ ?_ ?_ ?_ ?_
    · exact norms _ _ _ _ _ _ _ _ _ _ _ _ _ _ _ _ _ _ _ _ _ _ _ _
    · exact whole_gate _ _ _
    · exact whole_gate _ _ _
    · exact rows _ _ _ _ _ _ _ _ _ _ _ _ _ _ _ _ _ _ _ _ _ _ _ _
    · exact whole_last _ _ _
  · dsimp only
    unfold sout0_A_0
    rw [View.read_writes_eq_canon _ _ _ (fun y => scover0_A_0 _ _ _ _ _ _ _ _ _ _ _ _ _ _ _ _ _ _ _ _ _ _ _ _ _ _ y)]
    unfold kernelRun0_A
    dsimp only
    funext y
    exact View.canon_apply_of_pieces (normed _ _) _ (loop _ _ _ _ _ _ _ _ _ _ _ _ _ _ _ _ _ _ _ _ _ _ _ _).2 _ (norms_cover _ _ _ _ _ _ _ _ _ _ _ _ _ _ _ _ _ _ _ _ _ _ _ _)

/-- A later point of a block of rows. -/
theorem next_point (h0 : ¬ t.val % 11 = 0) (h1 : ¬ t.val % 11 = 10) : outsAt0 m c t.val t.isLt
    = (k0_pay2 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t),
        (outsAt0 m c (t.val - 1) (Nat.lt_of_le_of_lt (Nat.sub_le _ _) t.isLt)).2) := by
  rw [outsAt0_B m c t h0 h1]
  refine Prod.ext ?_ rfl
  dsimp only
  frame_out
  exact congrArg (fun n => k0_pay2 (F := Ideal) n (iblk m c 2 t) (iblk m c 3 t)
    (outsAt0 m c (t.val - 1) (Nat.lt_of_le_of_lt (Nat.sub_le _ _) t.isLt)).1 (iblk m c 4 t))
    ((Memref.isWhole_whole cc0_scratch0).read_unread _)

/-- A load of the whole block of rows. -/
theorem whole_rows {e : EltTy} (M : Memref sig .tc .vmem S512x2048 e) (hM : M.IsWhole) (X : Vec Ideal S512x2048 e) :
    View.readAt (Elt Ideal) M.view (Rect.unit (s := S512x2048) ![0, 0] S512x2048.size inb_S512x2048_S512x2048_0_0).toLoadRect (hM.unread X) = X := by
  funext y
  refine (congrFun (hM.read_unread X) _).trans (congrArg X (funext fun a => Fin.ext ?_))
  refine (Rect.idx_unit_val (s := S512x2048) _ _ _ y a).trans ?_
  match a with
  | ⟨0, _⟩ => exact Nat.zero_add _
  | ⟨1, _⟩ => exact Nat.zero_add _

set_option maxHeartbeats 1000000 in
/-- The last point of a block of rows. -/
theorem last_point (h0 : ¬ t.val % 11 = 0) (h1 : t.val % 11 = 10) : outsAt0 m c t.val t.isLt
    = (closed (k0_pay2 (outsAt0 m c (t.val - 1) (Nat.lt_of_le_of_lt (Nat.sub_le _ _) t.isLt)).2 (iblk m c 2 t) (iblk m c 3 t)
          (outsAt0 m c (t.val - 1) (Nat.lt_of_le_of_lt (Nat.sub_le _ _) t.isLt)).1 (iblk m c 4 t)) (iblk m c 5 t),
        (outsAt0 m c (t.val - 1) (Nat.lt_of_le_of_lt (Nat.sub_le _ _) t.isLt)).2) := by
  rw [outsAt0_C m c t h0 h1]
  refine Prod.ext ?_ rfl
  dsimp only
  unfold out0_C_6
  rw [View.read_writes_eq_canon _ _ _ (fun y => cover0_C_6 _ _ _ _ _ _ _ _ _ _ _ _ _ _ _ _ _ _ _ _ _ _ _ _ _ _ _ _ y)]
  unfold kernelRun0_C
  dsimp only
  refine (closes _ _ _ _ _ _ _ _ _ _ _ _ _ _ _ _ _ _ _ _ _ _ _ _).trans ?_
  refine congrArg (fun O => closed O (iblk m c 5 t)) ?_
  rw [View.read_writes_junk_eq_canon]
  unfold kernelRun0_C.sl.H6_1
  refine (canon_full _ _ _).trans ?_
  refine pay2_congr ?_ ?_ ?_ ?_ ?_
  · exact whole_rows _ _ _
  · exact whole_gate _ _ _
  · exact whole_gate _ _ _
  · exact whole_rows _ _ _
  · exact whole_last _ _ _

/-- The rows. -/
def argX : FVec Ideal S512x2048 .f32 := m ((c : Thread nD τ).loc main_arg0)

/-- The gains. -/
def argG : FVec Ideal S4x2048 .f32 := m ((c : Thread nD τ).loc main_arg1)

/-- The weights of the gate. -/
def argA : FVec Ideal S4x2048x5632 .f32 := m ((c : Thread nD τ).loc main_arg2)

/-- The weights beside the gate. -/
def argB : FVec Ideal S4x2048x5632 .f32 := m ((c : Thread nD τ).loc main_arg3)

/-- The weights of the last product. -/
def argW : FVec Ideal S4x5632x2048 .f32 := m ((c : Thread nD τ).loc main_arg4)

/-- The gains of the division at the end. -/
def argF : FVec Ideal S2048 .f32 := m ((c : Thread nD τ).loc main_arg5)

/-- Where each window stands at a grid point. -/
theorem idx : ∀ t : Fin cfg0.N, win0_0.index t = ![t.val / 11, 0] ∧ win0_1.index t = ![3, 0, 0]
    ∧ win0_2.index t = ![3, 0, t.val % 11] ∧ win0_3.index t = ![3, 0, t.val % 11] ∧ win0_4.index t = ![3, t.val % 11, 0]
    ∧ win0_5.index t = ![0, 0] ∧ win0_6.index t = ![t.val / 11, 0] ∧ t.val / 11 < 1 :=
  (by decide +kernel : ∀ t : Fin grid0.N, _)

/-- A row of a block is one of the 512. -/
theorem row_lt (r : Fin 512) : t.val / 11 * 512 + r.val < 512 := by
  have := (idx t).2.2.2.2.2.2.2
  omega

/-- The row of the array that a row of a block is. -/
def at_ (r : Fin 512) : Fin 512 := ⟨t.val / 11 * 512 + r.val, row_lt t r⟩

/-- A row of the array. -/
def X (r : Fin 512) (k : Fin 2048) : EReal := argX m c (ix2 (at_ t r) k)

/-- The gains of the layer. -/
def G (k : Fin 2048) : EReal := argG m c (ix2 3 k)

/-- The gate's weights of the layer. -/
def A (k : Fin 2048) (f : Fin 5632) : EReal := argA m c (ix3 3 k f)

/-- The weights beside the gate of the layer. -/
def B (k : Fin 2048) (f : Fin 5632) : EReal := argB m c (ix3 3 k f)

/-- The weights of the last product of the layer. -/
def W (f : Fin 5632) (e : Fin 2048) : EReal := argW m c (ix3 3 f e)

/-- The rows of a block. -/
theorem xs (r : Fin 512) (k : Fin 2048) : (iblk m c 0 t : FVec Ideal S512x2048 .f32) (ix2 r k) = X m c t r k := by
  unfold X argX
  blk_ext [iblk, V, idx t, at_]

/-- The gains of a block. -/
theorem gs (k : Fin 2048) : (iblk m c 1 t : FVec Ideal S1x1x2048 .f32) (ix3 0 0 k) = G m c k := by
  unfold G argG
  blk_simp [iblk]
  entry_read
  pointwise []
  blk_ext [idx t]

/-- The gains of the division at the end, as a block. -/
theorem fs (k : Fin 2048) : (iblk m c 5 t : FVec Ideal S1x2048 .f32) (ix2 0 k) = argF m c (ix1 k) := by
  unfold argF
  blk_simp [iblk]
  entry_read
  pointwise []
  blk_ext [idx t]

/-- A hidden unit of a tile is one of the 5632. -/
theorem hid_lt (f : Fin 512) : t.val % 11 * 512 + f.val < 5632 := by omega

/-- The gate's weights of a tile. -/
theorem gates (k : Fin 2048) (f : Fin 512) : (iblk m c 2 t : FVec Ideal S1x2048x512 .bf16) (ix3 0 k f) = A m c k ⟨t.val % 11 * 512 + f.val, hid_lt t f⟩ := by
  unfold A argA
  blk_simp [iblk]
  entry_read
  pointwise []
  blk_ext [idx t]

/-- The weights beside the gate of a tile. -/
theorem besides (k : Fin 2048) (f : Fin 512) : (iblk m c 3 t : FVec Ideal S1x2048x512 .bf16) (ix3 0 k f) = B m c k ⟨t.val % 11 * 512 + f.val, hid_lt t f⟩ := by
  unfold B argB
  blk_simp [iblk]
  entry_read
  pointwise []
  blk_ext [idx t]

/-- The weights of the last product of a tile. -/
theorem lasts (f : Fin 512) (e : Fin 2048) : (iblk m c 4 t : FVec Ideal S1x512x2048 .bf16) (ix3 0 f e) = W m c ⟨t.val % 11 * 512 + f.val, hid_lt t f⟩ e := by
  unfold W argW
  blk_simp [iblk]
  entry_read
  pointwise []
  blk_ext [idx t]

/-- What the body adds to the block, at an index. -/
theorem pay2_at (n : Vec Ideal S512x2048 .bf16) (a b : Vec Ideal S1x2048x512 .bf16) (o : Vec Ideal S512x2048 .f32)
    (w : Vec Ideal S1x512x2048 .bf16) (r : Fin 512) (e : Fin 2048) : k0_pay2 n a b o w (ix2 r e)
      = o (ix2 r e) + ∑ f : Fin 512, Ffn.unit (∑ k : Fin 2048, n (ix2 r k) * a (ix3 0 k f)) (∑ k : Fin 2048, n (ix2 r k) * b (ix3 0 k f))
          * w (ix3 0 f e) := by
  pointwise [k0_pay2, Ffn.unit]

/-- A point of the grid adds its tile of hidden units. -/
theorem adds (n : Vec Ideal S512x2048 .bf16) (o : Vec Ideal S512x2048 .f32) (r : Fin 512) (e : Fin 2048) :
    k0_pay2 n (iblk m c 2 t) (iblk m c 3 t) o (iblk m c 4 t) (ix2 r e)
      = o (ix2 r e) + Ffn.tile (fun k => n (ix2 r k)) (A m c) (B m c) (W m c) e (t.val % 11) := by
  refine (pay2_at n _ _ o _ r e).trans (congrArg (o (ix2 r e) + ·) ?_)
  unfold Ffn.tile
  refine Finset.sum_congr rfl fun f _ => ?_
  rw [dif_pos (hid_lt t f), lasts]
  refine congrArg (· * _) (congrArg₂ Ffn.unit (Finset.sum_congr rfl fun k _ => ?_) (Finset.sum_congr rfl fun k _ => ?_))
  · exact congrArg (n (ix2 r k) * ·) (gates m c t k f)
  · exact congrArg (n (ix2 r k) * ·) (besides m c t k f)

/-- The normalised rows of a block, at an index. -/
theorem normed_at (r : Fin 512) (k : Fin 2048) :
    normed (iblk m c 0 t) (iblk m c 1 t) (ix2 r k) = Ffn.norm (X m c t r) (G m c) k :=
  congrFun (congrArg₂ Ffn.norm (funext fun j => xs m c t r j) (funext fun j => gs m c t j)) k

/-- After each point: the normalised rows, and before the last point of a block, the rows with
the tiles up to this one. -/
theorem invariant : ∀ (n : ℕ) (hn : n < cfg0.N),
    (∀ (r : Fin 512) (k : Fin 2048), (outsAt0 m c n hn).2 (ix2 r k) = Ffn.norm (X m c ⟨n, hn⟩ r) (G m c) k)
    ∧ (n % 11 < 10 → ∀ (r : Fin 512) (e : Fin 2048), (outsAt0 m c n hn).1 (ix2 r e)
        = X m c ⟨n, hn⟩ r e + ∑ s ∈ Finset.range (n % 11 + 1),
            Ffn.tile (Ffn.norm (X m c ⟨n, hn⟩ r) (G m c)) (A m c) (B m c) (W m c) e s) := by
  intro n
  induction n with
  | zero =>
    intro hn
    rw [first_point m c ⟨0, hn⟩ rfl]
    refine ⟨fun r k => normed_at m c ⟨0, hn⟩ r k, fun _ r e => ?_⟩
    refine (adds m c ⟨0, hn⟩ _ _ r e).trans ?_
    rw [xs m c ⟨0, hn⟩, Finset.sum_range_one]
    exact congrArg (fun z => X m c ⟨0, hn⟩ r e + Ffn.tile z _ _ _ e 0) (funext fun k => normed_at m c ⟨0, hn⟩ r k)
  | succ n ih =>
    intro hn
    by_cases h : (n + 1) % 11 = 0
    · rw [first_point m c ⟨n + 1, hn⟩ h]
      refine ⟨fun r k => normed_at m c ⟨n + 1, hn⟩ r k, fun _ r e => ?_⟩
      refine (adds m c ⟨n + 1, hn⟩ _ _ r e).trans ?_
      rw [xs m c ⟨n + 1, hn⟩]
      dsimp only
      rw [h, Finset.sum_range_one]
      exact congrArg (fun z => X m c ⟨n + 1, hn⟩ r e + Ffn.tile z _ _ _ e 0) (funext fun k => normed_at m c ⟨n + 1, hn⟩ r k)
    · obtain ⟨i1, i2⟩ := ih (Nat.lt_of_succ_lt hn)
      have hX : ∀ r, X m c ⟨n, Nat.lt_of_succ_lt hn⟩ r = X m c ⟨n + 1, hn⟩ r := fun r => by
        funext k
        unfold X at_
        exact congrArg (fun q => argX m c (ix2 q k)) (Fin.ext (by dsimp only; omega))
      by_cases hl : (n + 1) % 11 = 10
      · rw [last_point m c ⟨n + 1, hn⟩ h hl]
        exact ⟨fun r k => (i1 r k).trans (by rw [hX]), fun hc => absurd hl (Nat.ne_of_lt hc)⟩
      rw [next_point m c ⟨n + 1, hn⟩ h hl]
      refine ⟨fun r k => (i1 r k).trans (by rw [hX]), fun _ r e => ?_⟩
      refine (adds m c ⟨n + 1, hn⟩ _ _ r e).trans ?_
      refine (congrArg₂ (fun u z => u + Ffn.tile z (A m c) (B m c) (W m c) e ((n + 1) % 11)) (i2 (by omega) r e) (funext fun k => i1 r k)).trans ?_
      rw [hX, show (n + 1) % 11 = n % 11 + 1 by omega, Finset.sum_range_succ _ (n % 11 + 1), add_assoc]

/-- The whole result, at an index. -/
def result (x : FVec Ideal S512x2048 .f32) (g : FVec Ideal S4x2048 .f32) (a b : FVec Ideal S4x2048x5632 .f32)
    (w : FVec Ideal S4x5632x2048 .f32) (z : FVec Ideal S2048 .f32) : FVec Ideal S512x2048 .f32 := fun i =>
  Ffn.norm (fun k => Ffn.row (fun j => x (ix2 (i 0) j)) (fun j => g (ix2 3 j)) (fun j f => a (ix3 3 j f))
    (fun j f => b (ix3 3 j f)) (fun f e => w (ix3 3 f e)) k) (fun k => z (ix1 k)) (i 1)

/-- A row with all its tiles at the last point of its block. -/
theorem full (h : t.val % 11 = 10) (r : Fin 512) (e : Fin 2048) :
    k0_pay2 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) (ix2 r e)
      = Ffn.row (X m c t r) (G m c) (A m c) (B m c) (W m c) e := by
  obtain ⟨i1, i2⟩ := invariant m c (t.val - 1) (Nat.lt_of_le_of_lt (Nat.sub_le _ _) t.isLt)
  have hX : X m c ⟨t.val - 1, Nat.lt_of_le_of_lt (Nat.sub_le _ _) t.isLt⟩ r = X m c t r := by
    funext k
    unfold X at_
    exact congrArg (fun q => argX m c (ix2 q k)) (Fin.ext (by dsimp only; omega))
  refine (adds m c t _ _ r e).trans ?_
  refine (congrArg₂ (fun u z => u + Ffn.tile z (A m c) (B m c) (W m c) e (t.val % 11)) (i2 (by omega) r e)
    (funext fun k => i1 r k)).trans ?_
  rw [hX, show t.val % 11 = (t.val - 1) % 11 + 1 by omega, add_assoc, ← Finset.sum_range_succ _ ((t.val - 1) % 11 + 1),
    show (t.val - 1) % 11 + 1 + 1 = 11 by omega]
  exact Ffn.step_tiles _ _ _ _ _ _

/-- What the last point of a block of rows leaves. -/
theorem point (h : t.val % 11 = 10) (y : S512x2048.Idx) : (outsAt0 m c t.val t.isLt).1 y
    = result (argX m c) (argG m c) (argA m c) (argB m c) (argW m c) (argF m c) (ix2 (at_ t (y 0)) (y 1)) := by
  rw [last_point m c t (by omega) h]
  unfold closed result
  dsimp only
  exact congrArg₂ (fun u z => Ffn.norm u z (y 1)) (funext fun e => full m c t h (y 0) e) (funext fun k => fs m c t k)

/-- What the kernel leaves in its result array. -/
theorem final : (dats m 0 c).arrAt 6 cfg0.N = result (argX m c) (argG m c) (argA m c) (argB m c) (argW m c) (argF m c) := by
  refine (dats m 0 c).arrAt_eq_of_covers 6 _ (by decide +kernel) fun t hf y => ?_
  blk_simp
  rw [after0_6]
  refine (point m c t ((flush0_6 t).mp hf) y).trans ?_
  blk_ext [idx t, at_]
-- ==== Proof.NextReference.lean ====
module

public import proofs.«01_k».proof.Proof.NextRows
public import proofs.«01_k».proof.Pre_ffn_next_finite
public import proofs.«01_k».proof.Proof.Finite
public import proofs.«01_k».proof.Proof.Gen.NextRefIdeal.Run
public import proofs.«01_k».proof.Proof.Gen.NextRefIdeal.Read

/-! What the result array of the reference of the next frames' last feed-forward half-step holds, by the same formula as `Rows.result`. -/

@[expose] public section

set_option maxRecDepth 16384

noncomputable section

open Idealize.ShloMosaic Idealize.ShloMosaic.TcCoe Idealize.SL.Sem

namespace Cert.NextRefIdeal.Rows

open Cert.NextRefIdeal Cert.NextRefIdeal.Gen Cert.NextRefIdeal.Read

variable (x : FVec Ideal S512x2048 .f32) (g : FVec Ideal S4x2048 .f32) (a b : FVec Ideal S4x2048x5632 .f32)
  (w : FVec Ideal S4x5632x2048 .f32)
  (z : FVec Ideal S2048 .f32)

/-- The normalised rows. -/
theorem normed (r : Fin 512) (k : Fin 2048) :
    val_main_v14 (F := Ideal) x g (ix2 r k) = Ffn.norm (fun j => x (ix2 r j)) (fun j => g (ix2 3 j)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2,
    val_main_v1, val_main_v0, Ffn.norm, Ffn.scale]

/-- The gate before its nonlinearity. -/
theorem gate (r : Fin 512) (f : Fin 5632) : val_main_v21 (F := Ideal) x g a (ix2 r f)
    = ∑ k, Ffn.norm (fun j => x (ix2 r j)) (fun j => g (ix2 3 j)) k * a (ix3 3 k f) := by
  refine Eq.trans (b := ∑ k : Fin 2048, val_main_v14 (F := Ideal) x g (ix2 r k) * a (ix3 3 k f)) ?_
    (Finset.sum_congr rfl fun k _ => congrArg (· * a (ix3 3 k f)) (normed x g r k))
  pointwise [val_main_v21, val_main_v16, val_main_v15]

/-- The product beside the gate. -/
theorem beside (r : Fin 512) (f : Fin 5632) : val_main_v23 (F := Ideal) x g b (ix2 r f)
    = ∑ k, Ffn.norm (fun j => x (ix2 r j)) (fun j => g (ix2 3 j)) k * b (ix3 3 k f) := by
  refine Eq.trans (b := ∑ k : Fin 2048, val_main_v14 (F := Ideal) x g (ix2 r k) * b (ix3 3 k f)) ?_
    (Finset.sum_congr rfl fun k _ => congrArg (· * b (ix3 3 k f)) (normed x g r k))
  pointwise [val_main_v23, val_main_v18, val_main_v17]

/-- A hidden unit. -/
theorem hidden (r : Fin 512) (f : Fin 5632) : val_main_v24 (F := Ideal) x g a b (ix2 r f)
    = Ffn.silu (∑ k, Ffn.norm (fun j => x (ix2 r j)) (fun j => g (ix2 3 j)) k * a (ix3 3 k f))
      * ∑ k, Ffn.norm (fun j => x (ix2 r j)) (fun j => g (ix2 3 j)) k * b (ix3 3 k f) := by
  refine Eq.trans (b := Ffn.silu (val_main_v21 (F := Ideal) x g a (ix2 r f)) * val_main_v23 (F := Ideal) x g b (ix2 r f)) ?_
    (congrArg₂ (fun u v => Ffn.silu u * v) (gate x g a r f) (beside x g b r f))
  pointwise [val_main_v24, val_main_v22, val_main_call0_v5, val_main_call0_v4, val_main_call0_cst_0, val_main_call0_v3,
    val_main_call0_v2, val_main_call0_cst, val_main_call0_v1, val_main_call0_v0, Ffn.silu]

/-- The rows with the half-step added. -/
theorem added (hx : ∀ i, ∃ r : ℝ, x i = (r : EReal)) (hg : ∀ i, ∃ r : ℝ, g i = (r : EReal)) (ha : ∀ i, ∃ r : ℝ, a i = (r : EReal))
    (r : Fin 512) (e : Fin 2048) : val_main_v28 (F := Ideal) x g a b w (ix2 r e)
    = Ffn.row (fun k => x (ix2 r k)) (fun k => g (ix2 3 k)) (fun k f => a (ix3 3 k f)) (fun k f => b (ix3 3 k f))
      (fun f e => w (ix3 3 f e)) e := by
  refine Eq.trans (b := x (ix2 r e) + Ideal.ofBits FTy.f32 1056964608#32
    * ∑ f : Fin 5632, val_main_v24 (F := Ideal) x g a b (ix2 r f) * w (ix3 3 f e)) ?_ ?_
  · pointwise [val_main_v28, val_main_v27, val_main_v26, val_main_cst_2, val_main_v25, val_main_v20, val_main_v19]
  · unfold Ffn.row
    rw [Ffn.step_eq (fun k => Ffn.norm_real (fun j => hx _) (fun j => hg _) k) (fun k f => ha _) e]
    exact congrArg (fun s => x (ix2 r e) + Ideal.ofBits FTy.f32 1056964608#32 * s)
      (Finset.sum_congr rfl fun f _ => congrArg (· * w (ix3 3 f e)) (hidden x g a b r f))

/-- The rows divided by their root mean square at the end. -/
theorem divided (r : Fin 512) (e : Fin 2048) : val_main_v41 (F := Ideal) x g a b w z (ix2 r e)
    = Ffn.norm (fun k => val_main_v28 (F := Ideal) x g a b w (ix2 r k)) (fun k => z (ix1 k)) e := by
  pointwise [val_main_v41, val_main_v40, val_main_v39, val_main_v38, val_main_v37, val_main_v36, val_main_v35, val_main_v34,
    val_main_v33, val_main_v32, val_main_v31, val_main_v30, val_main_v29, val_main_cst_3, val_main_cst_4, val_main_cst_5,
    Ffn.norm, Ffn.scale]

/-- The reference's result is the kernel's. -/
theorem result_eq (hx : ∀ i, ∃ r : ℝ, x i = (r : EReal)) (hg : ∀ i, ∃ r : ℝ, g i = (r : EReal))
    (ha : ∀ i, ∃ r : ℝ, a i = (r : EReal)) :
    val_main_v41 (F := Ideal) x g a b w z = Cert.NextIdeal.Rows.result x g a b w z := by
  funext i
  rw [eq_ix2 i]
  exact (divided x g a b w z (i 0) (i 1)).trans (congrArg (fun u => Ffn.norm u (fun k => z (ix1 k)) (i 1))
    (funext fun k => added x g a b w hx hg ha (i 0) k))

variable [Cert.Pre_ffn_next_finite.Facts]

/-- The precondition at the rows, the gains and the gate's weights. -/
theorem reals (h : (Cert.Pre_ffn_next_finite.fn (F := Ideal) x g a b w z).1 = (fun _ => 1#1)
      ∧ (Cert.Pre_ffn_next_finite.fn (F := Ideal) x g a b w z).2.1 = (fun _ => 1#1)
      ∧ (Cert.Pre_ffn_next_finite.fn (F := Ideal) x g a b w z).2.2 = (fun _ => 1#1)) :
    (∀ i, ∃ r : ℝ, x i = (r : EReal)) ∧ (∀ i, ∃ r : ℝ, g i = (r : EReal)) ∧ ∀ i, ∃ r : ℝ, a i = (r : EReal) :=
  ⟨fun i => Cert.Finite.real_of_lt (x i) (congrFun h.1 i), fun i => Cert.Finite.real_of_lt (g i) (congrFun h.2.1 i),
    fun i => Cert.Finite.real_of_lt (a i) (congrFun h.2.2 i)⟩

end Cert.NextRefIdeal.Rows

end

end
-- ==== Proof.lean ====
module

public import proofs.«01_k».proof.Defs
public import proofs.«01_k».proof.Proof.Gen.Attn.Frame
public import proofs.«01_k».proof.Proof.Gen.AttnIdeal.Frame
public import proofs.«01_k».proof.Proof.Gen.Pre_attn_finite
public import proofs.«01_k».proof.Proof.Reference
public import proofs.«01_k».proof.Proof.Finite
public import proofs.«01_k».proof.Proof.FirstReference
public import proofs.«01_k».proof.Proof.LastReference
public import proofs.«01_k».proof.Proof.InOddRows
public import proofs.«01_k».proof.Proof.OutOddRows
public import proofs.«01_k».proof.Proof.OutEvenRows
public import proofs.«01_k».proof.Proof.CachedReference
public import proofs.«01_k».proof.Proof.StateReference
public import proofs.«01_k».proof.Proof.NextReference
public import proofs.«01_k».proof.Proof.Gen.Last
public import proofs.«01_k».proof.Proof.Gen.LastIdeal
public import proofs.«01_k».proof.Proof.Gen.Last.Skeleton
public import proofs.«01_k».proof.Proof.Gen.LastIdeal.Skeleton
public import proofs.«01_k».proof.Proof.Gen.Last.Launch
public import proofs.«01_k».proof.Proof.Gen.LastIdeal.Launch
public import proofs.«01_k».proof.Proof.Gen.Last.Points
public import proofs.«01_k».proof.Proof.Gen.LastIdeal.Points
public import proofs.«01_k».proof.Proof.Gen.Last.Frame
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Pre_ffn_last_finite
public import proofs.«01_k».proof.Proof.Gen.First
public import proofs.«01_k».proof.Proof.Gen.FirstIdeal
public import proofs.«01_k».proof.Proof.Gen.First.Skeleton
public import proofs.«01_k».proof.Proof.Gen.FirstIdeal.Skeleton
public import proofs.«01_k».proof.Proof.Gen.First.Launch
public import proofs.«01_k».proof.Proof.Gen.FirstIdeal.Launch
public import proofs.«01_k».proof.Proof.Gen.First.Points
public import proofs.«01_k».proof.Proof.Gen.FirstIdeal.Points
public import proofs.«01_k».proof.Proof.Gen.First.Frame
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.FirstRefIdeal.Read
public import proofs.«01_k».proof.Proof.Gen.Pre_ffn_first_finite
public import proofs.«01_k».proof.Proof.Gen.InOdd
public import proofs.«01_k».proof.Proof.Gen.InOdd.Frame
public import proofs.«01_k».proof.Proof.Gen.InOddIdeal
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.InOddRefIdeal.Read
public import proofs.«01_k».proof.Proof.Gen.InOdd.Skeleton
public import proofs.«01_k».proof.Proof.Gen.InOddIdeal.Skeleton
public import proofs.«01_k».proof.Proof.Gen.InOdd.Launch
public import proofs.«01_k».proof.Proof.Gen.InOddIdeal.Launch
public import proofs.«01_k».proof.Proof.Gen.InOdd.Points
public import proofs.«01_k».proof.Proof.Gen.InOddIdeal.Points
public import proofs.«01_k».proof.Proof.Gen.OutOdd
public import proofs.«01_k».proof.Proof.Gen.OutOdd.Frame
public import proofs.«01_k».proof.Proof.Gen.OutOddIdeal
public import proofs.«01_k».proof.Proof.Gen.OutOddIdeal.Frame
public import proofs.«01_k».proof.Proof.Gen.OutOddIdeal.Value
public import proofs.«01_k».proof.Proof.Gen.OutOddRefIdeal
public import proofs.«01_k».proof.Proof.Gen.OutOddRefIdeal.Run
public import proofs.«01_k».proof.Proof.Gen.OutOddRefIdeal.Read
public import proofs.«01_k».proof.Proof.Gen.OutOdd.Skeleton
public import proofs.«01_k».proof.Proof.Gen.OutOddIdeal.Skeleton
public import proofs.«01_k».proof.Proof.Gen.OutOdd.Launch
public import proofs.«01_k».proof.Proof.Gen.OutOddIdeal.Launch
public import proofs.«01_k».proof.Proof.Gen.OutOdd.Points
public import proofs.«01_k».proof.Proof.Gen.OutOddIdeal.Points
public import proofs.«01_k».proof.Proof.Gen.OutEven
public import proofs.«01_k».proof.Proof.Gen.OutEven.Frame
public import proofs.«01_k».proof.Proof.Gen.OutEvenIdeal
public import proofs.«01_k».proof.Proof.Gen.OutEvenIdeal.Frame
public import proofs.«01_k».proof.Proof.Gen.OutEvenIdeal.Value
public import proofs.«01_k».proof.Proof.Gen.OutEvenRefIdeal
public import proofs.«01_k».proof.Proof.Gen.OutEvenRefIdeal.Run
public import proofs.«01_k».proof.Proof.Gen.OutEvenRefIdeal.Read
public import proofs.«01_k».proof.Proof.Gen.OutEven.Skeleton
public import proofs.«01_k».proof.Proof.Gen.OutEvenIdeal.Skeleton
public import proofs.«01_k».proof.Proof.Gen.OutEven.Launch
public import proofs.«01_k».proof.Proof.Gen.OutEvenIdeal.Launch
public import proofs.«01_k».proof.Proof.Gen.OutEven.Points
public import proofs.«01_k».proof.Proof.Gen.OutEvenIdeal.Points
public import proofs.«01_k».proof.Proof.Gen.Cached
public import proofs.«01_k».proof.Proof.Gen.Cached.Frame
public import proofs.«01_k».proof.Proof.Gen.CachedIdeal
public import proofs.«01_k».proof.Proof.Gen.CachedIdeal.Frame
public import proofs.«01_k».proof.Proof.Gen.CachedIdeal.Value
public import proofs.«01_k».proof.Proof.Gen.CachedRefIdeal
public import proofs.«01_k».proof.Proof.Gen.CachedRefIdeal.Run
public import proofs.«01_k».proof.Proof.Gen.CachedRefIdeal.Read
public import proofs.«01_k».proof.Proof.Gen.Cached.Skeleton
public import proofs.«01_k».proof.Proof.Gen.CachedIdeal.Skeleton
public import proofs.«01_k».proof.Proof.Gen.Cached.Launch
public import proofs.«01_k».proof.Proof.Gen.CachedIdeal.Launch
public import proofs.«01_k».proof.Proof.Gen.Cached.Points
public import proofs.«01_k».proof.Proof.Gen.CachedIdeal.Points
public import proofs.«01_k».proof.Proof.Gen.Pre_cached_finite
public import proofs.«01_k».proof.Proof.Gen.Pre_state_finite
public import proofs.«01_k».proof.Proof.Gen.Next
public import proofs.«01_k».proof.Proof.Gen.NextIdeal
public import proofs.«01_k».proof.Proof.Gen.Next.Skeleton
public import proofs.«01_k».proof.Proof.Gen.NextIdeal.Skeleton
public import proofs.«01_k».proof.Proof.Gen.Next.Launch
public import proofs.«01_k».proof.Proof.Gen.NextIdeal.Launch
public import proofs.«01_k».proof.Proof.Gen.Next.Points
public import proofs.«01_k».proof.Proof.Gen.NextIdeal.Points
public import proofs.«01_k».proof.Proof.Gen.Next.Frame
public import proofs.«01_k».proof.Proof.Gen.NextIdeal.Frame
public import proofs.«01_k».proof.Proof.Gen.NextIdeal.Value
public import proofs.«01_k».proof.Proof.Gen.NextRefIdeal
public import proofs.«01_k».proof.Proof.Gen.NextRefIdeal.Run
public import proofs.«01_k».proof.Proof.Gen.NextRefIdeal.Read
public import proofs.«01_k».proof.Proof.Gen.State
public import proofs.«01_k».proof.Proof.Gen.StateIdeal
public import proofs.«01_k».proof.Proof.Gen.State.Skeleton
public import proofs.«01_k».proof.Proof.Gen.StateIdeal.Skeleton
public import proofs.«01_k».proof.Proof.Gen.State.Launch
public import proofs.«01_k».proof.Proof.Gen.StateIdeal.Launch
public import proofs.«01_k».proof.Proof.Gen.State.Points
public import proofs.«01_k».proof.Proof.Gen.StateIdeal.Points
public import proofs.«01_k».proof.Proof.Gen.State.Frame
public import proofs.«01_k».proof.Proof.Gen.StateIdeal.Frame
public import proofs.«01_k».proof.Proof.Gen.StateIdeal.Value
public import proofs.«01_k».proof.Proof.Gen.StateRefIdeal
public import proofs.«01_k».proof.Proof.Gen.StateRefIdeal.Run
public import proofs.«01_k».proof.Proof.Gen.StateRefIdeal.Read
public import proofs.«01_k».proof.Proof.Gen.Pre_ffn_next_finite
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The attention's reference keeps its arguments and leaves every counter at zero. -/
theorem frame_attn_ref : letI := Cert.AttnRefIdeal.Gen.facts; Cert.quiescent_AttnRefIdeal := by
  intro m ρ _
  exact (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The attention's two named constants stand for the numbers they were rounded from. -/
theorem constants_attn : Cert.preserves_Attn_AttnIdeal :=
  ⟨IdealRules.named_const.statement Cert.AttnIdeal.κ "mask" .f32 0xF149F2CA#32 _ rfl,
    IdealRules.named_const.statement Cert.AttnIdeal.κ "scale_log2e" .f32 0x3DD53B95#32 _ rfl⟩

/-- The attention's kernel and its reference leave the same result array. -/
theorem value_attn : letI := Cert.AttnIdeal.Gen.facts; letI := Cert.AttnRefIdeal.Gen.facts; letI := Cert.Pre_attn_finite.Gen.facts
    Cert.algebraic_AttnIdeal_AttnRefIdeal_pre_attn_finite := by
  intro m ρ m' ρ' hpre hagree
  refine ⟨_, Cert.AttnIdeal.Value.run_blocks m ρ, ?_⟩
  refine (θ_run Cert.AttnRefIdeal.defs _ _).mono (fun _ h c => ⟨(h c).1.trans ?_, (h c).2⟩) (Cert.AttnRefIdeal.Value.run (F := Ideal) m' ρ')
  obtain ⟨hQ, hK⟩ := Cert.Finite.reals _ _ _ (hpre c)
  refine Eq.trans ?_ (Cert.AttnIdeal.Attention.final m c hQ hK).symm
  rw [Cert.AttnRefIdeal.Read.val_main_v38_eq m' c, (hagree c).1, (hagree c).2.1, (hagree c).2.2]
  exact Cert.AttnRefIdeal.Softmaxed.result_eq _ hQ hK

/-- The reference of the last feed-forward half-step keeps its arguments and leaves every counter at zero. -/
theorem frame_ffn_last_ref : letI := Cert.LastRefIdeal.Gen.facts; Cert.quiescent_LastRefIdeal := by
  intro m ρ _
  exact (θ_run Cert.LastRefIdeal.defs _ _).mono
    (fun r h => ⟨fun c => (h c).2, Idealize.ShloMosaic.sem_eq_zero_of_no_sems (by decide) r.2⟩)
    (Cert.LastRefIdeal.Value.run (F := Ideal) m ρ)

/-- The kernel of the last feed-forward half-step and its reference leave the same result array. -/
theorem value_ffn_last : letI := Cert.LastIdeal.Gen.facts; letI := Cert.LastRefIdeal.Gen.facts; letI := Cert.Pre_ffn_last_finite.Gen.facts
    Cert.algebraic_LastIdeal_LastRefIdeal_pre_ffn_last_finite := by
  intro m ρ m' ρ' hpre hagree
  refine ⟨_, Cert.LastIdeal.Value.run_blocks m ρ, ?_⟩
  refine (θ_run Cert.LastRefIdeal.defs _ _).mono (fun _ h c => ⟨(h c).1.trans ?_, (h c).2⟩) (Cert.LastRefIdeal.Value.run (F := Ideal) m' ρ')
  obtain ⟨hx, hg, ha⟩ := Cert.LastRefIdeal.Rows.reals _ _ _ _ _ _ (hpre c)
  refine Eq.trans ?_ (Cert.LastIdeal.Rows.final m c).symm
  rw [Cert.LastRefIdeal.Read.val_main_v41_eq, (hagree c).1, (hagree c).2.1, (hagree c).2.2.1, (hagree c).2.2.2.1, (hagree c).2.2.2.2.1, (hagree c).2.2.2.2.2]
  exact Cert.LastRefIdeal.Rows.result_eq _ _ _ _ _ _ hx hg ha

/-- The reference of the first feed-forward half-step keeps its arguments and leaves every counter at zero. -/
theorem frame_ffn_first_ref : letI := Cert.FirstRefIdeal.Gen.facts; Cert.quiescent_FirstRefIdeal := by
  intro m ρ _
  exact (θ_run Cert.FirstRefIdeal.defs _ _).mono
    (fun r h => ⟨fun c => (h c).2, Idealize.ShloMosaic.sem_eq_zero_of_no_sems (by decide) r.2⟩)
    (Cert.FirstRefIdeal.Value.run (F := Ideal) m ρ)

/-- The kernel of the first feed-forward half-step and its reference leave the same result array. -/
theorem value_ffn_first : letI := Cert.FirstIdeal.Gen.facts; letI := Cert.FirstRefIdeal.Gen.facts; letI := Cert.Pre_ffn_first_finite.Gen.facts
    Cert.algebraic_FirstIdeal_FirstRefIdeal_pre_ffn_first_finite := by
  intro m ρ m' ρ' hpre hagree
  refine ⟨_, Cert.FirstIdeal.Value.run_blocks m ρ, ?_⟩
  refine (θ_run Cert.FirstRefIdeal.defs _ _).mono (fun _ h c => ⟨(h c).1.trans ?_, (h c).2⟩) (Cert.FirstRefIdeal.Value.run (F := Ideal) m' ρ')
  obtain ⟨hx, hg, ha⟩ := Cert.FirstRefIdeal.Rows.reals _ _ _ _ _ (hpre c)
  refine Eq.trans ?_ (Cert.FirstIdeal.Rows.final m c).symm
  rw [Cert.FirstRefIdeal.Read.val_main_v28_eq, (hagree c).1, (hagree c).2.1, (hagree c).2.2.1, (hagree c).2.2.2.1, (hagree c).2.2.2.2]
  exact Cert.FirstRefIdeal.Rows.result_eq _ _ _ _ _ hx hg ha

/-- The reference of the norm and projection before the recurrence runs to the end, leaves its arguments and is quiescent. -/
theorem frame_in_odd_ref : letI := Cert.InOddRefIdeal.Gen.facts
    Cert.quiescent_InOddRefIdeal := by
  intro m ρ _
  exact (θ_run Cert.InOddRefIdeal.defs _ _).mono
    (fun r h => ⟨fun c => (h c).2, Idealize.ShloMosaic.sem_eq_zero_of_no_sems (by decide) r.2⟩)
    (Cert.InOddRefIdeal.Value.run (F := Ideal) m ρ)

/-- The norm and projection before the recurrence computes what its reference computes, over the extended reals. -/
theorem value_in_odd : letI := Cert.InOddIdeal.Gen.facts; letI := Cert.InOddRefIdeal.Gen.facts
    Cert.algebraic_InOddIdeal_InOddRefIdeal := by
  intro m ρ m' ρ' _ hagree
  refine ⟨_, Cert.InOddIdeal.Value.run_blocks m ρ, ?_⟩
  refine (θ_run Cert.InOddRefIdeal.defs _ _).mono (fun _ h c => ⟨(h c).1.trans ?_, (h c).2⟩) (Cert.InOddRefIdeal.Value.run (F := Ideal) m' ρ')
  refine Eq.trans ?_ (Cert.InOddIdeal.Rows.final m c).symm
  rw [Cert.InOddRefIdeal.Read.val_main_v17_eq, (hagree c).1, (hagree c).2.1, (hagree c).2.2]
  exact Cert.InOddRefIdeal.Rows.result_eq _ _ _

/-- The reference of the projection after the recurrence runs to the end, leaves its arguments and is quiescent. -/
theorem frame_out_odd_ref : letI := Cert.OutOddRefIdeal.Gen.facts
    Cert.quiescent_OutOddRefIdeal := by
  intro m ρ _
  exact (θ_run Cert.OutOddRefIdeal.defs _ _).mono
    (fun r h => ⟨fun c => (h c).2, Idealize.ShloMosaic.sem_eq_zero_of_no_sems (by decide) r.2⟩)
    (Cert.OutOddRefIdeal.Value.run (F := Ideal) m ρ)

/-- The projection after the recurrence computes what its reference computes, over the extended reals. -/
theorem value_out_odd : letI := Cert.OutOddIdeal.Gen.facts; letI := Cert.OutOddRefIdeal.Gen.facts
    Cert.algebraic_OutOddIdeal_OutOddRefIdeal := by
  intro m ρ m' ρ' _ hagree
  refine ⟨_, Cert.OutOddIdeal.Value.run_blocks m ρ, ?_⟩
  refine (θ_run Cert.OutOddRefIdeal.defs _ _).mono (fun _ h c => ⟨(h c).1.trans ?_, (h c).2⟩) (Cert.OutOddRefIdeal.Value.run (F := Ideal) m' ρ')
  refine Eq.trans ?_ (Cert.OutOddIdeal.Rows.final m c).symm
  rw [Cert.OutOddRefIdeal.Read.val_main_v4_eq, (hagree c).1, (hagree c).2.1, (hagree c).2.2]
  exact Cert.OutOddRefIdeal.Rows.result_eq _ _ _

/-- The reference of the projection after the attention and the convolution runs to the end, leaves its arguments and is quiescent. -/
theorem frame_out_even_ref : letI := Cert.OutEvenRefIdeal.Gen.facts
    Cert.quiescent_OutEvenRefIdeal := by
  intro m ρ _
  exact (θ_run Cert.OutEvenRefIdeal.defs _ _).mono
    (fun r h => ⟨fun c => (h c).2, Idealize.ShloMosaic.sem_eq_zero_of_no_sems (by decide) r.2⟩)
    (Cert.OutEvenRefIdeal.Value.run (F := Ideal) m ρ)

/-- The projection after the attention and the convolution computes what its reference computes, over the extended reals. -/
theorem value_out_even : letI := Cert.OutEvenIdeal.Gen.facts; letI := Cert.OutEvenRefIdeal.Gen.facts
    Cert.algebraic_OutEvenIdeal_OutEvenRefIdeal := by
  intro m ρ m' ρ' _ hagree
  refine ⟨_, Cert.OutEvenIdeal.Value.run_blocks m ρ, ?_⟩
  refine (θ_run Cert.OutEvenRefIdeal.defs _ _).mono (fun _ h c => ⟨(h c).1.trans ?_, (h c).2⟩) (Cert.OutEvenRefIdeal.Value.run (F := Ideal) m' ρ')
  refine Eq.trans ?_ (Cert.OutEvenIdeal.Rows.final m c).symm
  rw [Cert.OutEvenRefIdeal.Read.val_main_v6_eq, (hagree c).1, (hagree c).2.1, (hagree c).2.2.1, (hagree c).2.2.2]
  exact Cert.OutEvenRefIdeal.Rows.result_eq _ _ _ _

/-- The reference of the sample's attention keeps its arguments and leaves every counter at zero. -/
theorem frame_cached_ref : letI := Cert.CachedRefIdeal.Gen.facts; Cert.quiescent_CachedRefIdeal := by
  intro m ρ _
  exact (θ_run Cert.CachedRefIdeal.defs _ _).mono
    (fun r h => ⟨fun c => (h c).2, Idealize.ShloMosaic.sem_eq_zero_of_no_sems (by decide) r.2⟩)
    (Cert.CachedRefIdeal.Value.run (F := Ideal) m ρ)

/-- The named constant of the sample's attention stands for the number it was rounded from. -/
theorem constants_cached : Cert.preserves_Cached_CachedIdeal :=
  IdealRules.named_const.statement Cert.CachedIdeal.κ "scale_log2e" .f32 0x3DD53B95#32 _ rfl

/-- The kernel of the sample's attention and its reference leave the same result array. -/
theorem value_cached : letI := Cert.CachedIdeal.Gen.facts; letI := Cert.CachedRefIdeal.Gen.facts; letI := Cert.Pre_cached_finite.Gen.facts
    Cert.algebraic_CachedIdeal_CachedRefIdeal_pre_cached_finite := by
  intro m ρ m' ρ' hpre hagree
  refine ⟨_, Cert.CachedIdeal.Value.run_blocks m ρ, ?_⟩
  refine (θ_run Cert.CachedRefIdeal.defs _ _).mono (fun _ h c => ⟨(h c).1.trans ?_, (h c).2⟩) (Cert.CachedRefIdeal.Value.run (F := Ideal) m' ρ')
  obtain ⟨hQ, hN, hC, hP⟩ := Cert.CachedRefIdeal.Softmaxed.reals _ _ _ _ _ (hpre c)
  refine Eq.trans ?_ (Cert.CachedIdeal.Attention.final m c hQ hN hC hP).symm
  rw [Cert.CachedRefIdeal.Read.val_main_v36_eq m' c, (hagree c).1, (hagree c).2.1, (hagree c).2.2.1, (hagree c).2.2.2.1, (hagree c).2.2.2.2]
  exact Cert.CachedRefIdeal.Softmaxed.result_eq _ hQ hN hC hP

/-- The reference of the next frames' last feed-forward half-step keeps its arguments and leaves every counter at zero. -/
theorem frame_ffn_next_ref : letI := Cert.NextRefIdeal.Gen.facts; Cert.quiescent_NextRefIdeal := by
  intro m ρ _
  exact (θ_run Cert.NextRefIdeal.defs _ _).mono
    (fun r h => ⟨fun c => (h c).2, Idealize.ShloMosaic.sem_eq_zero_of_no_sems (by decide) r.2⟩)
    (Cert.NextRefIdeal.Value.run (F := Ideal) m ρ)

/-- The kernel of the next frames' last feed-forward half-step and its reference leave the same result array. -/
theorem value_ffn_next : letI := Cert.NextIdeal.Gen.facts; letI := Cert.NextRefIdeal.Gen.facts; letI := Cert.Pre_ffn_next_finite.Gen.facts
    Cert.algebraic_NextIdeal_NextRefIdeal_pre_ffn_next_finite := by
  intro m ρ m' ρ' hpre hagree
  refine ⟨_, Cert.NextIdeal.Value.run_blocks m ρ, ?_⟩
  refine (θ_run Cert.NextRefIdeal.defs _ _).mono (fun _ h c => ⟨(h c).1.trans ?_, (h c).2⟩) (Cert.NextRefIdeal.Value.run (F := Ideal) m' ρ')
  obtain ⟨hx, hg, ha⟩ := Cert.NextRefIdeal.Rows.reals _ _ _ _ _ _ (hpre c)
  refine Eq.trans ?_ (Cert.NextIdeal.Rows.final m c).symm
  rw [Cert.NextRefIdeal.Read.val_main_v41_eq, (hagree c).1, (hagree c).2.1, (hagree c).2.2.1, (hagree c).2.2.2.1, (hagree c).2.2.2.2.1, (hagree c).2.2.2.2.2]
  exact Cert.NextRefIdeal.Rows.result_eq _ _ _ _ _ _ hx hg ha

/-- The reference of the recurrence's state keeps its arguments and leaves every counter at zero. -/
theorem frame_state_ref : letI := Cert.StateRefIdeal.Gen.facts; Cert.quiescent_StateRefIdeal := by
  intro m ρ _
  exact (θ_run Cert.StateRefIdeal.defs _ _).mono
    (fun r h => ⟨fun c => (h c).2, Idealize.ShloMosaic.sem_eq_zero_of_no_sems (by decide) r.2⟩)
    (Cert.StateRefIdeal.Value.run (F := Ideal) m ρ)

/-- The named constant of the recurrence stands for the number it was rounded from. -/
theorem constants_state : Cert.preserves_State_StateIdeal :=
  IdealRules.named_const.statement Cert.StateIdeal.κ "log2e" .f32 0x3FB8AA3B#32 _ rfl

/-- The kernel of the recurrence and its reference leave the same states. -/
theorem value_state : letI := Cert.StateIdeal.Gen.facts; letI := Cert.StateRefIdeal.Gen.facts; letI := Cert.Pre_state_finite.Gen.facts
    Cert.algebraic_StateIdeal_StateRefIdeal_pre_state_finite := by
  intro m ρ m' ρ' hpre hagree
  refine ⟨_, (θ_run Cert.StateIdeal.defs _ _).mono (fun _ h c => (h c).2) (Cert.StateIdeal.Value.run_blocks m ρ), ?_⟩
  refine (θ_run Cert.StateRefIdeal.defs _ _).mono (fun _ h c => ⟨(h c).1.trans ?_, (h c).2⟩) (Cert.StateRefIdeal.Value.run (F := Ideal) m' ρ')
  have hL := Cert.StateRefIdeal.Scan.reals _ _ _ _ (hpre c)
  refine Eq.trans ?_ (Cert.StateIdeal.Rows.final m c).symm
  rw [Cert.StateRefIdeal.Read.val_main_v70_eq m' c, (hagree c).1, (hagree c).2.1, (hagree c).2.2.2]
  exact Cert.StateRefIdeal.Scan.state_eq _ _ hL

/-- Every claim of these kernels. -/
theorem claim : Cert.Claim := ⟨Cert.Attn.Gen.facts, Cert.AttnIdeal.Gen.facts, Cert.AttnRefIdeal.Gen.facts,
  Cert.Last.Gen.facts, Cert.LastIdeal.Gen.facts, Cert.LastRefIdeal.Gen.facts,
  Cert.First.Gen.facts, Cert.FirstIdeal.Gen.facts, Cert.FirstRefIdeal.Gen.facts,
  Cert.InOdd.Gen.facts, Cert.InOddIdeal.Gen.facts, Cert.InOddRefIdeal.Gen.facts,
  Cert.OutOdd.Gen.facts, Cert.OutOddIdeal.Gen.facts, Cert.OutOddRefIdeal.Gen.facts,
  Cert.OutEven.Gen.facts, Cert.OutEvenIdeal.Gen.facts, Cert.OutEvenRefIdeal.Gen.facts,
  Cert.Cached.Gen.facts, Cert.CachedIdeal.Gen.facts, Cert.CachedRefIdeal.Gen.facts,
  Cert.Next.Gen.facts, Cert.NextIdeal.Gen.facts, Cert.NextRefIdeal.Gen.facts,
  Cert.State.Gen.facts, Cert.StateIdeal.Gen.facts, Cert.StateRefIdeal.Gen.facts,
  Cert.Pre_attn_finite.Gen.facts, Cert.Pre_ffn_last_finite.Gen.facts, Cert.Pre_ffn_first_finite.Gen.facts, Cert.Pre_cached_finite.Gen.facts, Cert.Pre_ffn_next_finite.Gen.facts,
  Cert.Pre_state_finite.Gen.facts,
  fun m ρ _ => Cert.Attn.Gen.frame m ρ, fun m ρ _ => Cert.AttnIdeal.Gen.frame m ρ, fun m ρ _ => Cert.AttnIdeal.Gen.frame m ρ,
  frame_attn_ref, fun m ρ _ => frame_attn_ref m ρ trivial,
  fun m ρ _ => Cert.Last.Gen.frame m ρ, fun m ρ _ => Cert.LastIdeal.Gen.frame m ρ, fun m ρ _ => Cert.LastIdeal.Gen.frame m ρ,
  frame_ffn_last_ref, fun m ρ _ => frame_ffn_last_ref m ρ trivial,
  fun m ρ _ => Cert.First.Gen.frame m ρ, fun m ρ _ => Cert.FirstIdeal.Gen.frame m ρ, fun m ρ _ => Cert.FirstIdeal.Gen.frame m ρ,
  frame_ffn_first_ref, fun m ρ _ => frame_ffn_first_ref m ρ trivial,
  fun m ρ _ => Cert.InOdd.Gen.frame m ρ, fun m ρ _ => Cert.InOddIdeal.Gen.frame m ρ, frame_in_odd_ref,
  fun m ρ _ => Cert.OutOdd.Gen.frame m ρ, fun m ρ _ => Cert.OutOddIdeal.Gen.frame m ρ, frame_out_odd_ref,
  fun m ρ _ => Cert.OutEven.Gen.frame m ρ, fun m ρ _ => Cert.OutEvenIdeal.Gen.frame m ρ, frame_out_even_ref,
  fun m ρ _ => Cert.Cached.Gen.frame m ρ, fun m ρ _ => Cert.CachedIdeal.Gen.frame m ρ, fun m ρ _ => Cert.CachedIdeal.Gen.frame m ρ,
  frame_cached_ref, fun m ρ _ => frame_cached_ref m ρ trivial,
  fun m ρ _ => Cert.Next.Gen.frame m ρ, fun m ρ _ => Cert.NextIdeal.Gen.frame m ρ, fun m ρ _ => Cert.NextIdeal.Gen.frame m ρ,
  frame_ffn_next_ref, fun m ρ _ => frame_ffn_next_ref m ρ trivial,
  fun m ρ _ => Cert.State.Gen.frame m ρ, fun m ρ _ => Cert.StateIdeal.Gen.frame m ρ, fun m ρ _ => Cert.StateIdeal.Gen.frame m ρ,
  frame_state_ref, fun m ρ _ => frame_state_ref m ρ trivial,
  constants_attn, value_attn, trivial, value_ffn_last, trivial, value_ffn_first,
  trivial, value_in_odd, trivial, value_out_odd, trivial, value_out_even,
  constants_cached, value_cached, trivial, value_ffn_next,
  constants_state, value_state⟩

end Cert.Proof

end
